-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleReferenceIdeal (m : (ℓ : Loc Cert.MixSampleReferenceIdeal.nD Cert.MixSampleReferenceIdeal.τ Cert.MixSampleReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffReferenceIdeal (m : (ℓ : Loc Cert.DiffReferenceIdeal.nD Cert.DiffReferenceIdeal.τ Cert.DiffReferenceIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8)
      ∧ r.2.mem ((c.tc : Thread Cert.MixSample.nD Cert.MixSample.τ).loc Cert.MixSample.main_arg9) = m ((c.tc : Thread Cert.MixSample.nD Cert.MixSample.τ).loc Cert.MixSample.main_arg9)
      ∧ r.2.mem ((c.tc : Thread Cert.MixSample.nD Cert.MixSample.τ).loc Cert.MixSample.main_arg10) = m ((c.tc : Thread Cert.MixSample.nD Cert.MixSample.τ).loc Cert.MixSample.main_arg10)
      ∧ r.2.mem ((c.tc : Thread Cert.MixSample.nD Cert.MixSample.τ).loc Cert.MixSample.main_arg11) = m ((c.tc : Thread Cert.MixSample.nD Cert.MixSample.τ).loc Cert.MixSample.main_arg11))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
      ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
      ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
      ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11))
      ∧ r.2.sem = fun _ => 0)

def quiescent_MixSampleReferenceIdeal [hMixSampleReferenceIdeal : Cert.MixSampleReferenceIdeal.Facts] : Prop :=
  ∀ (m : (ℓ : Loc Cert.MixSampleReferenceIdeal.nD Cert.MixSampleReferenceIdeal.τ Cert.MixSampleReferenceIdeal.sig) → Buf (Elt Ideal) ℓ) (g : Dev Cert.MixSampleReferenceIdeal.nD → PrngReg), Pre_MixSampleReferenceIdeal m →
    θ_run (Cert.MixSampleReferenceIdeal.defs (F := Ideal)) (onTc (τ := Cert.MixSampleReferenceIdeal.τ) (Cert.MixSampleReferenceIdeal.main (F := Ideal))) ⟨m, fun _ => 0, g⟩ (fun r => (∀ c : Dev Cert.MixSampleReferenceIdeal.nD,
      r.2.mem ((c.tc : Thread Cert.MixSampleReferenceIdeal.nD Cert.MixSampleReferenceIdeal.τ).loc Cert.MixSampleReferenceIdeal.main_arg0) = m ((c.tc : Thread Cert.MixSampleReferenceIdeal.nD Cert.MixSampleReferenceIdeal.τ).loc Cert.MixSampleReferenceIdeal.main_arg0)
      ∧ r.2.mem ((c.tc : Thread Cert.MixSampleReferenceIdeal.nD Cert.MixSampleReferenceIdeal.τ).loc Cert.MixSampleReferenceIdeal.main_arg1) = m ((c.tc : Thread Cert.MixSampleReferenceIdeal.nD Cert.MixSampleReferenceIdeal.τ).loc Cert.MixSampleReferenceIdeal.main_arg1)
      ∧ r.2.mem ((c.tc : Thread Cert.MixSampleReferenceIdeal.nD Cert.MixSampleReferenceIdeal.τ).loc Cert.MixSampleReferenceIdeal.main_arg2) = m ((c.tc : Thread Cert.MixSampleReferenceIdeal.nD Cert.MixSampleReferenceIdeal.τ).loc Cert.MixSampleReferenceIdeal.main_arg2)
      ∧ r.2.mem ((c.tc : Thread Cert.MixSampleReferenceIdeal.nD Cert.MixSampleReferenceIdeal.τ).loc Cert.MixSampleReferenceIdeal.main_arg3) = m ((c.tc : Thread Cert.MixSampleReferenceIdeal.nD Cert.MixSampleReferenceIdeal.τ).loc Cert.MixSampleReferenceIdeal.main_arg3)
      ∧ r.2.mem ((c.tc : Thread Cert.MixSampleReferenceIdeal.nD Cert.MixSampleReferenceIdeal.τ).loc Cert.MixSampleReferenceIdeal.main_arg4) = m ((c.tc : Thread Cert.MixSampleReferenceIdeal.nD Cert.MixSampleReferenceIdeal.τ).loc Cert.MixSampleReferenceIdeal.main_arg4)
      ∧ r.2.mem ((c.tc : Thread Cert.MixSampleReferenceIdeal.nD Cert.MixSampleReferenceIdeal.τ).loc Cert.MixSampleReferenceIdeal.main_arg5) = m ((c.tc : Thread Cert.MixSampleReferenceIdeal.nD Cert.MixSampleReferenceIdeal.τ).loc Cert.MixSampleReferenceIdeal.main_arg5)
      ∧ r.2.mem ((c.tc : Thread Cert.MixSampleReferenceIdeal.nD Cert.MixSampleReferenceIdeal.τ).loc Cert.MixSampleReferenceIdeal.main_arg6) = m ((c.tc : Thread Cert.MixSampleReferenceIdeal.nD Cert.MixSampleReferenceIdeal.τ).loc Cert.MixSampleReferenceIdeal.main_arg6)
      ∧ r.2.mem ((c.tc : Thread Cert.MixSampleReferenceIdeal.nD Cert.MixSampleReferenceIdeal.τ).loc Cert.MixSampleReferenceIdeal.main_arg7) = m ((c.tc : Thread Cert.MixSampleReferenceIdeal.nD Cert.MixSampleReferenceIdeal.τ).loc Cert.MixSampleReferenceIdeal.main_arg7)
      ∧ r.2.mem ((c.tc : Thread Cert.MixSampleReferenceIdeal.nD Cert.MixSampleReferenceIdeal.τ).loc Cert.MixSampleReferenceIdeal.main_arg8) = m ((c.tc : Thread Cert.MixSampleReferenceIdeal.nD Cert.MixSampleReferenceIdeal.τ).loc Cert.MixSampleReferenceIdeal.main_arg8)
      ∧ r.2.mem ((c.tc : Thread Cert.MixSampleReferenceIdeal.nD Cert.MixSampleReferenceIdeal.τ).loc Cert.MixSampleReferenceIdeal.main_arg9) = m ((c.tc : Thread Cert.MixSampleReferenceIdeal.nD Cert.MixSampleReferenceIdeal.τ).loc Cert.MixSampleReferenceIdeal.main_arg9)
      ∧ r.2.mem ((c.tc : Thread Cert.MixSampleReferenceIdeal.nD Cert.MixSampleReferenceIdeal.τ).loc Cert.MixSampleReferenceIdeal.main_arg10) = m ((c.tc : Thread Cert.MixSampleReferenceIdeal.nD Cert.MixSampleReferenceIdeal.τ).loc Cert.MixSampleReferenceIdeal.main_arg10)
      ∧ r.2.mem ((c.tc : Thread Cert.MixSampleReferenceIdeal.nD Cert.MixSampleReferenceIdeal.τ).loc Cert.MixSampleReferenceIdeal.main_arg11) = m ((c.tc : Thread Cert.MixSampleReferenceIdeal.nD Cert.MixSampleReferenceIdeal.τ).loc Cert.MixSampleReferenceIdeal.main_arg11))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6)
      ∧ r.2.mem ((c.tc : Thread Cert.ProjSample.nD Cert.ProjSample.τ).loc Cert.ProjSample.main_arg7) = m ((c.tc : Thread Cert.ProjSample.nD Cert.ProjSample.τ).loc Cert.ProjSample.main_arg7)
      ∧ r.2.mem ((c.tc : Thread Cert.ProjSample.nD Cert.ProjSample.τ).loc Cert.ProjSample.main_arg8) = m ((c.tc : Thread Cert.ProjSample.nD Cert.ProjSample.τ).loc Cert.ProjSample.main_arg8))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
      ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7)
      ∧ r.2.mem ((c.tc : Thread Cert.ProjSampleIdeal.nD Cert.ProjSampleIdeal.τ).loc Cert.ProjSampleIdeal.main_arg8) = m ((c.tc : Thread Cert.ProjSampleIdeal.nD Cert.ProjSampleIdeal.τ).loc Cert.ProjSampleIdeal.main_arg8))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3)
      ∧ r.2.mem ((c.tc : Thread Cert.ProjSampleReferenceIdeal.nD Cert.ProjSampleReferenceIdeal.τ).loc Cert.ProjSampleReferenceIdeal.main_arg4) = m ((c.tc : Thread Cert.ProjSampleReferenceIdeal.nD Cert.ProjSampleReferenceIdeal.τ).loc Cert.ProjSampleReferenceIdeal.main_arg4)
      ∧ r.2.mem ((c.tc : Thread Cert.ProjSampleReferenceIdeal.nD Cert.ProjSampleReferenceIdeal.τ).loc Cert.ProjSampleReferenceIdeal.main_arg5) = m ((c.tc : Thread Cert.ProjSampleReferenceIdeal.nD Cert.ProjSampleReferenceIdeal.τ).loc Cert.ProjSampleReferenceIdeal.main_arg5)
      ∧ r.2.mem ((c.tc : Thread Cert.ProjSampleReferenceIdeal.nD Cert.ProjSampleReferenceIdeal.τ).loc Cert.ProjSampleReferenceIdeal.main_arg6) = m ((c.tc : Thread Cert.ProjSampleReferenceIdeal.nD Cert.ProjSampleReferenceIdeal.τ).loc Cert.ProjSampleReferenceIdeal.main_arg6)
      ∧ r.2.mem ((c.tc : Thread Cert.ProjSampleReferenceIdeal.nD Cert.ProjSampleReferenceIdeal.τ).loc Cert.ProjSampleReferenceIdeal.main_arg7) = m ((c.tc : Thread Cert.ProjSampleReferenceIdeal.nD Cert.ProjSampleReferenceIdeal.τ).loc Cert.ProjSampleReferenceIdeal.main_arg7)
      ∧ r.2.mem ((c.tc : Thread Cert.ProjSampleReferenceIdeal.nD Cert.ProjSampleReferenceIdeal.τ).loc Cert.ProjSampleReferenceIdeal.main_arg8) = m ((c.tc : Thread Cert.ProjSampleReferenceIdeal.nD Cert.ProjSampleReferenceIdeal.τ).loc Cert.ProjSampleReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v60) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v25) = v0 c
          ∧ r.2.mem ((c.tc : Thread Cert.ProjReferenceIdeal.nD Cert.ProjReferenceIdeal.τ).loc Cert.ProjReferenceIdeal.main_v136) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def preserves_MixSample_MixSampleIdeal : Prop :=
  True

def algebraic_MixSampleIdeal_MixSampleReferenceIdeal [hMixSampleIdeal : Cert.MixSampleIdeal.Facts] [hMixSampleReferenceIdeal : Cert.MixSampleReferenceIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleReferenceIdeal.nD Cert.MixSampleReferenceIdeal.τ Cert.MixSampleReferenceIdeal.sig) → Buf (Elt Ideal) ℓ) (g' : Dev Cert.MixSampleReferenceIdeal.nD → PrngReg), Pre_MixSampleIdeal m →
    (∀ c : Dev Cert.MixSampleIdeal.nD,
      m' ((c.tc : Thread Cert.MixSampleReferenceIdeal.nD Cert.MixSampleReferenceIdeal.τ).loc Cert.MixSampleReferenceIdeal.main_arg0) = m ((c.tc : Thread Cert.MixSampleIdeal.nD Cert.MixSampleIdeal.τ).loc Cert.MixSampleIdeal.main_arg0)
      ∧ m' ((c.tc : Thread Cert.MixSampleReferenceIdeal.nD Cert.MixSampleReferenceIdeal.τ).loc Cert.MixSampleReferenceIdeal.main_arg1) = m ((c.tc : Thread Cert.MixSampleIdeal.nD Cert.MixSampleIdeal.τ).loc Cert.MixSampleIdeal.main_arg1)
      ∧ m' ((c.tc : Thread Cert.MixSampleReferenceIdeal.nD Cert.MixSampleReferenceIdeal.τ).loc Cert.MixSampleReferenceIdeal.main_arg2) = m ((c.tc : Thread Cert.MixSampleIdeal.nD Cert.MixSampleIdeal.τ).loc Cert.MixSampleIdeal.main_arg2)
      ∧ m' ((c.tc : Thread Cert.MixSampleReferenceIdeal.nD Cert.MixSampleReferenceIdeal.τ).loc Cert.MixSampleReferenceIdeal.main_arg3) = m ((c.tc : Thread Cert.MixSampleIdeal.nD Cert.MixSampleIdeal.τ).loc Cert.MixSampleIdeal.main_arg3)
      ∧ m' ((c.tc : Thread Cert.MixSampleReferenceIdeal.nD Cert.MixSampleReferenceIdeal.τ).loc Cert.MixSampleReferenceIdeal.main_arg4) = m ((c.tc : Thread Cert.MixSampleIdeal.nD Cert.MixSampleIdeal.τ).loc Cert.MixSampleIdeal.main_arg4)
      ∧ m' ((c.tc : Thread Cert.MixSampleReferenceIdeal.nD Cert.MixSampleReferenceIdeal.τ).loc Cert.MixSampleReferenceIdeal.main_arg5) = m ((c.tc : Thread Cert.MixSampleIdeal.nD Cert.MixSampleIdeal.τ).loc Cert.MixSampleIdeal.main_arg5)
      ∧ m' ((c.tc : Thread Cert.MixSampleReferenceIdeal.nD Cert.MixSampleReferenceIdeal.τ).loc Cert.MixSampleReferenceIdeal.main_arg6) = m ((c.tc : Thread Cert.MixSampleIdeal.nD Cert.MixSampleIdeal.τ).loc Cert.MixSampleIdeal.main_arg6)
      ∧ m' ((c.tc : Thread Cert.MixSampleReferenceIdeal.nD Cert.MixSampleReferenceIdeal.τ).loc Cert.MixSampleReferenceIdeal.main_arg7) = m ((c.tc : Thread Cert.MixSampleIdeal.nD Cert.MixSampleIdeal.τ).loc Cert.MixSampleIdeal.main_arg7)
      ∧ m' ((c.tc : Thread Cert.MixSampleReferenceIdeal.nD Cert.MixSampleReferenceIdeal.τ).loc Cert.MixSampleReferenceIdeal.main_arg8) = m ((c.tc : Thread Cert.MixSampleIdeal.nD Cert.MixSampleIdeal.τ).loc Cert.MixSampleIdeal.main_arg8)
      ∧ m' ((c.tc : Thread Cert.MixSampleReferenceIdeal.nD Cert.MixSampleReferenceIdeal.τ).loc Cert.MixSampleReferenceIdeal.main_arg9) = m ((c.tc : Thread Cert.MixSampleIdeal.nD Cert.MixSampleIdeal.τ).loc Cert.MixSampleIdeal.main_arg9)
      ∧ m' ((c.tc : Thread Cert.MixSampleReferenceIdeal.nD Cert.MixSampleReferenceIdeal.τ).loc Cert.MixSampleReferenceIdeal.main_arg10) = m ((c.tc : Thread Cert.MixSampleIdeal.nD Cert.MixSampleIdeal.τ).loc Cert.MixSampleIdeal.main_arg10)
      ∧ m' ((c.tc : Thread Cert.MixSampleReferenceIdeal.nD Cert.MixSampleReferenceIdeal.τ).loc Cert.MixSampleReferenceIdeal.main_arg11) = m ((c.tc : Thread Cert.MixSampleIdeal.nD Cert.MixSampleIdeal.τ).loc Cert.MixSampleIdeal.main_arg11)) →
    ∃ (v0 : (c : Dev Cert.MixSampleIdeal.nD) → Buf (Elt Ideal) ((c.tc : Thread Cert.MixSampleIdeal.nD Cert.MixSampleIdeal.τ).loc Cert.MixSampleIdeal.main_v0)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v0) = v0 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
          ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
          ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
          ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11))
      ∧ θ_run (Cert.MixSampleReferenceIdeal.defs (F := Ideal)) (onTc (τ := Cert.MixSampleReferenceIdeal.τ) (Cert.MixSampleReferenceIdeal.main (F := Ideal))) ⟨m', fun _ => 0, g'⟩ (fun r => ∀ c : Dev Cert.MixSampleReferenceIdeal.nD,
          r.2.mem ((c.tc : Thread Cert.MixSampleReferenceIdeal.nD Cert.MixSampleReferenceIdeal.τ).loc Cert.MixSampleReferenceIdeal.main_v60) = v0 c
          ∧ r.2.mem ((c.tc : Thread Cert.MixSampleReferenceIdeal.nD Cert.MixSampleReferenceIdeal.τ).loc Cert.MixSampleReferenceIdeal.main_arg0) = m' ((c.tc : Thread Cert.MixSampleReferenceIdeal.nD Cert.MixSampleReferenceIdeal.τ).loc Cert.MixSampleReferenceIdeal.main_arg0)
          ∧ r.2.mem ((c.tc : Thread Cert.MixSampleReferenceIdeal.nD Cert.MixSampleReferenceIdeal.τ).loc Cert.MixSampleReferenceIdeal.main_arg1) = m' ((c.tc : Thread Cert.MixSampleReferenceIdeal.nD Cert.MixSampleReferenceIdeal.τ).loc Cert.MixSampleReferenceIdeal.main_arg1)
          ∧ r.2.mem ((c.tc : Thread Cert.MixSampleReferenceIdeal.nD Cert.MixSampleReferenceIdeal.τ).loc Cert.MixSampleReferenceIdeal.main_arg2) = m' ((c.tc : Thread Cert.MixSampleReferenceIdeal.nD Cert.MixSampleReferenceIdeal.τ).loc Cert.MixSampleReferenceIdeal.main_arg2)
          ∧ r.2.mem ((c.tc : Thread Cert.MixSampleReferenceIdeal.nD Cert.MixSampleReferenceIdeal.τ).loc Cert.MixSampleReferenceIdeal.main_arg3) = m' ((c.tc : Thread Cert.MixSampleReferenceIdeal.nD Cert.MixSampleReferenceIdeal.τ).loc Cert.MixSampleReferenceIdeal.main_arg3)
          ∧ r.2.mem ((c.tc : Thread Cert.MixSampleReferenceIdeal.nD Cert.MixSampleReferenceIdeal.τ).loc Cert.MixSampleReferenceIdeal.main_arg4) = m' ((c.tc : Thread Cert.MixSampleReferenceIdeal.nD Cert.MixSampleReferenceIdeal.τ).loc Cert.MixSampleReferenceIdeal.main_arg4)
          ∧ r.2.mem ((c.tc : Thread Cert.MixSampleReferenceIdeal.nD Cert.MixSampleReferenceIdeal.τ).loc Cert.MixSampleReferenceIdeal.main_arg5) = m' ((c.tc : Thread Cert.MixSampleReferenceIdeal.nD Cert.MixSampleReferenceIdeal.τ).loc Cert.MixSampleReferenceIdeal.main_arg5)
          ∧ r.2.mem ((c.tc : Thread Cert.MixSampleReferenceIdeal.nD Cert.MixSampleReferenceIdeal.τ).loc Cert.MixSampleReferenceIdeal.main_arg6) = m' ((c.tc : Thread Cert.MixSampleReferenceIdeal.nD Cert.MixSampleReferenceIdeal.τ).loc Cert.MixSampleReferenceIdeal.main_arg6)
          ∧ r.2.mem ((c.tc : Thread Cert.MixSampleReferenceIdeal.nD Cert.MixSampleReferenceIdeal.τ).loc Cert.MixSampleReferenceIdeal.main_arg7) = m' ((c.tc : Thread Cert.MixSampleReferenceIdeal.nD Cert.MixSampleReferenceIdeal.τ).loc Cert.MixSampleReferenceIdeal.main_arg7)
          ∧ r.2.mem ((c.tc : Thread Cert.MixSampleReferenceIdeal.nD Cert.MixSampleReferenceIdeal.τ).loc Cert.MixSampleReferenceIdeal.main_arg8) = m' ((c.tc : Thread Cert.MixSampleReferenceIdeal.nD Cert.MixSampleReferenceIdeal.τ).loc Cert.MixSampleReferenceIdeal.main_arg8)
          ∧ r.2.mem ((c.tc : Thread Cert.MixSampleReferenceIdeal.nD Cert.MixSampleReferenceIdeal.τ).loc Cert.MixSampleReferenceIdeal.main_arg9) = m' ((c.tc : Thread Cert.MixSampleReferenceIdeal.nD Cert.MixSampleReferenceIdeal.τ).loc Cert.MixSampleReferenceIdeal.main_arg9)
          ∧ r.2.mem ((c.tc : Thread Cert.MixSampleReferenceIdeal.nD Cert.MixSampleReferenceIdeal.τ).loc Cert.MixSampleReferenceIdeal.main_arg10) = m' ((c.tc : Thread Cert.MixSampleReferenceIdeal.nD Cert.MixSampleReferenceIdeal.τ).loc Cert.MixSampleReferenceIdeal.main_arg10)
          ∧ r.2.mem ((c.tc : Thread Cert.MixSampleReferenceIdeal.nD Cert.MixSampleReferenceIdeal.τ).loc Cert.MixSampleReferenceIdeal.main_arg11) = m' ((c.tc : Thread Cert.MixSampleReferenceIdeal.nD Cert.MixSampleReferenceIdeal.τ).loc Cert.MixSampleReferenceIdeal.main_arg11))

def preserves_Diff_DiffIdeal : Prop :=
  True

def algebraic_DiffIdeal_DiffReferenceIdeal [hDiffIdeal : Cert.DiffIdeal.Facts] [hDiffReferenceIdeal : Cert.DiffReferenceIdeal.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v87) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2))

def preserves_ProjSample_ProjSampleIdeal : Prop :=
  True

def algebraic_ProjSampleIdeal_ProjSampleReferenceIdeal [hProjSampleIdeal : Cert.ProjSampleIdeal.Facts] [hProjSampleReferenceIdeal : Cert.ProjSampleReferenceIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)
      ∧ m' ((c.tc : Thread Cert.ProjSampleReferenceIdeal.nD Cert.ProjSampleReferenceIdeal.τ).loc Cert.ProjSampleReferenceIdeal.main_arg2) = m ((c.tc : Thread Cert.ProjSampleIdeal.nD Cert.ProjSampleIdeal.τ).loc Cert.ProjSampleIdeal.main_arg2)
      ∧ m' ((c.tc : Thread Cert.ProjSampleReferenceIdeal.nD Cert.ProjSampleReferenceIdeal.τ).loc Cert.ProjSampleReferenceIdeal.main_arg3) = m ((c.tc : Thread Cert.ProjSampleIdeal.nD Cert.ProjSampleIdeal.τ).loc Cert.ProjSampleIdeal.main_arg3)
      ∧ m' ((c.tc : Thread Cert.ProjSampleReferenceIdeal.nD Cert.ProjSampleReferenceIdeal.τ).loc Cert.ProjSampleReferenceIdeal.main_arg4) = m ((c.tc : Thread Cert.ProjSampleIdeal.nD Cert.ProjSampleIdeal.τ).loc Cert.ProjSampleIdeal.main_arg4)
      ∧ m' ((c.tc : Thread Cert.ProjSampleReferenceIdeal.nD Cert.ProjSampleReferenceIdeal.τ).loc Cert.ProjSampleReferenceIdeal.main_arg5) = m ((c.tc : Thread Cert.ProjSampleIdeal.nD Cert.ProjSampleIdeal.τ).loc Cert.ProjSampleIdeal.main_arg5)
      ∧ m' ((c.tc : Thread Cert.ProjSampleReferenceIdeal.nD Cert.ProjSampleReferenceIdeal.τ).loc Cert.ProjSampleReferenceIdeal.main_arg6) = m ((c.tc : Thread Cert.ProjSampleIdeal.nD Cert.ProjSampleIdeal.τ).loc Cert.ProjSampleIdeal.main_arg6)
      ∧ m' ((c.tc : Thread Cert.ProjSampleReferenceIdeal.nD Cert.ProjSampleReferenceIdeal.τ).loc Cert.ProjSampleReferenceIdeal.main_arg7) = m ((c.tc : Thread Cert.ProjSampleIdeal.nD Cert.ProjSampleIdeal.τ).loc Cert.ProjSampleIdeal.main_arg7)
      ∧ m' ((c.tc : Thread Cert.ProjSampleReferenceIdeal.nD Cert.ProjSampleReferenceIdeal.τ).loc Cert.ProjSampleReferenceIdeal.main_arg8) = m ((c.tc : Thread Cert.ProjSampleIdeal.nD Cert.ProjSampleIdeal.τ).loc Cert.ProjSampleIdeal.main_arg8)) →
    ∃ (v0 : (c : Dev Cert.ProjSampleIdeal.nD) → Buf (Elt Ideal) ((c.tc : Thread Cert.ProjSampleIdeal.nD Cert.ProjSampleIdeal.τ).loc Cert.ProjSampleIdeal.main_v0_0)) (v1 : (c : Dev Cert.ProjSampleIdeal.nD) → Buf (Elt Ideal) ((c.tc : Thread Cert.ProjSampleIdeal.nD Cert.ProjSampleIdeal.τ).loc Cert.ProjSampleIdeal.main_v0_1)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v0_0) = v0 c
          ∧ r.2.mem ((c.tc : Thread Cert.ProjSampleIdeal.nD Cert.ProjSampleIdeal.τ).loc Cert.ProjSampleIdeal.main_v0_1) = v1 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
          ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7)
          ∧ r.2.mem ((c.tc : Thread Cert.ProjSampleIdeal.nD Cert.ProjSampleIdeal.τ).loc Cert.ProjSampleIdeal.main_arg8) = m ((c.tc : Thread Cert.ProjSampleIdeal.nD Cert.ProjSampleIdeal.τ).loc Cert.ProjSampleIdeal.main_arg8))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v25) = v0 c
          ∧ r.2.mem ((c.tc : Thread Cert.ProjSampleReferenceIdeal.nD Cert.ProjSampleReferenceIdeal.τ).loc Cert.ProjSampleReferenceIdeal.main_v136) = v1 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2)
          ∧ r.2.mem ((c.tc : Thread Cert.ProjSampleReferenceIdeal.nD Cert.ProjSampleReferenceIdeal.τ).loc Cert.ProjSampleReferenceIdeal.main_arg3) = m' ((c.tc : Thread Cert.ProjSampleReferenceIdeal.nD Cert.ProjSampleReferenceIdeal.τ).loc Cert.ProjSampleReferenceIdeal.main_arg3)
          ∧ r.2.mem ((c.tc : Thread Cert.ProjSampleReferenceIdeal.nD Cert.ProjSampleReferenceIdeal.τ).loc Cert.ProjSampleReferenceIdeal.main_arg4) = m' ((c.tc : Thread Cert.ProjSampleReferenceIdeal.nD Cert.ProjSampleReferenceIdeal.τ).loc Cert.ProjSampleReferenceIdeal.main_arg4)
          ∧ r.2.mem ((c.tc : Thread Cert.ProjSampleReferenceIdeal.nD Cert.ProjSampleReferenceIdeal.τ).loc Cert.ProjSampleReferenceIdeal.main_arg5) = m' ((c.tc : Thread Cert.ProjSampleReferenceIdeal.nD Cert.ProjSampleReferenceIdeal.τ).loc Cert.ProjSampleReferenceIdeal.main_arg5)
          ∧ r.2.mem ((c.tc : Thread Cert.ProjSampleReferenceIdeal.nD Cert.ProjSampleReferenceIdeal.τ).loc Cert.ProjSampleReferenceIdeal.main_arg6) = m' ((c.tc : Thread Cert.ProjSampleReferenceIdeal.nD Cert.ProjSampleReferenceIdeal.τ).loc Cert.ProjSampleReferenceIdeal.main_arg6)
          ∧ r.2.mem ((c.tc : Thread Cert.ProjSampleReferenceIdeal.nD Cert.ProjSampleReferenceIdeal.τ).loc Cert.ProjSampleReferenceIdeal.main_arg7) = m' ((c.tc : Thread Cert.ProjSampleReferenceIdeal.nD Cert.ProjSampleReferenceIdeal.τ).loc Cert.ProjSampleReferenceIdeal.main_arg7)
          ∧ r.2.mem ((c.tc : Thread Cert.ProjSampleReferenceIdeal.nD Cert.ProjSampleReferenceIdeal.τ).loc Cert.ProjSampleReferenceIdeal.main_arg8) = m' ((c.tc : Thread Cert.ProjSampleReferenceIdeal.nD Cert.ProjSampleReferenceIdeal.τ).loc Cert.ProjSampleReferenceIdeal.main_arg8))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hMixSample : Cert.MixSample.Facts) (hMixSampleIdeal : Cert.MixSampleIdeal.Facts) (hMixSampleReferenceIdeal : Cert.MixSampleReferenceIdeal.Facts) (hDiff : Cert.Diff.Facts) (hDiffIdeal : Cert.DiffIdeal.Facts) (hDiffReferenceIdeal : Cert.DiffReferenceIdeal.Facts) (hProjSample : Cert.ProjSample.Facts) (hProjSampleIdeal : Cert.ProjSampleIdeal.Facts) (hProjSampleReferenceIdeal : Cert.ProjSampleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MixSample (hMixSample := hMixSample)
    ∧ quiescent_MixSampleIdeal (hMixSampleIdeal := hMixSampleIdeal)
    ∧ quiescent_MixSampleReferenceIdeal (hMixSampleReferenceIdeal := hMixSampleReferenceIdeal)
    ∧ quiescent_Diff (hDiff := hDiff)
    ∧ quiescent_DiffIdeal (hDiffIdeal := hDiffIdeal)
    ∧ quiescent_DiffReferenceIdeal (hDiffReferenceIdeal := hDiffReferenceIdeal)
    ∧ quiescent_ProjSample (hProjSample := hProjSample)
    ∧ quiescent_ProjSampleIdeal (hProjSampleIdeal := hProjSampleIdeal)
    ∧ quiescent_ProjSampleReferenceIdeal (hProjSampleReferenceIdeal := hProjSampleReferenceIdeal)
    ∧ preserves_Kernel_KernelIdeal
    ∧ algebraic_KernelIdeal_ReferenceIdeal (hKernelIdeal := hKernelIdeal) (hReferenceIdeal := hReferenceIdeal)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
    ∧ preserves_MixSample_MixSampleIdeal
    ∧ algebraic_MixSampleIdeal_MixSampleReferenceIdeal (hMixSampleIdeal := hMixSampleIdeal) (hMixSampleReferenceIdeal := hMixSampleReferenceIdeal)
    ∧ preserves_Diff_DiffIdeal
    ∧ algebraic_DiffIdeal_DiffReferenceIdeal (hDiffIdeal := hDiffIdeal) (hDiffReferenceIdeal := hDiffReferenceIdeal)
    ∧ preserves_ProjSample_ProjSampleIdeal
    ∧ algebraic_ProjSampleIdeal_ProjSampleReferenceIdeal (hProjSampleIdeal := hProjSampleIdeal) (hProjSampleReferenceIdeal := hProjSampleReferenceIdeal)
-- ==== Kernel.lean ====
abbrev S2x8192x2304 : Shape := ⟨3, ![2, 8192, 2304]⟩
abbrev S2x8192x512 : Shape := ⟨3, ![2, 8192, 512]⟩
abbrev S1x1024x512 : Shape := ⟨3, ![1, 1024, 512]⟩
abbrev S1x8192x128 : Shape := ⟨3, ![1, 8192, 128]⟩
abbrev S16x144x512 : Shape := ⟨3, ![16, 144, 512]⟩
abbrev S8x128x1024 : Shape := ⟨3, ![8, 128, 1024]⟩
abbrev S512x1024 : Shape := ⟨2, ![512, 1024]⟩
abbrev S8x1x1024 : Shape := ⟨3, ![8, 1, 1024]⟩
abbrev S8x144x1024 : Shape := ⟨3, ![8, 144, 1024]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S128x128 : Shape := ⟨2, ![128, 128]⟩
abbrev S32x128 : Shape := ⟨2, ![32, 128]⟩
abbrev S128x1024 : Shape := ⟨2, ![128, 1024]⟩
abbrev S1x128x1024 : Shape := ⟨3, ![1, 128, 1024]⟩
abbrev S64x8x1024 : Shape := ⟨3, ![64, 8, 1024]⟩
abbrev S8x1024 : Shape := ⟨2, ![8, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S1x144x512 : Shape := ⟨3, ![1, 144, 512]⟩
abbrev S144x512 : Shape := ⟨2, ![144, 512]⟩
abbrev S64x128 : Shape := ⟨2, ![64, 128]⟩
abbrev S1x128x128 : Shape := ⟨3, ![1, 128, 128]⟩

abbrev nBuf : Space → Nat
  | .hbm => 2
  | .vmem => 14
  | .smem => 0
  | _ => 0

abbrev bufTy : (tb : Table) → Fin (tcTables nBuf tb) → BufTy
  | .hbm, ⟨0, _⟩ => ⟨S2x8192x2304, .bf16⟩
  | .hbm, ⟨1, _⟩ => ⟨S2x8192x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x512, .bf16⟩
  | .local _ .vmem, ⟨7, _⟩ => ⟨S1x1024x512, .bf16⟩
  | .local _ .vmem, ⟨8, _⟩ => ⟨S16x144x512, .bf16⟩
  | .local _ .vmem, ⟨9, _⟩ => ⟨S8x128x1024, .bf16⟩
  | .local _ .vmem, ⟨10, _⟩ => ⟨S512x1024, .f32⟩
  | .local _ .vmem, ⟨11, _⟩ => ⟨S512x1024, .f32⟩
  | .local _ .vmem, ⟨12, _⟩ => ⟨S8x1x1024, .f32⟩
  | .local _ .vmem, ⟨13, _⟩ => ⟨S8x144x1024, .f32⟩
  | _, _ => ⟨S2x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_468 : BitVec 32 := 0#32
  let c16_i32 : BitVec 32 := 16#32
  let v973 : BitVec 32 := Scalar.addi c0_i32_468 c16_i32
  let c1_i32_469 : BitVec 32 := 1#32
  ⟨c0_i32_468, v973, c1_i32_469⟩
def k0_mult1 (k0_t1 : Fin k0_t1_loop.trips) : BitVec 32 :=
  let c0_i32_468 : BitVec 32 := 0#32
  let c1_i32_469 : BitVec 32 := 1#32
  let arg12 : BitVec 32 := Scf.iv c0_i32_468 c1_i32_469 k0_t1
  let c512_i32 : BitVec 32 := 512#32
  let v974 : BitVec 32 := Scalar.muli arg12 c512_i32
  v974
def k0_off1 (k0_t1 : Fin k0_t1_loop.trips) : Fin 3 → Nat :=
  let c0_471 : Index := 0#32
  let c0_i32_468 : BitVec 32 := 0#32
  let c1_i32_469 : BitVec 32 := 1#32
  let arg12 : BitVec 32 := Scf.iv c0_i32_468 c1_i32_469 k0_t1
  let c512_i32 : BitVec 32 := 512#32
  let v974 : BitVec 32 := Scalar.muli arg12 c512_i32
  let v975 : BitVec 32 := v974
  let v976 : Index := Scalar.indexCast v975
  let c0_472 : Index := 0#32
  ![0, v976.toNat, 0]
def k0_off2 (k0_t1 : Fin k0_t1_loop.trips) : Fin 3 → Nat :=
  let c0_i32_468 : BitVec 32 := 0#32
  let c1_i32_469 : BitVec 32 := 1#32
  let arg12 : BitVec 32 := Scf.iv c0_i32_468 c1_i32_469 k0_t1
  let v980 : Index := Scalar.indexCast arg12
  let c0_473 : Index := 0#32
  let c0_474 : Index := 0#32
  ![v980.toNat, 0, 0]
def k0_off3 (k0_t1 : Fin k0_t1_loop.trips) : Fin 3 → Nat :=
  let c0_i32_468 : BitVec 32 := 0#32
  let c1_i32_469 : BitVec 32 := 1#32
  let arg12 : BitVec 32 := Scf.iv c0_i32_468 c1_i32_469 k0_t1
  let v985 : Index := Scalar.indexCast arg12
  let c128_476 : Index := 128#32
  let c0_477 : Index := 0#32
  ![v985.toNat, 128, 0]
def k0_mult2 : BitVec 32 :=
  let c0_i32_105 : BitVec 32 := 0#32
  c0_i32_105
@[reducible] def k0_t2_loop : Scf.Loop 32 :=
  let c0_i32_115 : BitVec 32 := 0#32
  let c12_i32 : BitVec 32 := 12#32
  let v399 : BitVec 32 := Scalar.addi c0_i32_115 c12_i32
  let c1_i32 : BitVec 32 := 1#32
  ⟨c0_i32_115, v399, c1_i32⟩
def k0_mult3 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c0_i32_468 : BitVec 32 := 0#32
  let v974 : BitVec 32 := Scalar.addi v973 c0_i32_468
  let c1_i32_469 : BitVec 32 := 1#32
  let v975 : BitVec 32 := Scalar.addi v974 c1_i32_469
  let c15_i32 : BitVec 32 := 15#32
  let v977 : BitVec 32 := Scalar.andi v975 c15_i32
  let c512_i32 : BitVec 32 := 512#32
  let v978 : BitVec 32 := Scalar.muli v977 c512_i32
  v978
def k0_off4 (k0_t2 : Fin k0_t2_loop.trips) (c0_i32_468 : BitVec 32) (c1_i32_469 : BitVec 32) : Fin 3 → Nat :=
  let c0_470 : Index := 0#32
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v974 : BitVec 32 := Scalar.addi v973 c0_i32_468
  let v975 : BitVec 32 := Scalar.addi v974 c1_i32_469
  let c15_i32 : BitVec 32 := 15#32
  let v977 : BitVec 32 := Scalar.andi v975 c15_i32
  let c512_i32 : BitVec 32 := 512#32
  let v978 : BitVec 32 := Scalar.muli v977 c512_i32
  let v979 : BitVec 32 := v978
  let v980 : Index := Scalar.indexCast v979
  let c0_471 : Index := 0#32
  ![0, v980.toNat, 0]
def k0_off5 (k0_t2 : Fin k0_t2_loop.trips) (c0_i32_468 : BitVec 32) (c1_i32_469 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v974 : BitVec 32 := Scalar.addi v973 c0_i32_468
  let v975 : BitVec 32 := Scalar.addi v974 c1_i32_469
  let c4_i32 : BitVec 32 := 4#32
  let v976 : BitVec 32 := Scalar.shrsi v975 c4_i32
  let v983 : Index := Scalar.indexCast v976
  let c0_472 : Index := 0#32
  let c0_473 : Index := 0#32
  ![v983.toNat, 0, 0]
def k0_off6 (k0_t2 : Fin k0_t2_loop.trips) (c0_i32_478 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v992 : BitVec 32 := Scalar.addi v973 c0_i32_478
  let c4_i32_479 : BitVec 32 := 4#32
  let v993 : BitVec 32 := Scalar.shrsi v992 c4_i32_479
  let v995 : Index := Scalar.indexCast v993
  let c0_481 : Index := 0#32
  let c0_482 : Index := 0#32
  ![v995.toNat, 0, 0]
def k0_off7 (k0_t2 : Fin k0_t2_loop.trips) (c0_i32_478 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v992 : BitVec 32 := Scalar.addi v973 c0_i32_478
  let c4_i32_479 : BitVec 32 := 4#32
  let v993 : BitVec 32 := Scalar.shrsi v992 c4_i32_479
  let v1008 : Index := Scalar.indexCast v993
  let c0_486 : Index := 0#32
  let c0_487 : Index := 0#32
  ![v1008.toNat, 0, 0]
def k0_off8 (k0_t2 : Fin k0_t2_loop.trips) (c0_i32_478 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v992 : BitVec 32 := Scalar.addi v973 c0_i32_478
  let c15_i32_480 : BitVec 32 := 15#32
  let v994 : BitVec 32 := Scalar.andi v992 c15_i32_480
  let v1013 : Index := Scalar.indexCast v994
  let c0_488 : Index := 0#32
  let c0_489 : Index := 0#32
  ![v1013.toNat, 0, 0]
def k0_mult4 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c0_i32_495 : BitVec 32 := 0#32
  let v1026 : BitVec 32 := Scalar.addi v973 c0_i32_495
  let c2_i32 : BitVec 32 := 2#32
  let v1027 : BitVec 32 := Scalar.addi v1026 c2_i32
  let c15_i32_497 : BitVec 32 := 15#32
  let v1029 : BitVec 32 := Scalar.andi v1027 c15_i32_497
  let c512_i32_498 : BitVec 32 := 512#32
  let v1030 : BitVec 32 := Scalar.muli v1029 c512_i32_498
  v1030
def k0_off9 (k0_t2 : Fin k0_t2_loop.trips) (c0_i32_507 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v1044 : BitVec 32 := Scalar.addi v973 c0_i32_507
  let c1_i32_508 : BitVec 32 := 1#32
  let v1045 : BitVec 32 := Scalar.addi v1044 c1_i32_508
  let c4_i32_509 : BitVec 32 := 4#32
  let v1046 : BitVec 32 := Scalar.shrsi v1045 c4_i32_509
  let v1048 : Index := Scalar.indexCast v1046
  let c0_511 : Index := 0#32
  let c0_512 : Index := 0#32
  ![v1048.toNat, 0, 0]
def k0_off10 (k0_t2 : Fin k0_t2_loop.trips) (c0_i32_507 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v1044 : BitVec 32 := Scalar.addi v973 c0_i32_507
  let c1_i32_508 : BitVec 32 := 1#32
  let v1045 : BitVec 32 := Scalar.addi v1044 c1_i32_508
  let c4_i32_509 : BitVec 32 := 4#32
  let v1046 : BitVec 32 := Scalar.shrsi v1045 c4_i32_509
  let v1061 : Index := Scalar.indexCast v1046
  let c0_516 : Index := 0#32
  let c0_517 : Index := 0#32
  ![v1061.toNat, 0, 0]
def k0_off11 (k0_t2 : Fin k0_t2_loop.trips) (c0_i32_507 : BitVec 32) : Fin 3 → Nat :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let v1044 : BitVec 32 := Scalar.addi v973 c0_i32_507
  let c1_i32_508 : BitVec 32 := 1#32
  let v1045 : BitVec 32 := Scalar.addi v1044 c1_i32_508
  let c15_i32_510 : BitVec 32 := 15#32
  let v1047 : BitVec 32 := Scalar.andi v1045 c15_i32_510
  let v1066 : Index := Scalar.indexCast v1047
  let c0_518 : Index := 0#32
  let c0_519 : Index := 0#32
  ![v1066.toNat, 0, 0]
def k0_mult5 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c2_i32_525 : BitVec 32 := 2#32
  let v1079 : BitVec 32 := Scalar.addi v973 c2_i32_525
  let c1_i32_526 : BitVec 32 := 1#32
  let v1080 : BitVec 32 := Scalar.addi v1079 c1_i32_526
  let c15_i32_528 : BitVec 32 := 15#32
  let v1082 : BitVec 32 := Scalar.andi v1080 c15_i32_528
  let c512_i32_529 : BitVec 32 := 512#32
  let v1083 : BitVec 32 := Scalar.muli v1082 c512_i32_529
  v1083
def k0_mult6 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c2_i32_555 : BitVec 32 := 2#32
  let v1131 : BitVec 32 := Scalar.addi v973 c2_i32_555
  let c2_i32_556 : BitVec 32 := 2#32
  let v1132 : BitVec 32 := Scalar.addi v1131 c2_i32_556
  let c15_i32_558 : BitVec 32 := 15#32
  let v1134 : BitVec 32 := Scalar.andi v1132 c15_i32_558
  let c512_i32_559 : BitVec 32 := 512#32
  let v1135 : BitVec 32 := Scalar.muli v1134 c512_i32_559
  v1135
def k0_mult7 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c4_i32_586 : BitVec 32 := 4#32
  let v1184 : BitVec 32 := Scalar.addi v973 c4_i32_586
  let c1_i32_587 : BitVec 32 := 1#32
  let v1185 : BitVec 32 := Scalar.addi v1184 c1_i32_587
  let c15_i32_589 : BitVec 32 := 15#32
  let v1187 : BitVec 32 := Scalar.andi v1185 c15_i32_589
  let c512_i32_590 : BitVec 32 := 512#32
  let v1188 : BitVec 32 := Scalar.muli v1187 c512_i32_590
  v1188
def k0_mult8 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c4_i32_616 : BitVec 32 := 4#32
  let v1236 : BitVec 32 := Scalar.addi v973 c4_i32_616
  let c2_i32_617 : BitVec 32 := 2#32
  let v1237 : BitVec 32 := Scalar.addi v1236 c2_i32_617
  let c15_i32_619 : BitVec 32 := 15#32
  let v1239 : BitVec 32 := Scalar.andi v1237 c15_i32_619
  let c512_i32_620 : BitVec 32 := 512#32
  let v1240 : BitVec 32 := Scalar.muli v1239 c512_i32_620
  v1240
def k0_mult9 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c6_i32 : BitVec 32 := 6#32
  let v1289 : BitVec 32 := Scalar.addi v973 c6_i32
  let c1_i32_647 : BitVec 32 := 1#32
  let v1290 : BitVec 32 := Scalar.addi v1289 c1_i32_647
  let c15_i32_649 : BitVec 32 := 15#32
  let v1292 : BitVec 32 := Scalar.andi v1290 c15_i32_649
  let c512_i32_650 : BitVec 32 := 512#32
  let v1293 : BitVec 32 := Scalar.muli v1292 c512_i32_650
  v1293
def k0_mult10 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c6_i32_676 : BitVec 32 := 6#32
  let v1341 : BitVec 32 := Scalar.addi v973 c6_i32_676
  let c2_i32_677 : BitVec 32 := 2#32
  let v1342 : BitVec 32 := Scalar.addi v1341 c2_i32_677
  let c15_i32_679 : BitVec 32 := 15#32
  let v1344 : BitVec 32 := Scalar.andi v1342 c15_i32_679
  let c512_i32_680 : BitVec 32 := 512#32
  let v1345 : BitVec 32 := Scalar.muli v1344 c512_i32_680
  v1345
def k0_mult11 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c8_i32 : BitVec 32 := 8#32
  let v1394 : BitVec 32 := Scalar.addi v973 c8_i32
  let c1_i32_707 : BitVec 32 := 1#32
  let v1395 : BitVec 32 := Scalar.addi v1394 c1_i32_707
  let c15_i32_709 : BitVec 32 := 15#32
  let v1397 : BitVec 32 := Scalar.andi v1395 c15_i32_709
  let c512_i32_710 : BitVec 32 := 512#32
  let v1398 : BitVec 32 := Scalar.muli v1397 c512_i32_710
  v1398
def k0_mult12 (k0_t2 : Fin k0_t2_loop.trips) : BitVec 32 :=
  let c10_i32 : BitVec 32 := 10#32
  let c0_i32_115 : BitVec 32 := 0#32
  let c1_i32 : BitVec 32 := 1#32
  let arg12 : BitVec 32 := Scf.iv c0_i32_115 c1_i32 k0_t2
  let v973 : BitVec 32 := Scalar.muli c10_i32 arg12
  let c8_i32_736 : BitVec 32 := 8#32
  let v1446 : BitVec 32 := Scalar.addi v973 c8_i32_736
  let c2_i32_737 : BitVec 32 := 2#32
  let v1447 : BitVec 32 := Scalar.addi v1446 c2_i32_737
  let c15_i32_739 : BitVec 32 := 15#32
  let v1449 : BitVec 32 := Scalar.andi v1447 c15_i32_739
  let c512_i32_740 : BitVec 32 := 512#32
  let v1450 : BitVec 32 := Scalar.muli v1449 c512_i32_740
  v1450
def k0_mult13 : BitVec 32 :=
  let c4608_i32 : BitVec 32 := 4608#32
  c4608_i32
def k0_mult14 : BitVec 32 :=
  let c5120_i32 : BitVec 32 := 5120#32
  c5120_i32
def k0_mult15 : BitVec 32 :=
  let c5632_i32 : BitVec 32 := 5632#32
  c5632_i32
def k0_mult16 : BitVec 32 :=
  let c6144_i32 : BitVec 32 := 6144#32
  c6144_i32
def k0_mult17 : BitVec 32 :=
  let c6656_i32 : BitVec 32 := 6656#32
  c6656_i32
def k0_mult18 : BitVec 32 :=
  let c7168_i32 : BitVec 32 := 7168#32
  c7168_i32
def k0_mult19 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x2304 : Shape := ⟨3, ![2, 8192, 2304]⟩
abbrev S2x8192x512 : Shape := ⟨3, ![2, 8192, 512]⟩
abbrev S2x8192x4x2x2x32 : Shape := ⟨6, ![2, 8192, 4, 2, 2, 32]⟩
abbrev S2x8192x2x4x64 : Shape := ⟨5, ![2, 8192, 2, 4, 64]⟩
abbrev S2x8192x128 : Shape := ⟨3, ![2, 8192, 128]⟩
abbrev S2x8192x2x2x32 : Shape := ⟨5, ![2, 8192, 2, 2, 32]⟩
abbrev S2x8192x2x64 : Shape := ⟨4, ![2, 8192, 2, 64]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x2x4 : Shape := ⟨4, ![2, 8192, 2, 4]⟩
abbrev S2x8192x2x4x1 : Shape := ⟨5, ![2, 8192, 2, 4, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x2304, .bf16⟩
  | .hbm, ⟨1, _⟩ => ⟨S2x8192x2304, .f32⟩
  | .hbm, ⟨2, _⟩ => ⟨S2x8192x512, .f32⟩
  | .hbm, ⟨3, _⟩ => ⟨S2x8192x4x2x2x32, .f32⟩
  | .hbm, ⟨4, _⟩ => ⟨S2x8192x4x2x2x32, .f32⟩
  | .hbm, ⟨5, _⟩ => ⟨S2x8192x2x4x64, .f32⟩
  | .hbm, ⟨6, _⟩ => ⟨S2x8192x128, .f32⟩
  | .hbm, ⟨7, _⟩ => ⟨S2x8192x2x2x32, .f32⟩
  | .hbm, ⟨8, _⟩ => ⟨S2x8192x2x2x32, .f32⟩
  | .hbm, ⟨9, _⟩ => ⟨S2x8192x2x64, .f32⟩
  | .hbm, ⟨10, _⟩ => ⟨S2x8192x128, .f32⟩
  | .hbm, ⟨11, _⟩ => ⟨S2x8192x2x64, .f32⟩
  | .hbm, ⟨12, _⟩ => ⟨S2x2x8192x8192x4, .f32⟩
  | .hbm, ⟨13, _⟩ => ⟨S2x2x4x8192x8192, .f32⟩
  | .hbm, ⟨14, _⟩ => ⟨S2x2x4x8192x8192, .bf16⟩
  | .hbm, ⟨15, _⟩ => ⟨S2x2x4x8192x8192, .f32⟩
  | .hbm, ⟨16, _⟩ => ⟨S_, .f32⟩
  | .hbm, ⟨17, _⟩ => ⟨S2x2x4x8192, .f32⟩
  | .hbm, ⟨18, _⟩ => ⟨S2x2x4x8192x1, .f32⟩
  | .hbm, ⟨19, _⟩ => ⟨S2x2x4x8192x8192, .f32⟩
  | .hbm, ⟨20, _⟩ => ⟨S2x2x4x8192x8192, .f32⟩
  | .hbm, ⟨21, _⟩ => ⟨S_, .f32⟩
  | .hbm, ⟨22, _⟩ => ⟨S2x2x4x8192x8192, .f32⟩
  | .hbm, ⟨23, _⟩ => ⟨S2x2x4x8192x8192, .f32⟩
  | .hbm, ⟨24, _⟩ => ⟨S2x2x4x8192x8192, .bf16⟩
  | .hbm, ⟨25, _⟩ => ⟨S2x2x4x8192x8192, .f32⟩
  | .hbm, ⟨26, _⟩ => ⟨S2x2x64x4x8192, .f32⟩
  | .hbm, ⟨27, _⟩ => ⟨S2x8192x2x4x64, .f32⟩
  | .hbm, ⟨28, _⟩ => ⟨S_, .f32⟩
  | .hbm, ⟨29, _⟩ => ⟨S2x2x4x8192, .f32⟩
  | .hbm, ⟨30, _⟩ => ⟨S2x8192x2x4, .f32⟩
  | .hbm, ⟨31, _⟩ => ⟨S2x8192x2x4x1, .f32⟩
  | .hbm, ⟨32, _⟩ => ⟨S2x8192x2x4x64, .f32⟩
  | .hbm, ⟨33, _⟩ => ⟨S2x8192x2x4x64, .f32⟩
  | .hbm, ⟨34, _⟩ => ⟨S2x8192x512, .f32⟩
  | .hbm, ⟨35, _⟩ => ⟨S2x8192x512, .bf16⟩
  | _, _ => ⟨S2x8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_1 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Mix.lean ====
abbrev S2x8192x1024 : Shape := ⟨3, ![2, 8192, 1024]⟩
abbrev S2x8192x512 : Shape := ⟨3, ![2, 8192, 512]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S512x2816 : Shape := ⟨2, ![512, 2816]⟩

abbrev nBuf : Space → Nat
  | .hbm => 13
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x1024, .f32⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixIdeal.lean ====
abbrev S2x8192x1024 : Shape := ⟨3, ![2, 8192, 1024]⟩
abbrev S2x8192x512 : Shape := ⟨3, ![2, 8192, 512]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S512x2816 : Shape := ⟨2, ![512, 2816]⟩

abbrev nBuf : Space → Nat
  | .hbm => 13
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x1024, .f32⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixReferenceIdeal.lean ====
abbrev S2x8192x1024 : Shape := ⟨3, ![2, 8192, 1024]⟩
abbrev S2x8192x512 : Shape := ⟨3, ![2, 8192, 512]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x2816 : Shape := ⟨3, ![2, 8192, 2816]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x1024, .f32⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S2x8192x512, .f32⟩
  | .hbm, ⟨13, _⟩ => ⟨S2x8192x512, .f32⟩
  | .hbm, ⟨14, _⟩ => ⟨S1024x2048, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x2048, .f32⟩
  | .hbm, ⟨41, _⟩ => ⟨S2x8192x2048, .f32⟩
  | .hbm, ⟨42, _⟩ => ⟨S2x8192x2048, .f32⟩
  | .hbm, ⟨43, _⟩ => ⟨S_, .f32⟩
  | .hbm, ⟨44, _⟩ => ⟨S2x8192x2048, .f32⟩
  | .hbm, ⟨45, _⟩ => ⟨S2x8192x2048, .f32⟩
  | .hbm, ⟨46, _⟩ => ⟨S_, .f32⟩
  | .hbm, ⟨47, _⟩ => ⟨S2x8192x2048, .f32⟩
  | .hbm, ⟨48, _⟩ => ⟨S2x8192x2048, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S1024, .f32⟩
  | .hbm, ⟨57, _⟩ => ⟨S2x8192x1024, .f32⟩
  | .hbm, ⟨58, _⟩ => ⟨S_, .f32⟩
  | .hbm, ⟨59, _⟩ => ⟨S2x8192, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S2x8192x1, .f32⟩
  | .hbm, ⟨68, _⟩ => ⟨S2x8192x1024, .f32⟩
  | .hbm, ⟨69, _⟩ => ⟨S2x8192x1024, .f32⟩
  | .hbm, ⟨70, _⟩ => ⟨S1x1x1024, .f32⟩
  | .hbm, ⟨71, _⟩ => ⟨S2x8192x1024, .f32⟩
  | .hbm, ⟨72, _⟩ => ⟨S2x8192x1024, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S_, .f32⟩
  | .hbm, ⟨77, _⟩ => ⟨S2x8192x2816, .f32⟩
  | .hbm, ⟨78, _⟩ => ⟨S2x8192x2816, .f32⟩
  | .hbm, ⟨79, _⟩ => ⟨S_, .f32⟩
  | .hbm, ⟨80, _⟩ => ⟨S2x8192x2816, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S2x8192x2816, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024 : Shape := ⟨2, ![1, 1024]⟩
abbrev S1024x2816 : Shape := ⟨2, ![1024, 2816]⟩
abbrev S2816x1024 : Shape := ⟨2, ![2816, 1024]⟩
abbrev S1024x2304 : Shape := ⟨2, ![1024, 2304]⟩
abbrev S1x2304 : Shape := ⟨2, ![1, 2304]⟩
abbrev S8192x512 : Shape := ⟨2, ![8192, 512]⟩
abbrev S256x256 : Shape := ⟨2, ![256, 256]⟩
abbrev S2x8192x2304 : Shape := ⟨3, ![2, 8192, 2304]⟩
abbrev S1x512x1024 : Shape := ⟨3, ![1, 512, 1024]⟩
abbrev S512x512 : Shape := ⟨2, ![512, 512]⟩
abbrev S1x512x2304 : Shape := ⟨3, ![1, 512, 2304]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S512x2304 : Shape := ⟨2, ![512, 2304]⟩
abbrev S512x128 : Shape := ⟨2, ![512, 128]⟩
abbrev S512x256 : Shape := ⟨2, ![512, 256]⟩
abbrev S1x256 : Shape := ⟨2, ![1, 256]⟩
abbrev S1x512x128 : Shape := ⟨3, ![1, 512, 128]⟩
abbrev S1x512x512 : Shape := ⟨3, ![1, 512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1024x2304, .bf16⟩
  | .hbm, ⟨7, _⟩ => ⟨S1x2304, .f32⟩
  | .hbm, ⟨8, _⟩ => ⟨S8192x512, .f32⟩
  | .hbm, ⟨9, _⟩ => ⟨S256x256, .bf16⟩
  | .hbm, ⟨10, _⟩ => ⟨S2x8192x1024, .f32⟩
  | .hbm, ⟨11, _⟩ => ⟨S2x8192x2304, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x2304, .bf16⟩
  | .local _ .vmem, ⟨8, _⟩ => ⟨S256x256, .bf16⟩
  | .local _ .vmem, ⟨9, _⟩ => ⟨S1x2304, .f32⟩
  | .local _ .vmem, ⟨10, _⟩ => ⟨S512x512, .f32⟩
  | .local _ .vmem, ⟨11, _⟩ => ⟨S512x512, .f32⟩
  | .local _ .vmem, ⟨12, _⟩ => ⟨S1x512x1024, .f32⟩
  | .local _ .vmem, ⟨13, _⟩ => ⟨S1x512x1024, .f32⟩
  | .local _ .vmem, ⟨14, _⟩ => ⟨S1x512x2304, .bf16⟩
  | .local _ .vmem, ⟨15, _⟩ => ⟨S1x512x2304, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjIdeal.lean ====
abbrev S2x8192x1024 : Shape := ⟨3, ![2, 8192, 1024]⟩
abbrev S1x1024 : Shape := ⟨2, ![1, 1024]⟩
abbrev S1024x2816 : Shape := ⟨2, ![1024, 2816]⟩
abbrev S2816x1024 : Shape := ⟨2, ![2816, 1024]⟩
abbrev S1024x2304 : Shape := ⟨2, ![1024, 2304]⟩
abbrev S1x2304 : Shape := ⟨2, ![1, 2304]⟩
abbrev S8192x512 : Shape := ⟨2, ![8192, 512]⟩
abbrev S256x256 : Shape := ⟨2, ![256, 256]⟩
abbrev S2x8192x2304 : Shape := ⟨3, ![2, 8192, 2304]⟩
abbrev S1x512x1024 : Shape := ⟨3, ![1, 512, 1024]⟩
abbrev S512x512 : Shape := ⟨2, ![512, 512]⟩
abbrev S1x512x2304 : Shape := ⟨3, ![1, 512, 2304]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S512x2304 : Shape := ⟨2, ![512, 2304]⟩
abbrev S512x128 : Shape := ⟨2, ![512, 128]⟩
abbrev S512x256 : Shape := ⟨2, ![512, 256]⟩
abbrev S1x256 : Shape := ⟨2, ![1, 256]⟩
abbrev S1x512x128 : Shape := ⟨3, ![1, 512, 128]⟩
abbrev S1x512x512 : Shape := ⟨3, ![1, 512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1024x2304, .bf16⟩
  | .hbm, ⟨7, _⟩ => ⟨S1x2304, .f32⟩
  | .hbm, ⟨8, _⟩ => ⟨S8192x512, .f32⟩
  | .hbm, ⟨9, _⟩ => ⟨S256x256, .bf16⟩
  | .hbm, ⟨10, _⟩ => ⟨S2x8192x1024, .f32⟩
  | .hbm, ⟨11, _⟩ => ⟨S2x8192x2304, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x2304, .bf16⟩
  | .local _ .vmem, ⟨8, _⟩ => ⟨S256x256, .bf16⟩
  | .local _ .vmem, ⟨9, _⟩ => ⟨S1x2304, .f32⟩
  | .local _ .vmem, ⟨10, _⟩ => ⟨S512x512, .f32⟩
  | .local _ .vmem, ⟨11, _⟩ => ⟨S512x512, .f32⟩
  | .local _ .vmem, ⟨12, _⟩ => ⟨S1x512x1024, .f32⟩
  | .local _ .vmem, ⟨13, _⟩ => ⟨S1x512x1024, .f32⟩
  | .local _ .vmem, ⟨14, _⟩ => ⟨S1x512x2304, .bf16⟩
  | .local _ .vmem, ⟨15, _⟩ => ⟨S1x512x2304, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjReferenceIdeal.lean ====
abbrev S2x8192x1024 : Shape := ⟨3, ![2, 8192, 1024]⟩
abbrev S1x1024 : Shape := ⟨2, ![1, 1024]⟩
abbrev S1024x2816 : Shape := ⟨2, ![1024, 2816]⟩
abbrev S2816x1024 : Shape := ⟨2, ![2816, 1024]⟩
abbrev S1024x2304 : Shape := ⟨2, ![1024, 2304]⟩
abbrev S1x2304 : Shape := ⟨2, ![1, 2304]⟩
abbrev S8192x512 : Shape := ⟨2, ![8192, 512]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x8192x2304 : Shape := ⟨3, ![2, 8192, 2304]⟩
abbrev S2x8192x640 : Shape := ⟨3, ![2, 8192, 640]⟩
abbrev S2x8192x5x2x2x32 : Shape := ⟨6, ![2, 8192, 5, 2, 2, 32]⟩
abbrev S2x8192x10x64 : Shape := ⟨4, ![2, 8192, 10, 64]⟩
abbrev S1x640 : Shape := ⟨2, ![1, 640]⟩
abbrev S640 : Shape := ⟨1, ![640]⟩
abbrev S5x2x2x32 : Shape := ⟨4, ![5, 2, 2, 32]⟩
abbrev S10x64 : Shape := ⟨2, ![10, 64]⟩
abbrev S2x8192x10 : Shape := ⟨3, ![2, 8192, 10]⟩
abbrev S2x8192x10x1 : Shape := ⟨4, ![2, 8192, 10, 1]⟩
abbrev S1x1x10x64 : Shape := ⟨4, ![1, 1, 10, 64]⟩
abbrev S8192x128 : Shape := ⟨2, ![8192, 128]⟩
abbrev S8192x1x2x2x32 : Shape := ⟨5, ![8192, 1, 2, 2, 32]⟩
abbrev S8192x2x64 : Shape := ⟨3, ![8192, 2, 64]⟩
abbrev S2x8192x5x2x64 : Shape := ⟨5, ![2, 8192, 5, 2, 64]⟩
abbrev S2x8192x5x2x32 : Shape := ⟨5, ![2, 8192, 5, 2, 32]⟩
abbrev S8192x1x2x64 : Shape := ⟨4, ![8192, 1, 2, 64]⟩
abbrev S1x8192x1x2x64 : Shape := ⟨5, ![1, 8192, 1, 2, 64]⟩
abbrev S2x8192x8x2x2x32 : Shape := ⟨6, ![2, 8192, 8, 2, 2, 32]⟩
abbrev S2x8192x16x64 : Shape := ⟨4, ![2, 8192, 16, 64]⟩
abbrev S8x2x2x32 : Shape := ⟨4, ![8, 2, 2, 32]⟩
abbrev S16x64 : Shape := ⟨2, ![16, 64]⟩
abbrev S2x8192x16 : Shape := ⟨3, ![2, 8192, 16]⟩
abbrev S2x8192x16x1 : Shape := ⟨4, ![2, 8192, 16, 1]⟩
abbrev S1x1x16x64 : Shape := ⟨4, ![1, 1, 16, 64]⟩
abbrev S2x8192x8x2x64 : Shape := ⟨5, ![2, 8192, 8, 2, 64]⟩
abbrev S2x8192x8x2x32 : Shape := ⟨5, ![2, 8192, 8, 2, 32]⟩
abbrev S2x8192x128 : Shape := ⟨3, ![2, 8192, 128]⟩
abbrev S2x8192x512 : Shape := ⟨3, ![2, 8192, 512]⟩

abbrev nBuf : Space → Nat
  | .hbm => 167
  | .vmem => 0
  | .smem => 0
  | _ => 0

abbrev hbmTy0_0 (i : Nat) : BufTy := match i % 128 with
  | 0 => ⟨S2x8192x1024, .f32⟩
  | 1 => ⟨S1x1024, .f32⟩
  | 2 => ⟨S1024x2816, .bf16⟩
  | 3 => ⟨S1024x2816, .bf16⟩
  | 4 => ⟨S2816x1024, .bf16⟩
  | 5 => ⟨S1x1024, .f32⟩
  | 6 => ⟨S1024x2304, .bf16⟩
  | 7 => ⟨S1x2304, .f32⟩
  | 8 => ⟨S8192x512, .f32⟩
  | 9 => ⟨S1024x2816, .f32⟩
  | 10 => ⟨S1024x2816, .f32⟩
  | 11 => ⟨S2816x1024, .f32⟩
  | 12 => ⟨S1024x2304, .f32⟩
  | 13 => ⟨S1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S2x8192x2816, .f32⟩
  | 31 => ⟨S2x8192x2816, .f32⟩
  | 32 => ⟨S2x8192x2816, .f32⟩
  | 33 => ⟨S_, .f32⟩
  | 34 => ⟨S2x8192x2816, .f32⟩
  | 35 => ⟨S2x8192x2816, .f32⟩
  | 36 => ⟨S_, .f32⟩
  | 37 => ⟨S2x8192x2816, .f32⟩
  | 38 => ⟨S2x8192x2816, .f32⟩
  | 39 => ⟨S2x8192x2816, .f32⟩
  | 40 => ⟨S2x8192x2816, .f32⟩
  | 41 => ⟨S2x8192x2816, .f32⟩
  | 42 => ⟨S2x8192x1024, .f32⟩
  | 43 => ⟨S_, .f32⟩
  | 44 => ⟨S2x8192x1024, .f32⟩
  | 45 => ⟨S2x8192x1024, .f32⟩
  | 46 => ⟨S2x8192x1024, .f32⟩
  | 47 => ⟨S1024, .f32⟩
  | 48 => ⟨S2x8192x1024, .f32⟩
  | 49 => ⟨S_, .f32⟩
  | 50 => ⟨S2x8192, .f32⟩
  | 51 => ⟨S2x8192x1, .f32⟩
  | 52 => ⟨S_, .f32⟩
  | 53 => ⟨S2x8192x1, .f32⟩
  | 54 => ⟨S2x8192x1, .f32⟩
  | 55 => ⟨S_, .f32⟩
  | 56 => ⟨S2x8192x1, .f32⟩
  | 57 => ⟨S2x8192x1, .f32⟩
  | 58 => ⟨S2x8192x1, .f32⟩
  | 59 => ⟨S2x8192x1024, .f32⟩
  | 60 => ⟨S2x8192x1024, .f32⟩
  | 61 => ⟨S1x1x1024, .f32⟩
  | 62 => ⟨S2x8192x1024, .f32⟩
  | 63 => ⟨S2x8192x1024, .f32⟩
  | 64 => ⟨S2x8192x2304, .f32⟩
  | 65 => ⟨S2x8192x640, .f32⟩
  | 66 => ⟨S2x8192x5x2x2x32, .f32⟩
  | 67 => ⟨S2x8192x5x2x2x32, .f32⟩
  | 68 => ⟨S2x8192x10x64, .f32⟩
  | 69 => ⟨S1x640, .f32⟩
  | 70 => ⟨S640, .f32⟩
  | 71 => ⟨S5x2x2x32, .f32⟩
  | 72 => ⟨S5x2x2x32, .f32⟩
  | 73 => ⟨S10x64, .f32⟩
  | 74 => ⟨S2x8192x10x64, .f32⟩
  | 75 => ⟨S_, .f32⟩
  | 76 => ⟨S2x8192x10, .f32⟩
  | 77 => ⟨S2x8192x10x1, .f32⟩
  | 78 => ⟨S_, .f32⟩
  | 79 => ⟨S2x8192x10x1, .f32⟩
  | 80 => ⟨S2x8192x10x1, .f32⟩
  | 81 => ⟨S_, .f32⟩
  | 82 => ⟨S2x8192x10x1, .f32⟩
  | 83 => ⟨S2x8192x10x1, .f32⟩
  | 84 => ⟨S2x8192x10x1, .f32⟩
  | 85 => ⟨S2x8192x10x64, .f32⟩
  | 86 => ⟨S2x8192x10x64, .f32⟩
  | 87 => ⟨S1x1x10x64, .f32⟩
  | 88 => ⟨S2x8192x10x64, .f32⟩
  | 89 => ⟨S2x8192x10x64, .f32⟩
  | 90 => ⟨S8192x128, .f32⟩
  | 91 => ⟨S8192x1x2x2x32, .f32⟩
  | 92 => ⟨S8192x1x2x2x32, .f32⟩
  | 93 => ⟨S8192x2x64, .f32⟩
  | 94 => ⟨S8192x128, .f32⟩
  | 95 => ⟨S8192x1x2x2x32, .f32⟩
  | 96 => ⟨S8192x1x2x2x32, .f32⟩
  | 97 => ⟨S8192x2x64, .f32⟩
  | 98 => ⟨S2x8192x5x2x64, .f32⟩
  | 99 => ⟨S2x8192x5x2x32, .f32⟩
  | 100 => ⟨S2x8192x5x2x32, .f32⟩
  | 101 => ⟨S2x8192x5x2x64, .f32⟩
  | 102 => ⟨S8192x1x2x64, .f32⟩
  | 103 => ⟨S1x8192x1x2x64, .f32⟩
  | 104 => ⟨S2x8192x5x2x64, .f32⟩
  | 105 => ⟨S2x8192x5x2x64, .f32⟩
  | 106 => ⟨S8192x1x2x64, .f32⟩
  | 107 => ⟨S1x8192x1x2x64, .f32⟩
  | 108 => ⟨S2x8192x5x2x64, .f32⟩
  | 109 => ⟨S2x8192x5x2x64, .f32⟩
  | 110 => ⟨S2x8192x5x2x64, .f32⟩
  | 111 => ⟨S2x8192x5x2x2x32, .f32⟩
  | 112 => ⟨S2x8192x5x2x2x32, .f32⟩
  | 113 => ⟨S2x8192x640, .f32⟩
  | 114 => ⟨S2x8192x1024, .f32⟩
  | 115 => ⟨S2x8192x8x2x2x32, .f32⟩
  | 116 => ⟨S2x8192x8x2x2x32, .f32⟩
  | 117 => ⟨S2x8192x16x64, .f32⟩
  | 118 => ⟨S1x1024, .f32⟩
  | 119 => ⟨S1024, .f32⟩
  | 120 => ⟨S8x2x2x32, .f32⟩
  | 121 => ⟨S8x2x2x32, .f32⟩
  | 122 => ⟨S16x64, .f32⟩
  | 123 => ⟨S2x8192x16x64, .f32⟩
  | 124 => ⟨S_, .f32⟩
  | 125 => ⟨S2x8192x16, .f32⟩
  | 126 => ⟨S2x8192x16x1, .f32⟩
  | 127 => ⟨S_, .f32⟩
  | _ => ⟨S2x8192x1024, .f32⟩

abbrev hbmTy0_1 (i : Nat) : BufTy := match i % 128 with
  | 0 => ⟨S2x8192x16x1, .f32⟩
  | 1 => ⟨S2x8192x16x1, .f32⟩
  | 2 => ⟨S_, .f32⟩
  | 3 => ⟨S2x8192x16x1, .f32⟩
  | 4 => ⟨S2x8192x16x1, .f32⟩
  | 5 => ⟨S2x8192x16x1, .f32⟩
  | 6 => ⟨S2x8192x16x64, .f32⟩
  | 7 => ⟨S2x8192x16x64, .f32⟩
  | 8 => ⟨S1x1x16x64, .f32⟩
  | 9 => ⟨S2x8192x16x64, .f32⟩
  | 10 => ⟨S2x8192x16x64, .f32⟩
  | 11 => ⟨S8192x128, .f32⟩
  | 12 => ⟨S8192x1x2x2x32, .f32⟩
  | 13 => ⟨S8192x1x2x2x32, .f32⟩
  | 14 => ⟨S8192x2x64, .f32⟩
  | 15 => ⟨S8192x128, .f32⟩
  | 16 => ⟨S8192x1x2x2x32, .f32⟩
  | 17 => ⟨S8192x1x2x2x32, .f32⟩
  | 18 => ⟨S8192x2x64, .f32⟩
  | 19 => ⟨S2x8192x8x2x64, .f32⟩
  | 20 => ⟨S2x8192x8x2x32, .f32⟩
  | 21 => ⟨S2x8192x8x2x32, .f32⟩
  | 22 => ⟨S2x8192x8x2x64, .f32⟩
  | 23 => ⟨S8192x1x2x64, .f32⟩
  | 24 => ⟨S1x8192x1x2x64, .f32⟩
  | 25 => ⟨S2x8192x8x2x64, .f32⟩
  | 26 => ⟨S2x8192x8x2x64, .f32⟩
  | 27 => ⟨S8192x1x2x64, .f32⟩
  | 28 => ⟨S1x8192x1x2x64, .f32⟩
  | 29 => ⟨S2x8192x8x2x64, .f32⟩
  | 30 => ⟨S2x8192x8x2x64, .f32⟩
  | 31 => ⟨S2x8192x8x2x64, .f32⟩
  | 32 => ⟨S2x8192x8x2x2x32, .f32⟩
  | 33 => ⟨S2x8192x8x2x2x32, .f32⟩
  | 34 => ⟨S2x8192x1024, .f32⟩
  | 35 => ⟨S2x8192x128, .f32⟩
  | 36 => ⟨S2x8192x512, .f32⟩
  | 37 => ⟨S2x8192x2304, .f32⟩
  | 38 => ⟨S2x8192x2304, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_9 : Ref sig .tc := ⟨.hbm, 124, rfl⟩
abbrev main_v97 : Ref sig .tc := ⟨.hbm, 125, rfl⟩
abbrev main_v98 : Ref sig .tc := ⟨.hbm, 126, rfl⟩
abbrev main_cst_10 : Ref sig .tc := ⟨.hbm, 127, rfl⟩
abbrev main_v99 : Ref sig .tc := ⟨.hbm, 128, rfl⟩
abbrev main_v100 : Ref sig .tc := ⟨.hbm, 129, rfl⟩
abbrev main_cst_11 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩

abbrev nD : Nat := 1
abbrev τ : Topo := Topo.v7x

variable {F : FTy → Type} [FloatOps F]
-- ==== MixSample.lean ====
abbrev S8x4096x1024 : Shape := ⟨3, ![8, 4096, 1024]⟩
abbrev S8x4096x512 : Shape := ⟨3, ![8, 4096, 512]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S512x2816 : Shape := ⟨2, ![512, 2816]⟩

abbrev nBuf : Space → Nat
  | .hbm => 13
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024, .f32⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixSampleReferenceIdeal.lean ====
abbrev S8x4096x1024 : Shape := ⟨3, ![8, 4096, 1024]⟩
abbrev S8x4096x512 : Shape := ⟨3, ![8, 4096, 512]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x2816 : Shape := ⟨3, ![8, 4096, 2816]⟩

abbrev nBuf : Space → Nat
  | .hbm => 90
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024, .f32⟩
  | .hbm, ⟨4, _⟩ => ⟨S1024x2048, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S8x4096x512, .f32⟩
  | .hbm, ⟨13, _⟩ => ⟨S8x4096x512, .f32⟩
  | .hbm, ⟨14, _⟩ => ⟨S1024x2048, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x2048, .f32⟩
  | .hbm, ⟨41, _⟩ => ⟨S8x4096x2048, .f32⟩
  | .hbm, ⟨42, _⟩ => ⟨S8x4096x2048, .f32⟩
  | .hbm, ⟨43, _⟩ => ⟨S_, .f32⟩
  | .hbm, ⟨44, _⟩ => ⟨S8x4096x2048, .f32⟩
  | .hbm, ⟨45, _⟩ => ⟨S8x4096x2048, .f32⟩
  | .hbm, ⟨46, _⟩ => ⟨S_, .f32⟩
  | .hbm, ⟨47, _⟩ => ⟨S8x4096x2048, .f32⟩
  | .hbm, ⟨48, _⟩ => ⟨S8x4096x2048, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S8x4096x1024, .f32⟩
  | .hbm, ⟨86, _⟩ => ⟨S_, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Diff.lean ====
abbrev S2x8192x2304 : Shape := ⟨3, ![2, 8192, 2304]⟩
abbrev S4x64 : Shape := ⟨2, ![4, 64]⟩
abbrev S128x1 : Shape := ⟨2, ![128, 1]⟩
abbrev S2x8192x512 : Shape := ⟨3, ![2, 8192, 512]⟩
abbrev S1x4096x128 : Shape := ⟨3, ![1, 4096, 128]⟩
abbrev S1x8192x128 : Shape := ⟨3, ![1, 8192, 128]⟩
abbrev S16x144x512 : Shape := ⟨3, ![16, 144, 512]⟩
abbrev S8x128x1024 : Shape := ⟨3, ![8, 128, 1024]⟩
abbrev S512x1024 : Shape := ⟨2, ![512, 1024]⟩
abbrev S8x1x1024 : Shape := ⟨3, ![8, 1, 1024]⟩
abbrev S8x144x1024 : Shape := ⟨3, ![8, 144, 1024]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S32x512 : Shape := ⟨2, ![32, 512]⟩
abbrev S128x1024 : Shape := ⟨2, ![128, 1024]⟩
abbrev S1x128x1024 : Shape := ⟨3, ![1, 128, 1024]⟩
abbrev S64x8x1024 : Shape := ⟨3, ![64, 8, 1024]⟩
abbrev S8x1024 : Shape := ⟨2, ![8, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S1x144x512 : Shape := ⟨3, ![1, 144, 512]⟩
abbrev S144x512 : Shape := ⟨2, ![144, 512]⟩
abbrev S1x64 : Shape := ⟨2, ![1, 64]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 4
  | .vmem => 16
  | .smem => 0
  | _ => 0

abbrev bufTy : (tb : Table) → Fin (tcTables nBuf tb) → BufTy
  | .hbm, ⟨0, _⟩ => ⟨S2x8192x2304, .bf16⟩
  | .hbm, ⟨1, _⟩ => ⟨S4x64, .f32⟩
  | .hbm, ⟨2, _⟩ => ⟨S128x1, .f32⟩
  | .hbm, ⟨3, _⟩ => ⟨S2x8192x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S128x1, .f32⟩
  | .local _ .vmem, ⟨8, _⟩ => ⟨S1x4096x128, .bf16⟩
  | .local _ .vmem, ⟨9, _⟩ => ⟨S1x4096x128, .bf16⟩
  | .local _ .vmem, ⟨10, _⟩ => ⟨S16x144x512, .bf16⟩
  | .local _ .vmem, ⟨11, _⟩ => ⟨S8x128x1024, .bf16⟩
  | .local _ .vmem, ⟨12, _⟩ => ⟨S512x1024, .f32⟩
  | .local _ .vmem, ⟨13, _⟩ => ⟨S512x1024, .f32⟩
  | .local _ .vmem, ⟨14, _⟩ => ⟨S8x1x1024, .f32⟩
  | .local _ .vmem, ⟨15, _⟩ => ⟨S8x144x1024, .f32⟩
  | _, _ => ⟨S2x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_400 : BitVec 32 := 0#32
  let c16_i32 : BitVec 32 := 16#32
  let v701 : BitVec 32 := Scalar.addi c0_i32_400 c16_i32
  let c1_i32_401 : BitVec 32 := 1#32
  ⟨c0_i32_400, v701, c1_i32_401⟩
def k0_mult1 (k0_t1 : Fin k0_t1_loop.trips) : BitVec 32 :=
  let c0_i32_400 : BitVec 32 := 0#32
  let c1_i32_401 : BitVec 32 := 1#32
  let arg15 : BitVec 32 := Scf.iv c0_i32_400 c1_i32_401 k0_t1
  let c512_i32 : BitVec 32 := 512#32
  let v702 : BitVec 32 := Scalar.muli arg15 c512_i32
  v702
def k0_off1 (k0_t1 : Fin k0_t1_loop.trips) : Fin 3 → Nat :=
  let c0_403 : Index := 0#32
  let c0_i32_400 : BitVec 32 := 0#32
  let c1_i32_401 : BitVec 32 := 1#32
  let arg15 : BitVec 32 := Scf.iv c0_i32_400 c1_i32_401 k0_t1
  let c512_i32 : BitVec 32 := 512#32
  let v702 : BitVec 32 := Scalar.muli arg15 c512_i32
  let v703 : BitVec 32 := v702
  let v704 : Index := Scalar.indexCast v703
  let c0_404 : Index := 0#32
  ![0, v704.toNat, 0]
def k0_off2 (k0_t1 : Fin k0_t1_loop.trips) : Fin 3 → Nat :=
  let c0_i32_400 : BitVec 32 := 0#32
  let c1_i32_401 : BitVec 32 := 1#32
  let arg15 : BitVec 32 := Scf.iv c0_i32_400 c1_i32_401 k0_t1
  let v708 : Index := Scalar.indexCast arg15
  let c0_405 : Index := 0#32
  let c0_406 : Index := 0#32
  ![v708.toNat, 0, 0]
def k0_off3 (k0_t1 : Fin k0_t1_loop.trips) : Fin 3 → Nat :=
  let c0_i32_400 : BitVec 32 := 0#32
  let c1_i32_401 : BitVec 32 := 1#32
  let arg15 : BitVec 32 := Scf.iv c0_i32_400 c1_i32_401 k0_t1
  let v713 : Index := Scalar.indexCast arg15
  let c128_408 : Index := 128#32
  let c0_409 : Index := 0#32
  ![v713.toNat, 128, 0]
def k0_mult2 : BitVec 32 :=
  let c0_i32_57 : BitVec 32 := 0#32
  c0_i32_57
@[reducible] def k0_t2_loop : Scf.Loop 32 :=
  let c0_i32_67 : BitVec 32 := 0#32
  let c12_i32 : BitVec 32 := 12#32
  let v143 : BitVec 32 := Scalar.addi c0_i32_67 c12_i32
  let c1_i32 : BitVec 32 := 1#32
  ⟨c0_i32_67, v143, c1_i32⟩
def k0_mult3 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c0_i32_400 : BitVec 32 := 0#32
  let v702 : BitVec 32 := Scalar.addi v701 c0_i32_400
  let c1_i32_401 : BitVec 32 := 1#32
  let v703 : BitVec 32 := Scalar.addi v702 c1_i32_401
  let c15_i32 : BitVec 32 := 15#32
  let v705 : BitVec 32 := Scalar.andi v703 c15_i32
  let c512_i32 : BitVec 32 := 512#32
  let v706 : BitVec 32 := Scalar.muli v705 c512_i32
  v706
def k0_off4 (k0_t2 : Fin k0_t2_loop.trips) (c0_i32_400 : BitVec 32) (c1_i32_401 : BitVec 32) : Fin 3 → Nat :=
  let c0_402 : Index := 0#32
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v702 : BitVec 32 := Scalar.addi v701 c0_i32_400
  let v703 : BitVec 32 := Scalar.addi v702 c1_i32_401
  let c15_i32 : BitVec 32 := 15#32
  let v705 : BitVec 32 := Scalar.andi v703 c15_i32
  let c512_i32 : BitVec 32 := 512#32
  let v706 : BitVec 32 := Scalar.muli v705 c512_i32
  let v707 : BitVec 32 := v706
  let v708 : Index := Scalar.indexCast v707
  let c0_403 : Index := 0#32
  ![0, v708.toNat, 0]
def k0_off5 (k0_t2 : Fin k0_t2_loop.trips) (c0_i32_400 : BitVec 32) (c1_i32_401 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v702 : BitVec 32 := Scalar.addi v701 c0_i32_400
  let v703 : BitVec 32 := Scalar.addi v702 c1_i32_401
  let c4_i32 : BitVec 32 := 4#32
  let v704 : BitVec 32 := Scalar.shrsi v703 c4_i32
  let v711 : Index := Scalar.indexCast v704
  let c0_404 : Index := 0#32
  let c0_405 : Index := 0#32
  ![v711.toNat, 0, 0]
def k0_off6 (k0_t2 : Fin k0_t2_loop.trips) (c0_i32_410 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v720 : BitVec 32 := Scalar.addi v701 c0_i32_410
  let c4_i32_411 : BitVec 32 := 4#32
  let v721 : BitVec 32 := Scalar.shrsi v720 c4_i32_411
  let v723 : Index := Scalar.indexCast v721
  let c0_413 : Index := 0#32
  let c0_414 : Index := 0#32
  ![v723.toNat, 0, 0]
def k0_off7 (k0_t2 : Fin k0_t2_loop.trips) (c0_i32_410 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v720 : BitVec 32 := Scalar.addi v701 c0_i32_410
  let c4_i32_411 : BitVec 32 := 4#32
  let v721 : BitVec 32 := Scalar.shrsi v720 c4_i32_411
  let v736 : Index := Scalar.indexCast v721
  let c0_418 : Index := 0#32
  let c0_419 : Index := 0#32
  ![v736.toNat, 0, 0]
def k0_off8 (k0_t2 : Fin k0_t2_loop.trips) (c0_i32_410 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v720 : BitVec 32 := Scalar.addi v701 c0_i32_410
  let c15_i32_412 : BitVec 32 := 15#32
  let v722 : BitVec 32 := Scalar.andi v720 c15_i32_412
  let v741 : Index := Scalar.indexCast v722
  let c0_420 : Index := 0#32
  let c0_421 : Index := 0#32
  ![v741.toNat, 0, 0]
def k0_mult4 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c0_i32_427 : BitVec 32 := 0#32
  let v754 : BitVec 32 := Scalar.addi v701 c0_i32_427
  let c2_i32 : BitVec 32 := 2#32
  let v755 : BitVec 32 := Scalar.addi v754 c2_i32
  let c15_i32_429 : BitVec 32 := 15#32
  let v757 : BitVec 32 := Scalar.andi v755 c15_i32_429
  let c512_i32_430 : BitVec 32 := 512#32
  let v758 : BitVec 32 := Scalar.muli v757 c512_i32_430
  v758
def k0_off9 (k0_t2 : Fin k0_t2_loop.trips) (c0_i32_439 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v772 : BitVec 32 := Scalar.addi v701 c0_i32_439
  let c1_i32_440 : BitVec 32 := 1#32
  let v773 : BitVec 32 := Scalar.addi v772 c1_i32_440
  let c4_i32_441 : BitVec 32 := 4#32
  let v774 : BitVec 32 := Scalar.shrsi v773 c4_i32_441
  let v776 : Index := Scalar.indexCast v774
  let c0_443 : Index := 0#32
  let c0_444 : Index := 0#32
  ![v776.toNat, 0, 0]
def k0_off10 (k0_t2 : Fin k0_t2_loop.trips) (c0_i32_439 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v772 : BitVec 32 := Scalar.addi v701 c0_i32_439
  let c1_i32_440 : BitVec 32 := 1#32
  let v773 : BitVec 32 := Scalar.addi v772 c1_i32_440
  let c4_i32_441 : BitVec 32 := 4#32
  let v774 : BitVec 32 := Scalar.shrsi v773 c4_i32_441
  let v789 : Index := Scalar.indexCast v774
  let c0_448 : Index := 0#32
  let c0_449 : Index := 0#32
  ![v789.toNat, 0, 0]
def k0_off11 (k0_t2 : Fin k0_t2_loop.trips) (c0_i32_439 : BitVec 32) : Fin 3 → Nat :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let v772 : BitVec 32 := Scalar.addi v701 c0_i32_439
  let c1_i32_440 : BitVec 32 := 1#32
  let v773 : BitVec 32 := Scalar.addi v772 c1_i32_440
  let c15_i32_442 : BitVec 32 := 15#32
  let v775 : BitVec 32 := Scalar.andi v773 c15_i32_442
  let v794 : Index := Scalar.indexCast v775
  let c0_450 : Index := 0#32
  let c0_451 : Index := 0#32
  ![v794.toNat, 0, 0]
def k0_mult5 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c2_i32_457 : BitVec 32 := 2#32
  let v807 : BitVec 32 := Scalar.addi v701 c2_i32_457
  let c1_i32_458 : BitVec 32 := 1#32
  let v808 : BitVec 32 := Scalar.addi v807 c1_i32_458
  let c15_i32_460 : BitVec 32 := 15#32
  let v810 : BitVec 32 := Scalar.andi v808 c15_i32_460
  let c512_i32_461 : BitVec 32 := 512#32
  let v811 : BitVec 32 := Scalar.muli v810 c512_i32_461
  v811
def k0_mult6 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c2_i32_487 : BitVec 32 := 2#32
  let v859 : BitVec 32 := Scalar.addi v701 c2_i32_487
  let c2_i32_488 : BitVec 32 := 2#32
  let v860 : BitVec 32 := Scalar.addi v859 c2_i32_488
  let c15_i32_490 : BitVec 32 := 15#32
  let v862 : BitVec 32 := Scalar.andi v860 c15_i32_490
  let c512_i32_491 : BitVec 32 := 512#32
  let v863 : BitVec 32 := Scalar.muli v862 c512_i32_491
  v863
def k0_mult7 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c4_i32_518 : BitVec 32 := 4#32
  let v912 : BitVec 32 := Scalar.addi v701 c4_i32_518
  let c1_i32_519 : BitVec 32 := 1#32
  let v913 : BitVec 32 := Scalar.addi v912 c1_i32_519
  let c15_i32_521 : BitVec 32 := 15#32
  let v915 : BitVec 32 := Scalar.andi v913 c15_i32_521
  let c512_i32_522 : BitVec 32 := 512#32
  let v916 : BitVec 32 := Scalar.muli v915 c512_i32_522
  v916
def k0_mult8 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c4_i32_548 : BitVec 32 := 4#32
  let v964 : BitVec 32 := Scalar.addi v701 c4_i32_548
  let c2_i32_549 : BitVec 32 := 2#32
  let v965 : BitVec 32 := Scalar.addi v964 c2_i32_549
  let c15_i32_551 : BitVec 32 := 15#32
  let v967 : BitVec 32 := Scalar.andi v965 c15_i32_551
  let c512_i32_552 : BitVec 32 := 512#32
  let v968 : BitVec 32 := Scalar.muli v967 c512_i32_552
  v968
def k0_mult9 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c6_i32 : BitVec 32 := 6#32
  let v1017 : BitVec 32 := Scalar.addi v701 c6_i32
  let c1_i32_579 : BitVec 32 := 1#32
  let v1018 : BitVec 32 := Scalar.addi v1017 c1_i32_579
  let c15_i32_581 : BitVec 32 := 15#32
  let v1020 : BitVec 32 := Scalar.andi v1018 c15_i32_581
  let c512_i32_582 : BitVec 32 := 512#32
  let v1021 : BitVec 32 := Scalar.muli v1020 c512_i32_582
  v1021
def k0_mult10 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c6_i32_608 : BitVec 32 := 6#32
  let v1069 : BitVec 32 := Scalar.addi v701 c6_i32_608
  let c2_i32_609 : BitVec 32 := 2#32
  let v1070 : BitVec 32 := Scalar.addi v1069 c2_i32_609
  let c15_i32_611 : BitVec 32 := 15#32
  let v1072 : BitVec 32 := Scalar.andi v1070 c15_i32_611
  let c512_i32_612 : BitVec 32 := 512#32
  let v1073 : BitVec 32 := Scalar.muli v1072 c512_i32_612
  v1073
def k0_mult11 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c8_i32 : BitVec 32 := 8#32
  let v1122 : BitVec 32 := Scalar.addi v701 c8_i32
  let c1_i32_639 : BitVec 32 := 1#32
  let v1123 : BitVec 32 := Scalar.addi v1122 c1_i32_639
  let c15_i32_641 : BitVec 32 := 15#32
  let v1125 : BitVec 32 := Scalar.andi v1123 c15_i32_641
  let c512_i32_642 : BitVec 32 := 512#32
  let v1126 : BitVec 32 := Scalar.muli v1125 c512_i32_642
  v1126
def k0_mult12 (k0_t2 : Fin k0_t2_loop.trips) : BitVec 32 :=
  let c10_i32 : BitVec 32 := 10#32
  let c0_i32_67 : BitVec 32 := 0#32
  let c1_i32 : BitVec 32 := 1#32
  let arg15 : BitVec 32 := Scf.iv c0_i32_67 c1_i32 k0_t2
  let v701 : BitVec 32 := Scalar.muli c10_i32 arg15
  let c8_i32_668 : BitVec 32 := 8#32
  let v1174 : BitVec 32 := Scalar.addi v701 c8_i32_668
  let c2_i32_669 : BitVec 32 := 2#32
  let v1175 : BitVec 32 := Scalar.addi v1174 c2_i32_669
  let c15_i32_671 : BitVec 32 := 15#32
  let v1177 : BitVec 32 := Scalar.andi v1175 c15_i32_671
  let c512_i32_672 : BitVec 32 := 512#32
  let v1178 : BitVec 32 := Scalar.muli v1177 c512_i32_672
  v1178
def k0_mult13 : BitVec 32 :=
  let c4608_i32 : BitVec 32 := 4608#32
  c4608_i32
def k0_mult14 : BitVec 32 :=
  let c5120_i32 : BitVec 32 := 5120#32
  c5120_i32
def k0_mult15 : BitVec 32 :=
  let c5632_i32 : BitVec 32 := 5632#32
  c5632_i32
def k0_mult16 : BitVec 32 :=
  let c6144_i32 : BitVec 32 := 6144#32
  c6144_i32
def k0_mult17 : BitVec 32 :=
  let c6656_i32 : BitVec 32 := 6656#32
  c6656_i32
def k0_mult18 : BitVec 32 :=
  let c7168_i32 : BitVec 32 := 7168#32
  c7168_i32
def k0_mult19 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffReferenceIdeal.lean ====
abbrev S2x8192x2304 : Shape := ⟨3, ![2, 8192, 2304]⟩
abbrev S4x64 : Shape := ⟨2, ![4, 64]⟩
abbrev S128x1 : Shape := ⟨2, ![128, 1]⟩
abbrev S2x8192x512 : Shape := ⟨3, ![2, 8192, 512]⟩
abbrev S2x8192x4x2x2x32 : Shape := ⟨6, ![2, 8192, 4, 2, 2, 32]⟩
abbrev S2x8192x4x2x64 : Shape := ⟨5, ![2, 8192, 4, 2, 64]⟩
abbrev S2x8192x4x128 : Shape := ⟨4, ![2, 8192, 4, 128]⟩
abbrev S1x64 : Shape := ⟨2, ![1, 64]⟩
abbrev S64 : Shape := ⟨1, ![64]⟩
abbrev S_ : Shape := ⟨0, ![]⟩
abbrev S2x8192x4x1x64 : Shape := ⟨5, ![2, 8192, 4, 1, 64]⟩
abbrev S2x8192x4x64 : Shape := ⟨4, ![2, 8192, 4, 64]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S2x8192x2304, .bf16⟩
  | .hbm, ⟨1, _⟩ => ⟨S4x64, .f32⟩
  | .hbm, ⟨2, _⟩ => ⟨S128x1, .f32⟩
  | .hbm, ⟨3, _⟩ => ⟨S2x8192x2304, .f32⟩
  | .hbm, ⟨4, _⟩ => ⟨S2x8192x512, .f32⟩
  | .hbm, ⟨5, _⟩ => ⟨S2x8192x4x2x2x32, .f32⟩
  | .hbm, ⟨6, _⟩ => ⟨S2x8192x4x2x2x32, .f32⟩
  | .hbm, ⟨7, _⟩ => ⟨S2x8192x4x2x64, .f32⟩
  | .hbm, ⟨8, _⟩ => ⟨S2x8192x512, .f32⟩
  | .hbm, ⟨9, _⟩ => ⟨S2x8192x4x2x2x32, .f32⟩
  | .hbm, ⟨10, _⟩ => ⟨S2x8192x4x2x2x32, .f32⟩
  | .hbm, ⟨11, _⟩ => ⟨S2x8192x4x2x64, .f32⟩
  | .hbm, ⟨12, _⟩ => ⟨S2x8192x512, .f32⟩
  | .hbm, ⟨13, _⟩ => ⟨S2x8192x4x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x8192x4x1x64, .f32⟩
  | .hbm, ⟨34, _⟩ => ⟨S2x8192x4x64, .f32⟩
  | .hbm, ⟨35, _⟩ => ⟨S2x8192x4x1x64, .f32⟩
  | .hbm, ⟨36, _⟩ => ⟨S2x8192x4x64, .f32⟩
  | .hbm, ⟨37, _⟩ => ⟨S2x4x8192x8192, .f32⟩
  | .hbm, ⟨38, _⟩ => ⟨S_, .f32⟩
  | .hbm, ⟨39, _⟩ => ⟨S2x4x8192x8192, .f32⟩
  | .hbm, ⟨40, _⟩ => ⟨S_, .f32⟩
  | .hbm, ⟨41, _⟩ => ⟨S2x4x8192, .f32⟩
  | .hbm, ⟨42, _⟩ => ⟨S2x4x8192x1, .f32⟩
  | .hbm, ⟨43, _⟩ => ⟨S2x4x8192x8192, .f32⟩
  | .hbm, ⟨44, _⟩ => ⟨S2x4x8192x8192, .f32⟩
  | .hbm, ⟨45, _⟩ => ⟨S2x4x8192x8192, .f32⟩
  | .hbm, ⟨46, _⟩ => ⟨S2x4x8192x8192, .bf16⟩
  | .hbm, ⟨47, _⟩ => ⟨S2x4x8192x8192, .f32⟩
  | .hbm, ⟨48, _⟩ => ⟨S2x4x128x8192, .f32⟩
  | .hbm, ⟨49, _⟩ => ⟨S2x8192x4x128, .f32⟩
  | .hbm, ⟨50, _⟩ => ⟨S_, .f32⟩
  | .hbm, ⟨51, _⟩ => ⟨S2x4x8192, .f32⟩
  | .hbm, ⟨52, _⟩ => ⟨S2x8192x4, .f32⟩
  | .hbm, ⟨53, _⟩ => ⟨S2x8192x4x1, .f32⟩
  | .hbm, ⟨54, _⟩ => ⟨S2x8192x4x128, .f32⟩
  | .hbm, ⟨55, _⟩ => ⟨S2x8192x4x128, .f32⟩
  | .hbm, ⟨56, _⟩ => ⟨S2x8192x4x1x64, .f32⟩
  | .hbm, ⟨57, _⟩ => ⟨S2x8192x4x64, .f32⟩
  | .hbm, ⟨58, _⟩ => ⟨S2x8192x4x1x64, .f32⟩
  | .hbm, ⟨59, _⟩ => ⟨S2x8192x4x64, .f32⟩
  | .hbm, ⟨60, _⟩ => ⟨S2x4x8192x8192, .f32⟩
  | .hbm, ⟨61, _⟩ => ⟨S_, .f32⟩
  | .hbm, ⟨62, _⟩ => ⟨S2x4x8192x8192, .f32⟩
  | .hbm, ⟨63, _⟩ => ⟨S_, .f32⟩
  | .hbm, ⟨64, _⟩ => ⟨S2x4x8192, .f32⟩
  | .hbm, ⟨65, _⟩ => ⟨S2x4x8192x1, .f32⟩
  | .hbm, ⟨66, _⟩ => ⟨S2x4x8192x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .bf16⟩
  | .hbm, ⟨70, _⟩ => ⟨S2x4x8192x8192, .f32⟩
  | .hbm, ⟨71, _⟩ => ⟨S2x4x128x8192, .f32⟩
  | .hbm, ⟨72, _⟩ => ⟨S2x8192x4x128, .f32⟩
  | .hbm, ⟨73, _⟩ => ⟨S_, .f32⟩
  | .hbm, ⟨74, _⟩ => ⟨S2x4x8192, .f32⟩
  | .hbm, ⟨75, _⟩ => ⟨S2x8192x4, .f32⟩
  | .hbm, ⟨76, _⟩ => ⟨S2x8192x4x1, .f32⟩
  | .hbm, ⟨77, _⟩ => ⟨S2x8192x4x128, .f32⟩
  | .hbm, ⟨78, _⟩ => ⟨S2x8192x4x128, .f32⟩
  | .hbm, ⟨79, _⟩ => ⟨S2x8192x4x128, .f32⟩
  | .hbm, ⟨80, _⟩ => ⟨S2x8192x4x128, .f32⟩
  | .hbm, ⟨81, _⟩ => ⟨S2x8192x4x128, .f32⟩
  | .hbm, ⟨82, _⟩ => ⟨S128, .f32⟩
  | .hbm, ⟨83, _⟩ => ⟨S2x8192x4x128, .f32⟩
  | .hbm, ⟨84, _⟩ => ⟨S_, .f32⟩
  | .hbm, ⟨85, _⟩ => ⟨S2x8192x4, .f32⟩
  | .hbm, ⟨86, _⟩ => ⟨S2x8192x4x1, .f32⟩
  | .hbm, ⟨87, _⟩ => ⟨S_, .f32⟩
  | .hbm, ⟨88, _⟩ => ⟨S2x8192x4x1, .f32⟩
  | .hbm, ⟨89, _⟩ => ⟨S2x8192x4x1, .f32⟩
  | .hbm, ⟨90, _⟩ => ⟨S_, .f32⟩
  | .hbm, ⟨91, _⟩ => ⟨S2x8192x4x1, .f32⟩
  | .hbm, ⟨92, _⟩ => ⟨S2x8192x4x1, .f32⟩
  | .hbm, ⟨93, _⟩ => ⟨S2x8192x4x1, .f32⟩
  | .hbm, ⟨94, _⟩ => ⟨S2x8192x4x128, .f32⟩
  | .hbm, ⟨95, _⟩ => ⟨S2x8192x4x128, .f32⟩
  | .hbm, ⟨96, _⟩ => ⟨S1x1x1x128, .f32⟩
  | .hbm, ⟨97, _⟩ => ⟨S2x8192x4x128, .f32⟩
  | .hbm, ⟨98, _⟩ => ⟨S2x8192x4x128, .f32⟩
  | .hbm, ⟨99, _⟩ => ⟨S_, .f32⟩
  | .hbm, ⟨100, _⟩ => ⟨S2x8192x4x128, .f32⟩
  | .hbm, ⟨101, _⟩ => ⟨S2x8192x4x128, .f32⟩
  | .hbm, ⟨102, _⟩ => ⟨S2x8192x512, .f32⟩
  | .hbm, ⟨103, _⟩ => ⟨S2x8192x512, .bf16⟩
  | _, _ => ⟨S2x8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_v75 : Ref sig .tc := ⟨.hbm, 89, rfl⟩
abbrev main_cst_10 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_11 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩

abbrev nD : Nat := 1
abbrev τ : Topo := Topo.v7x

variable {F : FTy → Type} [FloatOps F]
-- ==== ProjSample.lean ====
abbrev S8x4096x1024 : Shape := ⟨3, ![8, 4096, 1024]⟩
abbrev S1x1024 : Shape := ⟨2, ![1, 1024]⟩
abbrev S1024x2816 : Shape := ⟨2, ![1024, 2816]⟩
abbrev S2816x1024 : Shape := ⟨2, ![2816, 1024]⟩
abbrev S1024x2304 : Shape := ⟨2, ![1024, 2304]⟩
abbrev S1x2304 : Shape := ⟨2, ![1, 2304]⟩
abbrev S4096x512 : Shape := ⟨2, ![4096, 512]⟩
abbrev S256x256 : Shape := ⟨2, ![256, 256]⟩
abbrev S8x4096x2304 : Shape := ⟨3, ![8, 4096, 2304]⟩
abbrev S1x512x1024 : Shape := ⟨3, ![1, 512, 1024]⟩
abbrev S512x512 : Shape := ⟨2, ![512, 512]⟩
abbrev S1x512x2304 : Shape := ⟨3, ![1, 512, 2304]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S512x2304 : Shape := ⟨2, ![512, 2304]⟩
abbrev S512x128 : Shape := ⟨2, ![512, 128]⟩
abbrev S512x256 : Shape := ⟨2, ![512, 256]⟩
abbrev S1x256 : Shape := ⟨2, ![1, 256]⟩
abbrev S1x512x128 : Shape := ⟨3, ![1, 512, 128]⟩
abbrev S1x512x512 : Shape := ⟨3, ![1, 512, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1024x2304, .bf16⟩
  | .hbm, ⟨7, _⟩ => ⟨S1x2304, .f32⟩
  | .hbm, ⟨8, _⟩ => ⟨S4096x512, .f32⟩
  | .hbm, ⟨9, _⟩ => ⟨S256x256, .bf16⟩
  | .hbm, ⟨10, _⟩ => ⟨S8x4096x1024, .f32⟩
  | .hbm, ⟨11, _⟩ => ⟨S8x4096x2304, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x2304, .bf16⟩
  | .local _ .vmem, ⟨8, _⟩ => ⟨S256x256, .bf16⟩
  | .local _ .vmem, ⟨9, _⟩ => ⟨S1x2304, .f32⟩
  | .local _ .vmem, ⟨10, _⟩ => ⟨S512x512, .f32⟩
  | .local _ .vmem, ⟨11, _⟩ => ⟨S512x512, .f32⟩
  | .local _ .vmem, ⟨12, _⟩ => ⟨S1x512x1024, .f32⟩
  | .local _ .vmem, ⟨13, _⟩ => ⟨S1x512x1024, .f32⟩
  | .local _ .vmem, ⟨14, _⟩ => ⟨S1x512x2304, .bf16⟩
  | .local _ .vmem, ⟨15, _⟩ => ⟨S1x512x2304, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjSampleReferenceIdeal.lean ====
abbrev S8x4096x1024 : Shape := ⟨3, ![8, 4096, 1024]⟩
abbrev S1x1024 : Shape := ⟨2, ![1, 1024]⟩
abbrev S1024x2816 : Shape := ⟨2, ![1024, 2816]⟩
abbrev S2816x1024 : Shape := ⟨2, ![2816, 1024]⟩
abbrev S1024x2304 : Shape := ⟨2, ![1024, 2304]⟩
abbrev S1x2304 : Shape := ⟨2, ![1, 2304]⟩
abbrev S4096x512 : Shape := ⟨2, ![4096, 512]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4096x2304 : Shape := ⟨3, ![8, 4096, 2304]⟩
abbrev S8x4096x640 : Shape := ⟨3, ![8, 4096, 640]⟩
abbrev S8x4096x5x2x2x32 : Shape := ⟨6, ![8, 4096, 5, 2, 2, 32]⟩
abbrev S8x4096x10x64 : Shape := ⟨4, ![8, 4096, 10, 64]⟩
abbrev S1x640 : Shape := ⟨2, ![1, 640]⟩
abbrev S640 : Shape := ⟨1, ![640]⟩
abbrev S5x2x2x32 : Shape := ⟨4, ![5, 2, 2, 32]⟩
abbrev S10x64 : Shape := ⟨2, ![10, 64]⟩
abbrev S8x4096x10 : Shape := ⟨3, ![8, 4096, 10]⟩
abbrev S8x4096x10x1 : Shape := ⟨4, ![8, 4096, 10, 1]⟩
abbrev S1x1x10x64 : Shape := ⟨4, ![1, 1, 10, 64]⟩
abbrev S4096x128 : Shape := ⟨2, ![4096, 128]⟩
abbrev S4096x1x2x2x32 : Shape := ⟨5, ![4096, 1, 2, 2, 32]⟩
abbrev S4096x2x64 : Shape := ⟨3, ![4096, 2, 64]⟩
abbrev S8x4096x5x2x64 : Shape := ⟨5, ![8, 4096, 5, 2, 64]⟩
abbrev S8x4096x5x2x32 : Shape := ⟨5, ![8, 4096, 5, 2, 32]⟩
abbrev S4096x1x2x64 : Shape := ⟨4, ![4096, 1, 2, 64]⟩
abbrev S1x4096x1x2x64 : Shape := ⟨5, ![1, 4096, 1, 2, 64]⟩
abbrev S8x4096x8x2x2x32 : Shape := ⟨6, ![8, 4096, 8, 2, 2, 32]⟩
abbrev S8x4096x16x64 : Shape := ⟨4, ![8, 4096, 16, 64]⟩
abbrev S8x2x2x32 : Shape := ⟨4, ![8, 2, 2, 32]⟩
abbrev S16x64 : Shape := ⟨2, ![16, 64]⟩
abbrev S8x4096x16 : Shape := ⟨3, ![8, 4096, 16]⟩
abbrev S8x4096x16x1 : Shape := ⟨4, ![8, 4096, 16, 1]⟩
abbrev S1x1x16x64 : Shape := ⟨4, ![1, 1, 16, 64]⟩
abbrev S8x4096x8x2x64 : Shape := ⟨5, ![8, 4096, 8, 2, 64]⟩
abbrev S8x4096x8x2x32 : Shape := ⟨5, ![8, 4096, 8, 2, 32]⟩
abbrev S8x4096x128 : Shape := ⟨3, ![8, 4096, 128]⟩
abbrev S8x4096x512 : Shape := ⟨3, ![8, 4096, 512]⟩

abbrev nBuf : Space → Nat
  | .hbm => 167
  | .vmem => 0
  | .smem => 0
  | _ => 0

abbrev hbmTy0_0 (i : Nat) : BufTy := match i % 128 with
  | 0 => ⟨S8x4096x1024, .f32⟩
  | 1 => ⟨S1x1024, .f32⟩
  | 2 => ⟨S1024x2816, .bf16⟩
  | 3 => ⟨S1024x2816, .bf16⟩
  | 4 => ⟨S2816x1024, .bf16⟩
  | 5 => ⟨S1x1024, .f32⟩
  | 6 => ⟨S1024x2304, .bf16⟩
  | 7 => ⟨S1x2304, .f32⟩
  | 8 => ⟨S4096x512, .f32⟩
  | 9 => ⟨S1024x2816, .f32⟩
  | 10 => ⟨S1024x2816, .f32⟩
  | 11 => ⟨S2816x1024, .f32⟩
  | 12 => ⟨S1024x2304, .f32⟩
  | 13 => ⟨S1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x2816, .f32⟩
  | 31 => ⟨S8x4096x2816, .f32⟩
  | 32 => ⟨S8x4096x2816, .f32⟩
  | 33 => ⟨S_, .f32⟩
  | 34 => ⟨S8x4096x2816, .f32⟩
  | 35 => ⟨S8x4096x2816, .f32⟩
  | 36 => ⟨S_, .f32⟩
  | 37 => ⟨S8x4096x2816, .f32⟩
  | 38 => ⟨S8x4096x2816, .f32⟩
  | 39 => ⟨S8x4096x2816, .f32⟩
  | 40 => ⟨S8x4096x2816, .f32⟩
  | 41 => ⟨S8x4096x2816, .f32⟩
  | 42 => ⟨S8x4096x1024, .f32⟩
  | 43 => ⟨S_, .f32⟩
  | 44 => ⟨S8x4096x1024, .f32⟩
  | 45 => ⟨S8x4096x1024, .f32⟩
  | 46 => ⟨S8x4096x1024, .f32⟩
  | 47 => ⟨S1024, .f32⟩
  | 48 => ⟨S8x4096x1024, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S8x4096x2304, .f32⟩
  | 65 => ⟨S8x4096x640, .f32⟩
  | 66 => ⟨S8x4096x5x2x2x32, .f32⟩
  | 67 => ⟨S8x4096x5x2x2x32, .f32⟩
  | 68 => ⟨S8x4096x10x64, .f32⟩
  | 69 => ⟨S1x640, .f32⟩
  | 70 => ⟨S640, .f32⟩
  | 71 => ⟨S5x2x2x32, .f32⟩
  | 72 => ⟨S5x2x2x32, .f32⟩
  | 73 => ⟨S10x64, .f32⟩
  | 74 => ⟨S8x4096x10x64, .f32⟩
  | 75 => ⟨S_, .f32⟩
  | 76 => ⟨S8x4096x10, .f32⟩
  | 77 => ⟨S8x4096x10x1, .f32⟩
  | 78 => ⟨S_, .f32⟩
  | 79 => ⟨S8x4096x10x1, .f32⟩
  | 80 => ⟨S8x4096x10x1, .f32⟩
  | 81 => ⟨S_, .f32⟩
  | 82 => ⟨S8x4096x10x1, .f32⟩
  | 83 => ⟨S8x4096x10x1, .f32⟩
  | 84 => ⟨S8x4096x10x1, .f32⟩
  | 85 => ⟨S8x4096x10x64, .f32⟩
  | 86 => ⟨S8x4096x10x64, .f32⟩
  | 87 => ⟨S1x1x10x64, .f32⟩
  | 88 => ⟨S8x4096x10x64, .f32⟩
  | 89 => ⟨S8x4096x10x64, .f32⟩
  | 90 => ⟨S4096x128, .f32⟩
  | 91 => ⟨S4096x1x2x2x32, .f32⟩
  | 92 => ⟨S4096x1x2x2x32, .f32⟩
  | 93 => ⟨S4096x2x64, .f32⟩
  | 94 => ⟨S4096x128, .f32⟩
  | 95 => ⟨S4096x1x2x2x32, .f32⟩
  | 96 => ⟨S4096x1x2x2x32, .f32⟩
  | 97 => ⟨S4096x2x64, .f32⟩
  | 98 => ⟨S8x4096x5x2x64, .f32⟩
  | 99 => ⟨S8x4096x5x2x32, .f32⟩
  | 100 => ⟨S8x4096x5x2x32, .f32⟩
  | 101 => ⟨S8x4096x5x2x64, .f32⟩
  | 102 => ⟨S4096x1x2x64, .f32⟩
  | 103 => ⟨S1x4096x1x2x64, .f32⟩
  | 104 => ⟨S8x4096x5x2x64, .f32⟩
  | 105 => ⟨S8x4096x5x2x64, .f32⟩
  | 106 => ⟨S4096x1x2x64, .f32⟩
  | 107 => ⟨S1x4096x1x2x64, .f32⟩
  | 108 => ⟨S8x4096x5x2x64, .f32⟩
  | 109 => ⟨S8x4096x5x2x64, .f32⟩
  | 110 => ⟨S8x4096x5x2x64, .f32⟩
  | 111 => ⟨S8x4096x5x2x2x32, .f32⟩
  | 112 => ⟨S8x4096x5x2x2x32, .f32⟩
  | 113 => ⟨S8x4096x640, .f32⟩
  | 114 => ⟨S8x4096x1024, .f32⟩
  | 115 => ⟨S8x4096x8x2x2x32, .f32⟩
  | 116 => ⟨S8x4096x8x2x2x32, .f32⟩
  | 117 => ⟨S8x4096x16x64, .f32⟩
  | 118 => ⟨S1x1024, .f32⟩
  | 119 => ⟨S1024, .f32⟩
  | 120 => ⟨S8x2x2x32, .f32⟩
  | 121 => ⟨S8x2x2x32, .f32⟩
  | 122 => ⟨S16x64, .f32⟩
  | 123 => ⟨S8x4096x16x64, .f32⟩
  | 124 => ⟨S_, .f32⟩
  | 125 => ⟨S8x4096x16, .f32⟩
  | 126 => ⟨S8x4096x16x1, .f32⟩
  | 127 => ⟨S_, .f32⟩
  | _ => ⟨S8x4096x1024, .f32⟩

abbrev hbmTy0_1 (i : Nat) : BufTy := match i % 128 with
  | 0 => ⟨S8x4096x16x1, .f32⟩
  | 1 => ⟨S8x4096x16x1, .f32⟩
  | 2 => ⟨S_, .f32⟩
  | 3 => ⟨S8x4096x16x1, .f32⟩
  | 4 => ⟨S8x4096x16x1, .f32⟩
  | 5 => ⟨S8x4096x16x1, .f32⟩
  | 6 => ⟨S8x4096x16x64, .f32⟩
  | 7 => ⟨S8x4096x16x64, .f32⟩
  | 8 => ⟨S1x1x16x64, .f32⟩
  | 9 => ⟨S8x4096x16x64, .f32⟩
  | 10 => ⟨S8x4096x16x64, .f32⟩
  | 11 => ⟨S4096x128, .f32⟩
  | 12 => ⟨S4096x1x2x2x32, .f32⟩
  | 13 => ⟨S4096x1x2x2x32, .f32⟩
  | 14 => ⟨S4096x2x64, .f32⟩
  | 15 => ⟨S4096x128, .f32⟩
  | 16 => ⟨S4096x1x2x2x32, .f32⟩
  | 17 => ⟨S4096x1x2x2x32, .f32⟩
  | 18 => ⟨S4096x2x64, .f32⟩
  | 19 => ⟨S8x4096x8x2x64, .f32⟩
  | 20 => ⟨S8x4096x8x2x32, .f32⟩
  | 21 => ⟨S8x4096x8x2x32, .f32⟩
  | 22 => ⟨S8x4096x8x2x64, .f32⟩
  | 23 => ⟨S4096x1x2x64, .f32⟩
  | 24 => ⟨S1x4096x1x2x64, .f32⟩
  | 25 => ⟨S8x4096x8x2x64, .f32⟩
  | 26 => ⟨S8x4096x8x2x64, .f32⟩
  | 27 => ⟨S4096x1x2x64, .f32⟩
  | 28 => ⟨S1x4096x1x2x64, .f32⟩
  | 29 => ⟨S8x4096x8x2x64, .f32⟩
  | 30 => ⟨S8x4096x8x2x64, .f32⟩
  | 31 => ⟨S8x4096x8x2x64, .f32⟩
  | 32 => ⟨S8x4096x8x2x2x32, .f32⟩
  | 33 => ⟨S8x4096x8x2x2x32, .f32⟩
  | 34 => ⟨S8x4096x1024, .f32⟩
  | 35 => ⟨S8x4096x128, .f32⟩
  | 36 => ⟨S8x4096x512, .f32⟩
  | 37 => ⟨S8x4096x2304, .f32⟩
  | 38 => ⟨S8x4096x2304, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_9 : Ref sig .tc := ⟨.hbm, 124, rfl⟩
abbrev main_v97 : Ref sig .tc := ⟨.hbm, 125, rfl⟩
abbrev main_v98 : Ref sig .tc := ⟨.hbm, 126, rfl⟩
abbrev main_cst_10 : Ref sig .tc := ⟨.hbm, 127, rfl⟩
abbrev main_v99 : Ref sig .tc := ⟨.hbm, 128, rfl⟩
abbrev main_v100 : Ref sig .tc := ⟨.hbm, 129, rfl⟩
abbrev main_cst_11 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩

abbrev nD : Nat := 1
abbrev τ : Topo := Topo.v7x

variable {F : FTy → Type} [FloatOps F]
-- ==== Proof.Sweep.lean ====
/-
  The inner sweep of a streaming softmax attention, stated once over any signature and any three value types.

  The sweep visits 128 stages. Stage `n` multiplies key chunk `n % 16` (512 rows) with query tile `n / 16` (1024 columns), keeps the
  products in one of two score buffers, and folds them into the running row maximum and the running sums of that query tile. The scores
  of stage `n + 1` are computed before the fold of stage `n`, so two buffers alternate. This module gives the pure functions of a stage,
  the operations a stage performs, and the rule of a stage: from the invariant at `n` to the invariant at `n + 1`.
-/
module

public import Idealize.ShloMosaic.Lib.VecWindow
public import Idealize.ShloMosaic.Lib.Tactic
public import Idealize.ShloMosaic.Lib.Pipeline.Kit

@[expose] public section

noncomputable section

namespace Cert.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev S1024 : Shape := ⟨1, ![1024]⟩
abbrev S1x1024 : Shape := ⟨2, ![1, 1024]⟩
abbrev S8x1024 : Shape := ⟨2, ![8, 1024]⟩
abbrev S64x8x1024 : Shape := ⟨3, ![64, 8, 1024]⟩
abbrev S512x128 : Shape := ⟨2, ![512, 128]⟩
abbrev S128x1024 : Shape := ⟨2, ![128, 1024]⟩
abbrev S512x1024 : Shape := ⟨2, ![512, 1024]⟩
abbrev S144x512 : Shape := ⟨2, ![144, 512]⟩
abbrev S144x1024 : Shape := ⟨2, ![144, 1024]⟩
abbrev S1x512x128 : Shape := ⟨3, ![1, 512, 128]⟩
abbrev S1x128x1024 : Shape := ⟨3, ![1, 128, 1024]⟩
abbrev S1x1x1024 : Shape := ⟨3, ![1, 1, 1024]⟩
abbrev S1x144x1024 : Shape := ⟨3, ![1, 144, 1024]⟩
abbrev S1x144x512 : Shape := ⟨3, ![1, 144, 512]⟩
abbrev S1x8192x128 : Shape := ⟨3, ![1, 8192, 128]⟩
abbrev S8x128x1024 : Shape := ⟨3, ![8, 128, 1024]⟩
abbrev S16x144x512 : Shape := ⟨3, ![16, 144, 512]⟩
abbrev S8x1x1024 : Shape := ⟨3, ![8, 1, 1024]⟩
abbrev S8x144x1024 : Shape := ⟨3, ![8, 144, 1024]⟩

/-- The product of a `512 × 128` key chunk with a `128 × 1024` query tile. -/
def dotScores : DotDims S512x128 S128x1024 S512x1024 where
  lhsContracting := [1]
  rhsContracting := [0]
  lhsNonContracting := [0]
  rhsNonContracting := [1]
  lhsBatch := []
  rhsBatch := []
  wf := by decide

/-- The product of a `144 × 512` value chunk with `512 × 1024` weights. -/
def dotValues : DotDims S144x512 S512x1024 S144x1024 where
  lhsContracting := [1]
  rhsContracting := [0]
  lhsNonContracting := [0]
  rhsNonContracting := [1]
  lhsBatch := []
  rhsBatch := []
  wf := by decide

section Pure

variable {F : FTy → Type} [FloatOps F]

/-- The scores of a key chunk against a query tile. -/
def score (k : Vec F S1x512x128 .bf16) (q : Vec F S1x128x1024 .bf16) : FVec F S512x1024 .f32 :=
  matmul dotScores none (shapeCast S512x128 k (by decide)) (shapeCast S128x1024 q (by decide)) (constant S512x1024 .f32 0x00000000#32)

/-- The scores as stored. -/
def stored (s : FVec F S512x1024 .f32) : FVec F S512x1024 .f32 := shapeCast S512x1024 s (by decide)

/-- The maxima of the scores over the 64 groups of 8 rows. -/
def groupMax (s : FVec F S512x1024 .f32) : FVec F S8x1024 .f32 :=
  multiReduction .maximumf [0] S8x1024 (shapeCast S64x8x1024 s (by decide)) 0xFF800000#32 (by decide) (.inl rfl) rfl

/-- The running maximum as read. -/
def readMax (m : Vec F S1x1x1024 .f32) : FVec F S1x1024 .f32 := shapeCast S1x1024 m (by decide)

/-- The new running maximum: the larger of the old one and the chunk's. -/
def newMax (g : FVec F S8x1024 .f32) (m : Vec F S1x1x1024 .f32) : FVec F S1x1024 .f32 :=
  maximumf (readMax m) (shapeCast S1x1024 (multiReduction .maximumf [0] S1024 g 0xFF800000#32 (by decide) (.inl rfl) rfl) (by decide))

/-- The new running maximum as stored. -/
def storedMax (g : FVec F S8x1024 .f32) (m : Vec F S1x1x1024 .f32) : FVec F S1x1x1024 .f32 := shapeCast S1x1x1024 (newMax g m) (by decide)

/-- The factor that moves the old sums to the new maximum. -/
def rescale (g : FVec F S8x1024 .f32) (m : Vec F S1x1x1024 .f32) : FVec F S1x1024 .f32 := exp2 (subf (readMax m) (newMax g m))

/-- The chunk's weights, relative to the new maximum. -/
def weights (g : FVec F S8x1024 .f32) (m : Vec F S1x1x1024 .f32) (s : Vec F S512x1024 .f32) : FVec F S512x1024 .bf16 :=
  truncf .bf16 (exp2 (subf s (broadcastTo S512x1024 (newMax g m) (by decide)))) (by decide)

/-- The new running sums: the old ones rescaled, plus the chunk's values under its weights. -/
def newAcc (g : FVec F S8x1024 .f32) (m : Vec F S1x1x1024 .f32) (s : Vec F S512x1024 .f32) (a : Vec F S1x144x1024 .f32) (v : Vec F S1x144x512 .bf16) : FVec F S1x144x1024 .f32 :=
  shapeCast S1x144x1024 (addf (mulf (broadcastTo S144x1024 (rescale g m) (by decide)) (shapeCast S144x1024 a (by decide)))
    (matmul dotValues none (shapeCast S144x512 v (by decide)) (weights g m s) (constant S144x1024 .f32 0x00000000#32))) (by decide)

theorem inbK (n : ℕ) : ∀ a, (![0, n % 16 * 512, 0] : Fin 3 → ℕ) a + S1x512x128.size a ≤ S1x8192x128.size a := by
  intro a; fin_cases a
  · show 0 + 1 ≤ 1; omega
  · show n % 16 * 512 + 512 ≤ 8192; omega
  · show 0 + 128 ≤ 128; omega
theorem inbQ (n : ℕ) : ∀ a, (![n / 16 % 8, 0, 0] : Fin 3 → ℕ) a + S1x128x1024.size a ≤ S8x128x1024.size a := by
  intro a; fin_cases a
  · show n / 16 % 8 + 1 ≤ 8; omega
  · show 0 + 128 ≤ 128; omega
  · show 0 + 1024 ≤ 1024; omega
theorem inbM (n : ℕ) : ∀ a, (![n / 16 % 8, 0, 0] : Fin 3 → ℕ) a + S1x1x1024.size a ≤ S8x1x1024.size a := by
  intro a; fin_cases a
  · show n / 16 % 8 + 1 ≤ 8; omega
  · show 0 + 1 ≤ 1; omega
  · show 0 + 1024 ≤ 1024; omega
theorem inbA (n : ℕ) : ∀ a, (![n / 16 % 8, 0, 0] : Fin 3 → ℕ) a + S1x144x1024.size a ≤ S8x144x1024.size a := by
  intro a; fin_cases a
  · show n / 16 % 8 + 1 ≤ 8; omega
  · show 0 + 144 ≤ 144; omega
  · show 0 + 1024 ≤ 1024; omega
theorem inbV (n : ℕ) : ∀ a, (![n % 16, 0, 0] : Fin 3 → ℕ) a + S1x144x512.size a ≤ S16x144x512.size a := by
  intro a; fin_cases a
  · show n % 16 + 1 ≤ 16; omega
  · show 0 + 144 ≤ 144; omega
  · show 0 + 512 ≤ 512; omega

/-- The scores of stage `n`, of the keys `K` and the query tiles `Q`. -/
def stageScore (K : Vec F S1x8192x128 .bf16) (Q : Vec F S8x128x1024 .bf16) (n : ℕ) : FVec F S512x1024 .f32 :=
  score (F := F) (VecWindow.window K ![0, n % 16 * 512, 0] S1x512x128.size (inbK n)) (VecWindow.window Q ![n / 16 % 8, 0, 0] S1x128x1024.size (inbQ n))

/-- The running maxima (first) and the running sums (second) of all query tiles after the folds of the stages before `n`. -/
def fold (K : Vec F S1x8192x128 .bf16) (Q : Vec F S8x128x1024 .bf16) (V : Vec F S16x144x512 .bf16) (M₀ : Vec F S8x1x1024 .f32) (A₀ : Vec F S8x144x1024 .f32) :
    ℕ → Vec F S8x1x1024 .f32 × Vec F S8x144x1024 .f32
  | 0 => (M₀, A₀)
  | n + 1 =>
    let st := fold K Q V M₀ A₀ n
    (VecWindow.put st.1 ![n / 16 % 8, 0, 0] S1x1x1024.size
        (storedMax (F := F) (groupMax (stageScore K Q n)) (VecWindow.window st.1 ![n / 16 % 8, 0, 0] S1x1x1024.size (inbM n))),
      VecWindow.put st.2 ![n / 16 % 8, 0, 0] S1x144x1024.size
        (newAcc (F := F) (groupMax (stageScore K Q n)) (VecWindow.window st.1 ![n / 16 % 8, 0, 0] S1x1x1024.size (inbM n)) (stored (stageScore K Q n))
          (VecWindow.window st.2 ![n / 16 % 8, 0, 0] S1x144x1024.size (inbA n)) (VecWindow.window V ![n % 16, 0, 0] S1x144x512.size (inbV n))))

end Pure

/-! ## The two memory rules, by values -/

section Rules

variable {nD : Nat} {τ : Topo} {sig : RefSig} {Λ : Labels} {Ix : Type} [DecidableEq Ix] {F : FTy → Type} [FloatOps F] {Name : Type} [DecidableEq Name]
variable {U : Type} [URA U] {Lvl : Type} [Preorder Lvl]

local notation "𝕄" => MT nD τ sig Ix (Elt F) Name U Lvl

/-- Memref `m` on core `c` holds the values `X`. -/
abbrev held (c : Dev nD) {sp : Space} {s : Shape} {e : EltTy} (m : Memref sig .tc sp s e) (X : s.Idx → Elt F e) : sProp 𝕄 :=
  m.view.loc (c : Thread nD τ) ↦[m.view.set]{fullShare} m.view.rep X

variable (defs : Defs nD τ sig (Elt F) Λ) (𝒱 : Variants) (c : Dev nD) (bd : Option 𝒱.V) (E : Set Name)
variable {β : Type}

/-- A load at a unit-stride rectangle reads the window of the held values there. -/
theorem wp_ld {cs : CoreSpace} {s : Shape} {e : EltTy} (m : Memref sig .tc cs s e) {off : Fin s.rank → ℕ} (off' : Fin s.rank → ℕ) {size : Fin s.rank → ℕ}
    {inb : ∀ a, off a + size a ≤ s.size a} (h : off = off') (inb' : ∀ a, off' a + size a ≤ s.size a) {hl : m.view.LoadsAt (Rect.unit off size inb).toLoadRect}
    {k : ((Rect.unit off size inb).shape.Idx → Elt F e) → Prog (TpuEff nD τ sig (Elt F) Λ .tc) β} (X : s.Idx → Elt F e) (Q : β → sProp 𝕄) :
    (held c m X : sProp 𝕄)
      ⊢ iprop((held c m X -∗ wp frame (wpE defs 𝒱 (c : Thread nD τ) bd) E (k (VecWindow.window X off' size inb')) Q)
        -∗ wp frame (wpE defs 𝒱 (c : Thread nD τ) bd) E (.op (.load m (Rect.unit off size inb).toLoadRect hl) k) Q) := by
  rw [← View.readAt_rep_unit m.view X inb h inb']
  exact wp_load 𝒱 (c : Thread nD τ) bd E (View.setOn_subset_set _ _)

/-- An unmasked store at a unit-stride rectangle puts its payload over the window there. -/
theorem wp_st {cs : CoreSpace} {s : Shape} {e : EltTy} (m : Memref sig .tc cs s e) {off : Fin s.rank → ℕ} (off' : Fin s.rank → ℕ) {size : Fin s.rank → ℕ}
    {inb : ∀ a, off a + size a ≤ s.size a} (h : off = off') {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ .tc) β} (X : s.Idx → Elt F e) (Q : β → sProp 𝕄) :
    (held c m X : sProp 𝕄)
      ⊢ iprop((held c m (VecWindow.put X off' size w) -∗ wp frame (wpE defs 𝒱 (c : Thread nD τ) bd) E (k ⟨⟩) Q)
        -∗ wp frame (wpE defs 𝒱 (c : Thread nD τ) bd) E (.op (.store m (Rect.unit off size inb) w Finset.univ hx hm) k) Q) := by
  have h1 := wp_store_writes (defs := defs) 𝒱 (c : Thread nD τ) bd E (m := m) (r := Rect.unit off size inb) (w := w) (hx := hx) (hm := hm) (k := k) (S := m.view.set) (f := m.view.rep X) (L := [])
    (Q := Q) (View.set_slice_subset _ _)
  iintro H Hk
  iapply h1 $$ [H]
  · iexact H
  iintro H
  iapply Hk
  iapply (pointsTo_rep_of_read (c : Thread nD τ) m _ fullShare (VecWindow.put X off' size w) (View.read_writes_rep_unit m.view X inb w h)) $$ H

/-! ## The operations of a stage -/

/-- The scores of a stage: the key chunk and the query tile are read, and their product is stored in a score buffer. -/
def scoresK (aK : Memref sig .tc .vmem S1x8192x128 .bf16) (aQ : Memref sig .tc .vmem S8x128x1024 .bf16) (b : Memref sig .tc .vmem S512x1024 .f32)
    (oK : Fin 3 → ℕ) (iK : ∀ a, oK a + S1x512x128.size a ≤ S1x8192x128.size a) (oQ : Fin 3 → ℕ) (iQ : ∀ a, oQ a + S1x128x1024.size a ≤ S8x128x1024.size a)
    (κ : FVec F S512x1024 .f32 → Prog (TpuEff nD τ sig (Elt F) Λ .tc) β) : Prog (TpuEff nD τ sig (Elt F) Λ .tc) β :=
  .op (.load aK (Rect.unit (s := S1x8192x128) oK S1x512x128.size iK).toLoadRect (View.loadsAt_vmem (show 0 < S1x512x128.numel by decide))) fun k =>
  .op (.load aQ (Rect.unit (s := S8x128x1024) oQ S1x128x1024.size iQ).toLoadRect (View.loadsAt_vmem (show 0 < S1x128x1024.numel by decide))) fun q =>
  .op (.load b (Rect.unit (s := S512x1024) ![0, 0] S512x1024.size (by decide)).toLoadRect (View.loadsAt_vmem (by decide))) fun _ =>
  .op (.store b (Rect.unit (s := S512x1024) ![0, 0] S512x1024.size (by decide)) (stored (F := F) (score k q)) Finset.univ
    (View.stores_vmem_bits_univ (by decide) rfl) (.inl rfl)) fun _ => κ (score k q)

/-- The fold of a stage: the running maximum and sums of a query tile are read, moved to the new maximum and stored. -/
def updateK (aM : Memref sig .tc .vmem S8x1x1024 .f32) (aA : Memref sig .tc .vmem S8x144x1024 .f32) (aV : Memref sig .tc .vmem S16x144x512 .bf16)
    (b : Memref sig .tc .vmem S512x1024 .f32) (oM : Fin 3 → ℕ) (iM : ∀ a, oM a + S1x1x1024.size a ≤ S8x1x1024.size a)
    (oA : Fin 3 → ℕ) (iA : ∀ a, oA a + S1x144x1024.size a ≤ S8x144x1024.size a) (oV : Fin 3 → ℕ) (iV : ∀ a, oV a + S1x144x512.size a ≤ S16x144x512.size a)
    (g : FVec F S8x1024 .f32) (κ : Prog (TpuEff nD τ sig (Elt F) Λ .tc) β) : Prog (TpuEff nD τ sig (Elt F) Λ .tc) β :=
  .op (.load aM (Rect.unit (s := S8x1x1024) oM S1x1x1024.size iM).toLoadRect (View.loadsAt_vmem (show 0 < S1x1x1024.numel by decide))) fun m =>
  .op (.load b (Rect.unit (s := S512x1024) ![0, 0] S512x1024.size (by decide)).toLoadRect (View.loadsAt_vmem (by decide))) fun s =>
  .op (.load aA (Rect.unit (s := S8x144x1024) oA S1x144x1024.size iA).toLoadRect (View.loadsAt_vmem (show 0 < S1x144x1024.numel by decide))) fun a =>
  .op (.load aV (Rect.unit (s := S16x144x512) oV S1x144x512.size iV).toLoadRect (View.loadsAt_vmem (show 0 < S1x144x512.numel by decide))) fun v =>
  .op (.load aA (Rect.unit (s := S8x144x1024) oA S1x144x1024.size iA).toLoadRect (View.loadsAt_vmem (show 0 < S1x144x1024.numel by decide))) fun _ =>
  .op (.store aA (Rect.unit (s := S8x144x1024) oA S1x144x1024.size iA) (newAcc (F := F) g m s a v) Finset.univ
    (View.stores_vmem_bits_univ (show 0 < S1x144x1024.numel by decide) rfl) (.inl rfl)) fun _ =>
  .op (.load aM (Rect.unit (s := S8x1x1024) oM S1x1x1024.size iM).toLoadRect (View.loadsAt_vmem (show 0 < S1x1x1024.numel by decide))) fun _ =>
  .op (.store aM (Rect.unit (s := S8x1x1024) oM S1x1x1024.size iM) (storedMax (F := F) g m) Finset.univ
    (View.stores_vmem_bits_univ (show 0 < S1x1x1024.numel by decide) rfl) (.inl rfl)) fun _ => κ

section Stage

variable (aK : Memref sig .tc .vmem S1x8192x128 .bf16) (aQ : Memref sig .tc .vmem S8x128x1024 .bf16) (aV : Memref sig .tc .vmem S16x144x512 .bf16)
variable (aM : Memref sig .tc .vmem S8x1x1024 .f32) (aA : Memref sig .tc .vmem S8x144x1024 .f32)
variable (K : Vec F S1x8192x128 .bf16) (Qt : Vec F S8x128x1024 .bf16) (V : Vec F S16x144x512 .bf16) (M₀ : Vec F S8x1x1024 .f32) (A₀ : Vec F S8x144x1024 .f32)

/-- Before stage `n`: the current score buffer `b` holds the stage's scores, the other one anything, and the running maxima and sums are the
    fold's; keys, query tiles and values are as given. -/
def Inv (n : ℕ) (b b' : Memref sig .tc .vmem S512x1024 .f32) : sProp 𝕄 :=
  iprop(held c aK K ∗ held c aQ Qt ∗ held c aV V ∗ held c b (stored (F := F) (stageScore K Qt n)) ∗ (∃ X, held c b' X)
    ∗ held c aM (fold K Qt V M₀ A₀ n).1 ∗ held c aA (fold K Qt V M₀ A₀ n).2)

theorem put_full {α : Type} (X : S512x1024.Idx → α) (w : S512x1024.Idx → α) : VecWindow.put X ![0, 0] S512x1024.size w = w := by
  funext y
  have h : ∀ a, (![0, 0] : Fin 2 → ℕ) a ≤ (y a).val ∧ (y a).val < (![0, 0] : Fin 2 → ℕ) a + S512x1024.size a := by
    intro a; have := (y a).isLt; fin_cases a <;> simp_all
  unfold VecWindow.put
  rw [dif_pos h]
  exact congrArg w (funext fun a => Fin.ext (by fin_cases a <;> rfl))

theorem window_full {α : Type} (X : S512x1024.Idx → α) (inb) : VecWindow.window X ![0, 0] S512x1024.size inb = X := by
  funext y
  exact congrArg X (funext fun a => Fin.ext (by
    show (![0, 0] : Fin 2 → ℕ) a + 1 * (y a).val = (y a).val
    fin_cases a <;> simp))

/-- The rule of the scores: the stage's scores end in the buffer and are handed on. -/
theorem scores_rule (b : Memref sig .tc .vmem S512x1024 .f32) (n : ℕ) {oK iK oQ iQ} (hK : oK = ![0, n % 16 * 512, 0]) (hQ : oQ = ![n / 16 % 8, 0, 0])
    (κ : FVec F S512x1024 .f32 → Prog (TpuEff nD τ sig (Elt F) Λ .tc) β) (X : S512x1024.Idx → Elt F .f32) (Q : β → sProp 𝕄) :
    iprop(held c aK K ∗ held c aQ Qt ∗ held c b X
      ∗ (held c aK K -∗ held c aQ Qt -∗ held c b (stored (F := F) (stageScore K Qt n)) -∗ wp frame (wpE defs 𝒱 (c : Thread nD τ) bd) E (κ (stageScore K Qt n)) Q))
    ⊢ wp frame (wpE defs 𝒱 (c : Thread nD τ) bd) E (scoresK aK aQ b oK iK oQ iQ κ) Q := by
  unfold scoresK stageScore
  iintro ⟨HK, HQ, HB, Hk⟩
  iapply (wp_ld defs 𝒱 c bd E aK ![0, n % 16 * 512, 0] hK (inbK n) K Q) $$ HK
  iintro HK
  iapply (wp_ld defs 𝒱 c bd E aQ ![n / 16 % 8, 0, 0] hQ (inbQ n) Qt Q) $$ HQ
  iintro HQ
  iapply (wp_ld defs 𝒱 c bd E b ![0, 0] rfl (by decide) X Q) $$ HB
  iintro HB
  iapply (wp_st defs 𝒱 c bd E b ![0, 0] rfl X Q) $$ HB
  rw [put_full]
  iintro HB
  iapply Hk $$ HK HQ HB

/-- The rule of the fold: the running maxima and sums of the stage's query tile move on by one stage. -/
theorem update_rule (b : Memref sig .tc .vmem S512x1024 .f32) (n : ℕ) {oM iM oA iA oV iV} (hM : oM = ![n / 16 % 8, 0, 0]) (hA : oA = ![n / 16 % 8, 0, 0])
    (hV : oV = ![n % 16, 0, 0]) (κ : Prog (TpuEff nD τ sig (Elt F) Λ .tc) β) (Q : β → sProp 𝕄) :
    iprop(held c aV V ∗ held c b (stored (F := F) (stageScore K Qt n)) ∗ held c aM (fold K Qt V M₀ A₀ n).1 ∗ held c aA (fold K Qt V M₀ A₀ n).2
      ∗ (held c aV V -∗ held c b (stored (F := F) (stageScore K Qt n)) -∗ held c aM (fold K Qt V M₀ A₀ (n + 1)).1 -∗ held c aA (fold K Qt V M₀ A₀ (n + 1)).2
        -∗ wp frame (wpE defs 𝒱 (c : Thread nD τ) bd) E κ Q))
    ⊢ wp frame (wpE defs 𝒱 (c : Thread nD τ) bd) E (updateK aM aA aV b oM iM oA iA oV iV (groupMax (stageScore K Qt n)) κ) Q := by
  unfold updateK
  simp only [fold]
  iintro ⟨HV, HB, HM, HA, Hk⟩
  iapply (wp_ld defs 𝒱 c bd E aM ![n / 16 % 8, 0, 0] hM (inbM n) _ Q) $$ HM
  iintro HM
  iapply (wp_ld defs 𝒱 c bd E b ![0, 0] rfl (by decide) _ Q) $$ HB
  rw [window_full]
  iintro HB
  iapply (wp_ld defs 𝒱 c bd E aA ![n / 16 % 8, 0, 0] hA (inbA n) _ Q) $$ HA
  iintro HA
  iapply (wp_ld defs 𝒱 c bd E aV ![n % 16, 0, 0] hV (inbV n) _ Q) $$ HV
  iintro HV
  iapply (wp_ld defs 𝒱 c bd E aA ![n / 16 % 8, 0, 0] hA (inbA n) _ Q) $$ HA
  iintro HA
  iapply (wp_st defs 𝒱 c bd E aA ![n / 16 % 8, 0, 0] hA _ Q) $$ HA
  iintro HA
  iapply (wp_ld defs 𝒱 c bd E aM ![n / 16 % 8, 0, 0] hM (inbM n) _ Q) $$ HM
  iintro HM
  iapply (wp_st defs 𝒱 c bd E aM ![n / 16 % 8, 0, 0] hM _ Q) $$ HM
  iintro HM
  iapply Hk $$ HV HB HM HA

/-- Stage `n`: the scores of stage `n + 1` into the other buffer, then the fold of stage `n`; the invariant moves on with the buffers' roles
    exchanged. -/
theorem stage_rule (b b' : Memref sig .tc .vmem S512x1024 .f32) (n : ℕ) {oK iK oQ iQ oM iM oA iA oV iV}
    (hK : oK = ![0, (n + 1) % 16 * 512, 0]) (hQ : oQ = ![(n + 1) / 16 % 8, 0, 0])
    (hM : oM = ![n / 16 % 8, 0, 0]) (hA : oA = ![n / 16 % 8, 0, 0]) (hV : oV = ![n % 16, 0, 0])
    (κ : FVec F S512x1024 .f32 → Prog (TpuEff nD τ sig (Elt F) Λ .tc) β) (Q : β → sProp 𝕄) (R : sProp 𝕄)
    (hκ : iprop(Inv c aK aQ aV aM aA K Qt V M₀ A₀ (n + 1) b' b ∗ R) ⊢ wp frame (wpE defs 𝒱 (c : Thread nD τ) bd) E (κ (stageScore K Qt (n + 1))) Q) :
    iprop(Inv c aK aQ aV aM aA K Qt V M₀ A₀ n b b' ∗ R)
    ⊢ wp frame (wpE defs 𝒱 (c : Thread nD τ) bd) E
        (scoresK aK aQ b' oK iK oQ iQ fun s => updateK aM aA aV b oM iM oA iA oV iV (groupMax (stageScore K Qt n)) (κ s)) Q := by
  unfold Inv at hκ ⊢
  iintro ⟨⟨HK, HQ, HV, HB, ⟨%X, HB'⟩, HM, HA⟩, HR⟩
  iapply (scores_rule defs 𝒱 c bd E aK aQ K Qt b' (n + 1) hK hQ _ X Q)
  isplitl [HK]; · iexact HK
  isplitl [HQ]; · iexact HQ
  isplitl [HB']; · iexact HB'
  iintro HK HQ HB'
  iapply (update_rule defs 𝒱 c bd E aV aM aA K Qt V M₀ A₀ b n hM hA hV _ Q)
  isplitl [HV]; · iexact HV
  isplitl [HB]; · iexact HB
  isplitl [HM]; · iexact HM
  isplitl [HA]; · iexact HA
  iintro HV HB HM HA
  iapply hκ
  isplitr [HR]; swap; · iexact HR
  isplitl [HK]; · iexact HK
  isplitl [HQ]; · iexact HQ
  isplitl [HV]; · iexact HV
  isplitl [HB']; · iexact HB'
  isplitl [HB]; · iexists _; iexact HB
  isplitl [HM]; · iexact HM
  iexact HA

end Stage

end Rules

end Cert.Sweep

end
-- ==== Proof.Tiles.lean ====
/-
  The tiles around the sweep: the query tiles and the transposed values that it reads, and the output tiles written after it. Each is
  given as a pure function, as the operations that compute one tile, and as the rule of those operations. A rule carries a buffer
  whose first tiles are already written: it holds some values that agree with the final ones on those tiles.
-/
module

public import proofs.«01_k».proof.Proof.Sweep
public import Idealize.ShloMosaic.Lib.ValueIdxCore

@[expose] public section

noncomputable section

namespace Cert.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

abbrev S32x128 : Shape := ⟨2, ![32, 128]⟩
abbrev S64x128 : Shape := ⟨2, ![64, 128]⟩
abbrev S128x128 : Shape := ⟨2, ![128, 128]⟩
abbrev S128x512 : Shape := ⟨2, ![128, 512]⟩
abbrev S16x512 : Shape := ⟨2, ![16, 512]⟩
abbrev S1x128x128 : Shape := ⟨3, ![1, 128, 128]⟩
abbrev S1x128x512 : Shape := ⟨3, ![1, 128, 512]⟩
abbrev S1x16x512 : Shape := ⟨3, ![1, 16, 512]⟩
abbrev S1x1024x512 : Shape := ⟨3, ![1, 1024, 512]⟩

section Windows

variable {α : Type} {s : Shape}

/-- Inside the window just put, the values are the payload's. -/
theorem put_hit (X : s.Idx → α) (off size : Fin s.rank → ℕ) (w : ((a : Fin s.rank) → Fin (size a)) → α) (y : s.Idx) (z : (a : Fin s.rank) → Fin (size a))
    (h : ∀ a, (y a).val = off a + (z a).val) : VecWindow.put X off size w y = w z := by
  have h' : ∀ a, off a ≤ (y a).val ∧ (y a).val < off a + size a := fun a => by have := h a; have := (z a).isLt; omega
  unfold VecWindow.put
  rw [dif_pos h']
  exact congrArg w (funext fun a => Fin.ext (by
    show (y a).val - off a = (z a).val
    have := h a; omega))

/-- Outside the window just put, the values are as before. -/
theorem put_miss (X : s.Idx → α) (off size : Fin s.rank → ℕ) (w : ((a : Fin s.rank) → Fin (size a)) → α) (y : s.Idx) (a : Fin s.rank)
    (h : (y a).val < off a ∨ off a + size a ≤ (y a).val) : VecWindow.put X off size w y = X y := by
  unfold VecWindow.put
  rw [dif_neg (fun h' => by have := h' a; omega)]

end Windows

section Pure

variable {F : FTy → Type} [FloatOps F]

/-- A block of 32 zero rows. -/
def zeroRows : FVec F S32x128 .bf16 := broadcast S32x128 (Scalar.ofBits .bf16 0x0000#16 : F .bf16)

/-- Rows `o … o + 31` of a head pair's 128 rows. -/
def quarter (x : FVec F S128x128 .bf16) (o : ℕ) (h : Shape.Slices S128x128 ![o, 0] S32x128) : FVec F S32x128 .bf16 := extractStridedSlice S32x128 ![o, 0] x h

/-- The 128 rows of a head pair among a transposed query tile's 512 rows. -/
def pairRows (x : FVec F S512x128 .bf16) (o : ℕ) (h : Shape.Slices S512x128 ![o, 0] S128x128) : FVec F S128x128 .bf16 := extractStridedSlice S128x128 ![o, 0] x h

/-- A head's two halves in the rows of the first key head, zeros in the other's. -/
def spreadFirst (a b : FVec F S32x128 .bf16) : FVec F S128x128 .bf16 :=
  concatenate S128x128 0 [⟨S32x128, a⟩, ⟨S32x128, zeroRows⟩, ⟨S32x128, b⟩, ⟨S32x128, zeroRows⟩] (show Shape.Concatenates [S32x128, S32x128, S32x128, S32x128] S128x128 0 by decide)

/-- A head's two halves in the rows of the second key head, zeros in the other's. -/
def spreadSecond (a b : FVec F S32x128 .bf16) : FVec F S128x128 .bf16 :=
  concatenate S128x128 0 [⟨S32x128, zeroRows⟩, ⟨S32x128, a⟩, ⟨S32x128, zeroRows⟩, ⟨S32x128, b⟩] (show Shape.Concatenates [S32x128, S32x128, S32x128, S32x128] S128x128 0 by decide)

/-- 128 query rows, transposed. -/
def turned (x : Vec F S1x128x512 .bf16) : FVec F S512x128 .bf16 := transpose S512x128 [1, 0] (shapeCast S128x512 x (by decide)) (by decide)

/-- The query tile of 128 rows: eight heads side by side, each spread over the rows of its key head. -/
def qTile (x : Vec F S1x128x512 .bf16) : FVec F S1x128x1024 .bf16 :=
  shapeCast S1x128x1024 (concatenate S128x1024 1
    [⟨S128x128, spreadFirst (quarter (pairRows (turned x) 0 (by decide)) 0 (by decide)) (quarter (pairRows (turned x) 0 (by decide)) 64 (by decide))⟩,
     ⟨S128x128, spreadFirst (quarter (pairRows (turned x) 0 (by decide)) 32 (by decide)) (quarter (pairRows (turned x) 0 (by decide)) 96 (by decide))⟩,
     ⟨S128x128, spreadFirst (quarter (pairRows (turned x) 128 (by decide)) 0 (by decide)) (quarter (pairRows (turned x) 128 (by decide)) 64 (by decide))⟩,
     ⟨S128x128, spreadFirst (quarter (pairRows (turned x) 128 (by decide)) 32 (by decide)) (quarter (pairRows (turned x) 128 (by decide)) 96 (by decide))⟩,
     ⟨S128x128, spreadSecond (quarter (pairRows (turned x) 256 (by decide)) 0 (by decide)) (quarter (pairRows (turned x) 256 (by decide)) 64 (by decide))⟩,
     ⟨S128x128, spreadSecond (quarter (pairRows (turned x) 256 (by decide)) 32 (by decide)) (quarter (pairRows (turned x) 256 (by decide)) 96 (by decide))⟩,
     ⟨S128x128, spreadSecond (quarter (pairRows (turned x) 384 (by decide)) 0 (by decide)) (quarter (pairRows (turned x) 384 (by decide)) 64 (by decide))⟩,
     ⟨S128x128, spreadSecond (quarter (pairRows (turned x) 384 (by decide)) 32 (by decide)) (quarter (pairRows (turned x) 384 (by decide)) 96 (by decide))⟩]
    (show Shape.Concatenates [S128x128, S128x128, S128x128, S128x128, S128x128, S128x128, S128x128, S128x128] S128x1024 1 by decide)) (by decide)

/-- 512 value rows, transposed. -/
def vTile (x : Vec F S1x512x128 .bf16) : FVec F S1x128x512 .bf16 :=
  shapeCast S1x128x512 (transpose S128x512 [1, 0] (shapeCast S512x128 x (by decide)) (by decide)) (by decide)

/-- Sixteen rows of ones. -/
def onesTile : FVec F S1x16x512 .bf16 := shapeCast S1x16x512 (broadcast S16x512 (Scalar.ofBits .bf16 0x3F80#16 : F .bf16)) (by decide)

/-- A query tile's sums over its total weights, rounded. -/
def ratio (a : Vec F S1x128x1024 .f32) (l : Vec F S1x1x1024 .f32) : FVec F S128x1024 .bf16 :=
  truncf .bf16 (divf (shapeCast S128x1024 a (by decide)) (broadcastTo S128x1024 (shapeCast S1x1024 l (by decide)) (by decide))) (by decide)

/-- Two heads' columns of a tile, at rows `r` and columns `o` and `o'`, as output rows. -/
def headPair (x : FVec F S128x1024 .bf16) (r o o' : ℕ) (h : Shape.Slices S128x1024 ![r, o] S64x128) (h' : Shape.Slices S128x1024 ![r, o'] S64x128) : FVec F S1x128x128 .bf16 :=
  shapeCast S1x128x128 (transpose S128x128 [1, 0] (concatenate S128x128 0
    [⟨S64x128, extractStridedSlice S64x128 ![r, o] x h⟩, ⟨S64x128, extractStridedSlice S64x128 ![r, o'] x h'⟩] (show Shape.Concatenates [S64x128, S64x128] S128x128 0 by decide)) (by decide)) (by decide)

/-- The output columns of head pair `j` of a tile. -/
def outTile (j : Fin 4) (x : FVec F S128x1024 .bf16) : FVec F S1x128x128 .bf16 :=
  match j with
  | 0 => headPair x 0 0 128 (by decide) (by decide)
  | 1 => headPair x 0 256 384 (by decide) (by decide)
  | 2 => headPair x 64 512 640 (by decide) (by decide)
  | 3 => headPair x 64 768 896 (by decide) (by decide)

theorem inbX (t : ℕ) (ht : t < 8) : ∀ a, (![0, 128 * t, 0] : Fin 3 → ℕ) a + S1x128x512.size a ≤ S1x1024x512.size a := by
  intro a; fin_cases a
  · show 0 + 1 ≤ 1; omega
  · show 128 * t + 128 ≤ 1024; omega
  · show 0 + 512 ≤ 512; omega
theorem inbT (t : ℕ) (ht : t < 8) : ∀ a, (![t, 0, 0] : Fin 3 → ℕ) a + S1x128x1024.size a ≤ S8x128x1024.size a := by
  intro a; fin_cases a
  · show t + 1 ≤ 8; omega
  · show 0 + 128 ≤ 128; omega
  · show 0 + 1024 ≤ 1024; omega
theorem inbS (t : ℕ) (ht : t < 8) : ∀ a, (![t, 0, 0] : Fin 3 → ℕ) a + S1x128x1024.size a ≤ S8x144x1024.size a := by
  intro a; fin_cases a
  · show t + 1 ≤ 8; omega
  · show 0 + 128 ≤ 144; omega
  · show 0 + 1024 ≤ 1024; omega
theorem inbL (t : ℕ) (ht : t < 8) : ∀ a, (![t, 128, 0] : Fin 3 → ℕ) a + S1x1x1024.size a ≤ S8x144x1024.size a := by
  intro a; fin_cases a
  · show t + 1 ≤ 8; omega
  · show 128 + 1 ≤ 144; omega
  · show 0 + 1024 ≤ 1024; omega
theorem inbO (t j : ℕ) (ht : t < 8) (hj : j < 4) : ∀ a, (![0, 128 * t, 128 * j] : Fin 3 → ℕ) a + S1x128x128.size a ≤ S1x1024x512.size a := by
  intro a; fin_cases a
  · show 0 + 1 ≤ 1; omega
  · show 128 * t + 128 ≤ 1024; omega
  · show 128 * j + 128 ≤ 512; omega
theorem inbU (k : ℕ) (hk : k < 16) : ∀ a, (![0, k * 512, 0] : Fin 3 → ℕ) a + S1x512x128.size a ≤ S1x8192x128.size a := by
  intro a; fin_cases a
  · show 0 + 1 ≤ 1; omega
  · show k * 512 + 512 ≤ 8192; omega
  · show 0 + 128 ≤ 128; omega
theorem inbW (k : ℕ) (hk : k < 16) : ∀ a, (![k, 0, 0] : Fin 3 → ℕ) a + S1x128x512.size a ≤ S16x144x512.size a := by
  intro a; fin_cases a
  · show k + 1 ≤ 16; omega
  · show 0 + 128 ≤ 144; omega
  · show 0 + 512 ≤ 512; omega
theorem inbW' (k : ℕ) (hk : k < 16) : ∀ a, (![k, 128, 0] : Fin 3 → ℕ) a + S1x16x512.size a ≤ S16x144x512.size a := by
  intro a; fin_cases a
  · show k + 1 ≤ 16; omega
  · show 128 + 16 ≤ 144; omega
  · show 0 + 512 ≤ 512; omega

/-- The running maxima before the first stage. -/
def startMax : FVec F S8x1x1024 .f32 := shapeCast S8x1x1024 (broadcast S8x1x1024 (Scalar.ofBits .f32 0xFF800000#32 : F .f32)) (by decide)

/-- The running sums before the first stage. -/
def startAcc : FVec F S8x144x1024 .f32 := shapeCast S8x144x1024 (broadcast S8x144x1024 (Scalar.ofBits .f32 0x00000000#32 : F .f32)) (by decide)

/-- All query tiles of a query block. -/
def qAll (X : Vec F S1x1024x512 .bf16) : Vec F S8x128x1024 .bf16 :=
  fun y => qTile (F := F) (VecWindow.window X ![0, 128 * (y 0).val, 0] S1x128x512.size (inbX _ (y 0).isLt)) (ix3 (0 : Fin 1) (y 1) (y 2))

/-- All transposed values of a value block, with sixteen rows of ones under each chunk. -/
def vAll (X : Vec F S1x8192x128 .bf16) : Vec F S16x144x512 .bf16 :=
  fun y => if h : (y 1).val < 128
    then vTile (F := F) (VecWindow.window X ![0, (y 0).val * 512, 0] S1x512x128.size (inbU _ (y 0).isLt)) (ix3 (0 : Fin 1) ⟨(y 1).val, h⟩ (y 2))
    else onesTile (F := F) (ix3 (0 : Fin 1) ⟨(y 1).val - 128, Nat.sub_lt_left_of_lt_add (Nat.not_lt.1 h) (y 1).isLt⟩ (y 2))

/-- The rounded ratios of query tile `t`, of all running sums. -/
def ratioAt (A : Vec F S8x144x1024 .f32) (t : ℕ) (ht : t < 8) : FVec F S128x1024 .bf16 :=
  ratio (F := F) (VecWindow.window A ![t, 0, 0] S1x128x1024.size (inbS t ht)) (VecWindow.window A ![t, 128, 0] S1x1x1024.size (inbL t ht))

/-- The output block, of all running sums. -/
def outAll (A : Vec F S8x144x1024 .f32) : Vec F S1x1024x512 .bf16 :=
  fun y => outTile (F := F) ⟨(y 2).val / 128, Nat.div_lt_of_lt_mul (y 2).isLt⟩ (ratioAt A ((y 1).val / 128) (Nat.div_lt_of_lt_mul (y 1).isLt))
    (ix3 (0 : Fin 1) ⟨(y 1).val % 128, Nat.mod_lt _ (by decide)⟩ ⟨(y 2).val % 128, Nat.mod_lt _ (by decide)⟩)

end Pure

section Rules

variable {nD : Nat} {τ : Topo} {sig : RefSig} {Λ : Labels} {Ix : Type} [DecidableEq Ix] {F : FTy → Type} [FloatOps F] {Name : Type} [DecidableEq Name]
variable {U : Type} [URA U] {Lvl : Type} [Preorder Lvl]

local notation "𝕄" => MT nD τ sig Ix (Elt F) Name U Lvl

variable (defs : Defs nD τ sig (Elt F) Λ) (𝒱 : Variants) (c : Dev nD) (bd : Option 𝒱.V) (E : Set Name)
variable {β : Type}

/-! ## One query tile -/

/-- Query tile `t`: 128 query rows are read, and their tile is stored. -/
def qTileK (aX : Memref sig .tc .vmem S1x1024x512 .bf16) (aT : Memref sig .tc .vmem S8x128x1024 .bf16)
    (oX : Fin 3 → ℕ) (iX : ∀ a, oX a + S1x128x512.size a ≤ S1x1024x512.size a) (oT : Fin 3 → ℕ) (iT : ∀ a, oT a + S1x128x1024.size a ≤ S8x128x1024.size a)
    (hx : (aT.access (Rect.unit (s := S8x128x1024) oT S1x128x1024.size iT)).Stores Finset.univ)
    (κ : Prog (TpuEff nD τ sig (Elt F) Λ .tc) β) : Prog (TpuEff nD τ sig (Elt F) Λ .tc) β :=
  .op (.load aX (Rect.unit (s := S1x1024x512) oX S1x128x512.size iX).toLoadRect (View.loadsAt_vmem (show 0 < S1x128x512.numel by decide))) fun x =>
  .op (.load aT (Rect.unit (s := S8x128x1024) oT S1x128x1024.size iT).toLoadRect (View.loadsAt_vmem (show 0 < S1x128x1024.numel by decide))) fun _ =>
  .op (.store aT (Rect.unit (s := S8x128x1024) oT S1x128x1024.size iT) (qTile (F := F) x) Finset.univ hx (.inl rfl)) fun _ => κ

/-- The query tiles before `t` are written. -/
def QDone (aX : Memref sig .tc .vmem S1x1024x512 .bf16) (aT : Memref sig .tc .vmem S8x128x1024 .bf16) (X : Vec F S1x1024x512 .bf16) (t : ℕ) : sProp 𝕄 :=
  iprop(held c aX X ∗ ∃ T, ⌜∀ y : S8x128x1024.Idx, (y 0).val < t → T y = qAll (F := F) X y⌝ ∗ held c aT T)

/-- The rule of one query tile. -/
theorem qTile_rule (aX : Memref sig .tc .vmem S1x1024x512 .bf16) (aT : Memref sig .tc .vmem S8x128x1024 .bf16) (X : Vec F S1x1024x512 .bf16) (t : ℕ) (ht : t < 8)
    {oX iX oT iT hx} (eX : oX = ![0, 128 * t, 0]) (eT : oT = ![t, 0, 0]) (κ : Prog (TpuEff nD τ sig (Elt F) Λ .tc) β) (Q : β → sProp 𝕄) (R : sProp 𝕄)
    (hκ : iprop(QDone c aX aT X (t + 1) ∗ R) ⊢ wp frame (wpE defs 𝒱 (c : Thread nD τ) bd) E κ Q) :
    iprop(QDone c aX aT X t ∗ R) ⊢ wp frame (wpE defs 𝒱 (c : Thread nD τ) bd) E (qTileK aX aT oX iX oT iT hx κ) Q := by
  unfold qTileK QDone at *
  iintro ⟨⟨HX, ⟨%T, %hT, HT⟩⟩, HR⟩
  iapply (wp_ld defs 𝒱 c bd E aX ![0, 128 * t, 0] eX (inbX t ht) X Q) $$ HX
  iintro HX
  iapply (wp_ld defs 𝒱 c bd E aT ![t, 0, 0] eT (inbT t ht) T Q) $$ HT
  iintro HT
  iapply (wp_st defs 𝒱 c bd E aT ![t, 0, 0] eT T Q) $$ HT
  iintro HT
  iapply hκ
  isplitr [HR]
  · isplitl [HX]; · iexact HX
    iexists _
    isplitr [HT]; swap; · iexact HT
    · ipureintro
      intro y hy
      rcases Nat.lt_succ_iff_lt_or_eq.1 hy with h | h
      · rw [put_miss _ _ _ _ y 0 (Or.inl h)]; exact hT y h
      · subst h
        exact put_hit _ _ _ _ y (ix3 (0 : Fin 1) (y 1) (y 2) : S1x128x1024.Idx) (fun a => by
          fin_cases a
          · show (y 0).val = (y 0).val + 0; omega
          · show (y 1).val = 0 + (y 1).val; omega
          · show (y 2).val = 0 + (y 2).val; omega)
  · iexact HR

/-! ## The start of the sweep -/

/-- The running maxima and sums are set to their first values. -/
def startK (aM : Memref sig .tc .vmem S8x1x1024 .f32) (aA : Memref sig .tc .vmem S8x144x1024 .f32)
    (κ : Prog (TpuEff nD τ sig (Elt F) Λ .tc) β) : Prog (TpuEff nD τ sig (Elt F) Λ .tc) β :=
  .op (.load aM (Rect.unit (s := S8x1x1024) ![0, 0, 0] S8x1x1024.size (by decide)).toLoadRect (View.loadsAt_vmem (by decide))) fun _ =>
  .op (.store aM (Rect.unit (s := S8x1x1024) ![0, 0, 0] S8x1x1024.size (by decide)) (startMax (F := F)) Finset.univ (View.stores_vmem_bits_univ (by decide) rfl) (.inl rfl)) fun _ =>
  .op (.load aA (Rect.unit (s := S8x144x1024) ![0, 0, 0] S8x144x1024.size (by decide)).toLoadRect (View.loadsAt_vmem (by decide))) fun _ =>
  .op (.store aA (Rect.unit (s := S8x144x1024) ![0, 0, 0] S8x144x1024.size (by decide)) (startAcc (F := F)) Finset.univ (View.stores_vmem_bits_univ (by decide) rfl) (.inl rfl)) fun _ => κ

theorem put_whole {α : Type} {n0 n1 n2 : ℕ} (X w : (⟨3, ![n0, n1, n2]⟩ : Shape).Idx → α) : VecWindow.put X ![0, 0, 0] ![n0, n1, n2] w = w := by
  funext y
  exact put_hit X _ _ _ y y (fun a => by
    fin_cases a
    · show (y 0).val = 0 + (y 0).val; omega
    · show (y 1).val = 0 + (y 1).val; omega
    · show (y 2).val = 0 + (y 2).val; omega)

/-- The rule of the start. -/
theorem start_rule (aM : Memref sig .tc .vmem S8x1x1024 .f32) (aA : Memref sig .tc .vmem S8x144x1024 .f32) (κ : Prog (TpuEff nD τ sig (Elt F) Λ .tc) β) (Q : β → sProp 𝕄) (R : sProp 𝕄)
    (hκ : iprop(held c aM (startMax (F := F)) ∗ held c aA (startAcc (F := F)) ∗ R) ⊢ wp frame (wpE defs 𝒱 (c : Thread nD τ) bd) E κ Q) :
    iprop((∃ X, held c aM X) ∗ (∃ X, held c aA X) ∗ R) ⊢ wp frame (wpE defs 𝒱 (c : Thread nD τ) bd) E (startK aM aA κ) Q := by
  unfold startK
  iintro ⟨⟨%X, HM⟩, ⟨%Y, HA⟩, HR⟩
  iapply (wp_ld defs 𝒱 c bd E aM ![0, 0, 0] rfl (by decide) X Q) $$ HM
  iintro HM
  iapply (wp_st defs 𝒱 c bd E aM ![0, 0, 0] rfl X Q) $$ HM
  rw [put_whole]
  iintro HM
  iapply (wp_ld defs 𝒱 c bd E aA ![0, 0, 0] rfl (by decide) Y Q) $$ HA
  iintro HA
  iapply (wp_st defs 𝒱 c bd E aA ![0, 0, 0] rfl Y Q) $$ HA
  rw [put_whole]
  iintro HA
  iapply hκ
  isplitl [HM]; · iexact HM
  isplitl [HA]; · iexact HA
  iexact HR

/-! ## One chunk of transposed values -/

/-- Chunk `k` of the values: 512 value rows are read, and they are stored transposed, with ones below. -/
def vTileK (aV : Memref sig .tc .vmem S1x8192x128 .bf16) (aT : Memref sig .tc .vmem S16x144x512 .bf16)
    (oV : Fin 3 → ℕ) (iV : ∀ a, oV a + S1x512x128.size a ≤ S1x8192x128.size a) (oT : Fin 3 → ℕ) (iT : ∀ a, oT a + S1x128x512.size a ≤ S16x144x512.size a)
    (oU : Fin 3 → ℕ) (iU : ∀ a, oU a + S1x16x512.size a ≤ S16x144x512.size a)
    (hx : (aT.access (Rect.unit (s := S16x144x512) oT S1x128x512.size iT)).Stores Finset.univ)
    (hu : (aT.access (Rect.unit (s := S16x144x512) oU S1x16x512.size iU)).Stores Finset.univ)
    (κ : Prog (TpuEff nD τ sig (Elt F) Λ .tc) β) : Prog (TpuEff nD τ sig (Elt F) Λ .tc) β :=
  .op (.load aV (Rect.unit (s := S1x8192x128) oV S1x512x128.size iV).toLoadRect (View.loadsAt_vmem (show 0 < S1x512x128.numel by decide))) fun x =>
  .op (.load aT (Rect.unit (s := S16x144x512) oT S1x128x512.size iT).toLoadRect (View.loadsAt_vmem (show 0 < S1x128x512.numel by decide))) fun _ =>
  .op (.store aT (Rect.unit (s := S16x144x512) oT S1x128x512.size iT) (vTile (F := F) x) Finset.univ hx (.inl rfl)) fun _ =>
  .op (.load aT (Rect.unit (s := S16x144x512) oU S1x16x512.size iU).toLoadRect (View.loadsAt_vmem (show 0 < S1x16x512.numel by decide))) fun _ =>
  .op (.store aT (Rect.unit (s := S16x144x512) oU S1x16x512.size iU) (onesTile (F := F)) Finset.univ hu (.inl rfl)) fun _ => κ

/-- The chunks of transposed values before `k` are written. -/
def VDone (aV : Memref sig .tc .vmem S1x8192x128 .bf16) (aT : Memref sig .tc .vmem S16x144x512 .bf16) (X : Vec F S1x8192x128 .bf16) (k : ℕ) : sProp 𝕄 :=
  iprop(held c aV X ∗ ∃ T, ⌜∀ y : S16x144x512.Idx, (y 0).val < k → T y = vAll (F := F) X y⌝ ∗ held c aT T)

/-- The rule of one chunk of values. -/
theorem vTile_rule (aV : Memref sig .tc .vmem S1x8192x128 .bf16) (aT : Memref sig .tc .vmem S16x144x512 .bf16) (X : Vec F S1x8192x128 .bf16) (k : ℕ) (hk : k < 16)
    {oV iV oT iT oU iU hx hu} (eV : oV = ![0, k * 512, 0]) (eT : oT = ![k, 0, 0]) (eU : oU = ![k, 128, 0])
    (κ : Prog (TpuEff nD τ sig (Elt F) Λ .tc) β) (Q : β → sProp 𝕄)
    (hκ : VDone c aV aT X (k + 1) ⊢ wp frame (wpE defs 𝒱 (c : Thread nD τ) bd) E κ Q) :
    VDone c aV aT X k ⊢ wp frame (wpE defs 𝒱 (c : Thread nD τ) bd) E (vTileK aV aT oV iV oT iT oU iU hx hu κ) Q := by
  unfold vTileK VDone at *
  iintro ⟨HX, ⟨%T, %hT, HT⟩⟩
  iapply (wp_ld defs 𝒱 c bd E aV ![0, k * 512, 0] eV (inbU k hk) X Q) $$ HX
  iintro HX
  iapply (wp_ld defs 𝒱 c bd E aT ![k, 0, 0] eT (inbW k hk) T Q) $$ HT
  iintro HT
  iapply (wp_st defs 𝒱 c bd E aT ![k, 0, 0] eT T Q) $$ HT
  iintro HT
  iapply (wp_ld defs 𝒱 c bd E aT ![k, 128, 0] eU (inbW' k hk) _ Q) $$ HT
  iintro HT
  iapply (wp_st defs 𝒱 c bd E aT ![k, 128, 0] eU _ Q) $$ HT
  iintro HT
  iapply hκ
  isplitl [HX]; · iexact HX
  iexists _
  isplitr [HT]; swap; · iexact HT
  · ipureintro
    intro y hy
    rcases Nat.lt_succ_iff_lt_or_eq.1 hy with h | h
    · rw [put_miss _ _ _ _ y 0 (Or.inl h), put_miss _ _ _ _ y 0 (Or.inl h)]; exact hT y h
    · subst h
      by_cases h1 : (y 1).val < 128
      · rw [put_miss _ _ _ _ y 1 (Or.inl h1)]
        unfold vAll
        rw [dif_pos h1]
        exact put_hit _ _ _ _ y (ix3 (0 : Fin 1) ⟨(y 1).val, h1⟩ (y 2) : S1x128x512.Idx) (fun a => by
          fin_cases a
          · show (y 0).val = (y 0).val + 0; omega
          · show (y 1).val = 0 + (y 1).val; omega
          · show (y 2).val = 0 + (y 2).val; omega)
      · unfold vAll
        rw [dif_neg h1]
        exact put_hit _ _ _ _ y (ix3 (0 : Fin 1) ⟨(y 1).val - 128, Nat.sub_lt_left_of_lt_add (Nat.not_lt.1 h1) (y 1).isLt⟩ (y 2) : S1x16x512.Idx) (fun a => by
          fin_cases a
          · show (y 0).val = (y 0).val + 0; omega
          · show (y 1).val = 128 + ((y 1).val - 128); omega
          · show (y 2).val = 0 + (y 2).val; omega)

/-! ## One output tile -/

/-- Head pair `j` of an output tile: its columns are stored. -/
def outK (aO : Memref sig .tc .vmem S1x1024x512 .bf16) (j : Fin 4) (x : FVec F S128x1024 .bf16)
    (oO : Fin 3 → ℕ) (iO : ∀ a, oO a + S1x128x128.size a ≤ S1x1024x512.size a)
    (hx : (aO.access (Rect.unit (s := S1x1024x512) oO S1x128x128.size iO)).Stores Finset.univ)
    (κ : Prog (TpuEff nD τ sig (Elt F) Λ .tc) β) : Prog (TpuEff nD τ sig (Elt F) Λ .tc) β :=
  .op (.load aO (Rect.unit (s := S1x1024x512) oO S1x128x128.size iO).toLoadRect (View.loadsAt_vmem (show 0 < S1x128x128.numel by decide))) fun _ =>
  .op (.store aO (Rect.unit (s := S1x1024x512) oO S1x128x128.size iO) (outTile (F := F) j x) Finset.univ hx (.inl rfl)) fun _ => κ

/-- The stores of an output block are stores of whole packed rows. -/
theorem outStores (aO : Memref sig .tc .vmem S1x1024x512 .bf16) (h : aO.IsWhole) (t : Fin 8) (j : Fin 4) :
    (aO.access (Rect.unit (s := S1x1024x512) ![0, 128 * t.val, 128 * j.val] S1x128x128.size (inbO _ _ t.isLt j.isLt))).Stores Finset.univ :=
  View.stores_vmem (show 0 < S1x128x128.numel by decide) (h.storeExact_slice rfl _ (by revert t j; decide)) (fun _ => rfl)

/-- The stores of a query tile are stores of whole packed rows. -/
theorem qStores (aT : Memref sig .tc .vmem S8x128x1024 .bf16) (h : aT.IsWhole) (t : Fin 8) :
    (aT.access (Rect.unit (s := S8x128x1024) ![t.val, 0, 0] S1x128x1024.size (inbT _ t.isLt))).Stores Finset.univ :=
  View.stores_vmem (show 0 < S1x128x1024.numel by decide) (h.storeExact_slice rfl _ (by revert t; decide)) (fun _ => rfl)

/-- Output tile `t`: the tile's sums and total weights are read, and its four head pairs are stored. -/
def outTileK (aA : Memref sig .tc .vmem S8x144x1024 .f32) (aO : Memref sig .tc .vmem S1x1024x512 .bf16) (hO : aO.IsWhole) (t : Fin 8)
    (κ : Prog (TpuEff nD τ sig (Elt F) Λ .tc) β) : Prog (TpuEff nD τ sig (Elt F) Λ .tc) β :=
  .op (.load aA (Rect.unit (s := S8x144x1024) ![t.val, 0, 0] S1x128x1024.size (inbS _ t.isLt)).toLoadRect (View.loadsAt_vmem (show 0 < S1x128x1024.numel by decide))) fun a =>
  .op (.load aA (Rect.unit (s := S8x144x1024) ![t.val, 128, 0] S1x1x1024.size (inbL _ t.isLt)).toLoadRect (View.loadsAt_vmem (show 0 < S1x1x1024.numel by decide))) fun l =>
  outK aO 0 (ratio a l) ![0, 128 * t.val, 128 * (0 : Fin 4).val] (inbO _ _ t.isLt (0 : Fin 4).isLt) (outStores aO hO t 0) <|
  outK aO 1 (ratio a l) ![0, 128 * t.val, 128 * (1 : Fin 4).val] (inbO _ _ t.isLt (1 : Fin 4).isLt) (outStores aO hO t 1) <|
  outK aO 2 (ratio a l) ![0, 128 * t.val, 128 * (2 : Fin 4).val] (inbO _ _ t.isLt (2 : Fin 4).isLt) (outStores aO hO t 2) <|
  outK aO 3 (ratio a l) ![0, 128 * t.val, 128 * (3 : Fin 4).val] (inbO _ _ t.isLt (3 : Fin 4).isLt) (outStores aO hO t 3) κ

/-- The head pairs before `n`, counted tile by tile, are written. -/
def ODone (aO : Memref sig .tc .vmem S1x1024x512 .bf16) (A : Vec F S8x144x1024 .f32) (n : ℕ) : sProp 𝕄 :=
  iprop(∃ T, ⌜∀ y : S1x1024x512.Idx, 4 * ((y 1).val / 128) + (y 2).val / 128 < n → T y = outAll (F := F) A y⌝ ∗ held c aO T)

/-- The rule of one head pair. -/
theorem out_rule (aO : Memref sig .tc .vmem S1x1024x512 .bf16) (A : Vec F S8x144x1024 .f32) (t : Fin 8) (j : Fin 4)
    {iO hx} (κ : Prog (TpuEff nD τ sig (Elt F) Λ .tc) β) (Q : β → sProp 𝕄) (R : sProp 𝕄)
    (hκ : iprop(ODone c aO A (4 * t.val + j.val + 1) ∗ R) ⊢ wp frame (wpE defs 𝒱 (c : Thread nD τ) bd) E κ Q) :
    iprop(ODone c aO A (4 * t.val + j.val) ∗ R)
      ⊢ wp frame (wpE defs 𝒱 (c : Thread nD τ) bd) E (outK aO j (ratioAt A t.val t.isLt) ![0, 128 * t.val, 128 * j.val] iO hx κ) Q := by
  unfold outK ODone at *
  iintro ⟨⟨%T, %hT, HT⟩, HR⟩
  iapply (wp_ld defs 𝒱 c bd E aO ![0, 128 * t.val, 128 * j.val] rfl (inbO _ _ t.isLt j.isLt) T Q) $$ HT
  iintro HT
  iapply (wp_st defs 𝒱 c bd E aO ![0, 128 * t.val, 128 * j.val] rfl T Q) $$ HT
  iintro HT
  iapply hκ
  isplitr [HR]
  · iexists _
    isplitr [HT]; swap; · iexact HT
    · ipureintro
      intro y hy
      have hy1 := (y 1).isLt
      have hy2 := (y 2).isLt
      have hy0 := (y 0).isLt
      have hj := j.isLt
      change (y 2).val < 512 at hy2
      change (y 1).val < 1024 at hy1
      change (y 0).val < 1 at hy0
      rcases Nat.lt_succ_iff_lt_or_eq.1 hy with h | h
      · rcases Nat.lt_or_ge ((y 1).val / 128) t.val with h1 | h1
        · rw [put_miss _ _ _ _ y 1 (Or.inl (by show (y 1).val < 128 * t.val; omega))]; exact hT y h
        · rw [put_miss _ _ _ _ y 2 (Or.inl (by show (y 2).val < 128 * j.val; omega))]; exact hT y h
      · have e1 : (y 1).val / 128 = t.val := by omega
        have e2 : (y 2).val / 128 = j.val := by omega
        have hp := put_hit T ![0, 128 * t.val, 128 * j.val] S1x128x128.size (outTile (F := F) j (ratioAt A t.val t.isLt)) y
          (ix3 (0 : Fin 1) ⟨(y 1).val % 128, Nat.mod_lt _ (by decide)⟩ ⟨(y 2).val % 128, Nat.mod_lt _ (by decide)⟩) (fun a => by
          fin_cases a
          · show (y 0).val = 0 + 0; omega
          · show (y 1).val = 128 * t.val + (y 1).val % 128; omega
          · show (y 2).val = 128 * j.val + (y 2).val % 128; omega)
        refine hp.trans ?_
        unfold outAll
        have ej : (⟨(y 2).val / 128, Nat.div_lt_of_lt_mul (y 2).isLt⟩ : Fin 4) = j := Fin.ext e2
        rw [ej]
        congr 2
        exact e1.symm
  · iexact HR

/-- The rule of one output tile. -/
theorem outTile_rule (aA : Memref sig .tc .vmem S8x144x1024 .f32) (aO : Memref sig .tc .vmem S1x1024x512 .bf16) (hO : aO.IsWhole) (A : Vec F S8x144x1024 .f32) (t : Fin 8)
    (κ : Prog (TpuEff nD τ sig (Elt F) Λ .tc) β) (Q : β → sProp 𝕄) (R : sProp 𝕄)
    (hκ : iprop(ODone c aO A (4 * (t.val + 1)) ∗ held c aA A ∗ R) ⊢ wp frame (wpE defs 𝒱 (c : Thread nD τ) bd) E κ Q) :
    iprop(ODone c aO A (4 * t.val) ∗ held c aA A ∗ R) ⊢ wp frame (wpE defs 𝒱 (c : Thread nD τ) bd) E (outTileK aA aO hO t κ) Q := by
  unfold outTileK
  iintro ⟨HO, HA, HR⟩
  iapply (wp_ld defs 𝒱 c bd E aA ![t.val, 0, 0] rfl (inbS _ t.isLt) A Q) $$ HA
  iintro HA
  iapply (wp_ld defs 𝒱 c bd E aA ![t.val, 128, 0] rfl (inbL _ t.isLt) A Q) $$ HA
  iintro HA
  iapply (out_rule defs 𝒱 c bd E aO A t 0 _ Q iprop(held c aA A ∗ R) (out_rule defs 𝒱 c bd E aO A t 1 _ Q iprop(held c aA A ∗ R)
    (out_rule defs 𝒱 c bd E aO A t 2 _ Q iprop(held c aA A ∗ R) (out_rule defs 𝒱 c bd E aO A t 3 _ Q iprop(held c aA A ∗ R) hκ))))
  isplitl [HO]; · iexact HO
  isplitl [HA]; · iexact HA
  iexact HR

end Rules

end Cert.Sweep

end
-- ==== Proof.Body.lean ====
/-
  The kernel's body, operation by operation: the printed body is a list of the operations of Sweep and Tiles, and its rule follows from theirs.
-/
module

public import proofs.«01_k».proof.Proof.Tiles
public import proofs.«01_k».proof.Proof.Gen.KernelIdeal.Skeleton

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts
open Cert.Sweep (scoresK updateK qTileK vTileK outTileK startK groupMax stageScore Inv QDone VDone ODone held)

variable {F : FTy → Type} [FloatOps F]

/-- The kernel's programs. -/
abbrev P (F : FTy → Type) (β : Type) : Type 1 := Prog (TpuEff nD τ sig (Elt F) Λ₀ .tc) β

section Program

variable (i : grid0.Coords) (arg2 : Memref sig .tc .vmem S1x1024x512 .bf16) (harg2 : arg2.IsWhole) (arg3 : Memref sig .tc .vmem S1x8192x128 .bf16) (harg3 : arg3.IsWhole)
  (arg4 : Memref sig .tc .vmem S1x8192x128 .bf16) (harg4 : arg4.IsWhole) (arg5 : Memref sig .tc .vmem S1x1024x512 .bf16) (harg5 : arg5.IsWhole)
  (arg6 : Memref sig .tc .vmem S16x144x512 .bf16) (harg6 : arg6.IsWhole) (arg7 : Memref sig .tc .vmem S8x128x1024 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S8x1x1024 .f32) (harg10 : arg10.IsWhole) (arg11 : Memref sig .tc .vmem S8x144x1024 .f32) (harg11 : arg11.IsWhole)

/-- Two stages of the loop's trip `k`: the stages `10 k + 2 r` and `10 k + 2 r + 1`. -/
def pairK {β : Type} (k : Fin k0_t2_loop.trips) (r : Fin 5) (g : FVec F S8x1024 .f32) (κ : FVec F S8x1024 .f32 → P F β) : P F β :=
  scoresK arg3 arg7 arg9 (k0_off4 k (BitVec.ofNat 32 (2 * r.val)) (BitVec.ofNat 32 (1 + (0 : Fin 2).val))) (k0_off4_inb k r 0)
      (k0_off5 k (BitVec.ofNat 32 (2 * r.val)) (BitVec.ofNat 32 (1 + (0 : Fin 2).val))) (k0_off5_inb k r 0) fun s =>
  updateK arg10 arg11 arg6 arg8 (k0_off6 k (BitVec.ofNat 32 (2 * r.val))) (k0_off6_inb k r) (k0_off7 k (BitVec.ofNat 32 (2 * r.val))) (k0_off7_inb k r)
      (k0_off8 k (BitVec.ofNat 32 (2 * r.val))) (k0_off8_inb k r) g <|
  scoresK arg3 arg7 arg8 (k0_off4 k (BitVec.ofNat 32 (2 * r.val)) (BitVec.ofNat 32 (1 + (1 : Fin 2).val))) (k0_off4_inb k r 1)
      (k0_off5 k (BitVec.ofNat 32 (2 * r.val)) (BitVec.ofNat 32 (1 + (1 : Fin 2).val))) (k0_off5_inb k r 1) fun s' =>
  updateK arg10 arg11 arg6 arg9 (k0_off9 k (BitVec.ofNat 32 (2 * r.val))) (k0_off9_inb k r) (k0_off10 k (BitVec.ofNat 32 (2 * r.val))) (k0_off10_inb k r)
      (k0_off11 k (BitVec.ofNat 32 (2 * r.val))) (k0_off11_inb k r) (groupMax s) (κ (groupMax s'))

/-- The loop's trip `k`: five pairs of stages. -/
def tripK (k : Fin k0_t2_loop.trips) (g : FVec F S8x1024 .f32)   : P F (FVec F S8x1024 .f32) :=
  pairK arg3 arg6 arg7 arg8 arg9 arg10 arg11 k 0 g fun g =>
  pairK arg3 arg6 arg7 arg8 arg9 arg10 arg11 k 1 g fun g =>
  pairK arg3 arg6 arg7 arg8 arg9 arg10 arg11 k 2 g fun g =>
  pairK arg3 arg6 arg7 arg8 arg9 arg10 arg11 k 3 g fun g =>
  pairK arg3 arg6 arg7 arg8 arg9 arg10 arg11 k 4 g fun g => .ret g

set_option maxRecDepth 65536 in
theorem trip_eq (v393 : FVec F S512x1024 .f32) (k : Fin k0_t2_loop.trips) (g : FVec F S8x1024 .f32) :
    Gen.k0_t2_body i arg2 harg2 arg3 harg3 arg4 harg4 arg5 harg5 arg6 harg6 arg7 harg7 arg8 harg8 arg9 harg9 arg10 harg10 arg11 harg11 v393 k g
      = (tripK arg3 arg6 arg7 arg8 arg9 arg10 arg11 k g : P F _) := rfl

/-- After the loop: the last eight stages, and the output tiles. -/
def tailK (g : FVec F S8x1024 .f32) : P F PUnit :=
  scoresK arg3 arg7 arg9 ![0, 4608, 0] inb_S1x8192x128_S1x512x128_0_4608_0 ![7, 0, 0] inb_S8x128x1024_S1x128x1024_7_0_0 fun s121 =>
  updateK arg10 arg11 arg6 arg8 ![7, 0, 0] inb_S8x1x1024_S1x1x1024_7_0_0 ![7, 0, 0] inb_S8x144x1024_S1x144x1024_7_0_0 ![8, 0, 0] inb_S16x144x512_S1x144x512_8_0_0 g <|
  scoresK arg3 arg7 arg8 ![0, 5120, 0] inb_S1x8192x128_S1x512x128_0_5120_0 ![7, 0, 0] inb_S8x128x1024_S1x128x1024_7_0_0 fun s122 =>
  updateK arg10 arg11 arg6 arg9 ![7, 0, 0] inb_S8x1x1024_S1x1x1024_7_0_0 ![7, 0, 0] inb_S8x144x1024_S1x144x1024_7_0_0 ![9, 0, 0] inb_S16x144x512_S1x144x512_9_0_0 (groupMax s121) <|
  scoresK arg3 arg7 arg9 ![0, 5632, 0] inb_S1x8192x128_S1x512x128_0_5632_0 ![7, 0, 0] inb_S8x128x1024_S1x128x1024_7_0_0 fun s123 =>
  updateK arg10 arg11 arg6 arg8 ![7, 0, 0] inb_S8x1x1024_S1x1x1024_7_0_0 ![7, 0, 0] inb_S8x144x1024_S1x144x1024_7_0_0 ![10, 0, 0] inb_S16x144x512_S1x144x512_10_0_0 (groupMax s122) <|
  scoresK arg3 arg7 arg8 ![0, 6144, 0] inb_S1x8192x128_S1x512x128_0_6144_0 ![7, 0, 0] inb_S8x128x1024_S1x128x1024_7_0_0 fun s124 =>
  updateK arg10 arg11 arg6 arg9 ![7, 0, 0] inb_S8x1x1024_S1x1x1024_7_0_0 ![7, 0, 0] inb_S8x144x1024_S1x144x1024_7_0_0 ![11, 0, 0] inb_S16x144x512_S1x144x512_11_0_0 (groupMax s123) <|
  scoresK arg3 arg7 arg9 ![0, 6656, 0] inb_S1x8192x128_S1x512x128_0_6656_0 ![7, 0, 0] inb_S8x128x1024_S1x128x1024_7_0_0 fun s125 =>
  updateK arg10 arg11 arg6 arg8 ![7, 0, 0] inb_S8x1x1024_S1x1x1024_7_0_0 ![7, 0, 0] inb_S8x144x1024_S1x144x1024_7_0_0 ![12, 0, 0] inb_S16x144x512_S1x144x512_12_0_0 (groupMax s124) <|
  scoresK arg3 arg7 arg8 ![0, 7168, 0] inb_S1x8192x128_S1x512x128_0_7168_0 ![7, 0, 0] inb_S8x128x1024_S1x128x1024_7_0_0 fun s126 =>
  updateK arg10 arg11 arg6 arg9 ![7, 0, 0] inb_S8x1x1024_S1x1x1024_7_0_0 ![7, 0, 0] inb_S8x144x1024_S1x144x1024_7_0_0 ![13, 0, 0] inb_S16x144x512_S1x144x512_13_0_0 (groupMax s125) <|
  scoresK arg3 arg7 arg9 ![0, 7680, 0] inb_S1x8192x128_S1x512x128_0_7680_0 ![7, 0, 0] inb_S8x128x1024_S1x128x1024_7_0_0 fun s127 =>
  updateK arg10 arg11 arg6 arg8 ![7, 0, 0] inb_S8x1x1024_S1x1x1024_7_0_0 ![7, 0, 0] inb_S8x144x1024_S1x144x1024_7_0_0 ![14, 0, 0] inb_S16x144x512_S1x144x512_14_0_0 (groupMax s126) <|
  updateK arg10 arg11 arg6 arg9 ![7, 0, 0] inb_S8x1x1024_S1x1x1024_7_0_0 ![7, 0, 0] inb_S8x144x1024_S1x144x1024_7_0_0 ![15, 0, 0] inb_S16x144x512_S1x144x512_15_0_0 (groupMax s127) <|
  outTileK arg11 arg5 harg5 0 <|
  outTileK arg11 arg5 harg5 1 <|
  outTileK arg11 arg5 harg5 2 <|
  outTileK arg11 arg5 harg5 3 <|
  outTileK arg11 arg5 harg5 4 <|
  outTileK arg11 arg5 harg5 5 <|
  outTileK arg11 arg5 harg5 6 <|
  outTileK arg11 arg5 harg5 7 <|
  .ret ⟨⟩

/-- After the values' fill: the query tiles, the start, the sweep and the output tiles. -/
def restK : P F PUnit :=
  qTileK arg2 arg7 ![0, 0, 0] inb_S1x1024x512_S1x128x512_0_0_0 ![0, 0, 0] inb_S8x128x1024_S1x128x1024_0_0_0 (Cert.Sweep.qStores arg7 harg7 0) <|
  qTileK arg2 arg7 ![0, 128, 0] inb_S1x1024x512_S1x128x512_0_128_0 ![1, 0, 0] inb_S8x128x1024_S1x128x1024_1_0_0 (Cert.Sweep.qStores arg7 harg7 1) <|
  qTileK arg2 arg7 ![0, 256, 0] inb_S1x1024x512_S1x128x512_0_256_0 ![2, 0, 0] inb_S8x128x1024_S1x128x1024_2_0_0 (Cert.Sweep.qStores arg7 harg7 2) <|
  qTileK arg2 arg7 ![0, 384, 0] inb_S1x1024x512_S1x128x512_0_384_0 ![3, 0, 0] inb_S8x128x1024_S1x128x1024_3_0_0 (Cert.Sweep.qStores arg7 harg7 3) <|
  qTileK arg2 arg7 ![0, 512, 0] inb_S1x1024x512_S1x128x512_0_512_0 ![4, 0, 0] inb_S8x128x1024_S1x128x1024_4_0_0 (Cert.Sweep.qStores arg7 harg7 4) <|
  qTileK arg2 arg7 ![0, 640, 0] inb_S1x1024x512_S1x128x512_0_640_0 ![5, 0, 0] inb_S8x128x1024_S1x128x1024_5_0_0 (Cert.Sweep.qStores arg7 harg7 5) <|
  qTileK arg2 arg7 ![0, 768, 0] inb_S1x1024x512_S1x128x512_0_768_0 ![6, 0, 0] inb_S8x128x1024_S1x128x1024_6_0_0 (Cert.Sweep.qStores arg7 harg7 6) <|
  qTileK arg2 arg7 ![0, 896, 0] inb_S1x1024x512_S1x128x512_0_896_0 ![7, 0, 0] inb_S8x128x1024_S1x128x1024_7_0_0 (Cert.Sweep.qStores arg7 harg7 7) <|
  startK arg10 arg11 <|
  scoresK arg3 arg7 arg8 ![0, 0, 0] inb_S1x8192x128_S1x512x128_0_0_0 ![0, 0, 0] inb_S8x128x1024_S1x128x1024_0_0_0 fun s =>
  Scf.Loop.for k0_t2_loop k0_t2_ok (groupMax s) (tripK arg3 arg6 arg7 arg8 arg9 arg10 arg11) >>= tailK arg3 arg5 harg5 arg6 arg7 arg8 arg9 arg10 arg11

theorem trip_fun_eq (v393 : FVec F S512x1024 .f32) :
    Gen.k0_t2_body i arg2 harg2 arg3 harg3 arg4 harg4 arg5 harg5 arg6 harg6 arg7 harg7 arg8 harg8 arg9 harg9 arg10 harg10 arg11 harg11 v393
      = (tripK arg3 arg6 arg7 arg8 arg9 arg10 arg11 : _ → _ → P F _) := by
  funext k g
  exact trip_eq i arg2 harg2 arg3 harg3 arg4 harg4 arg5 harg5 arg6 harg6 arg7 harg7 arg8 harg8 arg9 harg9 arg10 harg10 arg11 harg11 v393 k g

/-- The fill's trip: one chunk of transposed values. -/
def fillTripK (h : k0_cond1 i = 1#1) (k : Fin k0_t1_loop.trips) (_ : Unit) : P F Unit :=
  vTileK arg4 arg6 (k0_off1 k) (k0_off1_inb i k h) (k0_off2 k) (k0_off2_inb i k h) (k0_off3 k) (k0_off3_inb i k h)
    (View.stores_vmem h_S1x128x512 (harg6.storeExact_slice rfl _ (k0_off2_packedbf16 i k h)) (fun _ => rfl))
    (View.stores_vmem h_S1x16x512 (harg6.storeExact_slice rfl _ (k0_off3_packedbf16 i k h)) (fun _ => rfl)) (.ret ⟨⟩)

set_option maxRecDepth 65536 in
/-- The operations before the loop, with any continuation. -/
theorem before_loop (κ : FVec F S512x1024 .f32 → P F PUnit) : (do
  let c0 : Index := 0#32
  let c0_1 : Index := 0#32
  let c0_2 : Index := 0#32
  let v3 : Vec F S1x128x512 .bf16 ← Prog.lift (.load arg2 (Rect.unit (s := S1x1024x512) ![0, 0, 0] S1x128x512.size inb_S1x1024x512_S1x128x512_0_0_0).toLoadRect (View.loadsAt_vmem h_S1x128x512))
  have v4 : FVec F S128x512 .bf16 := shapeCast S128x512 v3 shapeCasts_S1x128x512_S128x512
  have v5 : FVec F S512x128 .bf16 := transpose S512x128 [1, 0] v4 transposes_S128x512_p1_0_S512x128
  have v6 : FVec F S128x128 .bf16 := extractStridedSlice S128x128 ![0, 0] v5 slices_S512x128_o0_0_S128x128
  have cst : F .bf16 := Scalar.ofBits .bf16 0x0000#16
  have v7 : FVec F S32x128 .bf16 := broadcast S32x128 cst
  have v8 : FVec F S32x128 .bf16 := extractStridedSlice S32x128 ![0, 0] v6 slices_S128x128_o0_0_S32x128
  have v9 : FVec F S32x128 .bf16 := extractStridedSlice S32x128 ![64, 0] v6 slices_S128x128_o64_0_S32x128
  have v10 : FVec F S128x128 .bf16 := concatenate S128x128 0 [⟨S32x128, v8⟩, ⟨S32x128, v7⟩, ⟨S32x128, v9⟩, ⟨S32x128, v7⟩] concatenates_S32x128_S32x128_S32x128_S32x128_S128x128_d0
  have v11 : FVec F S128x128 .bf16 := extractStridedSlice S128x128 ![0, 0] v5 slices_S512x128_o0_0_S128x128
  have cst_3 : F .bf16 := Scalar.ofBits .bf16 0x0000#16
  have v12 : FVec F S32x128 .bf16 := broadcast S32x128 cst_3
  have v13 : FVec F S32x128 .bf16 := extractStridedSlice S32x128 ![32, 0] v11 slices_S128x128_o32_0_S32x128
  have v14 : FVec F S32x128 .bf16 := extractStridedSlice S32x128 ![96, 0] v11 slices_S128x128_o96_0_S32x128
  have v15 : FVec F S128x128 .bf16 := concatenate S128x128 0 [⟨S32x128, v13⟩, ⟨S32x128, v12⟩, ⟨S32x128, v14⟩, ⟨S32x128, v12⟩] concatenates_S32x128_S32x128_S32x128_S32x128_S128x128_d0
  have v16 : FVec F S128x128 .bf16 := extractStridedSlice S128x128 ![128, 0] v5 slices_S512x128_o128_0_S128x128
  have cst_4 : F .bf16 := Scalar.ofBits .bf16 0x0000#16
  have v17 : FVec F S32x128 .bf16 := broadcast S32x128 cst_4
  have v18 : FVec F S32x128 .bf16 := extractStridedSlice S32x128 ![0, 0] v16 slices_S128x128_o0_0_S32x128
  have v19 : FVec F S32x128 .bf16 := extractStridedSlice S32x128 ![64, 0] v16 slices_S128x128_o64_0_S32x128
  have v20 : FVec F S128x128 .bf16 := concatenate S128x128 0 [⟨S32x128, v18⟩, ⟨S32x128, v17⟩, ⟨S32x128, v19⟩, ⟨S32x128, v17⟩] concatenates_S32x128_S32x128_S32x128_S32x128_S128x128_d0
  have v21 : FVec F S128x128 .bf16 := extractStridedSlice S128x128 ![128, 0] v5 slices_S512x128_o128_0_S128x128
  have cst_5 : F .bf16 := Scalar.ofBits .bf16 0x0000#16
  have v22 : FVec F S32x128 .bf16 := broadcast S32x128 cst_5
  have v23 : FVec F S32x128 .bf16 := extractStridedSlice S32x128 ![32, 0] v21 slices_S128x128_o32_0_S32x128
  have v24 : FVec F S32x128 .bf16 := extractStridedSlice S32x128 ![96, 0] v21 slices_S128x128_o96_0_S32x128
  have v25 : FVec F S128x128 .bf16 := concatenate S128x128 0 [⟨S32x128, v23⟩, ⟨S32x128, v22⟩, ⟨S32x128, v24⟩, ⟨S32x128, v22⟩] concatenates_S32x128_S32x128_S32x128_S32x128_S128x128_d0
  have v26 : FVec F S128x128 .bf16 := extractStridedSlice S128x128 ![256, 0] v5 slices_S512x128_o256_0_S128x128
  have cst_6 : F .bf16 := Scalar.ofBits .bf16 0x0000#16
  have v27 : FVec F S32x128 .bf16 := broadcast S32x128 cst_6
  have v28 : FVec F S32x128 .bf16 := extractStridedSlice S32x128 ![0, 0] v26 slices_S128x128_o0_0_S32x128
  have v29 : FVec F S32x128 .bf16 := extractStridedSlice S32x128 ![64, 0] v26 slices_S128x128_o64_0_S32x128
  have v30 : FVec F S128x128 .bf16 := concatenate S128x128 0 [⟨S32x128, v27⟩, ⟨S32x128, v28⟩, ⟨S32x128, v27⟩, ⟨S32x128, v29⟩] concatenates_S32x128_S32x128_S32x128_S32x128_S128x128_d0
  have v31 : FVec F S128x128 .bf16 := extractStridedSlice S128x128 ![256, 0] v5 slices_S512x128_o256_0_S128x128
  have cst_7 : F .bf16 := Scalar.ofBits .bf16 0x0000#16
  have v32 : FVec F S32x128 .bf16 := broadcast S32x128 cst_7
  have v33 : FVec F S32x128 .bf16 := extractStridedSlice S32x128 ![32, 0] v31 slices_S128x128_o32_0_S32x128
  have v34 : FVec F S32x128 .bf16 := extractStridedSlice S32x128 ![96, 0] v31 slices_S128x128_o96_0_S32x128
  have v35 : FVec F S128x128 .bf16 := concatenate S128x128 0 [⟨S32x128, v32⟩, ⟨S32x128, v33⟩, ⟨S32x128, v32⟩, ⟨S32x128, v34⟩] concatenates_S32x128_S32x128_S32x128_S32x128_S128x128_d0
  have v36 : FVec F S128x128 .bf16 := extractStridedSlice S128x128 ![384, 0] v5 slices_S512x128_o384_0_S128x128
  have cst_8 : F .bf16 := Scalar.ofBits .bf16 0x0000#16
  have v37 : FVec F S32x128 .bf16 := broadcast S32x128 cst_8
  have v38 : FVec F S32x128 .bf16 := extractStridedSlice S32x128 ![0, 0] v36 slices_S128x128_o0_0_S32x128
  have v39 : FVec F S32x128 .bf16 := extractStridedSlice S32x128 ![64, 0] v36 slices_S128x128_o64_0_S32x128
  have v40 : FVec F S128x128 .bf16 := concatenate S128x128 0 [⟨S32x128, v37⟩, ⟨S32x128, v38⟩, ⟨S32x128, v37⟩, ⟨S32x128, v39⟩] concatenates_S32x128_S32x128_S32x128_S32x128_S128x128_d0
  have v41 : FVec F S128x128 .bf16 := extractStridedSlice S128x128 ![384, 0] v5 slices_S512x128_o384_0_S128x128
  have cst_9 : F .bf16 := Scalar.ofBits .bf16 0x0000#16
  have v42 : FVec F S32x128 .bf16 := broadcast S32x128 cst_9
  have v43 : FVec F S32x128 .bf16 := extractStridedSlice S32x128 ![32, 0] v41 slices_S128x128_o32_0_S32x128
  let ⟨v57, v62, v67, v72, v77, v82, v87, v88, cst_22⟩ : Σ' (v57 : FVec F S128x128 .bf16) (v62 : FVec F S128x128 .bf16) (v67 : FVec F S128x128 .bf16) (v72 : FVec F S128x128 .bf16) (v77 : FVec F S128x128 .bf16) (v82 : FVec F S128x128 .bf16) (v87 : FVec F S128x128 .bf16) (v88 : FVec F S128x128 .bf16), F .bf16 ← k0_part16 i arg2 harg2 arg3 harg3 arg4 harg4 arg5 harg5 arg6 harg6 arg7 harg7 arg8 harg8 arg9 harg9 arg10 harg10 arg11 harg11 v10 v15 v20 v25 v30 v35 v40 v41 v42 v43
  let ⟨v99, v104, v109, v114, v119, v124, v129, v134⟩ : Σ' (v99 : FVec F S512x128 .bf16) (v104 : FVec F S128x128 .bf16) (v109 : FVec F S128x128 .bf16) (v114 : FVec F S128x128 .bf16) (v119 : FVec F S128x128 .bf16) (v124 : FVec F S128x128 .bf16) (v129 : FVec F S128x128 .bf16), FVec F S128x128 .bf16 ← k0_part17 i arg2 harg2 arg3 harg3 arg4 harg4 arg5 harg5 arg6 harg6 arg7 harg7 arg8 harg8 arg9 harg9 arg10 harg10 arg11 harg11 v57 v62 v67 v72 v77 v82 v87 v88 cst_22
  let ⟨v146, v151, v156, v161, v166, v171, v176, v177, v178, v179⟩ : Σ' (v146 : FVec F S512x128 .bf16) (v151 : FVec F S128x128 .bf16) (v156 : FVec F S128x128 .bf16) (v161 : FVec F S128x128 .bf16) (v166 : FVec F S128x128 .bf16) (v171 : FVec F S128x128 .bf16) (v176 : FVec F S128x128 .bf16) (v177 : FVec F S128x128 .bf16) (v178 : FVec F S32x128 .bf16), FVec F S32x128 .bf16 ← k0_part18 i arg2 harg2 arg3 harg3 arg4 harg4 arg5 harg5 arg6 harg6 arg7 harg7 arg8 harg8 arg9 harg9 arg10 harg10 arg11 harg11 v99 v104 v109 v114 v119 v124 v129 v134
  let ⟨v193, v198, v203, v208, v213, v218, v223, v224, cst_57⟩ : Σ' (v193 : FVec F S512x128 .bf16) (v198 : FVec F S128x128 .bf16) (v203 : FVec F S128x128 .bf16) (v208 : FVec F S128x128 .bf16) (v213 : FVec F S128x128 .bf16) (v218 : FVec F S128x128 .bf16) (v223 : FVec F S128x128 .bf16) (v224 : FVec F S128x128 .bf16), F .bf16 ← k0_part19 i arg2 harg2 arg3 harg3 arg4 harg4 arg5 harg5 arg6 harg6 arg7 harg7 arg8 harg8 arg9 harg9 arg10 harg10 arg11 harg11 v146 v151 v156 v161 v166 v171 v176 v177 v178 v179
  let ⟨v240, v245, v250, v255, v260, v265, v270⟩ : Σ' (v240 : FVec F S512x128 .bf16) (v245 : FVec F S128x128 .bf16) (v250 : FVec F S128x128 .bf16) (v255 : FVec F S128x128 .bf16) (v260 : FVec F S128x128 .bf16) (v265 : FVec F S128x128 .bf16), FVec F S128x128 .bf16 ← k0_part20 i arg2 harg2 arg3 harg3 arg4 harg4 arg5 harg5 arg6 harg6 arg7 harg7 arg8 harg8 arg9 harg9 arg10 harg10 arg11 harg11 v193 v198 v203 v208 v213 v218 v223 v224 cst_57
  let ⟨v287, v292, v297, v302, v307, v312, v313, v314, v315⟩ : Σ' (v287 : FVec F S512x128 .bf16) (v292 : FVec F S128x128 .bf16) (v297 : FVec F S128x128 .bf16) (v302 : FVec F S128x128 .bf16) (v307 : FVec F S128x128 .bf16) (v312 : FVec F S128x128 .bf16) (v313 : FVec F S128x128 .bf16) (v314 : FVec F S32x128 .bf16), FVec F S32x128 .bf16 ← k0_part21 i arg2 harg2 arg3 harg3 arg4 harg4 arg5 harg5 arg6 harg6 arg7 harg7 arg8 harg8 arg9 harg9 arg10 harg10 arg11 harg11 v240 v245 v250 v255 v260 v265 v270
  let ⟨v334, v339, v344, v349, v354, v359, v360, cst_92⟩ : Σ' (v334 : FVec F S512x128 .bf16) (v339 : FVec F S128x128 .bf16) (v344 : FVec F S128x128 .bf16) (v349 : FVec F S128x128 .bf16) (v354 : FVec F S128x128 .bf16) (v359 : FVec F S128x128 .bf16) (v360 : FVec F S128x128 .bf16), F .bf16 ← k0_part22 i arg2 harg2 arg3 harg3 arg4 harg4 arg5 harg5 arg6 harg6 arg7 harg7 arg8 harg8 arg9 harg9 arg10 harg10 arg11 harg11 v287 v292 v297 v302 v307 v312 v313 v314 v315
  let v393 : FVec F S512x1024 .f32 ← k0_part23 i arg2 harg2 arg3 harg3 arg4 harg4 arg5 harg5 arg6 harg6 arg7 harg7 arg8 harg8 arg9 harg9 arg10 harg10 arg11 harg11 v334 v339 v344 v349 v354 v359 v360 cst_92
  Prog.lift (.store arg8 (Rect.unit (s := S512x1024) ![0, 0] S512x1024.size inb_S512x1024_S512x1024_0_0) (Gen.k0_pay165 v393) Finset.univ (View.stores_vmem_bits_univ h_S512x1024 rfl) (.inl rfl))
  κ v393 : P F PUnit)
    = (qTileK arg2 arg7 ![0, 0, 0] inb_S1x1024x512_S1x128x512_0_0_0 ![0, 0, 0] inb_S8x128x1024_S1x128x1024_0_0_0 (Cert.Sweep.qStores arg7 harg7 0) <|
  qTileK arg2 arg7 ![0, 128, 0] inb_S1x1024x512_S1x128x512_0_128_0 ![1, 0, 0] inb_S8x128x1024_S1x128x1024_1_0_0 (Cert.Sweep.qStores arg7 harg7 1) <|
  qTileK arg2 arg7 ![0, 256, 0] inb_S1x1024x512_S1x128x512_0_256_0 ![2, 0, 0] inb_S8x128x1024_S1x128x1024_2_0_0 (Cert.Sweep.qStores arg7 harg7 2) <|
  qTileK arg2 arg7 ![0, 384, 0] inb_S1x1024x512_S1x128x512_0_384_0 ![3, 0, 0] inb_S8x128x1024_S1x128x1024_3_0_0 (Cert.Sweep.qStores arg7 harg7 3) <|
  qTileK arg2 arg7 ![0, 512, 0] inb_S1x1024x512_S1x128x512_0_512_0 ![4, 0, 0] inb_S8x128x1024_S1x128x1024_4_0_0 (Cert.Sweep.qStores arg7 harg7 4) <|
  qTileK arg2 arg7 ![0, 640, 0] inb_S1x1024x512_S1x128x512_0_640_0 ![5, 0, 0] inb_S8x128x1024_S1x128x1024_5_0_0 (Cert.Sweep.qStores arg7 harg7 5) <|
  qTileK arg2 arg7 ![0, 768, 0] inb_S1x1024x512_S1x128x512_0_768_0 ![6, 0, 0] inb_S8x128x1024_S1x128x1024_6_0_0 (Cert.Sweep.qStores arg7 harg7 6) <|
  qTileK arg2 arg7 ![0, 896, 0] inb_S1x1024x512_S1x128x512_0_896_0 ![7, 0, 0] inb_S8x128x1024_S1x128x1024_7_0_0 (Cert.Sweep.qStores arg7 harg7 7) <|
  startK arg10 arg11 <|
  scoresK arg3 arg7 arg8 ![0, 0, 0] inb_S1x8192x128_S1x512x128_0_0_0 ![0, 0, 0] inb_S8x128x1024_S1x128x1024_0_0_0 κ) := rfl

set_option maxRecDepth 65536 in
/-- The operations after the loop. -/
theorem after_loop (g : FVec F S8x1024 .f32) : (do
  let v403 : Vec F S1x512x128 .bf16 ← Prog.lift (.load arg3 (Rect.unit (s := S1x8192x128) ![0, 4608, 0] S1x512x128.size inb_S1x8192x128_S1x512x128_0_4608_0).toLoadRect (View.loadsAt_vmem h_S1x512x128))
  let v405 : Vec F S1x128x1024 .bf16 ← Prog.lift (.load arg7 (Rect.unit (s := S8x128x1024) ![7, 0, 0] S1x128x1024.size inb_S8x128x1024_S1x128x1024_7_0_0).toLoadRect (View.loadsAt_vmem h_S1x128x1024))
  let v408 : Vec F S512x1024 .f32 ← Prog.lift (.load arg9 (Rect.unit (s := S512x1024) ![0, 0] S512x1024.size inb_S512x1024_S512x1024_0_0).toLoadRect (View.loadsAt_vmem h_S512x1024))
  Prog.lift (.store arg9 (Rect.unit (s := S512x1024) ![0, 0] S512x1024.size inb_S512x1024_S512x1024_0_0) (Gen.k0_pay170 v403 v405) Finset.univ (View.stores_vmem_bits_univ h_S512x1024 rfl) (.inl rfl))
  let v413 : Vec F S1x1x1024 .f32 ← Prog.lift (.load arg10 (Rect.unit (s := S8x1x1024) ![7, 0, 0] S1x1x1024.size inb_S8x1x1024_S1x1x1024_7_0_0).toLoadRect (View.loadsAt_vmem h_S1x1x1024))
  let v420 : Vec F S512x1024 .f32 ← Prog.lift (.load arg8 (Rect.unit (s := S512x1024) ![0, 0] S512x1024.size inb_S512x1024_S512x1024_0_0).toLoadRect (View.loadsAt_vmem h_S512x1024))
  let v425 : Vec F S1x144x1024 .f32 ← Prog.lift (.load arg11 (Rect.unit (s := S8x144x1024) ![7, 0, 0] S1x144x1024.size inb_S8x144x1024_S1x144x1024_7_0_0).toLoadRect (View.loadsAt_vmem h_S1x144x1024))
  have v412 := Gen.k0_pay171 v403 v405
  have v417 := Gen.k0_pay173 g v413
  have v424 := Gen.k0_pay174 g v413 v420
  have v428 := Gen.k0_pay175 g v413 v425
  let ⟨v450, v455, v457, v460⟩ : Σ' (v450 : FVec F S8x1024 .f32) (v455 : FVec F S1x1024 .f32) (v457 : FVec F S1x1024 .f32), FVec F S512x1024 .f32 ← k0_part25 i arg2 harg2 arg3 harg3 arg4 harg4 arg5 harg5 arg6 harg6 arg7 harg7 arg8 harg8 arg9 harg9 arg10 harg10 arg11 harg11 v412 v417 v424 v428
  let ⟨v488, v490⟩ : Σ' (v488 : FVec F S8x1024 .f32), FVec F S1x1024 .f32 ← k0_part26 i arg2 harg2 arg3 harg3 arg4 harg4 arg5 harg5 arg6 harg6 arg7 harg7 arg8 harg8 arg9 harg9 arg10 harg10 arg11 harg11 v455 v457 v460
  let ⟨v521, v524⟩ : Σ' (v521 : FVec F S512x1024 .f32), FVec F S512x1024 .f32 ← k0_part27 i arg2 harg2 arg3 harg3 arg4 harg4 arg5 harg5 arg6 harg6 arg7 harg7 arg8 harg8 arg9 harg9 arg10 harg10 arg11 harg11 v450 v490
  let ⟨v526, v556⟩ : Σ' (v526 : FVec F S8x1024 .f32), FVec F S512x128 .bf16 ← k0_part28 i arg2 harg2 arg3 harg3 arg4 harg4 arg5 harg5 arg6 harg6 arg7 harg7 arg8 harg8 arg9 harg9 arg10 harg10 arg11 harg11 v488 v521 v524
  let ⟨v564, v590⟩ : Σ' (v564 : FVec F S8x1024 .f32), FVec F S1x1x1024 .f32 ← k0_part29 i arg2 harg2 arg3 harg3 arg4 harg4 arg5 harg5 arg6 harg6 arg7 harg7 arg8 harg8 arg9 harg9 arg10 harg10 arg11 harg11 v526 v556
  let ⟨v602, v607, v622⟩ : Σ' (v602 : FVec F S8x1024 .f32) (v607 : FVec F S1x1024 .f32), FVec F S144x1024 .f32 ← k0_part30 i arg2 harg2 arg3 harg3 arg4 harg4 arg5 harg5 arg6 harg6 arg7 harg7 arg8 harg8 arg9 harg9 arg10 harg10 arg11 harg11 v564 v590
  let ⟨v640, v645, v652, v656⟩ : Σ' (v640 : FVec F S8x1024 .f32) (v645 : FVec F S1x1024 .f32) (v652 : FVec F S512x1024 .bf16), FVec F S144x1024 .f32 ← k0_part31 i arg2 harg2 arg3 harg3 arg4 harg4 arg5 harg5 arg6 harg6 arg7 harg7 arg8 harg8 arg9 harg9 arg10 harg10 arg11 harg11 v602 v607 v622
  let ⟨v671, v689⟩ : Σ' (v671 : FVec F S1x1024 .f32), FVec F S1x144x1024 .f32 ← k0_part32 i arg2 harg2 arg3 harg3 arg4 harg4 arg5 harg5 arg6 harg6 arg7 harg7 arg8 harg8 arg9 harg9 arg10 harg10 arg11 harg11 v640 v645 v652 v656
  let v724 : FVec F S128x128 .bf16 ← k0_part33 i arg2 harg2 arg3 harg3 arg4 harg4 arg5 harg5 arg6 harg6 arg7 harg7 arg8 harg8 arg9 harg9 arg10 harg10 arg11 harg11 v671 v689
  let v759 : FVec F S128x128 .bf16 ← k0_part34 i arg2 harg2 arg3 harg3 arg4 harg4 arg5 harg5 arg6 harg6 arg7 harg7 arg8 harg8 arg9 harg9 arg10 harg10 arg11 harg11 v724
  k0_part35 i arg2 harg2 arg3 harg3 arg4 harg4 arg5 harg5 arg6 harg6 arg7 harg7 arg8 harg8 arg9 harg9 arg10 harg10 arg11 harg11 v759
  let v833 : Vec F S1x128x1024 .f32 ← k0_part36 i arg2 harg2 arg3 harg3 arg4 harg4 arg5 harg5 arg6 harg6 arg7 harg7 arg8 harg8 arg9 harg9 arg10 harg10 arg11 harg11
  let v869 : FVec F S128x1024 .f32 ← k0_part37 i arg2 harg2 arg3 harg3 arg4 harg4 arg5 harg5 arg6 harg6 arg7 harg7 arg8 harg8 arg9 harg9 arg10 harg10 arg11 harg11 v833
  let ⟨v904, v906⟩ : Σ' (v904 : FVec F S128x1024 .f32), FVec F S1x1024 .f32 ← k0_part38 i arg2 harg2 arg3 harg3 arg4 harg4 arg5 harg5 arg6 harg6 arg7 harg7 arg8 harg8 arg9 harg9 arg10 harg10 arg11 harg11 v869
  let v944 : FVec F S128x1024 .bf16 ← k0_part39 i arg2 harg2 arg3 harg3 arg4 harg4 arg5 harg5 arg6 harg6 arg7 harg7 arg8 harg8 arg9 harg9 arg10 harg10 arg11 harg11 v904 v906
  have v945 : FVec F S64x128 .bf16 := extractStridedSlice S64x128 ![0, 0] v944 slices_S128x1024_o0_0_S64x128
  have v946 : FVec F S64x128 .bf16 := extractStridedSlice S64x128 ![0, 128] v944 slices_S128x1024_o0_128_S64x128
  have v947 : FVec F S128x128 .bf16 := concatenate S128x128 0 [⟨S64x128, v945⟩, ⟨S64x128, v946⟩] concatenates_S64x128_S64x128_S128x128_d0
  have v948 : FVec F S128x128 .bf16 := transpose S128x128 [1, 0] v947 transposes_S128x128_p1_0_S128x128
  let c0_456 : Index := 0#32
  let c896_457 : Index := 896#32
  let c0_458 : Index := 0#32
  let v949 : Vec F S1x128x128 .bf16 ← Prog.lift (.load arg5 (Rect.unit (s := S1x1024x512) ![0, 896, 0] S1x128x128.size inb_S1x1024x512_S1x128x128_0_896_0).toLoadRect (View.loadsAt_vmem h_S1x128x128))
  have v950 : FVec F S128x128 .bf16 := shapeCast S128x128 v949 shapeCasts_S1x128x128_S128x128
  have v951 : FVec F S1x128x128 .bf16 := shapeCast S1x128x128 v948 shapeCasts_S128x128_S1x128x128
  Prog.lift (.store arg5 (Rect.unit (s := S1x1024x512) ![0, 896, 0] S1x128x128.size inb_S1x1024x512_S1x128x128_0_896_0) v951 Finset.univ (View.stores_vmem h_S1x128x128 (harg5.storeExact_slice rfl _ packedbf16_S1x1024x512_S1x128x128_0_896_0) (fun _ => rfl)) (.inl rfl))
  have v952 : FVec F S64x128 .bf16 := extractStridedSlice S64x128 ![0, 256] v944 slices_S128x1024_o0_256_S64x128
  have v953 : FVec F S64x128 .bf16 := extractStridedSlice S64x128 ![0, 384] v944 slices_S128x1024_o0_384_S64x128
  have v954 : FVec F S128x128 .bf16 := concatenate S128x128 0 [⟨S64x128, v952⟩, ⟨S64x128, v953⟩] concatenates_S64x128_S64x128_S128x128_d0
  have v955 : FVec F S128x128 .bf16 := transpose S128x128 [1, 0] v954 transposes_S128x128_p1_0_S128x128
  let c0_459 : Index := 0#32
  let c896_460 : Index := 896#32
  let c128_461 : Index := 128#32
  let v956 : Vec F S1x128x128 .bf16 ← Prog.lift (.load arg5 (Rect.unit (s := S1x1024x512) ![0, 896, 128] S1x128x128.size inb_S1x1024x512_S1x128x128_0_896_128).toLoadRect (View.loadsAt_vmem h_S1x128x128))
  have v957 : FVec F S128x128 .bf16 := shapeCast S128x128 v956 shapeCasts_S1x128x128_S128x128
  have v958 : FVec F S1x128x128 .bf16 := shapeCast S1x128x128 v955 shapeCasts_S128x128_S1x128x128
  Prog.lift (.store arg5 (Rect.unit (s := S1x1024x512) ![0, 896, 128] S1x128x128.size inb_S1x1024x512_S1x128x128_0_896_128) v958 Finset.univ (View.stores_vmem h_S1x128x128 (harg5.storeExact_slice rfl _ packedbf16_S1x1024x512_S1x128x128_0_896_128) (fun _ => rfl)) (.inl rfl))
  have v959 : FVec F S64x128 .bf16 := extractStridedSlice S64x128 ![64, 512] v944 slices_S128x1024_o64_512_S64x128
  have v960 : FVec F S64x128 .bf16 := extractStridedSlice S64x128 ![64, 640] v944 slices_S128x1024_o64_640_S64x128
  have v961 : FVec F S128x128 .bf16 := concatenate S128x128 0 [⟨S64x128, v959⟩, ⟨S64x128, v960⟩] concatenates_S64x128_S64x128_S128x128_d0
  have v962 : FVec F S128x128 .bf16 := transpose S128x128 [1, 0] v961 transposes_S128x128_p1_0_S128x128
  let c0_462 : Index := 0#32
  let c896_463 : Index := 896#32
  let c256_464 : Index := 256#32
  let v963 : Vec F S1x128x128 .bf16 ← Prog.lift (.load arg5 (Rect.unit (s := S1x1024x512) ![0, 896, 256] S1x128x128.size inb_S1x1024x512_S1x128x128_0_896_256).toLoadRect (View.loadsAt_vmem h_S1x128x128))
  have v964 : FVec F S128x128 .bf16 := shapeCast S128x128 v963 shapeCasts_S1x128x128_S128x128
  have v965 : FVec F S1x128x128 .bf16 := shapeCast S1x128x128 v962 shapeCasts_S128x128_S1x128x128
  Prog.lift (.store arg5 (Rect.unit (s := S1x1024x512) ![0, 896, 256] S1x128x128.size inb_S1x1024x512_S1x128x128_0_896_256) v965 Finset.univ (View.stores_vmem h_S1x128x128 (harg5.storeExact_slice rfl _ packedbf16_S1x1024x512_S1x128x128_0_896_256) (fun _ => rfl)) (.inl rfl))
  have v966 : FVec F S64x128 .bf16 := extractStridedSlice S64x128 ![64, 768] v944 slices_S128x1024_o64_768_S64x128
  have v967 : FVec F S64x128 .bf16 := extractStridedSlice S64x128 ![64, 896] v944 slices_S128x1024_o64_896_S64x128
  have v968 : FVec F S128x128 .bf16 := concatenate S128x128 0 [⟨S64x128, v966⟩, ⟨S64x128, v967⟩] concatenates_S64x128_S64x128_S128x128_d0
  have v969 : FVec F S128x128 .bf16 := transpose S128x128 [1, 0] v968 transposes_S128x128_p1_0_S128x128
  let c0_465 : Index := 0#32
  let c896_466 : Index := 896#32
  let c384_467 : Index := 384#32
  let v970 : Vec F S1x128x128 .bf16 ← Prog.lift (.load arg5 (Rect.unit (s := S1x1024x512) ![0, 896, 384] S1x128x128.size inb_S1x1024x512_S1x128x128_0_896_384).toLoadRect (View.loadsAt_vmem h_S1x128x128))
  have v971 : FVec F S128x128 .bf16 := shapeCast S128x128 v970 shapeCasts_S1x128x128_S128x128
  have v972 : FVec F S1x128x128 .bf16 := shapeCast S1x128x128 v969 shapeCasts_S128x128_S1x128x128
  Prog.lift (.store arg5 (Rect.unit (s := S1x1024x512) ![0, 896, 384] S1x128x128.size inb_S1x1024x512_S1x128x128_0_896_384) v972 Finset.univ (View.stores_vmem h_S1x128x128 (harg5.storeExact_slice rfl _ packedbf16_S1x1024x512_S1x128x128_0_896_384) (fun _ => rfl)) (.inl rfl)) : P F PUnit)
    = tailK arg3 arg5 harg5 arg6 arg7 arg8 arg9 arg10 arg11 g := rfl

set_option maxRecDepth 65536 in
/-- At a grid point whose second coordinate is zero the body fills the values first. -/
theorem body_fill (h : k0_cond1 i = 1#1) :
    cc0_attn_a (F := F) i arg2 harg2 arg3 harg3 arg4 harg4 arg5 harg5 arg6 harg6 arg7 harg7 arg8 harg8 arg9 harg9 arg10 harg10 arg11 harg11
      = Scf.Loop.for k0_t1_loop (k0_t1_ok i h) ⟨⟩ (fillTripK i arg4 arg6 harg6 h) >>= fun _ => restK arg2 arg3 arg5 harg5 arg6 arg7 harg7 arg8 arg9 arg10 arg11 := by
  unfold cc0_attn_a k0_part40 k0_part15
  rw [dif_pos h, Gen.k0_part24_eq_skeleton]
  unfold Gen.k0_part24_skel
  simp only [bind_assoc, trip_fun_eq]
  unfold restK
  generalize (Scf.Loop.for k0_t2_loop k0_t2_ok : FVec F S8x1024 .f32 → (Fin k0_t2_loop.trips → FVec F S8x1024 .f32 → P F (FVec F S8x1024 .f32)) → P F (FVec F S8x1024 .f32)) = L
  generalize (Scf.Loop.for k0_t1_loop (k0_t1_ok i h) : Unit → (Fin k0_t1_loop.trips → Unit → P F Unit) → P F Unit) = L'
  have e := before_loop i arg2 harg2 arg3 harg3 arg4 harg4 arg5 harg5 arg6 harg6 arg7 harg7 arg8 harg8 arg9 harg9 arg10 harg10 arg11 harg11 fun s => L (groupMax s) (tripK arg3 arg6 arg7 arg8 arg9 arg10 arg11) >>= tailK arg3 arg5 harg5 arg6 arg7 arg8 arg9 arg10 arg11
  have a : tailK (F := F) arg3 arg5 harg5 arg6 arg7 arg8 arg9 arg10 arg11 = fun g => _ := funext fun g => (after_loop i arg2 harg2 arg3 harg3 arg4 harg4 arg5 harg5 arg6 harg6 arg7 harg7 arg8 harg8 arg9 harg9 arg10 harg10 arg11 harg11 g).symm
  rw [a] at e ⊢
  simp only [bind_assoc, pure_bind] at e ⊢
  exact congrArg _ (funext fun _ => e)

set_option maxRecDepth 65536 in
/-- At the other grid points it goes straight on. -/
theorem body_skip (h : ¬ k0_cond1 i = 1#1) :
    cc0_attn_a (F := F) i arg2 harg2 arg3 harg3 arg4 harg4 arg5 harg5 arg6 harg6 arg7 harg7 arg8 harg8 arg9 harg9 arg10 harg10 arg11 harg11
      = restK arg2 arg3 arg5 harg5 arg6 arg7 harg7 arg8 arg9 arg10 arg11 := by
  unfold cc0_attn_a k0_part40 k0_part15
  rw [dif_neg h, Gen.k0_part24_eq_skeleton]
  unfold Gen.k0_part24_skel
  simp only [bind_assoc, trip_fun_eq]
  unfold restK
  generalize (Scf.Loop.for k0_t2_loop k0_t2_ok : FVec F S8x1024 .f32 → (Fin k0_t2_loop.trips → FVec F S8x1024 .f32 → P F (FVec F S8x1024 .f32)) → P F (FVec F S8x1024 .f32)) = L
  have e := before_loop i arg2 harg2 arg3 harg3 arg4 harg4 arg5 harg5 arg6 harg6 arg7 harg7 arg8 harg8 arg9 harg9 arg10 harg10 arg11 harg11 fun s => L (groupMax s) (tripK arg3 arg6 arg7 arg8 arg9 arg10 arg11) >>= tailK arg3 arg5 harg5 arg6 arg7 arg8 arg9 arg10 arg11
  have a : tailK (F := F) arg3 arg5 harg5 arg6 arg7 arg8 arg9 arg10 arg11 = fun g => _ := funext fun g => (after_loop i arg2 harg2 arg3 harg3 arg4 harg4 arg5 harg5 arg6 harg6 arg7 harg7 arg8 harg8 arg9 harg9 arg10 harg10 arg11 harg11 g).symm
  rw [a] at e ⊢
  simp only [bind_assoc, pure_bind] at e ⊢
  exact e

end Program

end Cert.KernelIdeal.Run

end
-- ==== Proof.Run.lean ====
/-
  The rule of the kernel's body: from a query block, the keys and the transposed values to the output block.
-/
module

public import proofs.«01_k».proof.Proof.Body

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts
open Cert.Sweep (scoresK updateK qTileK vTileK outTileK startK groupMax stageScore Inv QDone VDone ODone held fold startMax startAcc qAll vAll outAll stored)

/-! ## The offsets of the loop's accesses -/

theorem off4 : ∀ (k : Fin k0_t2_loop.trips) (r : Fin 5) (s : Fin 2),
    k0_off4 k (BitVec.ofNat 32 (2 * r.val)) (BitVec.ofNat 32 (1 + s.val)) = ![0, (10 * k.val + 2 * r.val + s.val + 1) % 16 * 512, 0] := by decide +kernel
theorem off5 : ∀ (k : Fin k0_t2_loop.trips) (r : Fin 5) (s : Fin 2),
    k0_off5 k (BitVec.ofNat 32 (2 * r.val)) (BitVec.ofNat 32 (1 + s.val)) = ![(10 * k.val + 2 * r.val + s.val + 1) / 16 % 8, 0, 0] := by decide +kernel
theorem off6 : ∀ (k : Fin k0_t2_loop.trips) (r : Fin 5), k0_off6 k (BitVec.ofNat 32 (2 * r.val)) = ![(10 * k.val + 2 * r.val) / 16 % 8, 0, 0] := by decide +kernel
theorem off7 : ∀ (k : Fin k0_t2_loop.trips) (r : Fin 5), k0_off7 k (BitVec.ofNat 32 (2 * r.val)) = ![(10 * k.val + 2 * r.val) / 16 % 8, 0, 0] := by decide +kernel
theorem off8 : ∀ (k : Fin k0_t2_loop.trips) (r : Fin 5), k0_off8 k (BitVec.ofNat 32 (2 * r.val)) = ![(10 * k.val + 2 * r.val) % 16, 0, 0] := by decide +kernel
theorem off9 : ∀ (k : Fin k0_t2_loop.trips) (r : Fin 5), k0_off9 k (BitVec.ofNat 32 (2 * r.val)) = ![(10 * k.val + 2 * r.val + 1) / 16 % 8, 0, 0] := by decide +kernel
theorem off10 : ∀ (k : Fin k0_t2_loop.trips) (r : Fin 5), k0_off10 k (BitVec.ofNat 32 (2 * r.val)) = ![(10 * k.val + 2 * r.val + 1) / 16 % 8, 0, 0] := by decide +kernel
theorem off11 : ∀ (k : Fin k0_t2_loop.trips) (r : Fin 5), k0_off11 k (BitVec.ofNat 32 (2 * r.val)) = ![(10 * k.val + 2 * r.val + 1) % 16, 0, 0] := by decide +kernel
theorem off1 : ∀ k : Fin k0_t1_loop.trips, k0_off1 k = ![0, k.val * 512, 0] := by decide +kernel
theorem off2 : ∀ k : Fin k0_t1_loop.trips, k0_off2 k = ![k.val, 0, 0] := by decide +kernel
theorem off3 : ∀ k : Fin k0_t1_loop.trips, k0_off3 k = ![k.val, 128, 0] := by decide +kernel

section Rules

variable {Ix : Type} [DecidableEq Ix] {F : FTy → Type} [FloatOps F] {Name : Type} [DecidableEq Name] {U : Type} [URA U] {Lvl : Type} [Preorder Lvl]

local notation "𝕄" => MT nD τ sig Ix (Elt F) Name U Lvl

variable (defs : Defs nD τ sig (Elt F) Λ₀) (𝒱 : Variants) (c : Dev nD) (bd : Option 𝒱.V) (E : Set Name)
variable (i : grid0.Coords) (arg2 : Memref sig .tc .vmem S1x1024x512 .bf16) (harg2 : arg2.IsWhole) (arg3 : Memref sig .tc .vmem S1x8192x128 .bf16) (harg3 : arg3.IsWhole)
  (arg4 : Memref sig .tc .vmem S1x8192x128 .bf16) (harg4 : arg4.IsWhole) (arg5 : Memref sig .tc .vmem S1x1024x512 .bf16) (harg5 : arg5.IsWhole)
  (arg6 : Memref sig .tc .vmem S16x144x512 .bf16) (harg6 : arg6.IsWhole) (arg7 : Memref sig .tc .vmem S8x128x1024 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S8x1x1024 .f32) (harg10 : arg10.IsWhole) (arg11 : Memref sig .tc .vmem S8x144x1024 .f32) (harg11 : arg11.IsWhole)
variable (K : Vec F S1x8192x128 .bf16) (Qt : Vec F S8x128x1024 .bf16) (V : Vec F S16x144x512 .bf16)

/-- The sweep's invariant on the kernel's buffers. -/
abbrev Sw (n : ℕ) (b b' : Memref sig .tc .vmem S512x1024 .f32) : sProp 𝕄 :=
  Inv c arg3 arg7 arg6 arg10 arg11 K Qt V (startMax (F := F)) (startAcc (F := F)) n b b'

/-- Two stages of a trip. -/
theorem pair_rule {β : Type} (k : Fin k0_t2_loop.trips) (r : Fin 5) (n : ℕ) (hn : n = 10 * k.val + 2 * r.val) (κ : FVec F S8x1024 .f32 → P F β) (Q : β → sProp 𝕄) (R : sProp 𝕄)
    (hκ : iprop(Sw c arg3 arg6 arg7 arg10 arg11 K Qt V (n + 2) arg8 arg9 ∗ R) ⊢ wp frame (wpE defs 𝒱 (c : Thread nD τ) bd) E (κ (groupMax (stageScore K Qt (n + 2)))) Q) :
    iprop(Sw c arg3 arg6 arg7 arg10 arg11 K Qt V n arg8 arg9 ∗ R)
      ⊢ wp frame (wpE defs 𝒱 (c : Thread nD τ) bd) E (pairK arg3 arg6 arg7 arg8 arg9 arg10 arg11 k r (groupMax (stageScore K Qt n)) κ) Q := by
  subst hn
  unfold pairK
  refine Cert.Sweep.stage_rule defs 𝒱 c bd E arg3 arg7 arg6 arg10 arg11 K Qt V _ _ arg8 arg9 _ (off4 k r 0) (off5 k r 0) (off6 k r) (off7 k r) (off8 k r) _ Q R ?_
  exact Cert.Sweep.stage_rule defs 𝒱 c bd E arg3 arg7 arg6 arg10 arg11 K Qt V _ _ arg9 arg8 _ (off4 k r 1) (off5 k r 1) (off9 k r) (off10 k r) (off11 k r) _ Q R hκ

/-- A trip: ten stages; the chunk's maxima are handed on. -/
theorem trip_rule (k : Fin k0_t2_loop.trips) :
    Sw c arg3 arg6 arg7 arg10 arg11 K Qt V (10 * k.val) arg8 arg9
      ⊢ wp frame (wpE defs 𝒱 (c : Thread nD τ) bd) E (tripK arg3 arg6 arg7 arg8 arg9 arg10 arg11 k (groupMax (stageScore K Qt (10 * k.val))))
        fun acc => (iprop(⌜acc = groupMax (stageScore K Qt (10 * (k.val + 1)))⌝ ∗ Sw c arg3 arg6 arg7 arg10 arg11 K Qt V (10 * (k.val + 1)) arg8 arg9) : sProp 𝕄) := by
  refine BIBase.Entails.trans (Q := iprop(Sw c arg3 arg6 arg7 arg10 arg11 K Qt V (10 * k.val) arg8 arg9 ∗ emp)) ?_ ?_
  · iintro H; isplitl [H]; · iexact H
    iempintro
  unfold tripK
  refine pair_rule defs 𝒱 c bd E arg3 arg6 arg7 arg8 arg9 arg10 arg11 K Qt V k 0 _ rfl _ _ _ ?_
  refine pair_rule defs 𝒱 c bd E arg3 arg6 arg7 arg8 arg9 arg10 arg11 K Qt V k 1 _ rfl _ _ _ ?_
  refine pair_rule defs 𝒱 c bd E arg3 arg6 arg7 arg8 arg9 arg10 arg11 K Qt V k 2 _ rfl _ _ _ ?_
  refine pair_rule defs 𝒱 c bd E arg3 arg6 arg7 arg8 arg9 arg10 arg11 K Qt V k 3 _ rfl _ _ _ ?_
  refine pair_rule defs 𝒱 c bd E arg3 arg6 arg7 arg8 arg9 arg10 arg11 K Qt V k 4 _ rfl _ _ _ ?_
  rw [wp_ret]
  iintro ⟨H, _⟩
  imodintro
  isplitr [H]
  · ipureintro; rfl
  · iexact H

/-- What the body leaves, but for the scratch that is rewritten at every point. -/
def After (X : Vec F S1x1024x512 .bf16) : sProp 𝕄 :=
  iprop(held c arg2 X ∗ held c arg3 K ∗ held c arg5 (outAll (F := F) (fold K (qAll (F := F) X) V (startMax (F := F)) (startAcc (F := F)) 128).2) ∗ held c arg6 V
    ∗ (∃ T, held c arg7 T) ∗ (∃ T, held c arg8 T) ∗ (∃ T, held c arg9 T) ∗ (∃ T, held c arg10 T) ∗ (∃ T, held c arg11 T))

/-- The output tiles. -/
theorem outs_rule (A : Vec F S8x144x1024 .f32) (Q : PUnit → sProp 𝕄) (R : sProp 𝕄)
    (hκ : iprop(held c arg5 (outAll (F := F) A) ∗ held c arg11 A ∗ R) ⊢ Q ⟨⟩) :
    iprop((∃ T, held c arg5 T) ∗ held c arg11 A ∗ R) ⊢ wp frame (wpE defs 𝒱 (c : Thread nD τ) bd) E (
      outTileK arg11 arg5 harg5 0 <|
      outTileK arg11 arg5 harg5 1 <|
      outTileK arg11 arg5 harg5 2 <|
      outTileK arg11 arg5 harg5 3 <|
      outTileK arg11 arg5 harg5 4 <|
      outTileK arg11 arg5 harg5 5 <|
      outTileK arg11 arg5 harg5 6 <|
      outTileK arg11 arg5 harg5 7 <|
      (.ret ⟨⟩ : P F PUnit)) Q := by
  refine BIBase.Entails.trans (Q := iprop(ODone c arg5 A (4 * (0 : Fin 8).val) ∗ held c arg11 A ∗ R)) ?_ ?_
  · iintro ⟨⟨%T, HT⟩, HA, HR⟩
    isplitl [HT]
    · unfold ODone
      iexists T
      isplitr [HT]; swap; · iexact HT
      ipureintro
      intro y hy
      exact absurd hy (Nat.not_lt_zero _)
    isplitl [HA]; · iexact HA
    iexact HR
  refine Cert.Sweep.outTile_rule defs 𝒱 c bd E arg11 arg5 harg5 _ 0 _ Q R ?_
  refine Cert.Sweep.outTile_rule defs 𝒱 c bd E arg11 arg5 harg5 _ 1 _ Q R ?_
  refine Cert.Sweep.outTile_rule defs 𝒱 c bd E arg11 arg5 harg5 _ 2 _ Q R ?_
  refine Cert.Sweep.outTile_rule defs 𝒱 c bd E arg11 arg5 harg5 _ 3 _ Q R ?_
  refine Cert.Sweep.outTile_rule defs 𝒱 c bd E arg11 arg5 harg5 _ 4 _ Q R ?_
  refine Cert.Sweep.outTile_rule defs 𝒱 c bd E arg11 arg5 harg5 _ 5 _ Q R ?_
  refine Cert.Sweep.outTile_rule defs 𝒱 c bd E arg11 arg5 harg5 _ 6 _ Q R ?_
  refine Cert.Sweep.outTile_rule defs 𝒱 c bd E arg11 arg5 harg5 _ 7 _ Q R ?_
  rw [wp_ret]
  unfold ODone
  iintro ⟨⟨%T, %hT, HT⟩, HA, HR⟩
  have e : T = outAll (F := F) A := by
    funext y
    refine hT y ?_
    have h1 : (y 1).val < 1024 := (y 1).isLt
    have h2 : (y 2).val < 512 := (y 2).isLt
    show 4 * ((y 1).val / 128) + (y 2).val / 128 < 32
    omega
  rw [e]
  imodintro
  iapply hκ
  isplitl [HT]; · iexact HT
  isplitl [HA]; · iexact HA
  iexact HR

/-- What the last stages and the output tiles leave. -/
def Swept : sProp 𝕄 :=
  iprop(held c arg3 K ∗ held c arg7 Qt ∗ held c arg6 V ∗ held c arg5 (outAll (F := F) (fold K Qt V (startMax (F := F)) (startAcc (F := F)) 128).2)
    ∗ (∃ T, held c arg8 T) ∗ (∃ T, held c arg9 T) ∗ (∃ T, held c arg10 T) ∗ (∃ T, held c arg11 T))

/-- The last eight stages and the output tiles. -/
theorem tail_rule (Q : PUnit → sProp 𝕄) :
    iprop(Sw c arg3 arg6 arg7 arg10 arg11 K Qt V 120 arg8 arg9 ∗ (∃ T, held c arg5 T) ∗ (Swept c arg3 arg5 arg6 arg7 arg8 arg9 arg10 arg11 K Qt V -∗ Q ⟨⟩))
      ⊢ wp frame (wpE defs 𝒱 (c : Thread nD τ) bd) E (tailK arg3 arg5 harg5 arg6 arg7 arg8 arg9 arg10 arg11 (groupMax (stageScore K Qt 120))) Q := by
  unfold tailK
  refine Cert.Sweep.stage_rule defs 𝒱 c bd E arg3 arg7 arg6 arg10 arg11 K Qt V _ _ arg8 arg9 120 rfl rfl rfl rfl rfl _ Q _ ?_
  refine Cert.Sweep.stage_rule defs 𝒱 c bd E arg3 arg7 arg6 arg10 arg11 K Qt V _ _ arg9 arg8 121 rfl rfl rfl rfl rfl _ Q _ ?_
  refine Cert.Sweep.stage_rule defs 𝒱 c bd E arg3 arg7 arg6 arg10 arg11 K Qt V _ _ arg8 arg9 122 rfl rfl rfl rfl rfl _ Q _ ?_
  refine Cert.Sweep.stage_rule defs 𝒱 c bd E arg3 arg7 arg6 arg10 arg11 K Qt V _ _ arg9 arg8 123 rfl rfl rfl rfl rfl _ Q _ ?_
  refine Cert.Sweep.stage_rule defs 𝒱 c bd E arg3 arg7 arg6 arg10 arg11 K Qt V _ _ arg8 arg9 124 rfl rfl rfl rfl rfl _ Q _ ?_
  refine Cert.Sweep.stage_rule defs 𝒱 c bd E arg3 arg7 arg6 arg10 arg11 K Qt V _ _ arg9 arg8 125 rfl rfl rfl rfl rfl _ Q _ ?_
  refine Cert.Sweep.stage_rule defs 𝒱 c bd E arg3 arg7 arg6 arg10 arg11 K Qt V _ _ arg8 arg9 126 rfl rfl rfl rfl rfl _ Q _ ?_
  unfold Cert.Sweep.Inv
  iintro ⟨⟨HK, HQ, HV, HB, HB', HM, HA⟩, HO, Hk⟩
  iapply (Cert.Sweep.update_rule defs 𝒱 c bd E arg6 arg10 arg11 K Qt V _ _ arg9 127 rfl rfl rfl _ Q)
  isplitl [HV]; · iexact HV
  isplitl [HB]; · iexact HB
  isplitl [HM]; · iexact HM
  isplitl [HA]; · iexact HA
  iintro HV HB HM HA
  iapply (outs_rule defs 𝒱 c bd E arg5 harg5 arg11 _ Q
    iprop(held c arg3 K ∗ held c arg7 Qt ∗ held c arg6 V ∗ (∃ T, held c arg8 T) ∗ (∃ T, held c arg9 T) ∗ (∃ T, held c arg10 T)
      ∗ (Swept c arg3 arg5 arg6 arg7 arg8 arg9 arg10 arg11 K Qt V -∗ Q ⟨⟩)) ?_)
  · unfold Swept
    iintro ⟨HO, HA, HK, HQ, HV, H8, H9, HM, Hk⟩
    iapply Hk
    isplitl [HK]; · iexact HK
    isplitl [HQ]; · iexact HQ
    isplitl [HV]; · iexact HV
    isplitl [HO]; · iexact HO
    isplitl [H8]; · iexact H8
    isplitl [H9]; · iexact H9
    isplitl [HM]; · iexact HM
    iexists _; iexact HA
  isplitl [HO]; · iexact HO
  isplitl [HA]; · iexact HA
  isplitl [HK]; · iexact HK
  isplitl [HQ]; · iexact HQ
  isplitl [HV]; · iexact HV
  isplitl [HB']; · iexact HB'
  isplitl [HB]; · iexists _; iexact HB
  isplitl [HM]; · iexists _; iexact HM
  iexact Hk

/-- The scratch buffers rewritten at every point. -/
def Scratch : sProp 𝕄 :=
  iprop((∃ T, held c arg7 T) ∗ (∃ T, held c arg8 T) ∗ (∃ T, held c arg9 T) ∗ (∃ T, held c arg10 T) ∗ (∃ T, held c arg11 T))

/-- The body after the values' fill: from a query block, the keys and the transposed values to the output block. -/
theorem rest_rule (X : Vec F S1x1024x512 .bf16) (Q : PUnit → sProp 𝕄) :
    iprop(held c arg2 X ∗ held c arg3 K ∗ (∃ T, held c arg5 T) ∗ held c arg6 V ∗ Scratch c arg7 arg8 arg9 arg10 arg11
      ∗ (After c arg2 arg3 arg5 arg6 arg7 arg8 arg9 arg10 arg11 K V X -∗ Q ⟨⟩))
      ⊢ wp frame (wpE defs 𝒱 (c : Thread nD τ) bd) E (restK arg2 arg3 arg5 harg5 arg6 arg7 harg7 arg8 arg9 arg10 arg11) Q := by
  refine BIBase.Entails.trans (Q := iprop(QDone c arg2 arg7 X 0 ∗ (held c arg3 K ∗ (∃ T, held c arg5 T) ∗ held c arg6 V ∗ (∃ T, held c arg8 T) ∗ (∃ T, held c arg9 T) ∗ (∃ T, held c arg10 T)
      ∗ (∃ T, held c arg11 T) ∗ (After c arg2 arg3 arg5 arg6 arg7 arg8 arg9 arg10 arg11 K V X -∗ Q ⟨⟩)))) ?_ ?_
  · unfold Scratch QDone
    iintro ⟨HX, HK, HO, HV, ⟨⟨%T, H7⟩, H8, H9, H10, H11⟩, Hk⟩
    isplitl [HX H7]
    · isplitl [HX]; · iexact HX
      iexists T
      isplitr [H7]; swap; · iexact H7
      ipureintro
      intro y hy
      exact absurd hy (Nat.not_lt_zero _)
    isplitl [HK]; · iexact HK
    isplitl [HO]; · iexact HO
    isplitl [HV]; · iexact HV
    isplitl [H8]; · iexact H8
    isplitl [H9]; · iexact H9
    isplitl [H10]; · iexact H10
    isplitl [H11]; · iexact H11
    iexact Hk
  unfold restK
  refine Cert.Sweep.qTile_rule defs 𝒱 c bd E arg2 arg7 X 0 (by decide) rfl rfl _ Q _ ?_
  refine Cert.Sweep.qTile_rule defs 𝒱 c bd E arg2 arg7 X 1 (by decide) rfl rfl _ Q _ ?_
  refine Cert.Sweep.qTile_rule defs 𝒱 c bd E arg2 arg7 X 2 (by decide) rfl rfl _ Q _ ?_
  refine Cert.Sweep.qTile_rule defs 𝒱 c bd E arg2 arg7 X 3 (by decide) rfl rfl _ Q _ ?_
  refine Cert.Sweep.qTile_rule defs 𝒱 c bd E arg2 arg7 X 4 (by decide) rfl rfl _ Q _ ?_
  refine Cert.Sweep.qTile_rule defs 𝒱 c bd E arg2 arg7 X 5 (by decide) rfl rfl _ Q _ ?_
  refine Cert.Sweep.qTile_rule defs 𝒱 c bd E arg2 arg7 X 6 (by decide) rfl rfl _ Q _ ?_
  refine Cert.Sweep.qTile_rule defs 𝒱 c bd E arg2 arg7 X 7 (by decide) rfl rfl _ Q _ ?_
  unfold QDone
  iintro ⟨⟨HX, ⟨%T, %hT, H7⟩⟩, HK, HO, HV, H8, H9, H10, H11, Hk⟩
  have e : T = qAll (F := F) X := funext fun y => hT y (y 0).isLt
  rw [e]
  iapply (Cert.Sweep.start_rule defs 𝒱 c bd E arg10 arg11 _ Q iprop(held c arg2 X ∗ held c arg7 (qAll (F := F) X) ∗ held c arg3 K ∗ (∃ T, held c arg5 T) ∗ held c arg6 V ∗ (∃ T, held c arg8 T) ∗ (∃ T, held c arg9 T)
      ∗ (After c arg2 arg3 arg5 arg6 arg7 arg8 arg9 arg10 arg11 K V X -∗ Q ⟨⟩)) ?_)
  · iintro ⟨HM, HA, HX, H7, HK, HO, HV, ⟨%Y, H8⟩, H9, Hk⟩
    iapply (Cert.Sweep.scores_rule defs 𝒱 c bd E arg3 arg7 K (qAll (F := F) X) arg8 0 rfl rfl _ Y Q)
    isplitl [HK]; · iexact HK
    isplitl [H7]; · iexact H7
    isplitl [H8]; · iexact H8
    iintro HK H7 H8
    iapply (Scf.wp_for_bind frame (wpE defs 𝒱 (c : Thread nD τ) bd) E _ _ _ k0_t2_ok (groupMax (stageScore K (qAll (F := F) X) 0)) (tripK arg3 arg6 arg7 arg8 arg9 arg10 arg11)
      (fun k acc => iprop(⌜acc = groupMax (stageScore K (qAll (F := F) X) (10 * k))⌝ ∗ Sw c arg3 arg6 arg7 arg10 arg11 K (qAll (F := F) X) V (10 * k) arg8 arg9)) ?_) $$ [HK H7 H8 H9 HV HM HA]
    · intro k acc
      iintro ⟨%h, H⟩
      subst h
      iapply (trip_rule defs 𝒱 c bd E arg3 arg6 arg7 arg8 arg9 arg10 arg11 K (qAll (F := F) X) V k) $$ H
    · isplitr [HK H7 H8 H9 HV HM HA]
      · ipureintro; rfl
      unfold Sw Cert.Sweep.Inv
      isplitl [HK]; · iexact HK
      isplitl [H7]; · iexact H7
      isplitl [HV]; · iexact HV
      isplitl [H8]; · iexact H8
      isplitl [H9]; · iexact H9
      isplitl [HM]; · iexact HM
      iexact HA
    iintro %acc ⟨%h, H⟩
    subst h
    iapply (tail_rule defs 𝒱 c bd E arg3 arg5 harg5 arg6 arg7 arg8 arg9 arg10 arg11 K (qAll (F := F) X) V Q)
    isplitl [H]; · iexact H
    isplitl [HO]; · iexact HO
    unfold Swept After
    iintro ⟨HK, H7, HV, HO, H8, H9, HM, HA⟩
    iapply Hk
    isplitl [HX]; · iexact HX
    isplitl [HK]; · iexact HK
    isplitl [HO]; · iexact HO
    isplitl [HV]; · iexact HV
    isplitl [H7]; · iexists _; iexact H7
    isplitl [H8]; · iexact H8
    isplitl [H9]; · iexact H9
    isplitl [HM]; · iexact HM
    iexact HA
  isplitl [H10]; · iexact H10
  isplitl [H11]; · iexact H11
  isplitl [HX]; · iexact HX
  isplitl [H7]; · iexact H7
  isplitl [HK]; · iexact HK
  isplitl [HO]; · iexact HO
  isplitl [HV]; · iexact HV
  isplitl [H8]; · iexact H8
  isplitl [H9]; · iexact H9
  iexact Hk

/-- The values' fill: the transposed values, from the value block. -/
theorem fill_rule (h : k0_cond1 i = 1#1) (W : Vec F S1x8192x128 .bf16) (T : Vec F S16x144x512 .bf16) {β : Type} (kk : Unit → P F β) (Q : β → sProp 𝕄) :
    iprop(held c arg4 W ∗ held c arg6 T ∗ (held c arg4 W -∗ held c arg6 (vAll (F := F) W) -∗ wp frame (wpE defs 𝒱 (c : Thread nD τ) bd) E (kk ⟨⟩) Q))
      ⊢ wp frame (wpE defs 𝒱 (c : Thread nD τ) bd) E (Scf.Loop.for k0_t1_loop (k0_t1_ok i h) ⟨⟩ (fillTripK i arg4 arg6 harg6 h) >>= kk) Q := by
  iintro ⟨HW, HT, Hk⟩
  iapply (Scf.wp_for_bind frame (wpE defs 𝒱 (c : Thread nD τ) bd) E _ _ _ (k0_t1_ok i h) () (fillTripK i arg4 arg6 harg6 h)
    (fun k _ => VDone c arg4 arg6 W k) ?_) $$ [HW HT]
  · intro k _
    refine Cert.Sweep.vTile_rule defs 𝒱 c bd E arg4 arg6 W k.val k.isLt (off1 k) (off2 k) (off3 k) _ _ ?_
    rw [wp_ret]
    iintro H
    imodintro
    iexact H
  · unfold VDone
    isplitl [HW]; · iexact HW
    iexists T
    isplitr [HT]; swap; · iexact HT
    ipureintro
    intro y hy
    exact absurd hy (Nat.not_lt_zero _)
  iintro %acc H
  unfold VDone
  icases H with ⟨HW, ⟨%T', %hT, HT⟩⟩
  have e : T' = vAll (F := F) W := funext fun y => hT y (y 0).isLt
  rw [e]
  iapply Hk $$ HW HT

/-- The transposed values a point runs on: its own value block's where it fills them, else those left by the points before. -/
def valuesAt (W : Vec F S1x8192x128 .bf16) (V : Vec F S16x144x512 .bf16) : Vec F S16x144x512 .bf16 :=
  if k0_cond1 i = 1#1 then vAll (F := F) W else V

/-- The rule of the whole body at a grid point. -/
theorem body_rule (X : Vec F S1x1024x512 .bf16) (W : Vec F S1x8192x128 .bf16) (Q : PUnit → sProp 𝕄) :
    iprop(held c arg2 X ∗ held c arg3 K ∗ held c arg4 W ∗ (∃ T, held c arg5 T) ∗ held c arg6 V ∗ Scratch c arg7 arg8 arg9 arg10 arg11
      ∗ (held c arg4 W -∗ After c arg2 arg3 arg5 arg6 arg7 arg8 arg9 arg10 arg11 K (valuesAt i W V) X -∗ Q ⟨⟩))
      ⊢ wp frame (wpE defs 𝒱 (c : Thread nD τ) bd) E (cc0_attn_a (F := F) i arg2 harg2 arg3 harg3 arg4 harg4 arg5 harg5 arg6 harg6 arg7 harg7 arg8 harg8 arg9 harg9 arg10 harg10 arg11 harg11) Q := by
  by_cases h : k0_cond1 i = 1#1
  · rw [body_fill i arg2 harg2 arg3 harg3 arg4 harg4 arg5 harg5 arg6 harg6 arg7 harg7 arg8 harg8 arg9 harg9 arg10 harg10 arg11 harg11 h]
    unfold valuesAt
    rw [if_pos h]
    iintro ⟨HX, HK, HW, HO, HV, HS, Hk⟩
    iapply (fill_rule defs 𝒱 c bd E i arg4 arg6 harg6 h W V _ Q)
    isplitl [HW]; · iexact HW
    isplitl [HV]; · iexact HV
    iintro HW HV
    iapply (rest_rule defs 𝒱 c bd E arg2 arg3 arg5 harg5 arg6 arg7 harg7 arg8 arg9 arg10 arg11 K (vAll (F := F) W) X Q)
    isplitl [HX]; · iexact HX
    isplitl [HK]; · iexact HK
    isplitl [HO]; · iexact HO
    isplitl [HV]; · iexact HV
    isplitl [HS]; · iexact HS
    iintro HA
    iapply Hk $$ HW HA
  · rw [body_skip i arg2 harg2 arg3 harg3 arg4 harg4 arg5 harg5 arg6 harg6 arg7 harg7 arg8 harg8 arg9 harg9 arg10 harg10 arg11 harg11 h]
    unfold valuesAt
    rw [if_neg h]
    iintro ⟨HX, HK, HW, HO, HV, HS, Hk⟩
    iapply (rest_rule defs 𝒱 c bd E arg2 arg3 arg5 harg5 arg6 arg7 harg7 arg8 arg9 arg10 arg11 K V X Q)
    isplitl [HX]; · iexact HX
    isplitl [HK]; · iexact HK
    isplitl [HO]; · iexact HO
    isplitl [HV]; · iexact HV
    isplitl [HS]; · iexact HS
    iintro HA
    iapply Hk $$ HW HA

/-- The rule of any program that is the body. -/
theorem rule_of_eq (prog : P F PUnit) (hprog : prog = cc0_attn_a (F := F) i arg2 harg2 arg3 harg3 arg4 harg4 arg5 harg5 arg6 harg6 arg7 harg7 arg8 harg8 arg9 harg9 arg10 harg10 arg11 harg11)
    (X : Vec F S1x1024x512 .bf16) (W : Vec F S1x8192x128 .bf16) (Q : PUnit → sProp 𝕄) :
    iprop(held c arg2 X ∗ held c arg3 K ∗ held c arg4 W ∗ (∃ T, held c arg5 T) ∗ held c arg6 V ∗ Scratch c arg7 arg8 arg9 arg10 arg11
      ∗ (held c arg4 W -∗ After c arg2 arg3 arg5 arg6 arg7 arg8 arg9 arg10 arg11 K (valuesAt i W V) X -∗ Q ⟨⟩))
      ⊢ wp frame (wpE defs 𝒱 (c : Thread nD τ) bd) E prog Q := by
  rw [hprog]
  exact body_rule defs 𝒱 c bd E i arg2 harg2 arg3 harg3 arg4 harg4 arg5 harg5 arg6 harg6 arg7 harg7 arg8 harg8 arg9 harg9 arg10 harg10 arg11 harg11 K V X W Q

end Rules

end Cert.KernelIdeal.Run

end
-- ==== Proof.KernelBody.lean ====
/-
  The rule of the kernel's body, for the kernel as printed: its body is the one the rule was proved of.
-/
module

public import proofs.«01_k».proof.Proof.Run
public import proofs.«01_k».proof.Proof.Gen.Kernel.Launch

@[expose] public section

set_option maxRecDepth 65536

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sweep (held fold startMax startAcc qAll vAll outAll)

variable {Ix : Type} [DecidableEq Ix] {F : FTy → Type} [FloatOps F] {Name : Type} [DecidableEq Name] {U : Type} [URA U] {Lvl : Type} [Preorder Lvl]

local notation "𝕄" => MT nD τ sig Ix (Elt F) Name U Lvl

/-- The two programs have one body. -/
theorem same_body : @Cert.Kernel.cc0_attn_a F _ _ = @Cert.KernelIdeal.cc0_attn_a F _ _ := rfl

variable (defs : Defs nD τ sig (Elt F) Λ₀) (𝒱 : Variants) (c : Dev nD) (bd : Option 𝒱.V) (E : Set Name)
variable (i : grid0.Coords) (arg2 : Memref sig .tc .vmem S1x1024x512 .bf16) (harg2 : arg2.IsWhole) (arg3 : Memref sig .tc .vmem S1x8192x128 .bf16) (harg3 : arg3.IsWhole)
  (arg4 : Memref sig .tc .vmem S1x8192x128 .bf16) (harg4 : arg4.IsWhole) (arg5 : Memref sig .tc .vmem S1x1024x512 .bf16) (harg5 : arg5.IsWhole)
  (arg6 : Memref sig .tc .vmem S16x144x512 .bf16) (harg6 : arg6.IsWhole) (arg7 : Memref sig .tc .vmem S8x128x1024 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S8x1x1024 .f32) (harg10 : arg10.IsWhole) (arg11 : Memref sig .tc .vmem S8x144x1024 .f32) (harg11 : arg11.IsWhole)
variable (K : Vec F S1x8192x128 .bf16) (V : Vec F S16x144x512 .bf16)

/-- The buffers the body fills for itself at every point, each at some contents. -/
def Scratch : sProp 𝕄 :=
  iprop((∃ T, held c arg7 T) ∗ (∃ T, held c arg8 T) ∗ (∃ T, held c arg9 T) ∗ (∃ T, held c arg10 T) ∗ (∃ T, held c arg11 T))

/-- What the body leaves in its buffers, the value block apart. -/
def After (X : Vec F S1x1024x512 .bf16) : sProp 𝕄 :=
  iprop(held c arg2 X ∗ held c arg3 K ∗ held c arg5 (outAll (F := F) (fold K (qAll (F := F) X) V (startMax (F := F)) (startAcc (F := F)) 128).2) ∗ held c arg6 V
    ∗ (∃ T, held c arg7 T) ∗ (∃ T, held c arg8 T) ∗ (∃ T, held c arg9 T) ∗ (∃ T, held c arg10 T) ∗ (∃ T, held c arg11 T))

/-- The transposed values a point runs on: its own value block's where it fills them, else those left by the points before. -/
def valuesAt (W : Vec F S1x8192x128 .bf16) (V : Vec F S16x144x512 .bf16) : Vec F S16x144x512 .bf16 :=
  if k0_cond1 i = 1#1 then vAll (F := F) W else V

set_option maxHeartbeats 1600000 in
/-- The rule of the whole body at a grid point. -/
theorem body_rule (X : Vec F S1x1024x512 .bf16) (W : Vec F S1x8192x128 .bf16) (Q : PUnit → sProp 𝕄) :
    iprop(held c arg2 X ∗ held c arg3 K ∗ held c arg4 W ∗ (∃ T, held c arg5 T) ∗ held c arg6 V ∗ Scratch c arg7 arg8 arg9 arg10 arg11
      ∗ (held c arg4 W -∗ After c arg2 arg3 arg5 arg6 arg7 arg8 arg9 arg10 arg11 K (valuesAt i W V) X -∗ Q ⟨⟩))
      ⊢ wp frame (wpE defs 𝒱 (c : Thread nD τ) bd) E (cc0_attn_a (F := F) i arg2 harg2 arg3 harg3 arg4 harg4 arg5 harg5 arg6 harg6 arg7 harg7 arg8 harg8 arg9 harg9 arg10 harg10 arg11 harg11) Q := by
  exact Cert.KernelIdeal.Run.rule_of_eq defs 𝒱 c bd E i arg2 harg2 arg3 harg3 arg4 harg4 arg5 harg5 arg6 harg6 arg7 harg7 arg8 harg8 arg9 harg9 arg10 harg10 arg11 harg11 K V
    (cc0_attn_a (F := F) i arg2 harg2 arg3 harg3 arg4 harg4 arg5 harg5 arg6 harg6 arg7 harg7 arg8 harg8 arg9 harg9 arg10 harg10 arg11 harg11)
    (by rw [same_body]) X W Q

end Cert.Kernel.Run

end
-- ==== Proof.DiffTiles.lean ====
/-
  The tiles of the differential attention: a query tile holds one head pair, its first head in the rows of the first key head and its
  second in those of the second. An output tile is the first head's quotient less `lam` times the second's, normalized over its rows.
-/
module

public import proofs.«01_k».proof.Proof.Tiles

@[expose] public section

noncomputable section

namespace Cert.DiffSweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Sweep

abbrev S1 : Shape := ⟨1, ![1]⟩
abbrev S512 : Shape := ⟨1, ![512]⟩
abbrev S1x1 : Shape := ⟨2, ![1, 1]⟩
abbrev S1x64 : Shape := ⟨2, ![1, 64]⟩
abbrev S4x64 : Shape := ⟨2, ![4, 64]⟩
abbrev S128x1 : Shape := ⟨2, ![128, 1]⟩
abbrev S1x512 : Shape := ⟨2, ![1, 512]⟩
abbrev S32x512 : Shape := ⟨2, ![32, 512]⟩
abbrev S1x4096x128 : Shape := ⟨3, ![1, 4096, 128]⟩

section Pure

variable {F : FTy → Type} [FloatOps F]

/-- A block of 32 zero rows. -/
def zeros : FVec F S32x512 .bf16 := broadcast S32x512 (Scalar.ofBits .bf16 0x0000#16 : F .bf16)

/-- Rows `o … o + 31` of a transposed query tile's 128 rows. -/
def rows32 (x : FVec F S128x512 .bf16) (o : ℕ) (h : Shape.Slices S128x512 ![o, 0] S32x512) : FVec F S32x512 .bf16 := extractStridedSlice S32x512 ![o, 0] x h

/-- 512 query rows of a head pair, transposed. -/
def flipped (x : Vec F S1x512x128 .bf16) : FVec F S128x512 .bf16 := transpose S128x512 [1, 0] (shapeCast S512x128 x (by decide)) (by decide)

/-- The first head's two halves in the rows of the first key head, zeros in the other's. -/
def firstHead (x : FVec F S128x512 .bf16) : FVec F S128x512 .bf16 :=
  concatenate S128x512 0 [⟨S32x512, rows32 x 0 (by decide)⟩, ⟨S32x512, zeros⟩, ⟨S32x512, rows32 x 64 (by decide)⟩, ⟨S32x512, zeros⟩]
    (show Shape.Concatenates [S32x512, S32x512, S32x512, S32x512] S128x512 0 by decide)

/-- The second head's two halves in the rows of the second key head, zeros in the other's. -/
def secondHead (x : FVec F S128x512 .bf16) : FVec F S128x512 .bf16 :=
  concatenate S128x512 0 [⟨S32x512, zeros⟩, ⟨S32x512, rows32 x 32 (by decide)⟩, ⟨S32x512, zeros⟩, ⟨S32x512, rows32 x 96 (by decide)⟩]
    (show Shape.Concatenates [S32x512, S32x512, S32x512, S32x512] S128x512 0 by decide)

/-- The query tile of 512 rows: the two heads side by side. -/
def dTile (x : Vec F S1x512x128 .bf16) : FVec F S1x128x1024 .bf16 :=
  shapeCast S1x128x1024 (concatenate S128x1024 1 [⟨S128x512, firstHead (flipped x)⟩, ⟨S128x512, secondHead (flipped x)⟩]
    (show Shape.Concatenates [S128x512, S128x512] S128x1024 1 by decide)) (by decide)

/-- The exponential of the dot product of two rows of the four. -/
def lamPart (L : Vec F S4x64 .f32) (a b : ℕ) (ha : Shape.Slices S4x64 ![a, 0] S1x64) (hb : Shape.Slices S4x64 ![b, 0] S1x64) : FVec F S1x1 .f32 :=
  exp (shapeCast S1x1 (multiReduction .add [1] S1 (mulf (extractStridedSlice S1x64 ![a, 0] L ha) (extractStridedSlice S1x64 ![b, 0] L hb)) 0x00000000#32
    (by decide) (.inl rfl) rfl) (by decide))

/-- The second head's factor. -/
def lamOf (L : Vec F S4x64 .f32) : FVec F S1x1 .f32 :=
  addf (subf (lamPart L 0 1 (by decide) (by decide)) (lamPart L 2 3 (by decide) (by decide))) (broadcast S1x1 (Scalar.ofBits .f32 0x3E4CCCCD#32 : F .f32))

/-- A tile's sums over its total weights. -/
def quot (a : Vec F S1x128x1024 .f32) (l : Vec F S1x1x1024 .f32) : FVec F S128x1024 .f32 :=
  divf (shapeCast S128x1024 a (by decide)) (broadcastTo S128x1024 (shapeCast S1x1024 l (by decide)) (by decide))

/-- The first head's quotients less the factor times the second's. -/
def less (lam : FVec F S1x1 .f32) (r : FVec F S128x1024 .f32) : FVec F S128x512 .f32 :=
  subf (extractStridedSlice S128x512 ![0, 0] r (by decide)) (mulf (broadcastTo S128x512 lam (by decide)) (extractStridedSlice S128x512 ![0, 512] r (by decide)))

/-- Each column over the root of its mean square. -/
def normed (x : FVec F S128x512 .f32) : FVec F S128x512 .f32 :=
  mulf x (broadcastTo S128x512 (rsqrt (addf (divf (shapeCast S1x512 (multiReduction .add [0] S512 (mulf x x) 0x00000000#32 (by decide) (.inl rfl) rfl) (by decide))
    (broadcast S1x512 (Scalar.ofBits .f32 0x43000000#32 : F .f32))) (broadcast S1x512 (Scalar.ofBits .f32 0x358637BD#32 : F .f32)))) (by decide))

/-- The output rows of a tile. -/
def outRows (lam : FVec F S1x1 .f32) (g : Vec F S128x1 .f32) (a : Vec F S1x128x1024 .f32) (l : Vec F S1x1x1024 .f32) : FVec F S1x512x128 .bf16 :=
  shapeCast S1x512x128 (transpose S512x128 [1, 0] (truncf .bf16 (mulf (mulf (normed (less lam (quot a l))) (broadcastTo S128x512 g (by decide)))
    (broadcast S128x512 (Scalar.ofBits .f32 0x3F4CCCCD#32 : F .f32))) (by decide) : FVec F S128x512 .bf16) (by decide)) (by decide)

theorem inbD (t : ℕ) (ht : t < 8) : ∀ a, (![0, 512 * t, 0] : Fin 3 → ℕ) a + S1x512x128.size a ≤ S1x4096x128.size a := by
  intro a; fin_cases a
  · show 0 + 1 ≤ 1; omega
  · show 512 * t + 512 ≤ 4096; omega
  · show 0 + 128 ≤ 128; omega

/-- All query tiles of a query block. -/
def dAll (X : Vec F S1x4096x128 .bf16) : Vec F S8x128x1024 .bf16 :=
  fun y => dTile (F := F) (VecWindow.window X ![0, 512 * (y 0).val, 0] S1x512x128.size (inbD _ (y 0).isLt)) (ix3 (0 : Fin 1) (y 1) (y 2))

/-- The output rows of query tile `t`, of all running sums. -/
def rowsAt (L : Vec F S4x64 .f32) (G : Vec F S128x1 .f32) (A : Vec F S8x144x1024 .f32) (t : ℕ) (ht : t < 8) : FVec F S1x512x128 .bf16 :=
  outRows (F := F) (lamOf L) G (VecWindow.window A ![t, 0, 0] S1x128x1024.size (inbS t ht)) (VecWindow.window A ![t, 128, 0] S1x1x1024.size (inbL t ht))

/-- The output block, of all running sums. -/
def dOut (L : Vec F S4x64 .f32) (G : Vec F S128x1 .f32) (A : Vec F S8x144x1024 .f32) : Vec F S1x4096x128 .bf16 :=
  fun y => rowsAt L G A ((y 1).val / 512) (Nat.div_lt_of_lt_mul (y 1).isLt) (ix3 (0 : Fin 1) ⟨(y 1).val % 512, Nat.mod_lt _ (by decide)⟩ (y 2))

/-- A whole matrix is its own window. -/
theorem window_whole {α : Type} {n0 n1 : ℕ} (X : (⟨2, ![n0, n1]⟩ : Shape).Idx → α) (inb : ∀ a, (![0, 0] : Fin 2 → ℕ) a + (![n0, n1] : Fin 2 → ℕ) a ≤ (![n0, n1] : Fin 2 → ℕ) a) :
    VecWindow.window (s := ⟨2, ![n0, n1]⟩) X ![0, 0] ![n0, n1] inb = X := by
  funext y
  refine congrArg X (funext fun a => Fin.ext ?_)
  fin_cases a
  · exact (Nat.zero_add _).trans (Nat.one_mul _)
  · exact (Nat.zero_add _).trans (Nat.one_mul _)

end Pure

section Rules

variable {nD : Nat} {τ : Topo} {sig : RefSig} {Λ : Labels} {Ix : Type} [DecidableEq Ix] {F : FTy → Type} [FloatOps F] {Name : Type} [DecidableEq Name]
variable {U : Type} [URA U] {Lvl : Type} [Preorder Lvl]

local notation "𝕄" => MT nD τ sig Ix (Elt F) Name U Lvl

variable (defs : Defs nD τ sig (Elt F) Λ) (𝒱 : Variants) (c : Dev nD) (bd : Option 𝒱.V) (E : Set Name)
variable {β : Type}

/-! ## One query tile -/

/-- Query tile `t`: 512 query rows are read, and their tile is stored. -/
def dTileK (aX : Memref sig .tc .vmem S1x4096x128 .bf16) (aT : Memref sig .tc .vmem S8x128x1024 .bf16) (hT : aT.IsWhole) (t : Fin 8)
    (κ : Prog (TpuEff nD τ sig (Elt F) Λ .tc) β) : Prog (TpuEff nD τ sig (Elt F) Λ .tc) β :=
  .op (.load aX (Rect.unit (s := S1x4096x128) ![0, 512 * t.val, 0] S1x512x128.size (inbD _ t.isLt)).toLoadRect (View.loadsAt_vmem (show 0 < S1x512x128.numel by decide))) fun x =>
  .op (.load aT (Rect.unit (s := S8x128x1024) ![t.val, 0, 0] S1x128x1024.size (inbT _ t.isLt)).toLoadRect (View.loadsAt_vmem (show 0 < S1x128x1024.numel by decide))) fun _ =>
  .op (.store aT (Rect.unit (s := S8x128x1024) ![t.val, 0, 0] S1x128x1024.size (inbT _ t.isLt)) (dTile (F := F) x) Finset.univ (qStores aT hT t) (.inl rfl)) fun _ => κ

/-- The query tiles before `t` are written. -/
def DDone (aX : Memref sig .tc .vmem S1x4096x128 .bf16) (aT : Memref sig .tc .vmem S8x128x1024 .bf16) (X : Vec F S1x4096x128 .bf16) (t : ℕ) : sProp 𝕄 :=
  iprop(held c aX X ∗ ∃ T, ⌜∀ y : S8x128x1024.Idx, (y 0).val < t → T y = dAll (F := F) X y⌝ ∗ held c aT T)

/-- The rule of one query tile. -/
theorem dTile_rule (aX : Memref sig .tc .vmem S1x4096x128 .bf16) (aT : Memref sig .tc .vmem S8x128x1024 .bf16) (hT : aT.IsWhole) (X : Vec F S1x4096x128 .bf16) (t : Fin 8)
    (κ : Prog (TpuEff nD τ sig (Elt F) Λ .tc) β) (Q : β → sProp 𝕄) (R : sProp 𝕄)
    (hκ : iprop(DDone c aX aT X (t.val + 1) ∗ R) ⊢ wp frame (wpE defs 𝒱 (c : Thread nD τ) bd) E κ Q) :
    iprop(DDone c aX aT X t.val ∗ R) ⊢ wp frame (wpE defs 𝒱 (c : Thread nD τ) bd) E (dTileK aX aT hT t κ) Q := by
  unfold dTileK DDone at *
  iintro ⟨⟨HX, ⟨%T, %hT', HT⟩⟩, HR⟩
  iapply (wp_ld defs 𝒱 c bd E aX ![0, 512 * t.val, 0] rfl (inbD _ t.isLt) X Q) $$ HX
  iintro HX
  iapply (wp_ld defs 𝒱 c bd E aT ![t.val, 0, 0] rfl (inbT _ t.isLt) T Q) $$ HT
  iintro HT
  iapply (wp_st defs 𝒱 c bd E aT ![t.val, 0, 0] rfl T Q) $$ HT
  iintro HT
  iapply hκ
  isplitr [HR]
  · isplitl [HX]; · iexact HX
    iexists _
    isplitr [HT]; swap; · iexact HT
    · ipureintro
      intro y hy
      rcases Nat.lt_succ_iff_lt_or_eq.1 hy with h | h
      · rw [put_miss _ _ _ _ y 0 (Or.inl h)]; exact hT' y h
      · have e : t = y 0 := Fin.ext h.symm
        subst e
        exact put_hit _ _ _ _ y (ix3 (0 : Fin 1) (y 1) (y 2) : S1x128x1024.Idx) (fun a => by
          fin_cases a
          · show (y 0).val = (y 0).val + 0; omega
          · show (y 1).val = 0 + (y 1).val; omega
          · show (y 2).val = 0 + (y 2).val; omega)
  · iexact HR

/-! ## One output tile -/

/-- The stores of an output block are stores of whole packed rows. -/
theorem dStores (aO : Memref sig .tc .vmem S1x4096x128 .bf16) (h : aO.IsWhole) (t : Fin 8) :
    (aO.access (Rect.unit (s := S1x4096x128) ![0, 512 * t.val, 0] S1x512x128.size (inbD _ t.isLt))).Stores Finset.univ :=
  View.stores_vmem (show 0 < S1x512x128.numel by decide) (h.storeExact_slice rfl _ (by revert t; decide)) (fun _ => rfl)

/-- Output tile `t`: the tile's sums, its total weights and the gains are read, and its rows are stored. -/
def rowsK (aG : Memref sig .tc .vmem S128x1 .f32) (aA : Memref sig .tc .vmem S8x144x1024 .f32) (aO : Memref sig .tc .vmem S1x4096x128 .bf16) (hO : aO.IsWhole) (lam : FVec F S1x1 .f32) (t : Fin 8)
    (κ : Prog (TpuEff nD τ sig (Elt F) Λ .tc) β) : Prog (TpuEff nD τ sig (Elt F) Λ .tc) β :=
  .op (.load aA (Rect.unit (s := S8x144x1024) ![t.val, 0, 0] S1x128x1024.size (inbS _ t.isLt)).toLoadRect (View.loadsAt_vmem (show 0 < S1x128x1024.numel by decide))) fun a =>
  .op (.load aA (Rect.unit (s := S8x144x1024) ![t.val, 128, 0] S1x1x1024.size (inbL _ t.isLt)).toLoadRect (View.loadsAt_vmem (show 0 < S1x1x1024.numel by decide))) fun l =>
  .op (.load aG (Rect.unit (s := S128x1) ![0, 0] S128x1.size (by decide)).toLoadRect (View.loadsAt_vmem (show 0 < S128x1.numel by decide))) fun g =>
  .op (.load aO (Rect.unit (s := S1x4096x128) ![0, 512 * t.val, 0] S1x512x128.size (inbD _ t.isLt)).toLoadRect (View.loadsAt_vmem (show 0 < S1x512x128.numel by decide))) fun _ =>
  .op (.store aO (Rect.unit (s := S1x4096x128) ![0, 512 * t.val, 0] S1x512x128.size (inbD _ t.isLt)) (outRows (F := F) lam g a l) Finset.univ (dStores aO hO t) (.inl rfl)) fun _ => κ

/-- The output tiles before `n` are written. -/
def RDone (aO : Memref sig .tc .vmem S1x4096x128 .bf16) (L : Vec F S4x64 .f32) (G : Vec F S128x1 .f32) (A : Vec F S8x144x1024 .f32) (n : ℕ) : sProp 𝕄 :=
  iprop(∃ T, ⌜∀ y : S1x4096x128.Idx, (y 1).val / 512 < n → T y = dOut (F := F) L G A y⌝ ∗ held c aO T)

/-- The rule of one output tile. -/
theorem rows_rule (aG : Memref sig .tc .vmem S128x1 .f32) (aA : Memref sig .tc .vmem S8x144x1024 .f32) (aO : Memref sig .tc .vmem S1x4096x128 .bf16) (hO : aO.IsWhole)
    (L : Vec F S4x64 .f32) (G : Vec F S128x1 .f32) (A : Vec F S8x144x1024 .f32) (t : Fin 8)
    (κ : Prog (TpuEff nD τ sig (Elt F) Λ .tc) β) (Q : β → sProp 𝕄) (R : sProp 𝕄)
    (hκ : iprop(RDone c aO L G A (t.val + 1) ∗ held c aG G ∗ held c aA A ∗ R) ⊢ wp frame (wpE defs 𝒱 (c : Thread nD τ) bd) E κ Q) :
    iprop(RDone c aO L G A t.val ∗ held c aG G ∗ held c aA A ∗ R) ⊢ wp frame (wpE defs 𝒱 (c : Thread nD τ) bd) E (rowsK aG aA aO hO (lamOf L) t κ) Q := by
  unfold rowsK RDone at *
  iintro ⟨⟨%T, %hT, HO⟩, HG, HA, HR⟩
  iapply (wp_ld defs 𝒱 c bd E aA ![t.val, 0, 0] rfl (inbS _ t.isLt) A Q) $$ HA
  iintro HA
  iapply (wp_ld defs 𝒱 c bd E aA ![t.val, 128, 0] rfl (inbL _ t.isLt) A Q) $$ HA
  iintro HA
  iapply (wp_ld defs 𝒱 c bd E aG ![0, 0] rfl (by decide) G Q) $$ HG
  rw [window_whole]
  iintro HG
  iapply (wp_ld defs 𝒱 c bd E aO ![0, 512 * t.val, 0] rfl (inbD _ t.isLt) T Q) $$ HO
  iintro HO
  iapply (wp_st defs 𝒱 c bd E aO ![0, 512 * t.val, 0] rfl T Q) $$ HO
  iintro HO
  iapply hκ
  isplitl [HO]
  · iexists _
    isplitr [HO]; swap; · iexact HO
    ipureintro
    intro y hy
    have hy0 := (y 0).isLt
    change (y 0).val < 1 at hy0
    rcases Nat.lt_succ_iff_lt_or_eq.1 hy with h | h
    · rw [put_miss _ _ _ _ y 1 (Or.inl (by show (y 1).val < 512 * t.val; omega))]; exact hT y h
    · have hp := put_hit T ![0, 512 * t.val, 0] S1x512x128.size (rowsAt (F := F) L G A t.val t.isLt) y
        (ix3 (0 : Fin 1) ⟨(y 1).val % 512, Nat.mod_lt _ (by decide)⟩ (y 2)) (fun a => by
        fin_cases a
        · show (y 0).val = 0 + 0; omega
        · show (y 1).val = 512 * t.val + (y 1).val % 512; omega
        · show (y 2).val = 0 + (y 2).val; omega)
      refine hp.trans ?_
      unfold dOut
      congr 2
      exact h.symm
  isplitl [HG]; · iexact HG
  isplitl [HA]; · iexact HA
  iexact HR

end Rules

end Cert.DiffSweep

end
-- ==== Proof.DiffBody.lean ====
/-
  The body of the differential attention, operation by operation: the printed body is a list of the operations of Sweep, Tiles and DiffTiles.
-/
module

public import proofs.«01_k».proof.Proof.DiffTiles
public import proofs.«01_k».proof.Proof.Gen.DiffIdeal.Skeleton

@[expose] public section

noncomputable section

namespace Cert.DiffIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DiffIdeal.Facts₀ Cert.DiffIdeal.Facts
open Cert.Sweep (scoresK updateK vTileK startK groupMax)
open Cert.DiffSweep (dTileK rowsK lamOf)

variable {F : FTy → Type} [FloatOps F]

/-- The kernel's programs. -/
abbrev P (F : FTy → Type) (β : Type) : Type 1 := Prog (TpuEff nD τ sig (Elt F) Λ₀ .tc) β

section Program

variable (i : grid0.Coords) (arg3 : Memref sig .tc .vmem S1x4096x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x4096x128 .bf16) (harg8 : arg8.IsWhole)
  (arg9 : Memref sig .tc .vmem S16x144x512 .bf16) (harg9 : arg9.IsWhole) (arg10 : Memref sig .tc .vmem S8x128x1024 .bf16) (harg10 : arg10.IsWhole)
  (arg11 : Memref sig .tc .vmem S512x1024 .f32) (harg11 : arg11.IsWhole) (arg12 : Memref sig .tc .vmem S512x1024 .f32) (harg12 : arg12.IsWhole)
  (arg13 : Memref sig .tc .vmem S8x1x1024 .f32) (harg13 : arg13.IsWhole) (arg14 : Memref sig .tc .vmem S8x144x1024 .f32) (harg14 : arg14.IsWhole)

/-- Two stages of the loop's trip `k`: the stages `10 k + 2 r` and `10 k + 2 r + 1`. -/
def pairK {β : Type} (k : Fin k0_t2_loop.trips) (r : Fin 5) (g : FVec F S8x1024 .f32) (κ : FVec F S8x1024 .f32 → P F β) : P F β :=
  scoresK arg4 arg10 arg12 (k0_off4 k (BitVec.ofNat 32 (2 * r.val)) (BitVec.ofNat 32 (1 + (0 : Fin 2).val))) (k0_off4_inb k r 0)
      (k0_off5 k (BitVec.ofNat 32 (2 * r.val)) (BitVec.ofNat 32 (1 + (0 : Fin 2).val))) (k0_off5_inb k r 0) fun s =>
  updateK arg13 arg14 arg9 arg11 (k0_off6 k (BitVec.ofNat 32 (2 * r.val))) (k0_off6_inb k r) (k0_off7 k (BitVec.ofNat 32 (2 * r.val))) (k0_off7_inb k r)
      (k0_off8 k (BitVec.ofNat 32 (2 * r.val))) (k0_off8_inb k r) g <|
  scoresK arg4 arg10 arg11 (k0_off4 k (BitVec.ofNat 32 (2 * r.val)) (BitVec.ofNat 32 (1 + (1 : Fin 2).val))) (k0_off4_inb k r 1)
      (k0_off5 k (BitVec.ofNat 32 (2 * r.val)) (BitVec.ofNat 32 (1 + (1 : Fin 2).val))) (k0_off5_inb k r 1) fun s' =>
  updateK arg13 arg14 arg9 arg12 (k0_off9 k (BitVec.ofNat 32 (2 * r.val))) (k0_off9_inb k r) (k0_off10 k (BitVec.ofNat 32 (2 * r.val))) (k0_off10_inb k r)
      (k0_off11 k (BitVec.ofNat 32 (2 * r.val))) (k0_off11_inb k r) (groupMax s) (κ (groupMax s'))

/-- The loop's trip `k`: five pairs of stages. -/
def tripK (k : Fin k0_t2_loop.trips) (g : FVec F S8x1024 .f32)   : P F (FVec F S8x1024 .f32) :=
  pairK arg4 arg9 arg10 arg11 arg12 arg13 arg14 k 0 g fun g =>
  pairK arg4 arg9 arg10 arg11 arg12 arg13 arg14 k 1 g fun g =>
  pairK arg4 arg9 arg10 arg11 arg12 arg13 arg14 k 2 g fun g =>
  pairK arg4 arg9 arg10 arg11 arg12 arg13 arg14 k 3 g fun g =>
  pairK arg4 arg9 arg10 arg11 arg12 arg13 arg14 k 4 g fun g => .ret g

set_option maxRecDepth 65536 in
theorem trip_eq (v141 : FVec F S64x8x1024 .f32) (k : Fin k0_t2_loop.trips) (g : FVec F S8x1024 .f32) :
    Gen.k0_t2_body i arg3 harg3 arg4 harg4 arg5 harg5 arg6 harg6 arg7 harg7 arg8 harg8 arg9 harg9 arg10 harg10 arg11 harg11 arg12 harg12 arg13 harg13 arg14 harg14 v141 k g
      = (tripK arg4 arg9 arg10 arg11 arg12 arg13 arg14 k g : P F _) := rfl

/-- After the loop: the last eight stages, and the output tiles. -/
def tailK (g : FVec F S8x1024 .f32) : P F PUnit :=
  scoresK arg4 arg10 arg12 ![0, 4608, 0] inb_S1x8192x128_S1x512x128_0_4608_0 ![7, 0, 0] inb_S8x128x1024_S1x128x1024_7_0_0 fun s121 =>
  updateK arg13 arg14 arg9 arg11 ![7, 0, 0] inb_S8x1x1024_S1x1x1024_7_0_0 ![7, 0, 0] inb_S8x144x1024_S1x144x1024_7_0_0 ![8, 0, 0] inb_S16x144x512_S1x144x512_8_0_0 g <|
  scoresK arg4 arg10 arg11 ![0, 5120, 0] inb_S1x8192x128_S1x512x128_0_5120_0 ![7, 0, 0] inb_S8x128x1024_S1x128x1024_7_0_0 fun s122 =>
  updateK arg13 arg14 arg9 arg12 ![7, 0, 0] inb_S8x1x1024_S1x1x1024_7_0_0 ![7, 0, 0] inb_S8x144x1024_S1x144x1024_7_0_0 ![9, 0, 0] inb_S16x144x512_S1x144x512_9_0_0 (groupMax s121) <|
  scoresK arg4 arg10 arg12 ![0, 5632, 0] inb_S1x8192x128_S1x512x128_0_5632_0 ![7, 0, 0] inb_S8x128x1024_S1x128x1024_7_0_0 fun s123 =>
  updateK arg13 arg14 arg9 arg11 ![7, 0, 0] inb_S8x1x1024_S1x1x1024_7_0_0 ![7, 0, 0] inb_S8x144x1024_S1x144x1024_7_0_0 ![10, 0, 0] inb_S16x144x512_S1x144x512_10_0_0 (groupMax s122) <|
  scoresK arg4 arg10 arg11 ![0, 6144, 0] inb_S1x8192x128_S1x512x128_0_6144_0 ![7, 0, 0] inb_S8x128x1024_S1x128x1024_7_0_0 fun s124 =>
  updateK arg13 arg14 arg9 arg12 ![7, 0, 0] inb_S8x1x1024_S1x1x1024_7_0_0 ![7, 0, 0] inb_S8x144x1024_S1x144x1024_7_0_0 ![11, 0, 0] inb_S16x144x512_S1x144x512_11_0_0 (groupMax s123) <|
  scoresK arg4 arg10 arg12 ![0, 6656, 0] inb_S1x8192x128_S1x512x128_0_6656_0 ![7, 0, 0] inb_S8x128x1024_S1x128x1024_7_0_0 fun s125 =>
  updateK arg13 arg14 arg9 arg11 ![7, 0, 0] inb_S8x1x1024_S1x1x1024_7_0_0 ![7, 0, 0] inb_S8x144x1024_S1x144x1024_7_0_0 ![12, 0, 0] inb_S16x144x512_S1x144x512_12_0_0 (groupMax s124) <|
  scoresK arg4 arg10 arg11 ![0, 7168, 0] inb_S1x8192x128_S1x512x128_0_7168_0 ![7, 0, 0] inb_S8x128x1024_S1x128x1024_7_0_0 fun s126 =>
  updateK arg13 arg14 arg9 arg12 ![7, 0, 0] inb_S8x1x1024_S1x1x1024_7_0_0 ![7, 0, 0] inb_S8x144x1024_S1x144x1024_7_0_0 ![13, 0, 0] inb_S16x144x512_S1x144x512_13_0_0 (groupMax s125) <|
  scoresK arg4 arg10 arg12 ![0, 7680, 0] inb_S1x8192x128_S1x512x128_0_7680_0 ![7, 0, 0] inb_S8x128x1024_S1x128x1024_7_0_0 fun s127 =>
  updateK arg13 arg14 arg9 arg11 ![7, 0, 0] inb_S8x1x1024_S1x1x1024_7_0_0 ![7, 0, 0] inb_S8x144x1024_S1x144x1024_7_0_0 ![14, 0, 0] inb_S16x144x512_S1x144x512_14_0_0 (groupMax s126) <|
  updateK arg13 arg14 arg9 arg12 ![7, 0, 0] inb_S8x1x1024_S1x1x1024_7_0_0 ![7, 0, 0] inb_S8x144x1024_S1x144x1024_7_0_0 ![15, 0, 0] inb_S16x144x512_S1x144x512_15_0_0 (groupMax s127) <|
  .op (.load arg6 (Rect.unit (s := S4x64) ![0, 0] S4x64.size inb_S4x64_S4x64_0_0).toLoadRect (View.loadsAt_vmem h_S4x64)) fun L =>
  rowsK arg7 arg14 arg8 harg8 (lamOf L) 0 <|
  rowsK arg7 arg14 arg8 harg8 (lamOf L) 1 <|
  rowsK arg7 arg14 arg8 harg8 (lamOf L) 2 <|
  rowsK arg7 arg14 arg8 harg8 (lamOf L) 3 <|
  rowsK arg7 arg14 arg8 harg8 (lamOf L) 4 <|
  rowsK arg7 arg14 arg8 harg8 (lamOf L) 5 <|
  rowsK arg7 arg14 arg8 harg8 (lamOf L) 6 <|
  rowsK arg7 arg14 arg8 harg8 (lamOf L) 7 <|
  .ret ⟨⟩

/-- After the values' fill: the query tiles, the start, the sweep and the output tiles. -/
def restK : P F PUnit :=
  dTileK arg3 arg10 harg10 0 <|
  dTileK arg3 arg10 harg10 1 <|
  dTileK arg3 arg10 harg10 2 <|
  dTileK arg3 arg10 harg10 3 <|
  dTileK arg3 arg10 harg10 4 <|
  dTileK arg3 arg10 harg10 5 <|
  dTileK arg3 arg10 harg10 6 <|
  dTileK arg3 arg10 harg10 7 <|
  startK arg13 arg14 <|
  scoresK arg4 arg10 arg11 ![0, 0, 0] inb_S1x8192x128_S1x512x128_0_0_0 ![0, 0, 0] inb_S8x128x1024_S1x128x1024_0_0_0 fun s =>
  Scf.Loop.for k0_t2_loop k0_t2_ok (groupMax s) (tripK arg4 arg9 arg10 arg11 arg12 arg13 arg14) >>= tailK arg4 arg6 arg7 arg8 harg8 arg9 arg10 arg11 arg12 arg13 arg14

theorem trip_fun_eq (v141 : FVec F S64x8x1024 .f32) :
    Gen.k0_t2_body i arg3 harg3 arg4 harg4 arg5 harg5 arg6 harg6 arg7 harg7 arg8 harg8 arg9 harg9 arg10 harg10 arg11 harg11 arg12 harg12 arg13 harg13 arg14 harg14 v141
      = (tripK arg4 arg9 arg10 arg11 arg12 arg13 arg14 : _ → _ → P F _) := by
  funext k g
  exact trip_eq i arg3 harg3 arg4 harg4 arg5 harg5 arg6 harg6 arg7 harg7 arg8 harg8 arg9 harg9 arg10 harg10 arg11 harg11 arg12 harg12 arg13 harg13 arg14 harg14 v141 k g

/-- The fill's trip: one chunk of transposed values. -/
def fillTripK (h : k0_cond1 i = 1#1) (k : Fin k0_t1_loop.trips) (_ : Unit) : P F Unit :=
  vTileK arg5 arg9 (k0_off1 k) (k0_off1_inb i k h) (k0_off2 k) (k0_off2_inb i k h) (k0_off3 k) (k0_off3_inb i k h)
    (View.stores_vmem h_S1x128x512 (harg9.storeExact_slice rfl _ (k0_off2_packedbf16 i k h)) (fun _ => rfl))
    (View.stores_vmem h_S1x16x512 (harg9.storeExact_slice rfl _ (k0_off3_packedbf16 i k h)) (fun _ => rfl)) (.ret ⟨⟩)

set_option maxRecDepth 65536 in
/-- The operations before the loop, with any continuation. -/
theorem before_loop (κ : FVec F S64x8x1024 .f32 → P F PUnit) : (do
  let c0 : Index := 0#32
  let c0_1 : Index := 0#32
  let c0_2 : Index := 0#32
  let v3 : Vec F S1x512x128 .bf16 ← Prog.lift (.load arg3 (Rect.unit (s := S1x4096x128) ![0, 0, 0] S1x512x128.size inb_S1x4096x128_S1x512x128_0_0_0).toLoadRect (View.loadsAt_vmem h_S1x512x128))
  have v4 : FVec F S512x128 .bf16 := shapeCast S512x128 v3 shapeCasts_S1x512x128_S512x128
  have v5 : FVec F S128x512 .bf16 := transpose S128x512 [1, 0] v4 transposes_S512x128_p1_0_S128x512
  have cst : F .bf16 := Scalar.ofBits .bf16 0x0000#16
  have v6 : FVec F S32x512 .bf16 := broadcast S32x512 cst
  have v7 : FVec F S32x512 .bf16 := extractStridedSlice S32x512 ![0, 0] v5 slices_S128x512_o0_0_S32x512
  have v8 : FVec F S32x512 .bf16 := extractStridedSlice S32x512 ![64, 0] v5 slices_S128x512_o64_0_S32x512
  have v9 : FVec F S128x512 .bf16 := concatenate S128x512 0 [⟨S32x512, v7⟩, ⟨S32x512, v6⟩, ⟨S32x512, v8⟩, ⟨S32x512, v6⟩] concatenates_S32x512_S32x512_S32x512_S32x512_S128x512_d0
  have cst_3 : F .bf16 := Scalar.ofBits .bf16 0x0000#16
  have v10 : FVec F S32x512 .bf16 := broadcast S32x512 cst_3
  have v11 : FVec F S32x512 .bf16 := extractStridedSlice S32x512 ![32, 0] v5 slices_S128x512_o32_0_S32x512
  have v12 : FVec F S32x512 .bf16 := extractStridedSlice S32x512 ![96, 0] v5 slices_S128x512_o96_0_S32x512
  have v13 : FVec F S128x512 .bf16 := concatenate S128x512 0 [⟨S32x512, v10⟩, ⟨S32x512, v11⟩, ⟨S32x512, v10⟩, ⟨S32x512, v12⟩] concatenates_S32x512_S32x512_S32x512_S32x512_S128x512_d0
  have v14 : FVec F S128x1024 .bf16 := concatenate S128x1024 1 [⟨S128x512, v9⟩, ⟨S128x512, v13⟩] concatenates_S128x512_S128x512_S128x1024_d1
  let c0_4 : Index := 0#32
  let c0_5 : Index := 0#32
  let c0_6 : Index := 0#32
  let v15 : Vec F S1x128x1024 .bf16 ← Prog.lift (.load arg10 (Rect.unit (s := S8x128x1024) ![0, 0, 0] S1x128x1024.size inb_S8x128x1024_S1x128x1024_0_0_0).toLoadRect (View.loadsAt_vmem h_S1x128x1024))
  have v16 : FVec F S128x1024 .bf16 := shapeCast S128x1024 v15 shapeCasts_S1x128x1024_S128x1024
  have v17 : FVec F S1x128x1024 .bf16 := shapeCast S1x128x1024 v14 shapeCasts_S128x1024_S1x128x1024
  Prog.lift (.store arg10 (Rect.unit (s := S8x128x1024) ![0, 0, 0] S1x128x1024.size inb_S8x128x1024_S1x128x1024_0_0_0) v17 Finset.univ (View.stores_vmem h_S1x128x1024 (harg10.storeExact_slice rfl _ packedbf16_S8x128x1024_S1x128x1024_0_0_0) (fun _ => rfl)) (.inl rfl))
  let c0_7 : Index := 0#32
  let c512 : Index := 512#32
  let c0_8 : Index := 0#32
  let v18 : Vec F S1x512x128 .bf16 ← Prog.lift (.load arg3 (Rect.unit (s := S1x4096x128) ![0, 512, 0] S1x512x128.size inb_S1x4096x128_S1x512x128_0_512_0).toLoadRect (View.loadsAt_vmem h_S1x512x128))
  have v19 : FVec F S512x128 .bf16 := shapeCast S512x128 v18 shapeCasts_S1x512x128_S512x128
  have v20 : FVec F S128x512 .bf16 := transpose S128x512 [1, 0] v19 transposes_S512x128_p1_0_S128x512
  have cst_9 : F .bf16 := Scalar.ofBits .bf16 0x0000#16
  have v21 : FVec F S32x512 .bf16 := broadcast S32x512 cst_9
  have v22 : FVec F S32x512 .bf16 := extractStridedSlice S32x512 ![0, 0] v20 slices_S128x512_o0_0_S32x512
  have v23 : FVec F S32x512 .bf16 := extractStridedSlice S32x512 ![64, 0] v20 slices_S128x512_o64_0_S32x512
  have v24 : FVec F S128x512 .bf16 := concatenate S128x512 0 [⟨S32x512, v22⟩, ⟨S32x512, v21⟩, ⟨S32x512, v23⟩, ⟨S32x512, v21⟩] concatenates_S32x512_S32x512_S32x512_S32x512_S128x512_d0
  have cst_10 : F .bf16 := Scalar.ofBits .bf16 0x0000#16
  have v25 : FVec F S32x512 .bf16 := broadcast S32x512 cst_10
  have v26 : FVec F S32x512 .bf16 := extractStridedSlice S32x512 ![32, 0] v20 slices_S128x512_o32_0_S32x512
  have v27 : FVec F S32x512 .bf16 := extractStridedSlice S32x512 ![96, 0] v20 slices_S128x512_o96_0_S32x512
  have v28 : FVec F S128x512 .bf16 := concatenate S128x512 0 [⟨S32x512, v25⟩, ⟨S32x512, v26⟩, ⟨S32x512, v25⟩, ⟨S32x512, v27⟩] concatenates_S32x512_S32x512_S32x512_S32x512_S128x512_d0
  have v29 : FVec F S128x1024 .bf16 := concatenate S128x1024 1 [⟨S128x512, v24⟩, ⟨S128x512, v28⟩] concatenates_S128x512_S128x512_S128x1024_d1
  let c1 : Index := 1#32
  let c0_11 : Index := 0#32
  let c0_12 : Index := 0#32
  let v30 : Vec F S1x128x1024 .bf16 ← Prog.lift (.load arg10 (Rect.unit (s := S8x128x1024) ![1, 0, 0] S1x128x1024.size inb_S8x128x1024_S1x128x1024_1_0_0).toLoadRect (View.loadsAt_vmem h_S1x128x1024))
  have v31 : FVec F S128x1024 .bf16 := shapeCast S128x1024 v30 shapeCasts_S1x128x1024_S128x1024
  have v32 : FVec F S1x128x1024 .bf16 := shapeCast S1x128x1024 v29 shapeCasts_S128x1024_S1x128x1024
  Prog.lift (.store arg10 (Rect.unit (s := S8x128x1024) ![1, 0, 0] S1x128x1024.size inb_S8x128x1024_S1x128x1024_1_0_0) v32 Finset.univ (View.stores_vmem h_S1x128x1024 (harg10.storeExact_slice rfl _ packedbf16_S8x128x1024_S1x128x1024_1_0_0) (fun _ => rfl)) (.inl rfl))
  let c0_13 : Index := 0#32
  let c1024 : Index := 1024#32
  let c0_14 : Index := 0#32
  let ⟨v69, v70, v71, v72⟩ : Σ' (v69 : FVec F S128x512 .bf16) (v70 : FVec F S32x512 .bf16) (v71 : FVec F S32x512 .bf16), FVec F S32x512 .bf16 ← k0_part16 i arg3 harg3 arg4 harg4 arg5 harg5 arg6 harg6 arg7 harg7 arg8 harg8 arg9 harg9 arg10 harg10 arg11 harg11 arg12 harg12 arg13 harg13 arg14 harg14
  k0_part17 i arg3 harg3 arg4 harg4 arg5 harg5 arg6 harg6 arg7 harg7 arg8 harg8 arg9 harg9 arg10 harg10 arg11 harg11 arg12 harg12 arg13 harg13 arg14 harg14 v69 v70 v71 v72
  let v141 : FVec F S64x8x1024 .f32 ← k0_part18 i arg3 harg3 arg4 harg4 arg5 harg5 arg6 harg6 arg7 harg7 arg8 harg8 arg9 harg9 arg10 harg10 arg11 harg11 arg12 harg12 arg13 harg13 arg14 harg14
  κ v141 : P F PUnit)
    = (
  dTileK arg3 arg10 harg10 0 <|
  dTileK arg3 arg10 harg10 1 <|
  dTileK arg3 arg10 harg10 2 <|
  dTileK arg3 arg10 harg10 3 <|
  dTileK arg3 arg10 harg10 4 <|
  dTileK arg3 arg10 harg10 5 <|
  dTileK arg3 arg10 harg10 6 <|
  dTileK arg3 arg10 harg10 7 <|
  startK arg13 arg14 <|
  scoresK arg4 arg10 arg11 ![0, 0, 0] inb_S1x8192x128_S1x512x128_0_0_0 ![0, 0, 0] inb_S8x128x1024_S1x128x1024_0_0_0 fun s => κ (shapeCast S64x8x1024 s (by decide))) := rfl

set_option maxRecDepth 65536 in
/-- The operations after the loop. -/
theorem after_loop (g : FVec F S8x1024 .f32) : (do
  let v147 : Vec F S1x512x128 .bf16 ← Prog.lift (.load arg4 (Rect.unit (s := S1x8192x128) ![0, 4608, 0] S1x512x128.size inb_S1x8192x128_S1x512x128_0_4608_0).toLoadRect (View.loadsAt_vmem h_S1x512x128))
  let v149 : Vec F S1x128x1024 .bf16 ← Prog.lift (.load arg10 (Rect.unit (s := S8x128x1024) ![7, 0, 0] S1x128x1024.size inb_S8x128x1024_S1x128x1024_7_0_0).toLoadRect (View.loadsAt_vmem h_S1x128x1024))
  let v152 : Vec F S512x1024 .f32 ← Prog.lift (.load arg12 (Rect.unit (s := S512x1024) ![0, 0] S512x1024.size inb_S512x1024_S512x1024_0_0).toLoadRect (View.loadsAt_vmem h_S512x1024))
  Prog.lift (.store arg12 (Rect.unit (s := S512x1024) ![0, 0] S512x1024.size inb_S512x1024_S512x1024_0_0) (Gen.k0_pay106 v147 v149) Finset.univ (View.stores_vmem_bits_univ h_S512x1024 rfl) (.inl rfl))
  let v157 : Vec F S1x1x1024 .f32 ← Prog.lift (.load arg13 (Rect.unit (s := S8x1x1024) ![7, 0, 0] S1x1x1024.size inb_S8x1x1024_S1x1x1024_7_0_0).toLoadRect (View.loadsAt_vmem h_S1x1x1024))
  let v164 : Vec F S512x1024 .f32 ← Prog.lift (.load arg11 (Rect.unit (s := S512x1024) ![0, 0] S512x1024.size inb_S512x1024_S512x1024_0_0).toLoadRect (View.loadsAt_vmem h_S512x1024))
  let v169 : Vec F S1x144x1024 .f32 ← Prog.lift (.load arg14 (Rect.unit (s := S8x144x1024) ![7, 0, 0] S1x144x1024.size inb_S8x144x1024_S1x144x1024_7_0_0).toLoadRect (View.loadsAt_vmem h_S1x144x1024))
  let v173 : Vec F S1x144x512 .bf16 ← Prog.lift (.load arg9 (Rect.unit (s := S16x144x512) ![8, 0, 0] S1x144x512.size inb_S16x144x512_S1x144x512_8_0_0).toLoadRect (View.loadsAt_vmem h_S1x144x512))
  have v156 := Gen.k0_pay107 v147 v149
  have v161 := Gen.k0_pay109 g v157
  have v168 := Gen.k0_pay110 g v157 v164
  have v172 := Gen.k0_pay111 g v157 v169
  let ⟨v194, v199, v201, v206⟩ : Σ' (v194 : FVec F S8x1024 .f32) (v199 : FVec F S1x1024 .f32) (v201 : FVec F S1x1024 .f32), FVec F S512x1024 .bf16 ← k0_part20 i arg3 harg3 arg4 harg4 arg5 harg5 arg6 harg6 arg7 harg7 arg8 harg8 arg9 harg9 arg10 harg10 arg11 harg11 arg12 harg12 arg13 harg13 arg14 harg14 v156 v161 v168 v172 v173
  let ⟨v232, v234, v237⟩ : Σ' (v232 : FVec F S8x1024 .f32) (v234 : FVec F S1x1024 .f32), FVec F S1x1024 .f32 ← k0_part21 i arg3 harg3 arg4 harg4 arg5 harg5 arg6 harg6 arg7 harg7 arg8 harg8 arg9 harg9 arg10 harg10 arg11 harg11 arg12 harg12 arg13 harg13 arg14 harg14 v194 v199 v201 v206
  let v269 : FVec F S64x8x1024 .f32 ← k0_part22 i arg3 harg3 arg4 harg4 arg5 harg5 arg6 harg6 arg7 harg7 arg8 harg8 arg9 harg9 arg10 harg10 arg11 harg11 arg12 harg12 arg13 harg13 arg14 harg14 v234 v237
  let ⟨v270, v300, v302⟩ : Σ' (v270 : FVec F S8x1024 .f32) (v300 : FVec F S512x128 .bf16), FVec F S128x1024 .bf16 ← k0_part23 i arg3 harg3 arg4 harg4 arg5 harg5 arg6 harg6 arg7 harg7 arg8 harg8 arg9 harg9 arg10 harg10 arg11 harg11 arg12 harg12 arg13 harg13 arg14 harg14 v232 v269
  let ⟨v308, v335⟩ : Σ' (v308 : FVec F S8x1024 .f32), BitVec 32 ← k0_part24 i arg3 harg3 arg4 harg4 arg5 harg5 arg6 harg6 arg7 harg7 arg8 harg8 arg9 harg9 arg10 harg10 arg11 harg11 arg12 harg12 arg13 harg13 arg14 harg14 v270 v300 v302
  let ⟨v346, v351, v369⟩ : Σ' (v346 : FVec F S8x1024 .f32) (v351 : FVec F S1x1024 .f32), FVec F S1x144x1024 .f32 ← k0_part25 i arg3 harg3 arg4 harg4 arg5 harg5 arg6 harg6 arg7 harg7 arg8 harg8 arg9 harg9 arg10 harg10 arg11 harg11 arg12 harg12 arg13 harg13 arg14 harg14 v308 v335
  let ⟨v384, v389, v396, v400, v401⟩ : Σ' (v384 : FVec F S8x1024 .f32) (v389 : FVec F S1x1024 .f32) (v396 : FVec F S512x1024 .bf16) (v400 : FVec F S144x1024 .f32), Vec F S1x144x512 .bf16 ← k0_part26 i arg3 harg3 arg4 harg4 arg5 harg5 arg6 harg6 arg7 harg7 arg8 harg8 arg9 harg9 arg10 harg10 arg11 harg11 arg12 harg12 arg13 harg13 arg14 harg14 v346 v351 v369
  let v415 : FVec F S1x1024 .f32 ← k0_part27 i arg3 harg3 arg4 harg4 arg5 harg5 arg6 harg6 arg7 harg7 arg8 harg8 arg9 harg9 arg10 harg10 arg11 harg11 arg12 harg12 arg13 harg13 arg14 harg14 v384 v389 v396 v400 v401
  let ⟨v452, v473, v475⟩ : Σ' (v452 : FVec F S1x1 .f32) (v473 : FVec F S128x512 .f32), FVec F S128x512 .f32 ← k0_part28 i arg3 harg3 arg4 harg4 arg5 harg5 arg6 harg6 arg7 harg7 arg8 harg8 arg9 harg9 arg10 harg10 arg11 harg11 arg12 harg12 arg13 harg13 arg14 harg14 v415
  k0_part29 i arg3 harg3 arg4 harg4 arg5 harg5 arg6 harg6 arg7 harg7 arg8 harg8 arg9 harg9 arg10 harg10 arg11 harg11 arg12 harg12 arg13 harg13 arg14 harg14 v452 v473 v475
  let ⟨v551, v552⟩ : Σ' (v551 : FVec F S128x1024 .f32), FVec F S128x512 .f32 ← k0_part30 i arg3 harg3 arg4 harg4 arg5 harg5 arg6 harg6 arg7 harg7 arg8 harg8 arg9 harg9 arg10 harg10 arg11 harg11 arg12 harg12 arg13 harg13 arg14 harg14 v452
  let ⟨v587, v592, v593⟩ : Σ' (v587 : FVec F S128x512 .f32) (v592 : FVec F S1x512 .f32), FVec F S1x512 .f32 ← k0_part31 i arg3 harg3 arg4 harg4 arg5 harg5 arg6 harg6 arg7 harg7 arg8 harg8 arg9 harg9 arg10 harg10 arg11 harg11 arg12 harg12 arg13 harg13 arg14 harg14 v452 v551 v552
  let v634 : FVec F S128x512 .bf16 ← k0_part32 i arg3 harg3 arg4 harg4 arg5 harg5 arg6 harg6 arg7 harg7 arg8 harg8 arg9 harg9 arg10 harg10 arg11 harg11 arg12 harg12 arg13 harg13 arg14 harg14 v452 v587 v592 v593
  let v671 : FVec F S128x1024 .f32 ← k0_part33 i arg3 harg3 arg4 harg4 arg5 harg5 arg6 harg6 arg7 harg7 arg8 harg8 arg9 harg9 arg10 harg10 arg11 harg11 arg12 harg12 arg13 harg13 arg14 harg14 v452 v634
  let c7_388 : Index := 7#32
  let c128_389 : Index := 128#32
  let c0_390 : Index := 0#32
  let v672 : Vec F S1x1x1024 .f32 ← Prog.lift (.load arg14 (Rect.unit (s := S8x144x1024) ![7, 128, 0] S1x1x1024.size inb_S8x144x1024_S1x1x1024_7_128_0).toLoadRect (View.loadsAt_vmem h_S1x1x1024))
  have v673 : FVec F S1x1024 .f32 := shapeCast S1x1024 v672 shapeCasts_S1x1x1024_S1x1024
  have v674 : FVec F S128x1024 .f32 := broadcastTo S128x1024 v673 broadcasts_S1x1024_S128x1024
  have v675 : FVec F S128x1024 .f32 := divf v671 v674
  have v676 : FVec F S128x512 .f32 := extractStridedSlice S128x512 ![0, 0] v675 slices_S128x1024_o0_0_S128x512
  have v677 : FVec F S128x512 .f32 := extractStridedSlice S128x512 ![0, 512] v675 slices_S128x1024_o0_512_S128x512
  have v678 : FVec F S128x512 .f32 := broadcastTo S128x512 v452 broadcasts_S1x1_S128x512
  have v679 : FVec F S128x512 .f32 := mulf v678 v677
  have v680 : FVec F S128x512 .f32 := subf v676 v679
  have v681 : FVec F S128x512 .f32 := mulf v680 v680
  have cst_391 : FVec F S512 .f32 := constant S512 .f32 0x00000000#32
  have v682 : FVec F S512 .f32 := multiReduction .add [0] S512 v681 0x00000000#32 reduces_S128x512_S512 (.inl rfl) rfl
  have v683 : FVec F S1x512 .f32 := shapeCast S1x512 v682 shapeCasts_S512_S1x512
  have cst_392 : F .f32 := Scalar.ofBits .f32 0x43000000#32
  have v684 : FVec F S1x512 .f32 := broadcast S1x512 cst_392
  have v685 : FVec F S1x512 .f32 := divf v683 v684
  have cst_393 : F .f32 := Scalar.ofBits .f32 0x358637BD#32
  have v686 : FVec F S1x512 .f32 := broadcast S1x512 cst_393
  have v687 : FVec F S1x512 .f32 := addf v685 v686
  have v688 : FVec F S1x512 .f32 := rsqrt v687
  have v689 : FVec F S128x512 .f32 := broadcastTo S128x512 v688 broadcasts_S1x512_S128x512
  have v690 : FVec F S128x512 .f32 := mulf v680 v689
  let c0_394 : Index := 0#32
  let c0_395 : Index := 0#32
  let v691 : Vec F S128x1 .f32 ← Prog.lift (.load arg7 (Rect.unit (s := S128x1) ![0, 0] S128x1.size inb_S128x1_S128x1_0_0).toLoadRect (View.loadsAt_vmem h_S128x1))
  have v692 : FVec F S128x512 .f32 := broadcastTo S128x512 v691 broadcasts_S128x1_S128x512
  have v693 : FVec F S128x512 .f32 := mulf v690 v692
  have cst_396 : F .f32 := Scalar.ofBits .f32 0x3F4CCCCD#32
  have v694 : FVec F S128x512 .f32 := broadcast S128x512 cst_396
  have v695 : FVec F S128x512 .f32 := mulf v693 v694
  have v696 : FVec F S128x512 .bf16 := truncf .bf16 v695 bitsLt_bf16_f32
  have v697 : FVec F S512x128 .bf16 := transpose S512x128 [1, 0] v696 transposes_S128x512_p1_0_S512x128
  let c0_397 : Index := 0#32
  let c3584_398 : Index := 3584#32
  let c0_399 : Index := 0#32
  let v698 : Vec F S1x512x128 .bf16 ← Prog.lift (.load arg8 (Rect.unit (s := S1x4096x128) ![0, 3584, 0] S1x512x128.size inb_S1x4096x128_S1x512x128_0_3584_0).toLoadRect (View.loadsAt_vmem h_S1x512x128))
  have v699 : FVec F S512x128 .bf16 := shapeCast S512x128 v698 shapeCasts_S1x512x128_S512x128
  have v700 : FVec F S1x512x128 .bf16 := shapeCast S1x512x128 v697 shapeCasts_S512x128_S1x512x128
  Prog.lift (.store arg8 (Rect.unit (s := S1x4096x128) ![0, 3584, 0] S1x512x128.size inb_S1x4096x128_S1x512x128_0_3584_0) v700 Finset.univ (View.stores_vmem h_S1x512x128 (harg8.storeExact_slice rfl _ packedbf16_S1x4096x128_S1x512x128_0_3584_0) (fun _ => rfl)) (.inl rfl))
  pure ⟨⟩ : P F PUnit)
    = tailK arg4 arg6 arg7 arg8 harg8 arg9 arg10 arg11 arg12 arg13 arg14 g := rfl

set_option maxRecDepth 65536 in
/-- At a grid point whose third coordinate is zero the body fills the values first. -/
theorem body_fill (h : k0_cond1 i = 1#1) :
    cc0_attn_b (F := F) i arg3 harg3 arg4 harg4 arg5 harg5 arg6 harg6 arg7 harg7 arg8 harg8 arg9 harg9 arg10 harg10 arg11 harg11 arg12 harg12 arg13 harg13 arg14 harg14
      = Scf.Loop.for k0_t1_loop (k0_t1_ok i h) ⟨⟩ (fillTripK i arg5 arg9 harg9 h) >>= fun _ => restK arg3 arg4 arg6 arg7 arg8 harg8 arg9 arg10 harg10 arg11 arg12 arg13 arg14 := by
  unfold cc0_attn_b k0_part34 k0_part15
  rw [dif_pos h, Gen.k0_part19_eq_skeleton]
  unfold Gen.k0_part19_skel
  simp only [bind_assoc, trip_fun_eq]
  unfold restK
  generalize (Scf.Loop.for k0_t2_loop k0_t2_ok : FVec F S8x1024 .f32 → (Fin k0_t2_loop.trips → FVec F S8x1024 .f32 → P F (FVec F S8x1024 .f32)) → P F (FVec F S8x1024 .f32)) = L
  generalize (Scf.Loop.for k0_t1_loop (k0_t1_ok i h) : Unit → (Fin k0_t1_loop.trips → Unit → P F Unit) → P F Unit) = L'
  have e := before_loop i arg3 harg3 arg4 harg4 arg5 harg5 arg6 harg6 arg7 harg7 arg8 harg8 arg9 harg9 arg10 harg10 arg11 harg11 arg12 harg12 arg13 harg13 arg14 harg14 fun s => L (Gen.k0_pay102 s) (tripK arg4 arg9 arg10 arg11 arg12 arg13 arg14) >>= tailK arg4 arg6 arg7 arg8 harg8 arg9 arg10 arg11 arg12 arg13 arg14
  have a : tailK (F := F) arg4 arg6 arg7 arg8 harg8 arg9 arg10 arg11 arg12 arg13 arg14 = fun g => _ := funext fun g => (after_loop i arg3 harg3 arg4 harg4 arg5 harg5 arg6 harg6 arg7 harg7 arg8 harg8 arg9 harg9 arg10 harg10 arg11 harg11 arg12 harg12 arg13 harg13 arg14 harg14 g).symm
  rw [a] at e ⊢
  simp only [bind_assoc, pure_bind] at e ⊢
  exact congrArg _ (funext fun _ => e)

set_option maxRecDepth 65536 in
/-- At the other grid points it goes straight on. -/
theorem body_skip (h : ¬ k0_cond1 i = 1#1) :
    cc0_attn_b (F := F) i arg3 harg3 arg4 harg4 arg5 harg5 arg6 harg6 arg7 harg7 arg8 harg8 arg9 harg9 arg10 harg10 arg11 harg11 arg12 harg12 arg13 harg13 arg14 harg14
      = restK arg3 arg4 arg6 arg7 arg8 harg8 arg9 arg10 harg10 arg11 arg12 arg13 arg14 := by
  unfold cc0_attn_b k0_part34 k0_part15
  rw [dif_neg h, Gen.k0_part19_eq_skeleton]
  unfold Gen.k0_part19_skel
  simp only [bind_assoc, trip_fun_eq]
  unfold restK
  generalize (Scf.Loop.for k0_t2_loop k0_t2_ok : FVec F S8x1024 .f32 → (Fin k0_t2_loop.trips → FVec F S8x1024 .f32 → P F (FVec F S8x1024 .f32)) → P F (FVec F S8x1024 .f32)) = L
  have e := before_loop i arg3 harg3 arg4 harg4 arg5 harg5 arg6 harg6 arg7 harg7 arg8 harg8 arg9 harg9 arg10 harg10 arg11 harg11 arg12 harg12 arg13 harg13 arg14 harg14 fun s => L (Gen.k0_pay102 s) (tripK arg4 arg9 arg10 arg11 arg12 arg13 arg14) >>= tailK arg4 arg6 arg7 arg8 harg8 arg9 arg10 arg11 arg12 arg13 arg14
  have a : tailK (F := F) arg4 arg6 arg7 arg8 harg8 arg9 arg10 arg11 arg12 arg13 arg14 = fun g => _ := funext fun g => (after_loop i arg3 harg3 arg4 harg4 arg5 harg5 arg6 harg6 arg7 harg7 arg8 harg8 arg9 harg9 arg10 harg10 arg11 harg11 arg12 harg12 arg13 harg13 arg14 harg14 g).symm
  rw [a] at e ⊢
  simp only [bind_assoc, pure_bind] at e ⊢
  exact e

end Program

end Cert.DiffIdeal.Run

end
-- ==== Proof.DiffRun.lean ====
/-
  The rule of the differential attention's body: from a query block, the keys, the transposed values, the four rows and the gains to the output block.
-/
module

public import proofs.«01_k».proof.Proof.DiffBody

@[expose] public section

noncomputable section

namespace Cert.DiffIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DiffIdeal.Facts₀ Cert.DiffIdeal.Facts
open Cert.Sweep (scoresK updateK vTileK startK groupMax stageScore Inv VDone held fold startMax startAcc vAll stored)
open Cert.DiffSweep (dTileK rowsK lamOf DDone RDone dAll dOut)

/-! ## The offsets of the loop's accesses -/

theorem off4 : ∀ (k : Fin k0_t2_loop.trips) (r : Fin 5) (s : Fin 2),
    k0_off4 k (BitVec.ofNat 32 (2 * r.val)) (BitVec.ofNat 32 (1 + s.val)) = ![0, (10 * k.val + 2 * r.val + s.val + 1) % 16 * 512, 0] := by decide +kernel
theorem off5 : ∀ (k : Fin k0_t2_loop.trips) (r : Fin 5) (s : Fin 2),
    k0_off5 k (BitVec.ofNat 32 (2 * r.val)) (BitVec.ofNat 32 (1 + s.val)) = ![(10 * k.val + 2 * r.val + s.val + 1) / 16 % 8, 0, 0] := by decide +kernel
theorem off6 : ∀ (k : Fin k0_t2_loop.trips) (r : Fin 5), k0_off6 k (BitVec.ofNat 32 (2 * r.val)) = ![(10 * k.val + 2 * r.val) / 16 % 8, 0, 0] := by decide +kernel
theorem off7 : ∀ (k : Fin k0_t2_loop.trips) (r : Fin 5), k0_off7 k (BitVec.ofNat 32 (2 * r.val)) = ![(10 * k.val + 2 * r.val) / 16 % 8, 0, 0] := by decide +kernel
theorem off8 : ∀ (k : Fin k0_t2_loop.trips) (r : Fin 5), k0_off8 k (BitVec.ofNat 32 (2 * r.val)) = ![(10 * k.val + 2 * r.val) % 16, 0, 0] := by decide +kernel
theorem off9 : ∀ (k : Fin k0_t2_loop.trips) (r : Fin 5), k0_off9 k (BitVec.ofNat 32 (2 * r.val)) = ![(10 * k.val + 2 * r.val + 1) / 16 % 8, 0, 0] := by decide +kernel
theorem off10 : ∀ (k : Fin k0_t2_loop.trips) (r : Fin 5), k0_off10 k (BitVec.ofNat 32 (2 * r.val)) = ![(10 * k.val + 2 * r.val + 1) / 16 % 8, 0, 0] := by decide +kernel
theorem off11 : ∀ (k : Fin k0_t2_loop.trips) (r : Fin 5), k0_off11 k (BitVec.ofNat 32 (2 * r.val)) = ![(10 * k.val + 2 * r.val + 1) % 16, 0, 0] := by decide +kernel
theorem off1 : ∀ k : Fin k0_t1_loop.trips, k0_off1 k = ![0, k.val * 512, 0] := by decide +kernel
theorem off2 : ∀ k : Fin k0_t1_loop.trips, k0_off2 k = ![k.val, 0, 0] := by decide +kernel
theorem off3 : ∀ k : Fin k0_t1_loop.trips, k0_off3 k = ![k.val, 128, 0] := by decide +kernel

section Rules

variable {Ix : Type} [DecidableEq Ix] {F : FTy → Type} [FloatOps F] {Name : Type} [DecidableEq Name] {U : Type} [URA U] {Lvl : Type} [Preorder Lvl]

local notation "𝕄" => MT nD τ sig Ix (Elt F) Name U Lvl

variable (defs : Defs nD τ sig (Elt F) Λ₀) (𝒱 : Variants) (c : Dev nD) (bd : Option 𝒱.V) (E : Set Name)
variable (i : grid0.Coords) (arg3 : Memref sig .tc .vmem S1x4096x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x4096x128 .bf16) (harg8 : arg8.IsWhole)
  (arg9 : Memref sig .tc .vmem S16x144x512 .bf16) (harg9 : arg9.IsWhole) (arg10 : Memref sig .tc .vmem S8x128x1024 .bf16) (harg10 : arg10.IsWhole)
  (arg11 : Memref sig .tc .vmem S512x1024 .f32) (harg11 : arg11.IsWhole) (arg12 : Memref sig .tc .vmem S512x1024 .f32) (harg12 : arg12.IsWhole)
  (arg13 : Memref sig .tc .vmem S8x1x1024 .f32) (harg13 : arg13.IsWhole) (arg14 : Memref sig .tc .vmem S8x144x1024 .f32) (harg14 : arg14.IsWhole)
variable (K : Vec F S1x8192x128 .bf16) (Qt : Vec F S8x128x1024 .bf16) (V : Vec F S16x144x512 .bf16)
  (L : Vec F S4x64 .f32) (G : Vec F S128x1 .f32)

/-- The sweep's invariant on the kernel's buffers. -/
abbrev Sw (n : ℕ) (b b' : Memref sig .tc .vmem S512x1024 .f32) : sProp 𝕄 :=
  Inv c arg4 arg10 arg9 arg13 arg14 K Qt V (startMax (F := F)) (startAcc (F := F)) n b b'

/-- Two stages of a trip. -/
theorem pair_rule {β : Type} (k : Fin k0_t2_loop.trips) (r : Fin 5) (n : ℕ) (hn : n = 10 * k.val + 2 * r.val) (κ : FVec F S8x1024 .f32 → P F β) (Q : β → sProp 𝕄) (R : sProp 𝕄)
    (hκ : iprop(Sw c arg4 arg9 arg10 arg13 arg14 K Qt V (n + 2) arg11 arg12 ∗ R) ⊢ wp frame (wpE defs 𝒱 (c : Thread nD τ) bd) E (κ (groupMax (stageScore K Qt (n + 2)))) Q) :
    iprop(Sw c arg4 arg9 arg10 arg13 arg14 K Qt V n arg11 arg12 ∗ R)
      ⊢ wp frame (wpE defs 𝒱 (c : Thread nD τ) bd) E (pairK arg4 arg9 arg10 arg11 arg12 arg13 arg14 k r (groupMax (stageScore K Qt n)) κ) Q := by
  subst hn
  unfold pairK
  refine Cert.Sweep.stage_rule defs 𝒱 c bd E arg4 arg10 arg9 arg13 arg14 K Qt V _ _ arg11 arg12 _ (off4 k r 0) (off5 k r 0) (off6 k r) (off7 k r) (off8 k r) _ Q R ?_
  exact Cert.Sweep.stage_rule defs 𝒱 c bd E arg4 arg10 arg9 arg13 arg14 K Qt V _ _ arg12 arg11 _ (off4 k r 1) (off5 k r 1) (off9 k r) (off10 k r) (off11 k r) _ Q R hκ

/-- A trip: ten stages; the chunk's maxima are handed on. -/
theorem trip_rule (k : Fin k0_t2_loop.trips) :
    Sw c arg4 arg9 arg10 arg13 arg14 K Qt V (10 * k.val) arg11 arg12
      ⊢ wp frame (wpE defs 𝒱 (c : Thread nD τ) bd) E (tripK arg4 arg9 arg10 arg11 arg12 arg13 arg14 k (groupMax (stageScore K Qt (10 * k.val))))
        fun acc => (iprop(⌜acc = groupMax (stageScore K Qt (10 * (k.val + 1)))⌝ ∗ Sw c arg4 arg9 arg10 arg13 arg14 K Qt V (10 * (k.val + 1)) arg11 arg12) : sProp 𝕄) := by
  refine BIBase.Entails.trans (Q := iprop(Sw c arg4 arg9 arg10 arg13 arg14 K Qt V (10 * k.val) arg11 arg12 ∗ emp)) ?_ ?_
  · iintro H; isplitl [H]; · iexact H
    iempintro
  unfold tripK
  refine pair_rule defs 𝒱 c bd E arg4 arg9 arg10 arg11 arg12 arg13 arg14 K Qt V k 0 _ rfl _ _ _ ?_
  refine pair_rule defs 𝒱 c bd E arg4 arg9 arg10 arg11 arg12 arg13 arg14 K Qt V k 1 _ rfl _ _ _ ?_
  refine pair_rule defs 𝒱 c bd E arg4 arg9 arg10 arg11 arg12 arg13 arg14 K Qt V k 2 _ rfl _ _ _ ?_
  refine pair_rule defs 𝒱 c bd E arg4 arg9 arg10 arg11 arg12 arg13 arg14 K Qt V k 3 _ rfl _ _ _ ?_
  refine pair_rule defs 𝒱 c bd E arg4 arg9 arg10 arg11 arg12 arg13 arg14 K Qt V k 4 _ rfl _ _ _ ?_
  rw [wp_ret]
  iintro ⟨H, _⟩
  imodintro
  isplitr [H]
  · ipureintro; rfl
  · iexact H

/-- What the body leaves, but for the scratch that is rewritten at every point. -/
def After (X : Vec F S1x4096x128 .bf16) : sProp 𝕄 :=
  iprop(held c arg3 X ∗ held c arg4 K ∗ held c arg6 L ∗ held c arg7 G ∗ held c arg8 (dOut (F := F) L G (fold K (dAll (F := F) X) V (startMax (F := F)) (startAcc (F := F)) 128).2) ∗ held c arg9 V
    ∗ (∃ T, held c arg10 T) ∗ (∃ T, held c arg11 T) ∗ (∃ T, held c arg12 T) ∗ (∃ T, held c arg13 T) ∗ (∃ T, held c arg14 T))

/-- The output tiles. -/
theorem outs_rule (A : Vec F S8x144x1024 .f32) (Q : PUnit → sProp 𝕄) (R : sProp 𝕄)
    (hκ : iprop(held c arg8 (dOut (F := F) L G A) ∗ held c arg7 G ∗ held c arg14 A ∗ R) ⊢ Q ⟨⟩) :
    iprop((∃ T, held c arg8 T) ∗ held c arg7 G ∗ held c arg14 A ∗ R) ⊢ wp frame (wpE defs 𝒱 (c : Thread nD τ) bd) E (
      rowsK arg7 arg14 arg8 harg8 (lamOf L) 0 <|
      rowsK arg7 arg14 arg8 harg8 (lamOf L) 1 <|
      rowsK arg7 arg14 arg8 harg8 (lamOf L) 2 <|
      rowsK arg7 arg14 arg8 harg8 (lamOf L) 3 <|
      rowsK arg7 arg14 arg8 harg8 (lamOf L) 4 <|
      rowsK arg7 arg14 arg8 harg8 (lamOf L) 5 <|
      rowsK arg7 arg14 arg8 harg8 (lamOf L) 6 <|
      rowsK arg7 arg14 arg8 harg8 (lamOf L) 7 <|
      (.ret ⟨⟩ : P F PUnit)) Q := by
  refine BIBase.Entails.trans (Q := iprop(RDone c arg8 L G A (0 : Fin 8).val ∗ held c arg7 G ∗ held c arg14 A ∗ R)) ?_ ?_
  · iintro ⟨⟨%T, HT⟩, HG, HA, HR⟩
    isplitl [HT]
    · unfold RDone
      iexists T
      isplitr [HT]; swap; · iexact HT
      ipureintro
      intro y hy
      exact absurd hy (Nat.not_lt_zero _)
    isplitl [HG]; · iexact HG
    isplitl [HA]; · iexact HA
    iexact HR
  refine Cert.DiffSweep.rows_rule defs 𝒱 c bd E arg7 arg14 arg8 harg8 L G A 0 _ Q R ?_
  refine Cert.DiffSweep.rows_rule defs 𝒱 c bd E arg7 arg14 arg8 harg8 L G A 1 _ Q R ?_
  refine Cert.DiffSweep.rows_rule defs 𝒱 c bd E arg7 arg14 arg8 harg8 L G A 2 _ Q R ?_
  refine Cert.DiffSweep.rows_rule defs 𝒱 c bd E arg7 arg14 arg8 harg8 L G A 3 _ Q R ?_
  refine Cert.DiffSweep.rows_rule defs 𝒱 c bd E arg7 arg14 arg8 harg8 L G A 4 _ Q R ?_
  refine Cert.DiffSweep.rows_rule defs 𝒱 c bd E arg7 arg14 arg8 harg8 L G A 5 _ Q R ?_
  refine Cert.DiffSweep.rows_rule defs 𝒱 c bd E arg7 arg14 arg8 harg8 L G A 6 _ Q R ?_
  refine Cert.DiffSweep.rows_rule defs 𝒱 c bd E arg7 arg14 arg8 harg8 L G A 7 _ Q R ?_
  rw [wp_ret]
  unfold RDone
  iintro ⟨⟨%T, %hT, HT⟩, HG, HA, HR⟩
  have e : T = dOut (F := F) L G A := by
    funext y
    refine hT y ?_
    have h1 : (y 1).val < 4096 := (y 1).isLt
    show (y 1).val / 512 < 8
    omega
  rw [e]
  imodintro
  iapply hκ
  isplitl [HT]; · iexact HT
  isplitl [HG]; · iexact HG
  isplitl [HA]; · iexact HA
  iexact HR

/-- What the last stages and the output tiles leave. -/
def Swept : sProp 𝕄 :=
  iprop(held c arg4 K ∗ held c arg10 Qt ∗ held c arg9 V ∗ held c arg6 L ∗ held c arg7 G ∗ held c arg8 (dOut (F := F) L G (fold K Qt V (startMax (F := F)) (startAcc (F := F)) 128).2)
    ∗ (∃ T, held c arg11 T) ∗ (∃ T, held c arg12 T) ∗ (∃ T, held c arg13 T) ∗ (∃ T, held c arg14 T))

/-- The last eight stages and the output tiles. -/
theorem tail_rule (Q : PUnit → sProp 𝕄) :
    iprop(Sw c arg4 arg9 arg10 arg13 arg14 K Qt V 120 arg11 arg12 ∗ (∃ T, held c arg8 T) ∗ held c arg6 L ∗ held c arg7 G ∗ (Swept c arg4 arg6 arg7 arg8 arg9 arg10 arg11 arg12 arg13 arg14 K Qt V L G -∗ Q ⟨⟩))
      ⊢ wp frame (wpE defs 𝒱 (c : Thread nD τ) bd) E (tailK arg4 arg6 arg7 arg8 harg8 arg9 arg10 arg11 arg12 arg13 arg14 (groupMax (stageScore K Qt 120))) Q := by
  unfold tailK
  refine Cert.Sweep.stage_rule defs 𝒱 c bd E arg4 arg10 arg9 arg13 arg14 K Qt V _ _ arg11 arg12 120 rfl rfl rfl rfl rfl _ Q _ ?_
  refine Cert.Sweep.stage_rule defs 𝒱 c bd E arg4 arg10 arg9 arg13 arg14 K Qt V _ _ arg12 arg11 121 rfl rfl rfl rfl rfl _ Q _ ?_
  refine Cert.Sweep.stage_rule defs 𝒱 c bd E arg4 arg10 arg9 arg13 arg14 K Qt V _ _ arg11 arg12 122 rfl rfl rfl rfl rfl _ Q _ ?_
  refine Cert.Sweep.stage_rule defs 𝒱 c bd E arg4 arg10 arg9 arg13 arg14 K Qt V _ _ arg12 arg11 123 rfl rfl rfl rfl rfl _ Q _ ?_
  refine Cert.Sweep.stage_rule defs 𝒱 c bd E arg4 arg10 arg9 arg13 arg14 K Qt V _ _ arg11 arg12 124 rfl rfl rfl rfl rfl _ Q _ ?_
  refine Cert.Sweep.stage_rule defs 𝒱 c bd E arg4 arg10 arg9 arg13 arg14 K Qt V _ _ arg12 arg11 125 rfl rfl rfl rfl rfl _ Q _ ?_
  refine Cert.Sweep.stage_rule defs 𝒱 c bd E arg4 arg10 arg9 arg13 arg14 K Qt V _ _ arg11 arg12 126 rfl rfl rfl rfl rfl _ Q _ ?_
  unfold Cert.Sweep.Inv
  iintro ⟨⟨HK, HQ, HV, HB, HB', HM, HA⟩, HO, HL, HG, Hk⟩
  iapply (Cert.Sweep.update_rule defs 𝒱 c bd E arg9 arg13 arg14 K Qt V _ _ arg12 127 rfl rfl rfl _ Q)
  isplitl [HV]; · iexact HV
  isplitl [HB]; · iexact HB
  isplitl [HM]; · iexact HM
  isplitl [HA]; · iexact HA
  iintro HV HB HM HA
  iapply (Cert.Sweep.wp_ld defs 𝒱 c bd E arg6 ![0, 0] rfl (by decide) L Q) $$ HL
  rw [Cert.DiffSweep.window_whole]
  iintro HL
  iapply (outs_rule defs 𝒱 c bd E arg7 arg8 harg8 arg14 L G _ Q
    iprop(held c arg6 L ∗ held c arg4 K ∗ held c arg10 Qt ∗ held c arg9 V ∗ (∃ T, held c arg11 T) ∗ (∃ T, held c arg12 T) ∗ (∃ T, held c arg13 T)
      ∗ (Swept c arg4 arg6 arg7 arg8 arg9 arg10 arg11 arg12 arg13 arg14 K Qt V L G -∗ Q ⟨⟩)) ?_)
  · unfold Swept
    iintro ⟨HO, HG, HA, HL, HK, HQ, HV, H8, H9, HM, Hk⟩
    iapply Hk
    isplitl [HK]; · iexact HK
    isplitl [HQ]; · iexact HQ
    isplitl [HV]; · iexact HV
    isplitl [HL]; · iexact HL
    isplitl [HG]; · iexact HG
    isplitl [HO]; · iexact HO
    isplitl [H8]; · iexact H8
    isplitl [H9]; · iexact H9
    isplitl [HM]; · iexact HM
    iexists _; iexact HA
  isplitl [HO]; · iexact HO
  isplitl [HG]; · iexact HG
  isplitl [HA]; · iexact HA
  isplitl [HL]; · iexact HL
  isplitl [HK]; · iexact HK
  isplitl [HQ]; · iexact HQ
  isplitl [HV]; · iexact HV
  isplitl [HB']; · iexact HB'
  isplitl [HB]; · iexists _; iexact HB
  isplitl [HM]; · iexists _; iexact HM
  iexact Hk

/-- The scratch buffers rewritten at every point. -/
def Scratch : sProp 𝕄 :=
  iprop((∃ T, held c arg10 T) ∗ (∃ T, held c arg11 T) ∗ (∃ T, held c arg12 T) ∗ (∃ T, held c arg13 T) ∗ (∃ T, held c arg14 T))

/-- The body after the values' fill: from a query block, the keys and the transposed values to the output block. -/
theorem rest_rule (X : Vec F S1x4096x128 .bf16) (Q : PUnit → sProp 𝕄) :
    iprop(held c arg3 X ∗ held c arg4 K ∗ held c arg6 L ∗ held c arg7 G ∗ (∃ T, held c arg8 T) ∗ held c arg9 V ∗ Scratch c arg10 arg11 arg12 arg13 arg14
      ∗ (After c arg3 arg4 arg6 arg7 arg8 arg9 arg10 arg11 arg12 arg13 arg14 K V L G X -∗ Q ⟨⟩))
      ⊢ wp frame (wpE defs 𝒱 (c : Thread nD τ) bd) E (restK arg3 arg4 arg6 arg7 arg8 harg8 arg9 arg10 harg10 arg11 arg12 arg13 arg14) Q := by
  refine BIBase.Entails.trans (Q := iprop(DDone c arg3 arg10 X (0 : Fin 8).val ∗ (held c arg4 K ∗ held c arg6 L ∗ held c arg7 G ∗ (∃ T, held c arg8 T) ∗ held c arg9 V ∗ (∃ T, held c arg11 T) ∗ (∃ T, held c arg12 T) ∗ (∃ T, held c arg13 T)
      ∗ (∃ T, held c arg14 T) ∗ (After c arg3 arg4 arg6 arg7 arg8 arg9 arg10 arg11 arg12 arg13 arg14 K V L G X -∗ Q ⟨⟩)))) ?_ ?_
  · unfold Scratch DDone
    iintro ⟨HX, HK, HL, HG, HO, HV, ⟨⟨%T, H7⟩, H8, H9, H10, H11⟩, Hk⟩
    isplitl [HX H7]
    · isplitl [HX]; · iexact HX
      iexists T
      isplitr [H7]; swap; · iexact H7
      ipureintro
      intro y hy
      exact absurd hy (Nat.not_lt_zero _)
    isplitl [HK]; · iexact HK
    isplitl [HL]; · iexact HL
    isplitl [HG]; · iexact HG
    isplitl [HO]; · iexact HO
    isplitl [HV]; · iexact HV
    isplitl [H8]; · iexact H8
    isplitl [H9]; · iexact H9
    isplitl [H10]; · iexact H10
    isplitl [H11]; · iexact H11
    iexact Hk
  unfold restK
  refine Cert.DiffSweep.dTile_rule defs 𝒱 c bd E arg3 arg10 harg10 X 0 _ Q _ ?_
  refine Cert.DiffSweep.dTile_rule defs 𝒱 c bd E arg3 arg10 harg10 X 1 _ Q _ ?_
  refine Cert.DiffSweep.dTile_rule defs 𝒱 c bd E arg3 arg10 harg10 X 2 _ Q _ ?_
  refine Cert.DiffSweep.dTile_rule defs 𝒱 c bd E arg3 arg10 harg10 X 3 _ Q _ ?_
  refine Cert.DiffSweep.dTile_rule defs 𝒱 c bd E arg3 arg10 harg10 X 4 _ Q _ ?_
  refine Cert.DiffSweep.dTile_rule defs 𝒱 c bd E arg3 arg10 harg10 X 5 _ Q _ ?_
  refine Cert.DiffSweep.dTile_rule defs 𝒱 c bd E arg3 arg10 harg10 X 6 _ Q _ ?_
  refine Cert.DiffSweep.dTile_rule defs 𝒱 c bd E arg3 arg10 harg10 X 7 _ Q _ ?_
  unfold DDone
  iintro ⟨⟨HX, ⟨%T, %hT, H7⟩⟩, HK, HL, HG, HO, HV, H8, H9, H10, H11, Hk⟩
  have e : T = dAll (F := F) X := funext fun y => hT y (y 0).isLt
  rw [e]
  iapply (Cert.Sweep.start_rule defs 𝒱 c bd E arg13 arg14 _ Q iprop(held c arg3 X ∗ held c arg10 (dAll (F := F) X) ∗ held c arg4 K ∗ held c arg6 L ∗ held c arg7 G ∗ (∃ T, held c arg8 T) ∗ held c arg9 V ∗ (∃ T, held c arg11 T) ∗ (∃ T, held c arg12 T)
      ∗ (After c arg3 arg4 arg6 arg7 arg8 arg9 arg10 arg11 arg12 arg13 arg14 K V L G X -∗ Q ⟨⟩)) ?_)
  · iintro ⟨HM, HA, HX, H7, HK, HL, HG, HO, HV, ⟨%Y, H8⟩, H9, Hk⟩
    iapply (Cert.Sweep.scores_rule defs 𝒱 c bd E arg4 arg10 K (dAll (F := F) X) arg11 0 rfl rfl _ Y Q)
    isplitl [HK]; · iexact HK
    isplitl [H7]; · iexact H7
    isplitl [H8]; · iexact H8
    iintro HK H7 H8
    iapply (Scf.wp_for_bind frame (wpE defs 𝒱 (c : Thread nD τ) bd) E _ _ _ k0_t2_ok (groupMax (stageScore K (dAll (F := F) X) 0)) (tripK arg4 arg9 arg10 arg11 arg12 arg13 arg14)
      (fun k acc => iprop(⌜acc = groupMax (stageScore K (dAll (F := F) X) (10 * k))⌝ ∗ Sw c arg4 arg9 arg10 arg13 arg14 K (dAll (F := F) X) V (10 * k) arg11 arg12)) ?_) $$ [HK H7 H8 H9 HV HM HA]
    · intro k acc
      iintro ⟨%h, H⟩
      subst h
      iapply (trip_rule defs 𝒱 c bd E arg4 arg9 arg10 arg11 arg12 arg13 arg14 K (dAll (F := F) X) V k) $$ H
    · isplitr [HK H7 H8 H9 HV HM HA]
      · ipureintro; rfl
      unfold Sw Cert.Sweep.Inv
      isplitl [HK]; · iexact HK
      isplitl [H7]; · iexact H7
      isplitl [HV]; · iexact HV
      isplitl [H8]; · iexact H8
      isplitl [H9]; · iexact H9
      isplitl [HM]; · iexact HM
      iexact HA
    iintro %acc ⟨%h, H⟩
    subst h
    iapply (tail_rule defs 𝒱 c bd E arg4 arg6 arg7 arg8 harg8 arg9 arg10 arg11 arg12 arg13 arg14 K (dAll (F := F) X) V L G Q)
    isplitl [H]; · iexact H
    isplitl [HO]; · iexact HO
    isplitl [HL]; · iexact HL
    isplitl [HG]; · iexact HG
    unfold Swept After
    iintro ⟨HK, H7, HV, HL, HG, HO, H8, H9, HM, HA⟩
    iapply Hk
    isplitl [HX]; · iexact HX
    isplitl [HK]; · iexact HK
    isplitl [HL]; · iexact HL
    isplitl [HG]; · iexact HG
    isplitl [HO]; · iexact HO
    isplitl [HV]; · iexact HV
    isplitl [H7]; · iexists _; iexact H7
    isplitl [H8]; · iexact H8
    isplitl [H9]; · iexact H9
    isplitl [HM]; · iexact HM
    iexact HA
  isplitl [H10]; · iexact H10
  isplitl [H11]; · iexact H11
  isplitl [HX]; · iexact HX
  isplitl [H7]; · iexact H7
  isplitl [HK]; · iexact HK
  isplitl [HL]; · iexact HL
  isplitl [HG]; · iexact HG
  isplitl [HO]; · iexact HO
  isplitl [HV]; · iexact HV
  isplitl [H8]; · iexact H8
  isplitl [H9]; · iexact H9
  iexact Hk

/-- The values' fill: the transposed values, from the value block. -/
theorem fill_rule (h : k0_cond1 i = 1#1) (W : Vec F S1x8192x128 .bf16) (T : Vec F S16x144x512 .bf16) {β : Type} (kk : Unit → P F β) (Q : β → sProp 𝕄) :
    iprop(held c arg5 W ∗ held c arg9 T ∗ (held c arg5 W -∗ held c arg9 (vAll (F := F) W) -∗ wp frame (wpE defs 𝒱 (c : Thread nD τ) bd) E (kk ⟨⟩) Q))
      ⊢ wp frame (wpE defs 𝒱 (c : Thread nD τ) bd) E (Scf.Loop.for k0_t1_loop (k0_t1_ok i h) ⟨⟩ (fillTripK i arg5 arg9 harg9 h) >>= kk) Q := by
  iintro ⟨HW, HT, Hk⟩
  iapply (Scf.wp_for_bind frame (wpE defs 𝒱 (c : Thread nD τ) bd) E _ _ _ (k0_t1_ok i h) () (fillTripK i arg5 arg9 harg9 h)
    (fun k _ => VDone c arg5 arg9 W k) ?_) $$ [HW HT]
  · intro k _
    refine Cert.Sweep.vTile_rule defs 𝒱 c bd E arg5 arg9 W k.val k.isLt (off1 k) (off2 k) (off3 k) _ _ ?_
    rw [wp_ret]
    iintro H
    imodintro
    iexact H
  · unfold VDone
    isplitl [HW]; · iexact HW
    iexists T
    isplitr [HT]; swap; · iexact HT
    ipureintro
    intro y hy
    exact absurd hy (Nat.not_lt_zero _)
  iintro %acc H
  unfold VDone
  icases H with ⟨HW, ⟨%T', %hT, HT⟩⟩
  have e : T' = vAll (F := F) W := funext fun y => hT y (y 0).isLt
  rw [e]
  iapply Hk $$ HW HT

/-- The transposed values a point runs on: its own value block's where it fills them, else those left by the points before. -/
def valuesAt (W : Vec F S1x8192x128 .bf16) (V : Vec F S16x144x512 .bf16) : Vec F S16x144x512 .bf16 :=
  if k0_cond1 i = 1#1 then vAll (F := F) W else V

/-- The rule of the whole body at a grid point. -/
theorem body_rule (X : Vec F S1x4096x128 .bf16) (W : Vec F S1x8192x128 .bf16) (Q : PUnit → sProp 𝕄) :
    iprop(held c arg3 X ∗ held c arg4 K ∗ held c arg5 W ∗ held c arg6 L ∗ held c arg7 G ∗ (∃ T, held c arg8 T) ∗ held c arg9 V ∗ Scratch c arg10 arg11 arg12 arg13 arg14
      ∗ (held c arg5 W -∗ After c arg3 arg4 arg6 arg7 arg8 arg9 arg10 arg11 arg12 arg13 arg14 K (valuesAt i W V) L G X -∗ Q ⟨⟩))
      ⊢ wp frame (wpE defs 𝒱 (c : Thread nD τ) bd) E (cc0_attn_b (F := F) i arg3 harg3 arg4 harg4 arg5 harg5 arg6 harg6 arg7 harg7 arg8 harg8 arg9 harg9 arg10 harg10 arg11 harg11 arg12 harg12 arg13 harg13 arg14 harg14) Q := by
  by_cases h : k0_cond1 i = 1#1
  · rw [body_fill i arg3 harg3 arg4 harg4 arg5 harg5 arg6 harg6 arg7 harg7 arg8 harg8 arg9 harg9 arg10 harg10 arg11 harg11 arg12 harg12 arg13 harg13 arg14 harg14 h]
    unfold valuesAt
    rw [if_pos h]
    iintro ⟨HX, HK, HW, HL, HG, HO, HV, HS, Hk⟩
    iapply (fill_rule defs 𝒱 c bd E i arg5 arg9 harg9 h W V _ Q)
    isplitl [HW]; · iexact HW
    isplitl [HV]; · iexact HV
    iintro HW HV
    iapply (rest_rule defs 𝒱 c bd E arg3 arg4 arg6 arg7 arg8 harg8 arg9 arg10 harg10 arg11 arg12 arg13 arg14 K (vAll (F := F) W) L G X Q)
    isplitl [HX]; · iexact HX
    isplitl [HK]; · iexact HK
    isplitl [HL]; · iexact HL
    isplitl [HG]; · iexact HG
    isplitl [HO]; · iexact HO
    isplitl [HV]; · iexact HV
    isplitl [HS]; · iexact HS
    iintro HA
    iapply Hk $$ HW HA
  · rw [body_skip i arg3 harg3 arg4 harg4 arg5 harg5 arg6 harg6 arg7 harg7 arg8 harg8 arg9 harg9 arg10 harg10 arg11 harg11 arg12 harg12 arg13 harg13 arg14 harg14 h]
    unfold valuesAt
    rw [if_neg h]
    iintro ⟨HX, HK, HW, HL, HG, HO, HV, HS, Hk⟩
    iapply (rest_rule defs 𝒱 c bd E arg3 arg4 arg6 arg7 arg8 harg8 arg9 arg10 harg10 arg11 arg12 arg13 arg14 K V L G X Q)
    isplitl [HX]; · iexact HX
    isplitl [HK]; · iexact HK
    isplitl [HL]; · iexact HL
    isplitl [HG]; · iexact HG
    isplitl [HO]; · iexact HO
    isplitl [HV]; · iexact HV
    isplitl [HS]; · iexact HS
    iintro HA
    iapply Hk $$ HW HA

/-- The rule of any program that is the body. -/
theorem rule_of_eq (prog : P F PUnit) (hprog : prog = cc0_attn_b (F := F) i arg3 harg3 arg4 harg4 arg5 harg5 arg6 harg6 arg7 harg7 arg8 harg8 arg9 harg9 arg10 harg10 arg11 harg11 arg12 harg12 arg13 harg13 arg14 harg14)
    (X : Vec F S1x4096x128 .bf16) (W : Vec F S1x8192x128 .bf16) (Q : PUnit → sProp 𝕄) :
    iprop(held c arg3 X ∗ held c arg4 K ∗ held c arg5 W ∗ held c arg6 L ∗ held c arg7 G ∗ (∃ T, held c arg8 T) ∗ held c arg9 V ∗ Scratch c arg10 arg11 arg12 arg13 arg14
      ∗ (held c arg5 W -∗ After c arg3 arg4 arg6 arg7 arg8 arg9 arg10 arg11 arg12 arg13 arg14 K (valuesAt i W V) L G X -∗ Q ⟨⟩))
      ⊢ wp frame (wpE defs 𝒱 (c : Thread nD τ) bd) E prog Q := by
  rw [hprog]
  exact body_rule defs 𝒱 c bd E i arg3 harg3 arg4 harg4 arg5 harg5 arg6 harg6 arg7 harg7 arg8 harg8 arg9 harg9 arg10 harg10 arg11 harg11 arg12 harg12 arg13 harg13 arg14 harg14 K V L G X W Q

end Rules

end Cert.DiffIdeal.Run

end
-- ==== Proof.DiffKernelBody.lean ====
/-
  The rule of the differential attention's body, for the kernel as printed: its body is the one the rule was proved of.
-/
module

public import proofs.«01_k».proof.Proof.DiffRun
public import proofs.«01_k».proof.Proof.Gen.Diff.Launch

@[expose] public section

set_option maxRecDepth 65536

noncomputable section

namespace Cert.Diff.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sweep (held fold startMax startAcc vAll)
open Cert.DiffSweep (dAll dOut)

variable {Ix : Type} [DecidableEq Ix] {F : FTy → Type} [FloatOps F] {Name : Type} [DecidableEq Name] {U : Type} [URA U] {Lvl : Type} [Preorder Lvl]

local notation "𝕄" => MT nD τ sig Ix (Elt F) Name U Lvl

/-- The two programs have one body. -/
theorem same_body : @Cert.Diff.cc0_attn_b F _ _ = @Cert.DiffIdeal.cc0_attn_b F _ _ := rfl

variable (defs : Defs nD τ sig (Elt F) Λ₀) (𝒱 : Variants) (c : Dev nD) (bd : Option 𝒱.V) (E : Set Name)
variable (i : grid0.Coords) (arg3 : Memref sig .tc .vmem S1x4096x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x4096x128 .bf16) (harg8 : arg8.IsWhole)
  (arg9 : Memref sig .tc .vmem S16x144x512 .bf16) (harg9 : arg9.IsWhole) (arg10 : Memref sig .tc .vmem S8x128x1024 .bf16) (harg10 : arg10.IsWhole)
  (arg11 : Memref sig .tc .vmem S512x1024 .f32) (harg11 : arg11.IsWhole) (arg12 : Memref sig .tc .vmem S512x1024 .f32) (harg12 : arg12.IsWhole)
  (arg13 : Memref sig .tc .vmem S8x1x1024 .f32) (harg13 : arg13.IsWhole) (arg14 : Memref sig .tc .vmem S8x144x1024 .f32) (harg14 : arg14.IsWhole)
variable (K : Vec F S1x8192x128 .bf16) (V : Vec F S16x144x512 .bf16) (L : Vec F S4x64 .f32) (G : Vec F S128x1 .f32)

/-- The buffers the body fills for itself at every point, each at some contents. -/
def Scratch : sProp 𝕄 :=
  iprop((∃ T, held c arg10 T) ∗ (∃ T, held c arg11 T) ∗ (∃ T, held c arg12 T) ∗ (∃ T, held c arg13 T) ∗ (∃ T, held c arg14 T))

/-- What the body leaves, but for the scratch that is rewritten at every point. -/
def After (X : Vec F S1x4096x128 .bf16) : sProp 𝕄 :=
  iprop(held c arg3 X ∗ held c arg4 K ∗ held c arg6 L ∗ held c arg7 G ∗ held c arg8 (dOut (F := F) L G (fold K (dAll (F := F) X) V (startMax (F := F)) (startAcc (F := F)) 128).2) ∗ held c arg9 V
    ∗ (∃ T, held c arg10 T) ∗ (∃ T, held c arg11 T) ∗ (∃ T, held c arg12 T) ∗ (∃ T, held c arg13 T) ∗ (∃ T, held c arg14 T))

/-- The transposed values a point runs on: its own value block's where it fills them, else those left by the points before. -/
def valuesAt (W : Vec F S1x8192x128 .bf16) (V : Vec F S16x144x512 .bf16) : Vec F S16x144x512 .bf16 :=
  if k0_cond1 i = 1#1 then vAll (F := F) W else V

set_option maxHeartbeats 1600000 in
/-- The rule of the whole body at a grid point. -/
theorem body_rule (X : Vec F S1x4096x128 .bf16) (W : Vec F S1x8192x128 .bf16) (Q : PUnit → sProp 𝕄) :
    iprop(held c arg3 X ∗ held c arg4 K ∗ held c arg5 W ∗ held c arg6 L ∗ held c arg7 G ∗ (∃ T, held c arg8 T) ∗ held c arg9 V ∗ Scratch c arg10 arg11 arg12 arg13 arg14
      ∗ (held c arg5 W -∗ After c arg3 arg4 arg6 arg7 arg8 arg9 arg10 arg11 arg12 arg13 arg14 K (valuesAt i W V) L G X -∗ Q ⟨⟩))
      ⊢ wp frame (wpE defs 𝒱 (c : Thread nD τ) bd) E (cc0_attn_b (F := F) i arg3 harg3 arg4 harg4 arg5 harg5 arg6 harg6 arg7 harg7 arg8 harg8 arg9 harg9 arg10 harg10 arg11 harg11 arg12 harg12 arg13 harg13 arg14 harg14) Q := by
  exact Cert.DiffIdeal.Run.rule_of_eq defs 𝒱 c bd E i arg3 harg3 arg4 harg4 arg5 harg5 arg6 harg6 arg7 harg7 arg8 harg8 arg9 harg9 arg10 harg10 arg11 harg11 arg12 harg12 arg13 harg13 arg14 harg14 K V L G
    (cc0_attn_b (F := F) i arg3 harg3 arg4 harg4 arg5 harg5 arg6 harg6 arg7 harg7 arg8 harg8 arg9 harg9 arg10 harg10 arg11 harg11 arg12 harg12 arg13 harg13 arg14 harg14)
    (by rw [same_body]) X W Q

end Cert.Diff.Run

end
-- ==== Proof.DiffIdealLaunch.lean ====
/-
  The launch of the differential attention at the reading of its floats as extended reals: what each grid point leaves, and the run of the whole program.
-/
module

public import proofs.«01_k».proof.Proof.DiffRun
public import proofs.«01_k».proof.Proof.Gen.DiffIdeal.Frame
public import Idealize.ShloMosaic.Lib.Pipeline.TableIdle
public import Idealize.ShloMosaic.Lib.Pipeline.Quiescent

@[expose] public section

noncomputable section

namespace Cert.DiffIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Sweep (held fold startMax startAcc vAll)
open Cert.DiffSweep (dAll dOut)
open Cert.DiffIdeal.Run (After Scratch valuesAt body_rule)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the pair that point `n` lies in. -/
def firstOf (n : ℕ) : Fin cfg0.N := ⟨2 * (n / 2) % 16, (Nat.mod_lt _ (by decide)).trans_eq Gen.N_0.symm⟩

/-- The queries a point runs on. -/
def queriesAt (c : Dev nD) (t : Fin cfg0.N) : Vec F S1x4096x128 .bf16 := Gen.iblk m c 0 t

/-- The keys a point runs on. -/
def keysAt (c : Dev nD) (t : Fin cfg0.N) : Vec F S1x8192x128 .bf16 := Gen.iblk m c 1 t

/-- The value block of a point. -/
def valueBlockAt (c : Dev nD) (t : Fin cfg0.N) : Vec F S1x8192x128 .bf16 := Gen.iblk m c 2 t

/-- The four rows a point runs on. -/
def rowsOf (c : Dev nD) (t : Fin cfg0.N) : Vec F S4x64 .f32 := Gen.iblk m c 3 t

/-- The gains a point runs on. -/
def gainsOf (c : Dev nD) (t : Fin cfg0.N) : Vec F S128x1 .f32 := Gen.iblk m c 4 t

/-- The transposed values of the pair that point `n` lies in. -/
def pairValues (c : Dev nD) (n : ℕ) : Vec F S16x144x512 .bf16 := vAll (F := F) (valueBlockAt m c (firstOf n))

/-- The output block a point leaves. -/
def leftAt (c : Dev nD) (t : Fin cfg0.N) : Vec F S1x4096x128 .bf16 :=
  dOut (F := F) (rowsOf m c t) (gainsOf m c t) (fold (keysAt m c t) (dAll (F := F) (queriesAt m c t)) (pairValues m c t.val) (startMax (F := F)) (startAcc (F := F)) 128).2

/-- What the kernel carries from point to point: inside a pair, the pair's transposed values. -/
def Carried (c : Dev nD) (n : ℕ) : sProp 𝕄 :=
  iprop((∃ V, ⌜n % 2 ≠ 0 → V = pairValues m c n⌝ ∗ held c (Memref.whole cc0_scratch0) V)
    ∗ Scratch c (Memref.whole cc0_scratch1) (Memref.whole cc0_scratch2) (Memref.whole cc0_scratch3) (Memref.whole cc0_scratch4) (Memref.whole cc0_scratch5)
    ∗ ∃ r, prngReg c r)

/-- What each window holds after each point, and what is carried between points. -/
def dats (_ : Fin 1) (c : Dev nD) : Dat τ (Elt F) Unit ℕ (UR sig nD τ) ℕ cfg0 c where
  A w := Gen.V m c (Pipeline.arrRef spec0 w)
  after w t := match w with
    | 0 => Gen.iblk m c 0 t
    | 1 => Gen.iblk m c 1 t
    | 2 => Gen.iblk m c 2 t
    | 3 => Gen.iblk m c 3 t
    | 4 => Gen.iblk m c 4 t
    | 5 => leftAt m c t
  Φ t := Carried m c t.val
  q w := Pipeline.shareOf spec0 w
  owed _ := 0

theorem before0 (c : Dev nD) (t : Fin cfg0.N) (d) : (dats m 0 c).before 0 t d = queriesAt m c t :=
  Gen.before0_0_of m (dats m 0 c) rfl (fun _ => rfl) t d
theorem before1 (c : Dev nD) (t : Fin cfg0.N) (d) : (dats m 0 c).before 1 t d = keysAt m c t :=
  Gen.before0_1_of m (dats m 0 c) rfl (fun _ => rfl) t d
theorem before2 (c : Dev nD) (t : Fin cfg0.N) (d) : (dats m 0 c).before 2 t d = valueBlockAt m c t :=
  Gen.before0_2_of m (dats m 0 c) rfl (fun _ => rfl) t d

theorem before3 (c : Dev nD) (t : Fin cfg0.N) (d) : (dats m 0 c).before 3 t d = rowsOf m c t :=
  Gen.before0_3_of m (dats m 0 c) rfl (fun _ => rfl) t d
theorem before4 (c : Dev nD) (t : Fin cfg0.N) (d) : (dats m 0 c).before 4 t d = gainsOf m c t :=
  Gen.before0_4_of m (dats m 0 c) rfl (fun _ => rfl) t d

/-- The values are filled at the first point of each pair. -/
theorem fills : ∀ t : Fin grid0.N, (k0_cond1 (grid0.coords t) = 1#1 ↔ t.val % 2 = 0) := by decide +kernel

/-- After a point, the scratch holds the transposed values of the point's pair. -/
theorem values_after (c : Dev nD) (t : Fin cfg0.N) (V : Vec F S16x144x512 .bf16) (hV : t.val % 2 ≠ 0 → V = pairValues m c t.val) :
    valuesAt (grid0.coords t) (valueBlockAt m c t) V = pairValues m c t.val := by
  unfold valuesAt
  by_cases h : t.val % 2 = 0
  · rw [if_pos ((fills t).mpr h)]
    have : firstOf t.val = t := Fin.ext (by
      show 2 * (t.val / 2) % 16 = t.val
      have := t.isLt.trans_eq Gen.N_0
      omega)
    unfold pairValues
    rw [this]
  · rw [if_neg (fun h' => h ((fills t).mp h')), hV h]

/-- Carried from one point to the next. -/
theorem carried_next (c : Dev nD) (n : ℕ) : iprop(held c (Memref.whole cc0_scratch0) (pairValues m c n)
    ∗ Scratch c (Memref.whole cc0_scratch1) (Memref.whole cc0_scratch2) (Memref.whole cc0_scratch3) (Memref.whole cc0_scratch4) (Memref.whole cc0_scratch5)
    ∗ ∃ r, prngReg c r) ⊢ (Carried m c (n + 1) : sProp 𝕄) := by
  unfold Carried
  iintro ⟨HV, HS, HR⟩
  isplitl [HV]
  · iexists (pairValues m c n)
    isplitr
    · ipureintro
      intro h
      unfold pairValues firstOf
      have : (n + 1) / 2 = n / 2 := by omega
      simp only [this]
    · iexact HV
  isplitl [HS]; · iexact HS
  iexact HR

/-- The body's obligation at each point, in the body's own words. -/
theorem body_at (c : Dev nD) (t : Fin cfg0.N) (O : sProp 𝕄) :
    iprop(Carried m c t.val ∗ O ∗ held c (Gen.st0_0 t) (queriesAt m c t) ∗ held c (Gen.st0_1 t) (keysAt m c t) ∗ held c (Gen.st0_2 t) (valueBlockAt m c t) ∗ held c (Gen.st0_3 t) (rowsOf m c t) ∗ held c (Gen.st0_4 t) (gainsOf m c t) ∗ (∃ T, held c (Gen.st0_5 t) T))
      ⊢ wp frame (wpE (defs₀ (F := F)) Variants.none (c : Thread nD τ) none) Set.univ (Gen.bodyAt0 (F := F) t) fun _ =>
        iprop(Carried m c (t.val + 1) ∗ O ∗ held c (Gen.st0_0 t) (queriesAt m c t) ∗ held c (Gen.st0_1 t) (keysAt m c t) ∗ held c (Gen.st0_2 t) (valueBlockAt m c t) ∗ held c (Gen.st0_3 t) (rowsOf m c t) ∗ held c (Gen.st0_4 t) (gainsOf m c t) ∗ held c (Gen.st0_5 t) (leftAt m c t)) := by
  have hc : (Carried m c t.val : sProp 𝕄) = iprop((∃ V, ⌜t.val % 2 ≠ 0 → V = pairValues m c t.val⌝ ∗ held c (Memref.whole cc0_scratch0) V)
    ∗ Scratch c (Memref.whole cc0_scratch1) (Memref.whole cc0_scratch2) (Memref.whole cc0_scratch3) (Memref.whole cc0_scratch4) (Memref.whole cc0_scratch5)
    ∗ ∃ r, prngReg c r) := rfl
  rw [hc]
  iintro ⟨⟨⟨%V, %hV, HV⟩, HS, HR⟩, HO, H0, H1, H2, H3, H4, H5⟩
  iapply (body_rule (defs₀ (F := F)) Variants.none c none Set.univ (grid0.coords t) _ _ _ _ _ _ _ _ _ _ _ _ _ _ _ _ _ _ _ _ _ _ _ _ (keysAt m c t) V (rowsOf m c t) (gainsOf m c t) (queriesAt m c t) (valueBlockAt m c t) _)
  isplitl [H0]; · iexact H0
  isplitl [H1]; · iexact H1
  isplitl [H2]; · iexact H2
  isplitl [H3]; · iexact H3
  isplitl [H4]; · iexact H4
  isplitl [H5]; · iexact H5
  isplitl [HV]; · iexact HV
  isplitl [HS]; · iexact HS
  rw [values_after m c t V hV]
  unfold After
  iintro H2 ⟨H0, H1, H3, H4, H5, HV, HS⟩
  isplitl [HV HS HR]
  · iapply (carried_next m c t.val)
    isplitl [HV]; · iexact HV
    isplitl [HS]; · unfold Scratch; iexact HS
    iexact HR
  isplitl [HO]; · iexact HO
  isplitl [H0]; · iexact H0
  isplitl [H1]; · iexact H1
  isplitl [H2]; · iexact H2
  isplitl [H3]; · iexact H3
  isplitl [H4]; · iexact H4
  unfold leftAt
  iexact H5

/-- The body table's entry at a point's arguments is the body at that point. -/
theorem row (t : Fin cfg0.N) : defs₀ (F := F) .tc cfg0.body (cfg0.bodyArgs t (cfg0.slots t)) = Gen.bodyAt0 t := by
  unfold defs₀
  rw [Defs.onTc_tc]

theorem carried_before (c : Dev nD) (t : Fin cfg0.N) : (dats m 0 c).Φ t.castSucc = Carried m c t.val :=
  congrArg (Carried m c) (Fin.val_castSucc t)
theorem carried_after (c : Dev nD) (t : Fin cfg0.N) : (dats m 0 c).Φ t.succ = Carried m c (t.val + 1) :=
  congrArg (Carried m c) (Fin.val_succ t)

/-- The body meets its obligation at every point. -/
theorem body_sound (c : Dev nD) : BodyObligationLoose (dats m 0 c) (defs₀ (F := F)) Variants.none () Set.univ := by
  intro t
  refine triple_restated (body_at m c t ((dats m 0 c).owesAt () t.castSucc)) (by rw [← row t]) ?_ ?_
  · rw [Gen.bigSep_W0, carried_before]
    iintro ⟨HC, HO, ⟨%d0, H0⟩, ⟨%d1, H1⟩, ⟨%d2, H2⟩, ⟨%d3, H3⟩, ⟨%d4, H4⟩, ⟨%d5, H5⟩⟩
    rw [before0, before1, before2, before3, before4]
    isplitl [HC]; · iexact HC
    isplitl [HO]; · iexact HO
    isplitl [H0]; · iapply (rep_of_owns (c : Thread nD τ) (Gen.st0_0 t) fullShare (queriesAt m c t)) $$ H0
    isplitl [H1]; · iapply (rep_of_owns (c : Thread nD τ) (Gen.st0_1 t) fullShare (keysAt m c t)) $$ H1
    isplitl [H2]; · iapply (rep_of_owns (c : Thread nD τ) (Gen.st0_2 t) fullShare (valueBlockAt m c t)) $$ H2
    isplitl [H3]; · iapply (rep_of_owns (c : Thread nD τ) (Gen.st0_3 t) fullShare (rowsOf m c t)) $$ H3
    isplitl [H4]; · iapply (rep_of_owns (c : Thread nD τ) (Gen.st0_4 t) fullShare (gainsOf m c t)) $$ H4
    iexists ((dats m 0 c).before 5 t d5)
    iapply (rep_of_owns (c : Thread nD τ) (Gen.st0_5 t) fullShare ((dats m 0 c).before 5 t d5)) $$ H5
  · intro _
    rw [Gen.bigSep_W0, carried_after]
    iintro ⟨HC, HO, H0, H1, H2, H3, H4, H5⟩
    isplitl [HC]; · iexact HC
    isplitl [HO]; · iexact HO
    isplitl [H0]; · iapply (owns_of_rep (c : Thread nD τ) (Gen.st0_0 t) fullShare (queriesAt m c t)) $$ H0
    isplitl [H1]; · iapply (owns_of_rep (c : Thread nD τ) (Gen.st0_1 t) fullShare (keysAt m c t)) $$ H1
    isplitl [H2]; · iapply (owns_of_rep (c : Thread nD τ) (Gen.st0_2 t) fullShare (valueBlockAt m c t)) $$ H2
    isplitl [H3]; · iapply (owns_of_rep (c : Thread nD τ) (Gen.st0_3 t) fullShare (rowsOf m c t)) $$ H3
    isplitl [H4]; · iapply (owns_of_rep (c : Thread nD τ) (Gen.st0_4 t) fullShare (gainsOf m c t)) $$ H4
    iapply (owns_of_rep (c : Thread nD τ) (Gen.st0_5 t) fullShare (leftAt m c t)) $$ H5

/-- A buffer whole at given contents, as the body holds it. -/
theorem held_whole (c : Dev nD) (b : Ref sig .tc) (f : Buf (Elt F) ((c : Thread nD τ).loc b)) :
    (held c (Memref.whole b) f : sProp 𝕄) = (((c : Thread nD τ).loc b) ↦{fullShare} f) :=
  (owns_eq_rep (c : Thread nD τ) (Memref.whole b) fullShare f).symm.trans (owns_whole (c : Thread nD τ) b fullShare f)

/-- What the kernel starts from, as the body holds it. -/
theorem start_eq (c : Dev nD) : (Pipeline.ΦA spec0 c : sProp 𝕄)
    = iprop(((∃ V, held c (Memref.whole cc0_scratch0) V) ∗ (∃ T, held c (Memref.whole cc0_scratch1) T) ∗ (∃ T, held c (Memref.whole cc0_scratch2) T) ∗ (∃ T, held c (Memref.whole cc0_scratch3) T)
        ∗ (∃ T, held c (Memref.whole cc0_scratch4) T) ∗ (∃ T, held c (Memref.whole cc0_scratch5) T)) ∗ ∃ r, prngReg c r) := by
  unfold Pipeline.ΦA
  rw [Gen.scopedRest0_eq]
  simp only [← held_whole]

theorem start_carried (c : Dev nD) : (Pipeline.ΦA spec0 c : sProp 𝕄) ⊢ (dats m 0 c).Φ 0 := by
  rw [start_eq, show (dats m 0 c).Φ 0 = Carried m c 0 from rfl]
  unfold Carried Scratch
  iintro ⟨⟨⟨%V, HV⟩, HS⟩, HR⟩
  isplitl [HV]
  · iexists V
    isplitr
    · ipureintro
      intro h
      exact absurd rfl h
    · iexact HV
  isplitl [HS]; · iexact HS
  iexact HR

theorem carried_end (c : Dev nD) : (dats m 0 c).Φ (Fin.last cfg0.N) ⊢ (Pipeline.ΦA spec0 c : sProp 𝕄) := by
  rw [start_eq, show (dats m 0 c).Φ (Fin.last cfg0.N) = Carried m c (Fin.last cfg0.N).val from rfl]
  unfold Carried Scratch
  iintro ⟨⟨%V, -, HV⟩, HS, HR⟩
  isplitl [HV HS]
  · isplitl [HV]
    · iexists V
      iexact HV
    iexact HS
  iexact HR

/-- The run of the whole program: the arrays end at the data's contents, and every semaphore at zero. -/
theorem run : θ_run defs (onTc (τ := τ) (main (F := F))) (s₀ m ρ) (fun r => Pipeline.FramePost cfgs (dats m) 0 (Gen.V m) r ∧ r.2.sem = fun _ => 0) :=
  Pipeline.θ_run_frame_track_shared cfgs (dats m) (0 : Fin 1) Gen.launch₀0 defs₀ Variants.none m ρ main (body_sound m)
    (fun _ _ _ => rfl) (fun _ _ => rfl) (Gen.V m) (Gen.hmain m Variants.none) (fun _ _ => rfl) (start_carried m) (carried_end m) _ (fun _ h => h)

/-- The program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (Gen.frame_of m ρ (dats m) (fun _ _ => rfl)) (run m ρ)

end Cert.DiffIdeal.Launch

end
-- ==== Proof.Online.lean ====
/-
  The identity behind a streaming softmax, over the extended reals and without any condition of finiteness.

  Scores arrive in chunks. A running maximum and running sums are kept relative to it, and both are moved when a chunk raises the
  maximum. After any number of chunks the sums are those of the weights relative to the maximum so far.
-/
module

public import Idealize.ShloMosaic.PureOps.Ideal

@[expose] public section

noncomputable section

namespace Cert.Online

open Idealize.ShloMosaic

/-- The weight of a score relative to a maximum: two to the power of their difference. -/
def weight (s M : EReal) : EReal := Ideal.exp2 (s - M)

theorem weight_bot (M : EReal) : weight ⊥ M = 0 := by
  unfold weight; rw [EReal.bot_sub]; rfl

theorem weight_top (s : EReal) : weight s ⊤ = 0 := by
  unfold weight; rw [EReal.sub_top]; rfl

theorem weight_real (s M : ℝ) : weight s M = (((2 : ℝ) ^ (s - M) : ℝ) : EReal) := by
  unfold weight; rw [← EReal.coe_sub]; rfl

/-- Moving a weight from one maximum to a larger one is a multiplication by the weight of the old maximum. -/
theorem move_weight (s M M' : EReal) (hs : s ≤ M) (hM : M ≤ M') : weight M M' * weight s M = weight s M' := by
  induction M' with
  | bot =>
    obtain rfl : M = ⊥ := le_bot_iff.1 hM
    obtain rfl : s = ⊥ := le_bot_iff.1 hs
    rw [weight_bot, zero_mul]
  | top => rw [weight_top, weight_top, zero_mul]
  | coe M' =>
    induction M with
    | bot =>
      obtain rfl : s = ⊥ := le_bot_iff.1 hs
      rw [weight_bot, weight_bot, zero_mul]
    | top => exact absurd (top_le_iff.1 hM) (EReal.coe_ne_top _)
    | coe M =>
      induction s with
      | bot => rw [weight_bot, weight_bot, mul_zero]
      | top => exact absurd (top_le_iff.1 hs) (EReal.coe_ne_top _)
      | coe s =>
        rw [weight_real, weight_real, weight_real, ← EReal.coe_mul, ← Real.rpow_add (by norm_num)]
        congr 2; ring

/-- The weight of a maximum relative to a larger one is neither negative nor infinite. -/
theorem weight_fine (M M' : EReal) (hM : M ≤ M') : 0 ≤ weight M M' ∧ weight M M' ≠ ⊤ := by
  have h0 : (0 : EReal) ≠ ⊤ := EReal.zero_ne_top
  induction M' with
  | bot =>
    obtain rfl : M = ⊥ := le_bot_iff.1 hM
    rw [weight_bot]; exact ⟨le_refl _, h0⟩
  | top => rw [weight_top]; exact ⟨le_refl _, h0⟩
  | coe M' =>
    induction M with
    | bot => rw [weight_bot]; exact ⟨le_refl _, h0⟩
    | top => exact absurd (top_le_iff.1 hM) (EReal.coe_ne_top _)
    | coe M =>
      rw [weight_real]
      exact ⟨EReal.coe_nonneg.2 (Real.rpow_nonneg (by norm_num) _), EReal.coe_ne_top _⟩

/-- A factor that is neither negative nor infinite goes into a sum. -/
theorem mul_sum_fine {ι : Type} (s : Finset ι) (f : ι → EReal) (a : EReal) (h0 : 0 ≤ a) (ht : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The largest of the first `n` scores. -/
def top (s : ℕ → EReal) (n : ℕ) : EReal := (Finset.range n).sup s

/-- The sum of the first `n` values under the weights relative to `M`. -/
def total (s v : ℕ → EReal) (n : ℕ) (M : EReal) : EReal := ∑ k ∈ Finset.range n, v k * weight (s k) M

theorem le_top (s : ℕ → EReal) (n k : ℕ) (h : k < n) : s k ≤ top s n := Finset.le_sup (f := s) (Finset.mem_range.2 h)

theorem top_add (s : ℕ → EReal) (n m : ℕ) : top s (n + m) = max (top s n) ((Finset.range m).sup fun j => s (n + j)) := by
  apply le_antisymm
  · refine Finset.sup_le fun k hk => ?_
    rcases Nat.lt_or_ge k n with h | h
    · exact (le_top s n k h).trans (le_max_left _ _)
    · obtain ⟨j, rfl⟩ := Nat.exists_eq_add_of_le h
      refine le_trans ?_ (le_max_right _ _)
      exact Finset.le_sup (f := fun j => s (n + j)) (Finset.mem_range.2 (by have := Finset.mem_range.1 hk; omega))
  · refine max_le (Finset.sup_le fun k hk => le_top s _ k (by have := Finset.mem_range.1 hk; omega)) (Finset.sup_le fun j hj => le_top s _ _ (by have := Finset.mem_range.1 hj; omega))

/-- The sums relative to an old maximum, moved to a new one. -/
theorem move_total (s v : ℕ → EReal) (n : ℕ) (M' : EReal) (h : top s n ≤ M') : weight (top s n) M' * total s v n (top s n) = total s v n M' := by
  obtain ⟨h0, ht⟩ := weight_fine _ _ h
  unfold total
  rw [mul_sum_fine _ _ _ h0 ht]
  refine Finset.sum_congr rfl fun k hk => ?_
  rw [mul_left_comm, move_weight _ _ _ (le_top s n k (Finset.mem_range.1 hk)) h]

/-- One chunk of `m` scores: the sums moved to the new maximum, plus the chunk's, are the sums of all scores so far. -/
theorem total_step (s v : ℕ → EReal) (n m : ℕ) :
    weight (top s n) (top s (n + m)) * total s v n (top s n) + ∑ j ∈ Finset.range m, v (n + j) * weight (s (n + j)) (top s (n + m))
      = total s v (n + m) (top s (n + m)) := by
  rw [move_total s v n _ (by rw [top_add]; exact le_max_left _ _)]
  unfold total
  rw [Finset.sum_range_add]

end Cert.Online

end
-- ==== Proof.TileValues.lean ====
/-
  The pure functions of a stage and of the tiles around the sweep, over the extended reals, read at an index.
-/
module

public import proofs.«01_k».proof.Proof.Tiles
public import proofs.«01_k».proof.Proof.Online
public import Idealize.ShloMosaic.Lib.Pointwise

@[expose] public section

noncomputable section

namespace Cert.Sweep

open Idealize.ShloMosaic Cert.Online

set_option maxRecDepth 16384

/-- The pattern of minus infinity. -/
theorem minus_infinity : Ideal.ofBits FTy.f32 4286578688#32 = ⊥ := by
  simp [Ideal.ofBits, Ideal.ieee]

/-- Two rank-three reads agree where their coordinates do. -/
theorem read3 {n0 n1 n2 : ℕ} {α : Type} (x : (⟨3, ![n0, n1, n2]⟩ : Shape).Idx → α) {a a' : Fin n0} {b b' : Fin n1} {c c' : Fin n2}
    (ha : a.val = a'.val) (hb : b.val = b'.val) (hc : c.val = c'.val) : x (ix3 a b c) = x (ix3 a' b' c') := by
  rw [Fin.ext ha, Fin.ext hb, Fin.ext hc]

/-- Two rank-two reads agree where their coordinates do. -/
theorem read2 {n0 n1 : ℕ} {α : Type} (x : (⟨2, ![n0, n1]⟩ : Shape).Idx → α) {a a' : Fin n0} {b b' : Fin n1}
    (ha : a.val = a'.val) (hb : b.val = b'.val) : x (ix2 a b) = x (ix2 a' b') := by
  rw [Fin.ext ha, Fin.ext hb]

/-- A window of a rank-three array at an index: the array at the index moved by the offsets. -/
theorem window3 {n0 n1 n2 m0 m1 m2 : ℕ} {α : Type} (x : (⟨3, ![n0, n1, n2]⟩ : Shape).Idx → α) (o0 o1 o2 : ℕ)
    (inb : ∀ a, (![o0, o1, o2] : Fin 3 → ℕ) a + (![m0, m1, m2] : Fin 3 → ℕ) a ≤ (⟨3, ![n0, n1, n2]⟩ : Shape).size a)
    (p : Fin m0) (q : Fin m1) (r : Fin m2) (p' : Fin n0) (q' : Fin n1) (r' : Fin n2)
    (hp : p'.val = o0 + p.val) (hq : q'.val = o1 + q.val) (hr : r'.val = o2 + r.val) :
    VecWindow.window (s := ⟨3, ![n0, n1, n2]⟩) x ![o0, o1, o2] ![m0, m1, m2] inb (ix3 (n0 := m0) (n1 := m1) (n2 := m2) p q r) = x (ix3 p' q' r') := by
  unfold VecWindow.window
  refine congrArg x (funext fun a => Fin.ext ?_)
  fin_cases a
  · show o0 + 1 * p.val = p'.val; omega
  · show o1 + 1 * q.val = q'.val; omega
  · show o2 + 1 * r.val = r'.val; omega

/-- A score: the product of a key row and a query column. -/
theorem score_apply (k : Vec Ideal S1x512x128 .bf16) (q : Vec Ideal S1x128x1024 .bf16) (j : Fin 512) (y : Fin 1024) :
    score (F := Ideal) k q (ix2 j y) = ∑ d : Fin 128, (k (ix3 0 j d) * q (ix3 0 d y) : EReal) := by
  pointwise [score]

/-- The largest of the chunk's scores of a column, over the residues and then over the groups. -/
theorem chunk_max (f : Fin 512 → EReal) (g : ℕ → EReal) (h : ∀ j : Fin 512, f j = g j.val) :
    (Finset.univ : Finset (Fin 8)).fold max ⊥ (fun i => (Finset.univ : Finset (Fin 64)).fold max ⊥ fun x => f ⟨x.val * 8 + i.val, by omega⟩)
      = (Finset.range 512).sup g := by
  apply le_antisymm
  · refine Finset.fold_max_le _ |>.2 ⟨bot_le, fun i _ => Finset.fold_max_le _ |>.2 ⟨bot_le, fun x _ => ?_⟩⟩
    rw [h]
    exact Finset.le_sup (f := g) (Finset.mem_range.2 (by show x.val * 8 + i.val < 512; omega))
  · refine Finset.sup_le fun k hk => ?_
    have hk' := Finset.mem_range.1 hk
    refine Finset.le_fold_max _ |>.2 (Or.inr ⟨⟨k % 8, by omega⟩, Finset.mem_univ _, Finset.le_fold_max _ |>.2 (Or.inr ⟨⟨k / 8, by omega⟩, Finset.mem_univ _, ?_⟩)⟩)
    rw [h]
    exact le_of_eq (congrArg g (by show k = k / 8 * 8 + k % 8; omega))

theorem groupMax_apply (s : FVec Ideal S512x1024 .f32) (i : Fin 8) (y : Fin 1024) :
    groupMax (F := Ideal) s (ix2 i y) = (Finset.univ : Finset (Fin 64)).fold max (⊥ : EReal) fun x => s (ix2 ⟨x.val * 8 + i.val, by omega⟩ y) := by
  rw [← minus_infinity]
  pointwise [groupMax]

theorem newMax_group (g : FVec Ideal S8x1024 .f32) (m : Vec Ideal S1x1x1024 .f32) (y : Fin 1024) :
    newMax (F := Ideal) g m (ix2 0 y) = max (m (ix3 0 0 y) : EReal) ((Finset.univ : Finset (Fin 8)).fold max (⊥ : EReal) fun x => g (ix2 x y)) := by
  rw [← minus_infinity]
  pointwise [newMax, readMax]

/-- The new maximum of a column: the larger of the old one and the chunk's scores. -/
theorem newMax_apply (s : FVec Ideal S512x1024 .f32) (m : Vec Ideal S1x1x1024 .f32) (y : Fin 1024) (g : ℕ → EReal) (h : ∀ j : Fin 512, s (ix2 j y) = g j.val) :
    newMax (F := Ideal) (groupMax (F := Ideal) s) m (ix2 0 y) = max (m (ix3 0 0 y) : EReal) ((Finset.range 512).sup g) := by
  rw [newMax_group, ← chunk_max (fun j => s (ix2 j y)) g h]
  simp only [groupMax_apply]

theorem storedMax_apply (g : FVec Ideal S8x1024 .f32) (m : Vec Ideal S1x1x1024 .f32) (y : Fin 1024) :
    storedMax (F := Ideal) g m (ix3 0 0 y) = newMax (F := Ideal) g m (ix2 0 y) := by
  pointwise [storedMax]

theorem weights_apply (g : FVec Ideal S8x1024 .f32) (m : Vec Ideal S1x1x1024 .f32) (s : Vec Ideal S512x1024 .f32) (j : Fin 512) (y : Fin 1024) :
    weights (F := Ideal) g m s (ix2 j y) = weight (s (ix2 j y)) (newMax (F := Ideal) g m (ix2 0 y)) := by
  pointwise [weights]
  rfl

theorem stored_apply (s : FVec Ideal S512x1024 .f32) (j : Fin 512) (y : Fin 1024) : stored (F := Ideal) s (ix2 j y) = s (ix2 j y) := by
  pointwise [stored]

/-- The new running sum of a row and a column. -/
theorem newAcc_apply (g : FVec Ideal S8x1024 .f32) (m : Vec Ideal S1x1x1024 .f32) (s : Vec Ideal S512x1024 .f32) (a : Vec Ideal S1x144x1024 .f32) (v : Vec Ideal S1x144x512 .bf16)
    (r : Fin 144) (y : Fin 1024) :
    newAcc (F := Ideal) g m s a v (ix3 0 r y)
      = (weight (m (ix3 0 0 y)) (newMax (F := Ideal) g m (ix2 0 y)) * a (ix3 0 r y)
          + ∑ j : Fin 512, v (ix3 0 r j) * weight (s (ix2 j y)) (newMax (F := Ideal) g m (ix2 0 y)) : EReal) := by
  pointwise [newAcc, rescale]
  simp only [weights_apply]
  pointwise [readMax]
  rfl

/-- The lane, among a token's 512 query lanes, of lane `d` of the 128 spread rows of head `h`. -/
def queryLane (h d : ℕ) : ℕ := h / 2 * 128 + d / 64 * 64 + h % 2 * 32 + d % 32

theorem turned_apply (x : Vec Ideal S1x128x512 .bf16) (l : Fin 512) (c : Fin 128) : turned (F := Ideal) x (ix2 l c) = x (ix3 0 c l) := by
  pointwise [turned]

theorem pairRows_apply (x : FVec Ideal S512x128 .bf16) (o : ℕ) (h : Shape.Slices S512x128 ![o, 0] S128x128) (r c : Fin 128) (r' : Fin 512) (e : r'.val = o + r.val) :
    pairRows (F := Ideal) x o h (ix2 r c) = x (ix2 r' c) := by
  unfold pairRows extractStridedSlice
  refine congrArg x (funext fun a => Fin.ext ?_)
  fin_cases a
  · exact e.symm
  · show 0 + c.val = c.val; omega

theorem quarter_apply (x : FVec Ideal S128x128 .bf16) (o : ℕ) (h : Shape.Slices S128x128 ![o, 0] S32x128) (r : Fin 32) (c r' : Fin 128) (e : r'.val = o + r.val) :
    quarter (F := Ideal) x o h (ix2 r c) = x (ix2 r' c) := by
  unfold quarter extractStridedSlice
  refine congrArg x (funext fun a => Fin.ext ?_)
  fin_cases a
  · exact e.symm
  · show 0 + c.val = c.val; omega

theorem spreadFirst_apply (a b : FVec Ideal S32x128 .bf16) (d c : Fin 128) :
    spreadFirst (F := Ideal) a b (ix2 d c)
      = (if d.val / 32 = 0 then a (ix2 ⟨d.val % 32, by omega⟩ c) else if d.val / 32 = 2 then b (ix2 ⟨d.val % 32, by omega⟩ c) else (0 : EReal)) := by
  pointwise [spreadFirst, zeroRows]
  have hd := d.isLt
  repeat' split
  all_goals first
    | rfl
    | (exfalso; omega)
    | (refine read2 a ?_ rfl; dsimp only; omega)
    | (refine read2 b ?_ rfl; dsimp only; omega)

theorem spreadSecond_apply (a b : FVec Ideal S32x128 .bf16) (d c : Fin 128) :
    spreadSecond (F := Ideal) a b (ix2 d c)
      = (if d.val / 32 = 1 then a (ix2 ⟨d.val % 32, by omega⟩ c) else if d.val / 32 = 3 then b (ix2 ⟨d.val % 32, by omega⟩ c) else (0 : EReal)) := by
  pointwise [spreadSecond, zeroRows]
  have hd := d.isLt
  repeat' split
  all_goals first
    | rfl
    | (exfalso; omega)
    | (refine read2 a ?_ rfl; dsimp only; omega)
    | (refine read2 b ?_ rfl; dsimp only; omega)

theorem rowsFit (o : ℕ) (h : o ≤ 384) : Shape.Slices S512x128 ![o, 0] S128x128 :=
  ⟨rfl, fun a => by
    fin_cases a
    · show o + 128 ≤ 512; omega
    · show 0 + 128 ≤ 128; omega⟩

theorem quarterFits (o : ℕ) (h : o ≤ 96) : Shape.Slices S128x128 ![o, 0] S32x128 :=
  ⟨rfl, fun a => by
    fin_cases a
    · show o + 32 ≤ 128; omega
    · show 0 + 128 ≤ 128; omega⟩

/-- The lanes of half `e` of head `h`, of the transposed query rows. -/
def halfOf (x : Vec Ideal S1x128x512 .bf16) (h : Fin 8) (e : Fin 2) : FVec Ideal S32x128 .bf16 :=
  quarter (F := Ideal) (pairRows (F := Ideal) (turned (F := Ideal) x) (h.val / 2 * 128) (rowsFit _ (by omega))) (e.val * 64 + h.val % 2 * 32) (quarterFits _ (by omega))

theorem halfOf_apply (x : Vec Ideal S1x128x512 .bf16) (h : Fin 8) (e : Fin 2) (r : Fin 32) (c : Fin 128) (l : Fin 512)
    (hl : l.val = h.val / 2 * 128 + e.val * 64 + h.val % 2 * 32 + r.val) : halfOf x h e (ix2 r c) = x (ix3 0 c l) := by
  unfold halfOf
  rw [quarter_apply _ _ _ r c ⟨e.val * 64 + h.val % 2 * 32 + r.val, by omega⟩ rfl, pairRows_apply _ _ _ _ c l (by rw [hl]; dsimp only; omega), turned_apply]

/-- Head `h`'s 128 columns of the query tile. -/
def headCols (x : Vec Ideal S1x128x512 .bf16) (h : Fin 8) : FVec Ideal S128x128 .bf16 :=
  if h.val < 4 then spreadFirst (F := Ideal) (halfOf x h 0) (halfOf x h 1) else spreadSecond (F := Ideal) (halfOf x h 0) (halfOf x h 1)

theorem headCols_apply (x : Vec Ideal S1x128x512 .bf16) (h : Fin 8) (d c : Fin 128) :
    headCols x h (ix2 d c) = (if d.val / 32 % 2 = h.val / 4 then x (ix3 0 c ⟨queryLane h.val d.val, by unfold queryLane; omega⟩) else (0 : EReal)) := by
  have hd := d.isLt
  have hh := h.isLt
  unfold headCols
  by_cases h4 : h.val < 4
  · rw [if_pos h4, spreadFirst_apply]
    by_cases h0 : d.val / 32 = 0
    · rw [if_pos h0, if_pos (by omega)]
      exact halfOf_apply x h 0 _ c _ (by show queryLane h.val d.val = h.val / 2 * 128 + 0 * 64 + h.val % 2 * 32 + d.val % 32; unfold queryLane; omega)
    · by_cases h2 : d.val / 32 = 2
      · rw [if_neg h0, if_pos h2, if_pos (by omega)]
        exact halfOf_apply x h 1 _ c _ (by show queryLane h.val d.val = h.val / 2 * 128 + 1 * 64 + h.val % 2 * 32 + d.val % 32; unfold queryLane; omega)
      · rw [if_neg h0, if_neg h2, if_neg (by omega)]
  · rw [if_neg h4, spreadSecond_apply]
    by_cases h0 : d.val / 32 = 1
    · rw [if_pos h0, if_pos (by omega)]
      exact halfOf_apply x h 0 _ c _ (by show queryLane h.val d.val = h.val / 2 * 128 + 0 * 64 + h.val % 2 * 32 + d.val % 32; unfold queryLane; omega)
    · by_cases h2 : d.val / 32 = 3
      · rw [if_neg h0, if_pos h2, if_pos (by omega)]
        exact halfOf_apply x h 1 _ c _ (by show queryLane h.val d.val = h.val / 2 * 128 + 1 * 64 + h.val % 2 * 32 + d.val % 32; unfold queryLane; omega)
      · rw [if_neg h0, if_neg h2, if_neg (by omega)]

/-- Eight pieces of 128 columns side by side, at an index. -/
theorem eight_apply (x : Fin 8 → FVec Ideal S128x128 .bf16) (h : Shape.Concatenates [S128x128, S128x128, S128x128, S128x128, S128x128, S128x128, S128x128, S128x128] S128x1024 1)
    (d : Fin 128) (y : Fin 1024) :
    concatenate S128x1024 1 [⟨S128x128, x 0⟩, ⟨S128x128, x 1⟩, ⟨S128x128, x 2⟩, ⟨S128x128, x 3⟩, ⟨S128x128, x 4⟩, ⟨S128x128, x 5⟩, ⟨S128x128, x 6⟩, ⟨S128x128, x 7⟩] h (ix2 d y)
      = x ⟨y.val / 128, by omega⟩ (ix2 d ⟨y.val % 128, by omega⟩) := by
  have hy := y.isLt
  have pick : ∀ (i i' : Fin 8) (c c' : Fin 128), i.val = i'.val → c.val = c'.val → x i (ix2 d c) = x i' (ix2 d c') :=
    fun i i' c c' h1 h2 => by rw [Fin.ext h1, Fin.ext h2]
  have e0 : ((0 : Fin 8) : ℕ) = 0 := rfl
  have e1 : ((1 : Fin 8) : ℕ) = 1 := rfl
  have e2 : ((2 : Fin 8) : ℕ) = 2 := rfl
  have e3 : ((3 : Fin 8) : ℕ) = 3 := rfl
  have e4 : ((4 : Fin 8) : ℕ) = 4 := rfl
  have e5 : ((5 : Fin 8) : ℕ) = 5 := rfl
  have e6 : ((6 : Fin 8) : ℕ) = 6 := rfl
  have e7 : ((7 : Fin 8) : ℕ) = 7 := rfl
  pointwise
  repeat' split
  all_goals (refine pick _ _ _ _ ?_ ?_ <;> dsimp only <;> omega)

theorem shapeCast_row (x : FVec Ideal S128x1024 .bf16) (h : Shape.ShapeCasts S128x1024 S1x128x1024) (d : Fin 128) (y : Fin 1024) :
    shapeCast S1x128x1024 x h (ix3 0 d y) = x (ix2 d y) := by
  pointwise

/-- The query tile at an index: the query's lane in the rows of its own key head, zero in the other's. -/
theorem qTile_apply (x : Vec Ideal S1x128x512 .bf16) (d : Fin 128) (y : Fin 1024) :
    qTile (F := Ideal) x (ix3 0 d y)
      = (if d.val / 32 % 2 = y.val / 512 then x (ix3 0 ⟨y.val % 128, by omega⟩ ⟨queryLane (y.val / 128) d.val, by unfold queryLane; omega⟩) else (0 : EReal)) := by
  unfold qTile
  rw [shapeCast_row]
  refine (eight_apply (headCols x) _ d y).trans ?_
  rw [headCols_apply]
  have e : y.val / 128 / 4 = y.val / 512 := by omega
  simp only [e]

theorem vTile_apply (x : Vec Ideal S1x512x128 .bf16) (d : Fin 128) (j : Fin 512) :
    vTile (F := Ideal) x (ix3 0 d j) = x (ix3 0 j d) := by
  pointwise [vTile]

theorem onesTile_apply (d : Fin 16) (j : Fin 512) : onesTile (F := Ideal) (ix3 0 d j) = (1 : EReal) := by
  pointwise [onesTile]

theorem ratio_apply (a : Vec Ideal S1x128x1024 .f32) (l : Vec Ideal S1x1x1024 .f32) (d : Fin 128) (y : Fin 1024) :
    ratio (F := Ideal) a l (ix2 d y) = Ideal.div (a (ix3 0 d y)) (l (ix3 0 0 y)) := by
  pointwise [ratio]
  try rfl

/-- An output lane at an index: the tile's row of the lane within its value head, and the column of its query head. -/
theorem outTile_apply (j : Fin 4) (x : FVec Ideal S128x1024 .bf16) (q l : Fin 128) :
    outTile (F := Ideal) j x (ix3 0 q l) = x (ix2 ⟨j.val / 2 * 64 + l.val % 64, by omega⟩ ⟨(j.val * 2 + l.val / 64) * 128 + q.val, by omega⟩) := by
  have hl := l.isLt
  match j with
  | 0 =>
    have e : ((0 : Fin 4) : ℕ) = 0 := rfl
    pointwise [outTile, headPair]
    split <;> (refine read2 x ?_ ?_ <;> dsimp only <;> omega)
  | 1 =>
    have e : ((1 : Fin 4) : ℕ) = 1 := rfl
    pointwise [outTile, headPair]
    split <;> (refine read2 x ?_ ?_ <;> dsimp only <;> omega)
  | 2 =>
    have e : ((2 : Fin 4) : ℕ) = 2 := rfl
    pointwise [outTile, headPair]
    split <;> (refine read2 x ?_ ?_ <;> dsimp only <;> omega)
  | 3 =>
    have e : ((3 : Fin 4) : ℕ) = 3 := rfl
    pointwise [outTile, headPair]
    split <;> (refine read2 x ?_ ?_ <;> dsimp only <;> omega)

end Cert.Sweep

end
-- ==== Proof.FoldValues.lean ====
/-
  What the sweep leaves: for every query tile, the largest score and the sums of the values under the weights, over all 8192 keys.
-/
module

public import proofs.«01_k».proof.Proof.TileValues

@[expose] public section

noncomputable section

namespace Cert.Sweep

open Idealize.ShloMosaic Cert.Online

set_option maxRecDepth 16384

variable (K : Vec Ideal S1x8192x128 .bf16) (Q : Vec Ideal S8x128x1024 .bf16) (V : Vec Ideal S16x144x512 .bf16)

/-- The score of key `k` against column `y` of query tile `t`. -/
def keyScore (t : Fin 8) (y : Fin 1024) (k : ℕ) : EReal :=
  ∑ d : Fin 128, (K (ix3 0 ⟨k % 8192, Nat.mod_lt _ (by decide)⟩ d) * Q (ix3 t d y) : EReal)

/-- Row `r` of the value rows at key `k`. -/
def keyValue (r : Fin 144) (k : ℕ) : EReal :=
  V (ix3 ⟨k / 512 % 16, Nat.mod_lt _ (by decide)⟩ r ⟨k % 512, Nat.mod_lt _ (by decide)⟩)

/-- The score of a stage at an index. -/
theorem stageScore_apply (t : Fin 8) (c : ℕ) (hc : c < 16) (j : Fin 512) (y : Fin 1024) :
    stageScore (F := Ideal) K Q (16 * t.val + c) (ix2 j y) = keyScore K Q t y (512 * c + j.val) := by
  have ht := t.isLt
  have hj := j.isLt
  unfold stageScore keyScore
  rw [score_apply]
  refine Finset.sum_congr rfl fun d _ => ?_
  refine congrArg₂ (fun a b : EReal => a * b) ?_ ?_
  · exact window3 K _ _ _ _ (0 : Fin 1) j d 0 ⟨(512 * c + j.val) % 8192, Nat.mod_lt _ (by decide)⟩ d rfl (by dsimp only; omega) (by omega)
  · exact window3 Q _ _ _ _ (0 : Fin 1) d y t d y (by show t.val = (16 * t.val + c) / 16 % 8 + 0; omega) (by omega) (by omega)

/-- The running maxima and sums of a tile, after some stages. -/
abbrev sweptMax (n : ℕ) (t : Fin 8) (y : Fin 1024) : EReal := (fold (F := Ideal) K Q V (startMax (F := Ideal)) (startAcc (F := Ideal)) n).1 (ix3 t 0 y)
abbrev sweptSum (n : ℕ) (t : Fin 8) (r : Fin 144) (y : Fin 1024) : EReal := (fold (F := Ideal) K Q V (startMax (F := Ideal)) (startAcc (F := Ideal)) n).2 (ix3 t r y)

theorem startMax_apply (t : Fin 8) (y : Fin 1024) : (startMax (F := Ideal) (ix3 t 0 y) : EReal) = ⊥ := by
  rw [← minus_infinity]
  pointwise [startMax]

theorem startAcc_apply (t : Fin 8) (r : Fin 144) (y : Fin 1024) : (startAcc (F := Ideal) (ix3 t r y) : EReal) = 0 := by
  pointwise [startAcc]

/-- A stage of another tile leaves the tile's maxima and sums. -/
theorem swept_other (n : ℕ) (t : Fin 8) (h : n / 16 % 8 ≠ t.val) (r : Fin 144) (y : Fin 1024) :
    sweptMax K Q V (n + 1) t y = sweptMax K Q V n t y ∧ sweptSum K Q V (n + 1) t r y = sweptSum K Q V n t r y := by
  unfold sweptMax sweptSum
  rw [fold]
  exact ⟨put_miss _ _ _ _ (ix3 t 0 y) 0 (by show t.val < n / 16 % 8 ∨ n / 16 % 8 + 1 ≤ t.val; omega),
    put_miss _ _ _ _ (ix3 t r y) 0 (by show t.val < n / 16 % 8 ∨ n / 16 % 8 + 1 ≤ t.val; omega)⟩

/-- A stage of the tile, on the maxima and the sums. -/
theorem swept_own (t : Fin 8) (c : ℕ) (hc : c < 16) (r : Fin 144) (y : Fin 1024) :
    sweptMax K Q V (16 * t.val + c + 1) t y
        = max (sweptMax K Q V (16 * t.val + c) t y) ((Finset.range 512).sup fun j => keyScore K Q t y (512 * c + j))
      ∧ sweptSum K Q V (16 * t.val + c + 1) t r y
        = weight (sweptMax K Q V (16 * t.val + c) t y) (sweptMax K Q V (16 * t.val + c + 1) t y) * sweptSum K Q V (16 * t.val + c) t r y
          + ∑ j ∈ Finset.range 512, keyValue V r (512 * c + j) * weight (keyScore K Q t y (512 * c + j)) (sweptMax K Q V (16 * t.val + c + 1) t y) := by
  have ht := t.isLt
  have e : (16 * t.val + c) / 16 % 8 = t.val := by omega
  have hw : ∀ inb, VecWindow.window (fold (F := Ideal) K Q V (startMax (F := Ideal)) (startAcc (F := Ideal)) (16 * t.val + c)).1
      ![(16 * t.val + c) / 16 % 8, 0, 0] S1x1x1024.size inb (ix3 (n0 := 1) (n1 := 1) (n2 := 1024) 0 0 y) = sweptMax K Q V (16 * t.val + c) t y :=
    fun inb => window3 _ _ _ _ inb (0 : Fin 1) (0 : Fin 1) y t 0 y (by show t.val = _ + 0; omega) rfl (by omega)
  have hm : sweptMax K Q V (16 * t.val + c + 1) t y
      = newMax (F := Ideal) (groupMax (F := Ideal) (stageScore (F := Ideal) K Q (16 * t.val + c)))
          (VecWindow.window (fold (F := Ideal) K Q V (startMax (F := Ideal)) (startAcc (F := Ideal)) (16 * t.val + c)).1 ![(16 * t.val + c) / 16 % 8, 0, 0] S1x1x1024.size (inbM _)) (ix2 0 y) := by
    unfold sweptMax
    rw [fold]
    refine (put_hit _ _ _ _ (ix3 t 0 y) (ix3 (n0 := 1) (n1 := 1) (n2 := 1024) 0 0 y) (fun a => ?_)).trans (storedMax_apply _ _ y)
    fin_cases a
    · show t.val = (16 * t.val + c) / 16 % 8 + 0; omega
    · rfl
    · show y.val = 0 + y.val; omega
  constructor
  · rw [hm, newMax_apply _ _ y (fun j => keyScore K Q t y (512 * c + j)) (fun j => stageScore_apply K Q t c hc j y)]
    exact congrArg (fun a => max a _) (hw _)
  · conv_lhs => unfold sweptSum; rw [fold]
    refine (put_hit _ _ _ _ (ix3 t r y) (ix3 (n0 := 1) (n1 := 144) (n2 := 1024) 0 r y) (fun a => ?_)).trans ?_
    · fin_cases a
      · show t.val = (16 * t.val + c) / 16 % 8 + 0; omega
      · show r.val = 0 + r.val; omega
      · show y.val = 0 + y.val; omega
    rw [newAcc_apply, ← hm]
    refine congrArg₂ (fun a b : EReal => a + b) (congrArg₂ (fun a b : EReal => a * b) (congrArg (fun a => weight a _) (hw _)) ?_) ?_
    · exact window3 _ _ _ _ _ (0 : Fin 1) r y t r y (by show t.val = _ + 0; omega) (by omega) (by omega)
    · rw [Finset.sum_range]
      refine Finset.sum_congr rfl fun j _ => ?_
      have hj := j.isLt
      rw [stored_apply, stageScore_apply K Q t c hc]
      refine congrArg (fun a => a * _) ?_
      exact window3 V _ _ _ _ (0 : Fin 1) r j ⟨(512 * c + j.val) / 512 % 16, Nat.mod_lt _ (by decide)⟩ r ⟨(512 * c + j.val) % 512, Nat.mod_lt _ (by decide)⟩
        (by show (512 * c + j.val) / 512 % 16 = (16 * t.val + c) % 16 + 0; omega) (by omega) (by show (512 * c + j.val) % 512 = 0 + j.val; omega)

/-- Before its first stage, a tile's maxima and sums are the first ones. -/
theorem swept_before (t : Fin 8) (r : Fin 144) (y : Fin 1024) (n : ℕ) (hn : n ≤ 16 * t.val) :
    sweptMax K Q V n t y = ⊥ ∧ sweptSum K Q V n t r y = 0 := by
  have ht := t.isLt
  induction n with
  | zero => exact ⟨startMax_apply t y, startAcc_apply t r y⟩
  | succ n ih =>
    obtain ⟨h1, h2⟩ := swept_other K Q V n t (by omega) r y
    rw [h1, h2]; exact ih (by omega)

/-- After `c` stages of its own, a tile has the maximum and the sums over the first `512 * c` keys. -/
theorem swept_during (t : Fin 8) (r : Fin 144) (y : Fin 1024) (c : ℕ) (hc : c ≤ 16) :
    sweptMax K Q V (16 * t.val + c) t y = top (keyScore K Q t y) (512 * c)
      ∧ sweptSum K Q V (16 * t.val + c) t r y = total (keyScore K Q t y) (keyValue V r) (512 * c) (top (keyScore K Q t y) (512 * c)) := by
  induction c with
  | zero =>
    obtain ⟨h1, h2⟩ := swept_before K Q V t r y (16 * t.val + 0) (le_refl _)
    rw [h1, h2]
    exact ⟨(Finset.sup_empty).symm, (Finset.sum_empty).symm⟩
  | succ c ih =>
    obtain ⟨i1, i2⟩ := ih (by omega)
    obtain ⟨h1, h2⟩ := swept_own K Q V t c (by omega) r y
    have e : sweptMax K Q V (16 * t.val + c + 1) t y = top (keyScore K Q t y) (512 * (c + 1)) := by
      rw [h1, i1, show 512 * (c + 1) = 512 * c + 512 by ring, top_add]
    refine ⟨e, ?_⟩
    rw [← add_assoc, h2, e, i1, i2, show 512 * (c + 1) = 512 * c + 512 by ring]
    exact total_step (keyScore K Q t y) (keyValue V r) (512 * c) 512

/-- After the whole sweep, a tile's sums are those over all keys. -/
theorem swept_all (t : Fin 8) (r : Fin 144) (y : Fin 1024) :
    sweptSum K Q V 128 t r y = total (keyScore K Q t y) (keyValue V r) 8192 (top (keyScore K Q t y) 8192) := by
  have ht := t.isLt
  have h : ∀ n, 16 * t.val + 16 ≤ n → n ≤ 128 → sweptSum K Q V n t r y = sweptSum K Q V (16 * t.val + 16) t r y := by
    intro n hn
    induction n, hn using Nat.le_induction with
    | base => intro _; rfl
    | succ n hn ih =>
      intro h
      rw [(swept_other K Q V n t (by omega) r y).2]; exact ih (by omega)
  rw [h 128 (by omega) (le_refl _)]
  exact (swept_during K Q V t r y 16 (le_refl _)).2

end Cert.Sweep

end
-- ==== Proof.Spec.lean ====
/-
  The attention that both programs compute, as a function of the projected array: softmax to the base two over all keys.
-/
module

public import proofs.«01_k».proof.Proof.Online
public import Idealize.ShloMosaic.Lib.Pointwise

@[expose] public section

noncomputable section

namespace Cert.Spec

open Idealize.ShloMosaic Cert.Online

abbrev S2x8192x2304 : Shape := ⟨3, ![2, 8192, 2304]⟩

variable (X : S2x8192x2304.Idx → EReal)

/-- The score of key `k` for query `q` of head `h`: the product over the 64 lanes of the head, which lie in two runs of 32. -/
def headScore (b : Fin 2) (h : Fin 8) (q k : Fin 8192) : EReal :=
  ∑ d : Fin 64, X (ix3 b k ⟨512 + (d.val / 32 * 64 + h.val / 4 * 32 + d.val % 32), by omega⟩) * X (ix3 b q ⟨h.val / 2 * 128 + d.val / 32 * 64 + h.val % 2 * 32 + d.val % 32, by omega⟩)

/-- The scores of output lane `o`'s head for query `q`, by the number of the key. -/
def scores (b : Fin 2) (q : Fin 8192) (o : Fin 512) (k : ℕ) : EReal := headScore X b ⟨o.val / 64, by omega⟩ q ⟨k % 8192, Nat.mod_lt _ (by decide)⟩

/-- The values of output lane `o`, by the number of the key. -/
def values (b : Fin 2) (o : Fin 512) (k : ℕ) : EReal := X (ix3 b ⟨k % 8192, Nat.mod_lt _ (by decide)⟩ ⟨640 + (o.val / 256 * 64 + o.val % 64), by omega⟩)

/-- The attention: the mean of the values under the weights of the scores. -/
def attend (b : Fin 2) (q : Fin 8192) (o : Fin 512) : EReal :=
  Ideal.div (total (scores X b q o) (values X b o) 8192 (top (scores X b q o) 8192)) (total (scores X b q o) (fun _ => 1) 8192 (top (scores X b q o) 8192))

end Cert.Spec

end
-- ==== Proof.BlockValue.lean ====
/-
  The output block of a grid point is the attention of the block's queries over all keys of its batch.
-/
module

public import proofs.«01_k».proof.Proof.FoldValues
public import proofs.«01_k».proof.Proof.Spec

@[expose] public section

noncomputable section

namespace Cert.Sweep

open Idealize.ShloMosaic Cert.Online Cert.Spec

set_option maxRecDepth 16384

variable (X : S2x8192x2304.Idx → EReal) (b : Fin 2)
variable (K U : Vec Ideal S1x8192x128 .bf16) (T : Vec Ideal S1x1024x512 .bf16)

/-- The query tiles at an index. -/
theorem qAll_apply (t : Fin 8) (d : Fin 128) (y : Fin 1024) :
    (qAll (F := Ideal) T (ix3 t d y) : EReal)
      = if d.val / 32 % 2 = y.val / 512 then T (ix3 0 ⟨128 * t.val + y.val % 128, by omega⟩ ⟨queryLane (y.val / 128) d.val, by unfold queryLane; omega⟩) else 0 := by
  unfold qAll
  refine (qTile_apply _ d y).trans ?_
  split
  · exact window3 T _ _ _ _ (0 : Fin 1) ⟨y.val % 128, Nat.mod_lt _ (by decide)⟩ _ 0 _ _ rfl rfl (by dsimp only; omega)
  · rfl

/-- The transposed values at an index. -/
theorem vAll_apply (k : Fin 16) (r : Fin 144) (hr : r.val < 128) (j : Fin 512) :
    (vAll (F := Ideal) U (ix3 k r j) : EReal) = U (ix3 0 ⟨k.val * 512 + j.val, by omega⟩ ⟨r.val, hr⟩) := by
  unfold vAll
  rw [dif_pos (show ((ix3 k r j : S16x144x512.Idx) 1).val < 128 from hr)]
  refine (vTile_apply _ ⟨r.val, hr⟩ j).trans ?_
  exact window3 U _ _ _ _ (0 : Fin 1) j ⟨r.val, hr⟩ 0 _ _ rfl rfl (by dsimp only; omega)

/-- The rows of ones at an index. -/
theorem vAll_ones (k : Fin 16) (r : Fin 144) (hr : ¬ r.val < 128) (j : Fin 512) : (vAll (F := Ideal) U (ix3 k r j) : EReal) = 1 := by
  unfold vAll
  rw [dif_neg (show ¬ ((ix3 k r j : S16x144x512.Idx) 1).val < 128 from hr)]
  exact onesTile_apply _ _

/-- The scores against a query tile are the head's scores: the lanes of the other key head meet zeros. -/
theorem keyScore_eq (q : Fin 8192) (h : Fin 8) (t : Fin 8) (y : Fin 1024) (hy : y.val / 128 = h.val)
    (hK : ∀ (k : Fin 8192) (l : Fin 128), (K (ix3 0 k l) : EReal) = X (ix3 b k ⟨512 + l.val, by omega⟩))
    (hT : ∀ l : Fin 512, (T (ix3 0 ⟨128 * t.val + y.val % 128, by omega⟩ l) : EReal) = X (ix3 b q ⟨l.val, by omega⟩)) (k : ℕ) :
    keyScore K (qAll (F := Ideal) T) t y k = headScore X b h q ⟨k % 8192, Nat.mod_lt _ (by decide)⟩ := by
  have hh := h.isLt
  unfold keyScore headScore
  symm
  refine Fintype.sum_of_injective (fun d : Fin 64 => (⟨d.val / 32 * 64 + h.val / 4 * 32 + d.val % 32, by omega⟩ : Fin 128)) ?_ _ _ ?_ ?_
  · intro d d' e
    have e' := congrArg Fin.val e
    dsimp only at e'
    exact Fin.ext (by omega)
  · intro d hd
    rw [qAll_apply, if_neg, mul_zero]
    intro e
    refine hd ⟨⟨d.val / 64 * 32 + d.val % 32, by omega⟩, Fin.ext ?_⟩
    show (d.val / 64 * 32 + d.val % 32) / 32 * 64 + h.val / 4 * 32 + (d.val / 64 * 32 + d.val % 32) % 32 = d.val
    omega
  · intro d
    rw [hK, qAll_apply, if_pos (by dsimp only; omega), hT]
    refine congrArg (fun a => _ * a) (read3 X rfl rfl ?_)
    dsimp only [queryLane]
    rw [hy]
    omega

/-- The values read by the sweep. -/
theorem keyValue_eq (o : Fin 512) (r : Fin 144) (hr : r.val = o.val / 256 * 64 + o.val % 64)
    (hU : ∀ (k : Fin 8192) (l : Fin 128), (U (ix3 0 k l) : EReal) = X (ix3 b k ⟨640 + l.val, by omega⟩)) :
    keyValue (vAll (F := Ideal) U) r = values X b o := by
  funext k
  unfold keyValue values
  rw [vAll_apply _ _ _ (by omega), hU]
  exact read3 X rfl (by dsimp only; omega) (by dsimp only; omega)

theorem keyValue_ones : keyValue (vAll (F := Ideal) U) (128 : Fin 144) = fun _ => 1 := by
  funext k
  exact vAll_ones U _ _ (by decide) _

/-- The output block at an index: the ratio of two of the running sums. -/
theorem outAll_apply (A : Vec Ideal S8x144x1024 .f32) (r : Fin 1024) (o : Fin 512) :
    (outAll (F := Ideal) A (ix3 0 r o) : EReal)
      = Ideal.div (A (ix3 ⟨r.val / 128, by omega⟩ ⟨o.val / 256 * 64 + o.val % 64, by omega⟩ ⟨o.val / 64 * 128 + r.val % 128, by omega⟩))
          (A (ix3 ⟨r.val / 128, by omega⟩ 128 ⟨o.val / 64 * 128 + r.val % 128, by omega⟩)) := by
  unfold outAll
  refine (outTile_apply _ _ ⟨r.val % 128, Nat.mod_lt _ (by decide)⟩ ⟨o.val % 128, Nat.mod_lt _ (by decide)⟩).trans ?_
  unfold ratioAt
  rw [ratio_apply]
  have ho := o.isLt
  refine congrArg₂ Ideal.div ?_ ?_
  · exact window3 A _ _ _ _ (0 : Fin 1) _ _ _ _ _ rfl (by show o.val / 256 * 64 + o.val % 64 = 0 + (o.val / 128 / 2 * 64 + o.val % 128 % 64); omega)
      (by show o.val / 64 * 128 + r.val % 128 = 0 + ((o.val / 128 * 2 + o.val % 128 / 64) * 128 + r.val % 128); omega)
  · exact window3 A _ _ _ _ (0 : Fin 1) (0 : Fin 1) _ _ _ _ rfl rfl
      (by show o.val / 64 * 128 + r.val % 128 = 0 + ((o.val / 128 * 2 + o.val % 128 / 64) * 128 + r.val % 128); omega)

/-- The output block at an index is the attention there. -/
theorem block_attends (base : ℕ) (hb : base + 1024 ≤ 8192)
    (hK : ∀ (k : Fin 8192) (l : Fin 128), (K (ix3 0 k l) : EReal) = X (ix3 b k ⟨512 + l.val, by omega⟩))
    (hU : ∀ (k : Fin 8192) (l : Fin 128), (U (ix3 0 k l) : EReal) = X (ix3 b k ⟨640 + l.val, by omega⟩))
    (hT : ∀ (r : Fin 1024) (l : Fin 512), (T (ix3 0 r l) : EReal) = X (ix3 b ⟨base + r.val, by omega⟩ ⟨l.val, by omega⟩))
    (r : Fin 1024) (o : Fin 512) :
    (outAll (F := Ideal) (fold (F := Ideal) K (qAll (F := Ideal) T) (vAll (F := Ideal) U) (startMax (F := Ideal)) (startAcc (F := Ideal)) 128).2 (ix3 0 r o) : EReal)
      = attend X b ⟨base + r.val, by omega⟩ o := by
  have ho := o.isLt
  have hr := r.isLt
  rw [outAll_apply]
  have hs : keyScore K (qAll (F := Ideal) T) ⟨r.val / 128, by omega⟩ ⟨o.val / 64 * 128 + r.val % 128, by omega⟩ = scores X b ⟨base + r.val, by omega⟩ o := by
    funext k
    refine keyScore_eq X b K T ⟨base + r.val, by omega⟩ ⟨o.val / 64, by omega⟩ _ _ (by dsimp only; omega) hK (fun l => ?_) k
    rw [hT]
    exact read3 X rfl (by dsimp only; omega) rfl
  have h1 := swept_all K (qAll (F := Ideal) T) (vAll (F := Ideal) U) ⟨r.val / 128, by omega⟩ ⟨o.val / 256 * 64 + o.val % 64, by omega⟩ ⟨o.val / 64 * 128 + r.val % 128, by omega⟩
  have h2 := swept_all K (qAll (F := Ideal) T) (vAll (F := Ideal) U) ⟨r.val / 128, by omega⟩ 128 ⟨o.val / 64 * 128 + r.val % 128, by omega⟩
  unfold sweptSum at h1 h2
  rw [h1, h2, hs, keyValue_eq X b U o _ rfl hU, keyValue_ones]
  rfl

end Cert.Sweep

end
-- ==== Proof.DiffSpec.lean ====
/-
  The differential attention that both programs compute: of each head pair, the first head's attention less a factor times the
  second's, normalized over the 128 value lanes. The two heads' lanes alternate by halves of 32, and their values are the same.
-/
module

public import proofs.«01_k».proof.Proof.Spec

@[expose] public section

noncomputable section

namespace Cert.Spec

open Idealize.ShloMosaic Cert.Online

variable (X : S2x8192x2304.Idx → EReal) (L : (⟨2, ![4, 64]⟩ : Shape).Idx → EReal) (G : (⟨2, ![128, 1]⟩ : Shape).Idx → EReal)

/-- The score of key `k` for query `q` of head `e` of pair `p`. -/
def pairScore (b : Fin 2) (p : Fin 4) (e : Fin 2) (q k : Fin 8192) : EReal :=
  ∑ d : Fin 64, X (ix3 b k ⟨1280 + (p.val * 128 + d.val / 32 * 64 + e.val * 32 + d.val % 32), by omega⟩) * X (ix3 b q ⟨768 + (p.val * 128 + d.val / 32 * 64 + e.val * 32 + d.val % 32), by omega⟩)

/-- The scores for query `q`, by the number of the key. -/
def pairScores (b : Fin 2) (p : Fin 4) (e : Fin 2) (q : Fin 8192) (k : ℕ) : EReal := pairScore X b p e q ⟨k % 8192, Nat.mod_lt _ (by decide)⟩

/-- The values of lane `r`, by the number of the key. -/
def pairValues (b : Fin 2) (p : Fin 4) (r : Fin 128) (k : ℕ) : EReal := X (ix3 b ⟨k % 8192, Nat.mod_lt _ (by decide)⟩ ⟨1792 + (p.val * 128 + r.val), by omega⟩)

/-- One head's attention. -/
def pairAttend (b : Fin 2) (p : Fin 4) (e : Fin 2) (q : Fin 8192) (r : Fin 128) : EReal :=
  Ideal.div (total (pairScores X b p e q) (pairValues X b p r) 8192 (top (pairScores X b p e q) 8192))
    (total (pairScores X b p e q) (fun _ => 1) 8192 (top (pairScores X b p e q) 8192))

/-- The second head's factor. -/
def factor : EReal :=
  Ideal.exp (∑ d : Fin 64, L (ix2 0 d) * L (ix2 1 d)) - Ideal.exp (∑ d : Fin 64, L (ix2 2 d) * L (ix2 3 d)) + Ideal.ofBits FTy.f32 1045220557#32

/-- The first head's attention less the factor times the second's. -/
def lessened (b : Fin 2) (p : Fin 4) (q : Fin 8192) (r : Fin 128) : EReal := pairAttend X b p 0 q r - factor L * pairAttend X b p 1 q r

/-- Lane `r` of a row over the root of the row's mean square, with a gain. -/
def scaled (f : Fin 128 → EReal) (r : Fin 128) : EReal :=
  f r * Ideal.rsqrt (Ideal.div (∑ i, f i * f i) (Ideal.ofBits FTy.f32 1124073472#32) + Ideal.ofBits FTy.f32 897988541#32) * G (ix2 r 0) * Ideal.ofBits FTy.f32 1061997773#32

/-- The differential attention. -/
def differ (b : Fin 2) (q : Fin 8192) (o : Fin 512) : EReal :=
  scaled G (lessened X L b ⟨o.val / 128, by omega⟩ q) ⟨o.val % 128, by omega⟩

end Cert.Spec

end
-- ==== Proof.DiffValues.lean ====
/-
  The tiles of the differential attention read at an index, over the extended reals, and the output block of a grid point.
-/
module

public import proofs.«01_k».proof.Proof.DiffTiles
public import proofs.«01_k».proof.Proof.BlockValue
public import proofs.«01_k».proof.Proof.DiffSpec

@[expose] public section

noncomputable section

namespace Cert.DiffSweep

open Idealize.ShloMosaic Cert.Online Cert.Spec Cert.Sweep

set_option maxRecDepth 16384

theorem rows32_apply (x : FVec Ideal S128x512 .bf16) (o : ℕ) (h : Shape.Slices S128x512 ![o, 0] S32x512) (r : Fin 32) (c : Fin 512) (r' : Fin 128) (e : r'.val = o + r.val) :
    rows32 (F := Ideal) x o h (ix2 r c) = x (ix2 r' c) := by
  unfold rows32 extractStridedSlice
  refine congrArg x (funext fun a => Fin.ext ?_)
  fin_cases a
  · exact e.symm
  · show 0 + c.val = c.val; omega

theorem flipped_apply (x : Vec Ideal S1x512x128 .bf16) (d : Fin 128) (c : Fin 512) : flipped (F := Ideal) x (ix2 d c) = x (ix3 0 c d) := by
  pointwise [flipped]

theorem firstHead_apply (x : FVec Ideal S128x512 .bf16) (d : Fin 128) (c : Fin 512) :
    firstHead (F := Ideal) x (ix2 d c) = (if d.val / 32 % 2 = 0 then x (ix2 d c) else (0 : EReal)) := by
  pointwise [firstHead, zeros]
  have hd := d.isLt
  repeat' split
  all_goals first
    | rfl
    | (exfalso; omega)
    | (refine rows32_apply x _ _ _ c d ?_; dsimp only; omega)

theorem secondHead_apply (x : FVec Ideal S128x512 .bf16) (d : Fin 128) (c : Fin 512) :
    secondHead (F := Ideal) x (ix2 d c) = (if d.val / 32 % 2 = 1 then x (ix2 d c) else (0 : EReal)) := by
  pointwise [secondHead, zeros]
  have hd := d.isLt
  repeat' split
  all_goals first
    | rfl
    | (exfalso; omega)
    | (refine rows32_apply x _ _ _ c d ?_; dsimp only; omega)

/-- Two pieces of 512 columns side by side, at an index. -/
theorem two_apply (x y : FVec Ideal S128x512 .bf16) (h : Shape.Concatenates [S128x512, S128x512] S128x1024 1) (d : Fin 128) (c : Fin 1024) :
    concatenate S128x1024 1 [⟨S128x512, x⟩, ⟨S128x512, y⟩] h (ix2 d c)
      = if c.val / 512 = 0 then x (ix2 d ⟨c.val % 512, by omega⟩) else y (ix2 d ⟨c.val % 512, by omega⟩) := by
  have hc := c.isLt
  pointwise
  repeat' split
  all_goals first
    | (exfalso; omega)
    | (refine read2 x rfl ?_; dsimp only; omega)
    | (refine read2 y rfl ?_; dsimp only; omega)

/-- The query tile at an index: the query's lane in the rows of its own key head, zero in the other's. -/
theorem dTile_apply (x : Vec Ideal S1x512x128 .bf16) (d : Fin 128) (y : Fin 1024) :
    dTile (F := Ideal) x (ix3 0 d y) = (if d.val / 32 % 2 = y.val / 512 then x (ix3 0 ⟨y.val % 512, by omega⟩ d) else (0 : EReal)) := by
  have hy := y.isLt
  unfold dTile
  rw [shapeCast_row, two_apply, firstHead_apply, secondHead_apply, flipped_apply]
  by_cases h : y.val / 512 = 0
  · rw [if_pos h, h]
  · rw [if_neg h, show y.val / 512 = 1 by omega]

theorem dAll_apply (T : Vec Ideal S1x4096x128 .bf16) (t : Fin 8) (d : Fin 128) (y : Fin 1024) :
    (dAll (F := Ideal) T (ix3 t d y) : EReal) = if d.val / 32 % 2 = y.val / 512 then T (ix3 0 ⟨512 * t.val + y.val % 512, by omega⟩ d) else 0 := by
  unfold dAll
  refine (dTile_apply _ d y).trans ?_
  split
  · exact window3 T _ _ _ _ (0 : Fin 1) ⟨y.val % 512, Nat.mod_lt _ (by decide)⟩ _ 0 _ _ rfl rfl (by omega)
  · rfl

theorem quot_apply (a : Vec Ideal S1x128x1024 .f32) (l : Vec Ideal S1x1x1024 .f32) (d : Fin 128) (y : Fin 1024) :
    quot (F := Ideal) a l (ix2 d y) = Ideal.div (a (ix3 0 d y)) (l (ix3 0 0 y)) := by
  pointwise [quot]
  try rfl

theorem lamPart_apply (L : Vec Ideal S4x64 .f32) (a b : ℕ) (ha : Shape.Slices S4x64 ![a, 0] S1x64) (hb : Shape.Slices S4x64 ![b, 0] S1x64) (i j : Fin 4)
    (hi : i.val = a) (hj : j.val = b) :
    lamPart (F := Ideal) L a b ha hb (ix2 0 0) = Ideal.exp (∑ d : Fin 64, L (ix2 i d) * L (ix2 j d)) := by
  subst hi hj
  pointwise [lamPart]

theorem lamOf_apply (L : Vec Ideal S4x64 .f32) : lamOf (F := Ideal) L (ix2 0 0) = factor L := by
  unfold lamOf factor
  rw [← lamPart_apply L 0 1 (by decide) (by decide) 0 1 rfl rfl, ← lamPart_apply L 2 3 (by decide) (by decide) 2 3 rfl rfl]
  pointwise

theorem less_apply (lam : FVec Ideal S1x1 .f32) (r : FVec Ideal S128x1024 .f32) (d : Fin 128) (y : Fin 512) :
    less (F := Ideal) lam r (ix2 d y) = (r (ix2 d ⟨y.val, by omega⟩) - lam (ix2 0 0) * r (ix2 d ⟨512 + y.val, by omega⟩) : EReal) := by
  pointwise [less]

theorem normed_apply (x : FVec Ideal S128x512 .f32) (d : Fin 128) (y : Fin 512) :
    normed (F := Ideal) x (ix2 d y)
      = (x (ix2 d y) * Ideal.rsqrt (Ideal.div (∑ i : Fin 128, x (ix2 i y) * x (ix2 i y)) (Ideal.ofBits FTy.f32 1124073472#32) + Ideal.ofBits FTy.f32 897988541#32) : EReal) := by
  pointwise [normed]

theorem outRows_apply (lam : FVec Ideal S1x1 .f32) (g : Vec Ideal S128x1 .f32) (a : Vec Ideal S1x128x1024 .f32) (l : Vec Ideal S1x1x1024 .f32) (y : Fin 512) (d : Fin 128) :
    outRows (F := Ideal) lam g a l (ix3 0 y d) = scaled g (fun i => less (F := Ideal) lam (quot (F := Ideal) a l) (ix2 i y)) d := by
  unfold scaled
  rw [← normed_apply]
  pointwise [outRows]

end Cert.DiffSweep

end
-- ==== Proof.DiffBlock.lean ====
/-
  The output block of a grid point is the differential attention of the block's queries over all keys of its batch.
-/
module

public import proofs.«01_k».proof.Proof.DiffValues

@[expose] public section

noncomputable section

namespace Cert.DiffSweep

open Idealize.ShloMosaic Cert.Online Cert.Spec Cert.Sweep

set_option maxRecDepth 16384

variable (X : S2x8192x2304.Idx → EReal) (b : Fin 2) (p : Fin 4)
variable (K U : Vec Ideal S1x8192x128 .bf16) (T : Vec Ideal S1x4096x128 .bf16) (L : Vec Ideal S4x64 .f32) (G : Vec Ideal S128x1 .f32)

/-- The scores against a query tile are the head's scores: the lanes of the other key head meet zeros. -/
theorem pairScore_eq (q : Fin 8192) (e : Fin 2) (t : Fin 8) (y : Fin 1024) (hy : y.val / 512 = e.val)
    (hK : ∀ (k : Fin 8192) (l : Fin 128), (K (ix3 0 k l) : EReal) = X (ix3 b k ⟨1280 + (p.val * 128 + l.val), by omega⟩))
    (hT : ∀ l : Fin 128, (T (ix3 0 ⟨512 * t.val + y.val % 512, by omega⟩ l) : EReal) = X (ix3 b q ⟨768 + (p.val * 128 + l.val), by omega⟩)) (k : ℕ) :
    keyScore K (dAll (F := Ideal) T) t y k = pairScore X b p e q ⟨k % 8192, Nat.mod_lt _ (by decide)⟩ := by
  have he := e.isLt
  unfold keyScore pairScore
  symm
  refine Fintype.sum_of_injective (fun d : Fin 64 => (⟨d.val / 32 * 64 + e.val * 32 + d.val % 32, by omega⟩ : Fin 128)) ?_ _ _ ?_ ?_
  · intro d d' h
    have h' := congrArg Fin.val h
    dsimp only at h'
    exact Fin.ext (by omega)
  · intro d hd
    rw [dAll_apply, if_neg, mul_zero]
    intro h
    refine hd ⟨⟨d.val / 64 * 32 + d.val % 32, by omega⟩, Fin.ext ?_⟩
    show (d.val / 64 * 32 + d.val % 32) / 32 * 64 + e.val * 32 + (d.val / 64 * 32 + d.val % 32) % 32 = d.val
    omega
  · intro d
    rw [hK, dAll_apply, if_pos (by dsimp only; omega), hT]
    exact congrArg₂ (fun a c : EReal => a * c) (read3 X rfl rfl (by dsimp only; omega)) (read3 X rfl rfl (by dsimp only; omega))

/-- The values read by the sweep. -/
theorem pairValue_eq (r : Fin 128)
    (hU : ∀ (k : Fin 8192) (l : Fin 128), (U (ix3 0 k l) : EReal) = X (ix3 b k ⟨1792 + (p.val * 128 + l.val), by omega⟩)) :
    keyValue (vAll (F := Ideal) U) ⟨r.val, by omega⟩ = pairValues X b p r := by
  funext k
  unfold keyValue pairValues
  rw [vAll_apply _ _ _ r.isLt, hU]
  exact read3 X rfl (by dsimp only; omega) rfl

/-- The running sums after the sweep. -/
abbrev sums : Vec Ideal S8x144x1024 .f32 :=
  (fold (F := Ideal) K (dAll (F := Ideal) T) (vAll (F := Ideal) U) (startMax (F := Ideal)) (startAcc (F := Ideal)) 128).2

/-- A head's quotient of running sums is its attention. -/
theorem quot_attends (base : ℕ) (hb : base + 4096 ≤ 8192)
    (hK : ∀ (k : Fin 8192) (l : Fin 128), (K (ix3 0 k l) : EReal) = X (ix3 b k ⟨1280 + (p.val * 128 + l.val), by omega⟩))
    (hU : ∀ (k : Fin 8192) (l : Fin 128), (U (ix3 0 k l) : EReal) = X (ix3 b k ⟨1792 + (p.val * 128 + l.val), by omega⟩))
    (hT : ∀ (r : Fin 4096) (l : Fin 128), (T (ix3 0 r l) : EReal) = X (ix3 b ⟨base + r.val, by omega⟩ ⟨768 + (p.val * 128 + l.val), by omega⟩))
    (t : ℕ) (ht : t < 8) (e : Fin 2) (c : Fin 512) (y : Fin 1024) (hy : y.val = 512 * e.val + c.val) (q : Fin 8192) (hq : q.val = base + (512 * t + c.val)) (r : Fin 128) :
    quot (F := Ideal) (VecWindow.window (sums K U T) ![t, 0, 0] S1x128x1024.size (inbS t ht)) (VecWindow.window (sums K U T) ![t, 128, 0] S1x1x1024.size (inbL t ht)) (ix2 r y)
      = pairAttend X b p e q r := by
  have hc := c.isLt
  have hs : keyScore K (dAll (F := Ideal) T) ⟨t, ht⟩ y = pairScores X b p e q := by
    funext k
    refine pairScore_eq X b p K T q e ⟨t, ht⟩ y (by omega) hK (fun l => ?_) k
    rw [hT]
    exact read3 X rfl (by dsimp only; omega) rfl
  have h1 := swept_all K (dAll (F := Ideal) T) (vAll (F := Ideal) U) ⟨t, ht⟩ ⟨r.val, by omega⟩ y
  have h2 := swept_all K (dAll (F := Ideal) T) (vAll (F := Ideal) U) ⟨t, ht⟩ 128 y
  unfold sweptSum at h1 h2
  rw [hs, pairValue_eq X b p U r hU] at h1
  rw [hs, keyValue_ones] at h2
  rw [quot_apply]
  unfold pairAttend
  rw [← h1, ← h2]
  refine congrArg₂ Ideal.div ?_ ?_
  · exact window3 (sums K U T) _ _ _ _ (0 : Fin 1) _ _ _ _ _ rfl (by dsimp only; omega) (by omega)
  · exact window3 (sums K U T) _ _ _ _ (0 : Fin 1) (0 : Fin 1) _ _ _ _ rfl rfl (by omega)

/-- The output block at an index is the differential attention there. -/
theorem block_differs (base : ℕ) (hb : base + 4096 ≤ 8192)
    (hK : ∀ (k : Fin 8192) (l : Fin 128), (K (ix3 0 k l) : EReal) = X (ix3 b k ⟨1280 + (p.val * 128 + l.val), by omega⟩))
    (hU : ∀ (k : Fin 8192) (l : Fin 128), (U (ix3 0 k l) : EReal) = X (ix3 b k ⟨1792 + (p.val * 128 + l.val), by omega⟩))
    (hT : ∀ (r : Fin 4096) (l : Fin 128), (T (ix3 0 r l) : EReal) = X (ix3 b ⟨base + r.val, by omega⟩ ⟨768 + (p.val * 128 + l.val), by omega⟩))
    (r : Fin 4096) (l : Fin 128) (q : Fin 8192) (hq : q.val = base + r.val) :
    (dOut (F := Ideal) L G (sums K U T) (ix3 0 r l) : EReal) = scaled G (lessened X L b p q) l := by
  have hr := r.isLt
  have ht : r.val / 512 < 8 := by omega
  unfold dOut rowsAt
  refine (outRows_apply (lamOf (F := Ideal) L) G _ _ ⟨r.val % 512, Nat.mod_lt _ (by decide)⟩ l).trans ?_
  refine congrArg (fun f => scaled G f l) (funext fun i => ?_)
  rw [less_apply, lamOf_apply]
  unfold lessened
  refine congrArg₂ (fun a c : EReal => a - factor L * c) ?_ ?_
  · exact quot_attends X b p K U T base hb hK hU hT _ ht 0 ⟨r.val % 512, Nat.mod_lt _ (by decide)⟩ _ (by show r.val % 512 = 512 * 0 + r.val % 512; omega) q
      (by show q.val = base + (512 * (r.val / 512) + r.val % 512); omega) i
  · exact quot_attends X b p K U T base hb hK hU hT _ ht 1 ⟨r.val % 512, Nat.mod_lt _ (by decide)⟩ _ (by show 512 + r.val % 512 = 512 * 1 + r.val % 512; omega) q
      (by show q.val = base + (512 * (r.val / 512) + r.val % 512); omega) i

end Cert.DiffSweep

end
-- ==== Proof.DiffIdealValue.lean ====
/-
  What the differential attention leaves in its result: the specification's, at every index.
-/
module

public import proofs.«01_k».proof.Proof.DiffIdealLaunch
public import proofs.«01_k».proof.Proof.DiffBlock
public import Idealize.ShloMosaic.Lib.Pipeline.ValueKit.Geometry

@[expose] public section

noncomputable section

namespace Cert.DiffIdeal.Launch

open Idealize.ShloMosaic Idealize.ShloMosaic.TcCoe Idealize.ShloMosaic.Tactic
open Cert.DiffSweep (block_differs)
open Cert.Spec (differ scaled lessened)

set_option maxRecDepth 16384

variable (m : (ℓ : Loc nD τ sig) → Buf (Elt Ideal) ℓ)

/-- The projected queries, keys and values, as the kernel's argument holds them. -/
def packed (c : Dev nD) : Cert.Spec.S2x8192x2304.Idx → EReal := m ((c.tc : Thread nD τ).loc main_arg0)

/-- The four rows of the second head's factor. -/
def fourRows (c : Dev nD) : (⟨2, ![4, 64]⟩ : Shape).Idx → EReal := m ((c.tc : Thread nD τ).loc main_arg1)

/-- The gains. -/
def gains (c : Dev nD) : (⟨2, ![128, 1]⟩ : Shape).Idx → EReal := m ((c.tc : Thread nD τ).loc main_arg2)

theorem points (t : Fin cfg0.N) : t.val < 16 := t.isLt.trans_eq Gen.N_0

theorem index0 : ∀ t : Fin cfg0.N, win0_0.index t = ![t.val / 8, t.val % 2, 6 + t.val / 2 % 4] := (by decide +kernel : ∀ t : Fin grid0.N, _)
theorem index1 : ∀ t : Fin cfg0.N, win0_1.index t = ![t.val / 8, 0, 10 + t.val / 2 % 4] := (by decide +kernel : ∀ t : Fin grid0.N, _)
theorem index2 : ∀ t : Fin cfg0.N, win0_2.index t = ![t.val / 8, 0, 14 + t.val / 2 % 4] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 8, t.val % 2, t.val / 2 % 4] := (by decide +kernel : ∀ t : Fin grid0.N, _)

/-- The keys of a point, at an index. -/
theorem keys_apply (c : Dev nD) (t : Fin cfg0.N) (b : Fin 2) (hb : b.val = t.val / 8) (p : Fin 4) (hp : p.val = t.val / 2 % 4) (k : Fin 8192) (l : Fin 128) :
    (keysAt m c t (ix3 0 k l) : EReal) = packed m c (ix3 b k ⟨1280 + (p.val * 128 + l.val), by omega⟩) := by
  unfold keysAt packed
  blk_simp [Gen.iblk]
  refine congrArg (m ((c.tc : Thread nD τ).loc main_arg0)) ?_
  have e := index1 t
  blk_ext [e, hb, hp]

/-- The value block of a point, at an index. -/
theorem values_apply (c : Dev nD) (t : Fin cfg0.N) (b : Fin 2) (hb : b.val = t.val / 8) (p : Fin 4) (hp : p.val = t.val / 2 % 4) (k : Fin 8192) (l : Fin 128) :
    (valueBlockAt m c t (ix3 0 k l) : EReal) = packed m c (ix3 b k ⟨1792 + (p.val * 128 + l.val), by omega⟩) := by
  unfold valueBlockAt packed
  blk_simp [Gen.iblk]
  refine congrArg (m ((c.tc : Thread nD τ).loc main_arg0)) ?_
  have e := index2 t
  blk_ext [e, hb, hp]

/-- The queries of a point, at an index. -/
theorem queries_apply (c : Dev nD) (t : Fin cfg0.N) (b : Fin 2) (hb : b.val = t.val / 8) (p : Fin 4) (hp : p.val = t.val / 2 % 4) (base : ℕ) (hbase : base = t.val % 2 * 4096)
    (hin : base + 4096 ≤ 8192) (r : Fin 4096) (l : Fin 128) :
    (queriesAt m c t (ix3 0 r l) : EReal) = packed m c (ix3 b ⟨base + r.val, by omega⟩ ⟨768 + (p.val * 128 + l.val), by omega⟩) := by
  unfold queriesAt packed
  blk_simp [Gen.iblk]
  refine congrArg (m ((c.tc : Thread nD τ).loc main_arg0)) ?_
  have e := index0 t
  subst hbase
  blk_ext [e, hb, hp]

/-- The four rows of a point are the argument's. -/
theorem rows_eq (c : Dev nD) (t : Fin cfg0.N) : rowsOf m c t = fourRows m c := by
  funext i
  unfold rowsOf fourRows
  blk_simp [Gen.iblk]
  refine congrArg (m ((c.tc : Thread nD τ).loc main_arg1)) ?_
  have e := index3 t
  blk_ext [e]

/-- The gains of a point are the argument's. -/
theorem gains_eq (c : Dev nD) (t : Fin cfg0.N) : gainsOf m c t = gains m c := by
  funext i
  unfold gainsOf gains
  blk_simp [Gen.iblk]
  refine congrArg (m ((c.tc : Thread nD τ).loc main_arg2)) ?_
  have e := index4 t
  blk_ext [e]

/-- What a point leaves, at an index. -/
theorem left_apply (c : Dev nD) (t : Fin cfg0.N) (r : Fin 4096) (l : Fin 128) (b : Fin 2) (q : Fin 8192) (o : Fin 512)
    (hb : b.val = t.val / 8) (hq : q.val = t.val % 2 * 4096 + r.val) (ho : o.val = t.val / 2 % 4 * 128 + l.val) :
    (leftAt m c t (ix3 0 r l) : EReal) = differ (packed m c) (fourRows m c) (gains m c) b q o := by
  have ht := points t
  unfold leftAt pairValues
  rw [rows_eq, gains_eq]
  have h := block_differs (packed m c) b ⟨t.val / 2 % 4, by omega⟩ (keysAt m c t) (valueBlockAt m c (firstOf t.val)) (queriesAt m c t) (fourRows m c) (gains m c)
    (t.val % 2 * 4096) (by omega)
    (keys_apply m c t b hb _ rfl)
    (values_apply m c (firstOf t.val) b (by show b.val = 2 * (t.val / 2) % 16 / 8; omega) _ (by show t.val / 2 % 4 = 2 * (t.val / 2) % 16 / 2 % 4; omega))
    (queries_apply m c t b hb _ rfl _ rfl (by omega)) r l q hq
  refine h.trans ?_
  unfold differ
  rw [show (⟨o.val / 128, by omega⟩ : Fin 4) = ⟨t.val / 2 % 4, by omega⟩ from Fin.ext (by dsimp only; omega),
    show (⟨o.val % 128, by omega⟩ : Fin 128) = l from Fin.ext (by dsimp only; omega)]

/-- The result array after the run. -/
theorem final (c : Dev nD) : (dats m 0 c).arrAt 5 cfg0.N = fun i => differ (packed m c) (fourRows m c) (gains m c) (i 0) (i 1) (i 2) := by
  refine (dats m 0 c).arrAt_eq_of_covers 5 _ (by decide +kernel) fun t hf y => ?_
  blk_simp
  have e := index5 t
  have hy : (y : S1x4096x128.Idx) = ix3 (n0 := 1) (n1 := 4096) (n2 := 128) 0 (y 1) (y 2) := by
    funext a
    match a with
    | 0 => exact Subsingleton.elim (α := Fin 1) _ _
    | 1 => rfl
    | 2 => rfl
  refine (congrArg (leftAt m c t) hy).trans (left_apply m c t (y 1) (y 2) ((win0_5.blk t).view.emb y 0) ((win0_5.blk t).view.emb y 1) ((win0_5.blk t).view.emb y 2) ?_ ?_ ?_)
  · idx_bounds y
    blk_simp [e]
  · blk_simp [e]
  · blk_simp [e]

end Cert.DiffIdeal.Launch

end
-- ==== Proof.ReferenceValue.lean ====
/-
  What the reference computes at an index: the attention of the specification.
-/
module

public import proofs.«01_k».proof.Proof.Gen.ReferenceIdeal.Run
public import proofs.«01_k».proof.Proof.TileValues
public import proofs.«01_k».proof.Proof.Spec
public import Idealize.ShloMosaic.Lib.Tactic.CleanTypes

@[expose] public section

noncomputable section

namespace Cert.ReferenceIdeal.Value

open Cert.ReferenceIdeal Cert.ReferenceIdeal.Gen Idealize.ShloMosaic Idealize.ShloMosaic.TcCoe Cert.Online Cert.Spec

set_option maxRecDepth 16384

/-- The pattern of two. -/
theorem two_pattern : Ideal.ofBits FTy.f32 1073741824#32 = ((2 : ℝ) : EReal) := by
  simp [Ideal.ofBits, Ideal.ieee]
  rw [← EReal.coe_mul]
  norm_num

/-- A power of two is the exponential to the base two. -/
theorem pow_two (x : EReal) : Ideal.pow (Ideal.ofBits FTy.f32 1073741824#32) x = Ideal.exp2 x := by
  rw [two_pattern]
  induction x with
  | bot =>
    change (if (2 : ℝ) < 0 then (⊥ : EReal) else if 1 < (2 : ℝ) then 0 else if (2 : ℝ) = 1 then 1 else ⊤) = 0
    rw [if_neg (by norm_num), if_pos (by norm_num)]
  | top =>
    change (if (2 : ℝ) < 0 then (⊥ : EReal) else if 1 < (2 : ℝ) then ⊤ else if (2 : ℝ) = 1 then 1 else 0) = ⊤
    rw [if_neg (by norm_num), if_pos (by norm_num)]
  | coe r => rfl

/-- The maximum over all keys. -/
theorem fold_top (s : ℕ → EReal) (f : Fin 8192 → EReal) (h : ∀ k : Fin 8192, f k = s k.val) :
    (Finset.univ : Finset (Fin 8192)).fold max (Ideal.ofBits FTy.f32 4286578688#32) f = top s 8192 := by
  rw [Cert.Sweep.minus_infinity]
  apply le_antisymm
  · refine Finset.fold_max_le _ |>.2 ⟨bot_le, fun k _ => ?_⟩
    rw [h]
    exact le_top s 8192 k.val k.isLt
  · refine Finset.sup_le fun k hk => ?_
    exact Finset.le_fold_max _ |>.2 (Or.inr ⟨⟨k, Finset.mem_range.1 hk⟩, Finset.mem_univ _, le_of_eq (h ⟨k, Finset.mem_range.1 hk⟩).symm⟩)

theorem ref_weight (A M A' M' : EReal) (hA : A = A') (hM : M = M') : Ideal.pow (Ideal.ofBits FTy.f32 1073741824#32) (A - M) = weight A' M' := by
  rw [hA, hM, pow_two]; rfl

/-- The reference's last lines, of any scores and values that are the specification's. -/
theorem assemble (X : S2x8192x2304.Idx → EReal) (b : Fin 2) (q : Fin 8192) (o : Fin 512) (v s : Fin 8192 → EReal)
    (hs : ∀ k, s k = scores X b q o k.val) (hv : ∀ k, v k = values X b o k.val) :
    Ideal.div (∑ k, v k * Ideal.pow (Ideal.ofBits FTy.f32 1073741824#32) (s k - (Finset.univ : Finset (Fin 8192)).fold max (Ideal.ofBits FTy.f32 4286578688#32) s))
        (∑ k, Ideal.pow (Ideal.ofBits FTy.f32 1073741824#32) (s k - (Finset.univ : Finset (Fin 8192)).fold max (Ideal.ofBits FTy.f32 4286578688#32) s))
      = attend X b q o := by
  rw [fold_top (scores X b q o) s hs]
  unfold attend total
  rw [Finset.sum_range, Finset.sum_range]
  have h : ∀ k : Fin 8192, Ideal.pow (Ideal.ofBits FTy.f32 1073741824#32) (s k - top (scores X b q o) 8192) = weight (scores X b q o k.val) (top (scores X b q o) 8192) :=
    fun k => ref_weight _ _ _ _ (hs k) rfl
  simp only [h, hv, one_mul]

/-- The reference's score, its lanes as the reference gathers them. -/
theorem lines_score (X : S2x8192x2304.Idx → EReal) (b : Fin 2) (q k : Fin 8192) (o : Fin 512) :
    (∑ d : Fin 64, X (ix3 b k ⟨512 + (d.val / 32 * 64 + o.val / 256 * 32 + d.val % 32), by omega⟩) * X (ix3 b q ⟨(o.val / 256 * 2 + o.val / 64 % 4 / 2) * 128 + d.val / 32 * 64 + o.val / 64 % 4 % 2 * 32 + d.val % 32, by omega⟩))
      = scores X b q o k.val := by
  unfold scores headScore
  refine Finset.sum_congr rfl fun d _ => ?_
  refine congrArg₂ (· * ·) (congrArg X ?_) (congrArg X ?_)
  · refine congrArg₂ (ix3 b) (Fin.ext ?_) (Fin.ext ?_)
    · exact (Nat.mod_eq_of_lt k.isLt).symm
    · show 512 + (d.val / 32 * 64 + o.val / 256 * 32 + d.val % 32) = 512 + (d.val / 32 * 64 + o.val / 64 / 4 * 32 + d.val % 32)
      omega
  · refine congrArg (ix3 b q) (Fin.ext ?_)
    show (o.val / 256 * 2 + o.val / 64 % 4 / 2) * 128 + d.val / 32 * 64 + o.val / 64 % 4 % 2 * 32 + d.val % 32 = o.val / 64 / 2 * 128 + d.val / 32 * 64 + o.val / 64 % 2 * 32 + d.val % 32
    omega

/-- The reference's last lines, its scores and values spelt out. -/
theorem lines_attend (X : S2x8192x2304.Idx → EReal) (b : Fin 2) (q : Fin 8192) (o : Fin 512) :
    Ideal.div (∑ k : Fin 8192, X (ix3 b k ⟨640 + (o.val / 256 * 64 + o.val % 64), by omega⟩) * Ideal.pow (Ideal.ofBits FTy.f32 1073741824#32) ((∑ d : Fin 64, X (ix3 b k ⟨512 + (d.val / 32 * 64 + o.val / 256 * 32 + d.val % 32), by omega⟩) * X (ix3 b q ⟨(o.val / 256 * 2 + o.val / 64 % 4 / 2) * 128 + d.val / 32 * 64 + o.val / 64 % 4 % 2 * 32 + d.val % 32, by omega⟩)) - (Finset.univ : Finset (Fin 8192)).fold max (Ideal.ofBits FTy.f32 4286578688#32) (fun j => (∑ d : Fin 64, X (ix3 b j ⟨512 + (d.val / 32 * 64 + o.val / 256 * 32 + d.val % 32), by omega⟩) * X (ix3 b q ⟨(o.val / 256 * 2 + o.val / 64 % 4 / 2) * 128 + d.val / 32 * 64 + o.val / 64 % 4 % 2 * 32 + d.val % 32, by omega⟩)))))
        (∑ k : Fin 8192, Ideal.pow (Ideal.ofBits FTy.f32 1073741824#32) ((∑ d : Fin 64, X (ix3 b k ⟨512 + (d.val / 32 * 64 + o.val / 256 * 32 + d.val % 32), by omega⟩) * X (ix3 b q ⟨(o.val / 256 * 2 + o.val / 64 % 4 / 2) * 128 + d.val / 32 * 64 + o.val / 64 % 4 % 2 * 32 + d.val % 32, by omega⟩)) - (Finset.univ : Finset (Fin 8192)).fold max (Ideal.ofBits FTy.f32 4286578688#32) (fun j => (∑ d : Fin 64, X (ix3 b j ⟨512 + (d.val / 32 * 64 + o.val / 256 * 32 + d.val % 32), by omega⟩) * X (ix3 b q ⟨(o.val / 256 * 2 + o.val / 64 % 4 / 2) * 128 + d.val / 32 * 64 + o.val / 64 % 4 % 2 * 32 + d.val % 32, by omega⟩)))))
      = attend X b q o :=
  assemble X b q o (fun k => X (ix3 b k ⟨640 + (o.val / 256 * 64 + o.val % 64), by omega⟩)) (fun k => (∑ d : Fin 64, X (ix3 b k ⟨512 + (d.val / 32 * 64 + o.val / 256 * 32 + d.val % 32), by omega⟩) * X (ix3 b q ⟨(o.val / 256 * 2 + o.val / 64 % 4 / 2) * 128 + d.val / 32 * 64 + o.val / 64 % 4 % 2 * 32 + d.val % 32, by omega⟩)))
    (fun k => lines_score X b q k o)
    (fun k => congrArg (fun j => X (ix3 b j ⟨640 + (o.val / 256 * 64 + o.val % 64), by omega⟩)) (Fin.ext (Nat.mod_eq_of_lt k.isLt).symm))

set_option maxHeartbeats 100000 in
/-- The reference's result at an index. -/
theorem result_apply (m : (ℓ : Loc nD τ sig) → Buf (Elt Ideal) ℓ) (c : Dev nD) (b : Fin 2) (q : Fin 8192) (o : Fin 512) :
    (res_main_v31 (F := Ideal) m c : (⟨3, ![2, 8192, 512]⟩ : Shape).Idx → EReal) (ix3 b q o) = attend (m ((c.tc : Thread nD τ).loc main_arg0)) b q o := by
  have ho := o.isLt
  unfold res_main_v31
  clean_types
  pointwise
  exact lines_attend (m ((c.tc : Thread nD τ).loc main_arg0)) b q o

end Cert.ReferenceIdeal.Value

end
-- ==== Proof.DiffReferenceValue.lean ====
/-
  What the differential attention's reference computes at an index: the specification's. Its term is taken apart into a head's
  lanes, the scores, the weights, one head's attention, the second head's factor and the last lines.
-/
module

public import proofs.«01_k».proof.Proof.Gen.DiffReferenceIdeal.Run
public import proofs.«01_k».proof.Proof.ReferenceValue
public import proofs.«01_k».proof.Proof.DiffSpec
public import Idealize.ShloMosaic.Lib.Tactic.CleanTypes

@[expose] public section

noncomputable section

namespace Cert.DiffReferenceIdeal.Value

open Cert.DiffReferenceIdeal Cert.DiffReferenceIdeal.Gen Idealize.ShloMosaic Idealize.ShloMosaic.TcCoe Cert.Online Cert.Spec

set_option maxRecDepth 16384

/-- The two heads' lanes of each pair, taken apart. -/
def halves (x : FVec Ideal S2x8192x512 .f32) : FVec Ideal S2x8192x4x2x64 .f32 :=
  shapeCast _ (transpose S2x8192x4x2x2x32 [0, 1, 2, 4, 3, 5] (shapeCast _ x shapeCasts_S2x8192x512_S2x8192x4x2x2x32) transposes_S2x8192x4x2x2x32_S2x8192x4x2x2x32_0_1_2_4_3_5)
    shapeCasts_S2x8192x4x2x2x32_S2x8192x4x2x64

/-- The first heads' lanes. -/
def firsts (x : FVec Ideal S2x8192x512 .f32) : FVec Ideal S2x8192x4x64 .f32 :=
  shapeCast _ (extractStridedSlice S2x8192x4x1x64 ![0, 0, 0, 0, 0] (halves x) slices_S2x8192x4x2x64_S2x8192x4x1x64_0_0_0_0_0) shapeCasts_S2x8192x4x1x64_S2x8192x4x64

/-- The second heads' lanes. -/
def seconds (x : FVec Ideal S2x8192x512 .f32) : FVec Ideal S2x8192x4x64 .f32 :=
  shapeCast _ (extractStridedSlice S2x8192x4x1x64 ![0, 0, 0, 1, 0] (halves x) slices_S2x8192x4x2x64_S2x8192x4x1x64_0_0_0_1_0) shapeCasts_S2x8192x4x1x64_S2x8192x4x64

/-- The scores of queries and keys. -/
def scoresOf (q k : FVec Ideal S2x8192x4x64 .f32) : FVec Ideal S2x4x8192x8192 .f32 :=
  Host.dotGeneral (F := Ideal) dot_S2x8192x4x64_S2x8192x4x64_S2x4x8192x8192_3_3_1_1_02_02 none q k

/-- The weights of scores: two to the power of what they lack of the largest. -/
def weightsOf (s : FVec Ideal S2x4x8192x8192 .f32) : FVec Ideal S2x4x8192x8192 .f32 :=
  Host.powf (F := Ideal) (broadcastInDim S2x4x8192x8192 ![] bcast_S_S2x4x8192x8192 (constant (F := Ideal) S_ .f32 0x40000000#32))
    (subf (F := Ideal) s (broadcastInDim S2x4x8192x8192 ![0, 1, 2, 3] bcast_S2x4x8192x1_S2x4x8192x8192_0_1_2_3
      (broadcastInDim S2x4x8192x1 ![0, 1, 2] bcast_S2x4x8192_S2x4x8192x1_0_1_2
        (Host.reduce (FloatOps.maximumf (F := Ideal)) s (constant (F := Ideal) S_ .f32 0xFF800000#32) reducesTo_S2x4x8192x8192_S2x4x8192_d3 h_S_))))

/-- One head's attention, of its weights. -/
def meanOf (v : FVec Ideal S2x8192x4x128 .f32) (w : FVec Ideal S2x4x8192x8192 .f32) : FVec Ideal S2x8192x4x128 .f32 :=
  Host.divf (F := Ideal) (transpose S2x8192x4x128 [0, 3, 1, 2]
      (Host.dotGeneral (F := Ideal) dot_S2x8192x4x128_S2x4x8192x8192_S2x4x128x8192_1_3_3_2_02_01 none v (extf (F := Ideal) .f32 (truncf (F := Ideal) .bf16 w bitsLt_bf16_f32) bitsLt_bf16_f32))
      transposes_S2x4x128x8192_S2x8192x4x128_0_3_1_2)
    (broadcastInDim S2x8192x4x128 ![0, 1, 2, 3] bcast_S2x8192x4x1_S2x8192x4x128_0_1_2_3 (broadcastInDim S2x8192x4x1 ![0, 1, 2] bcast_S2x8192x4_S2x8192x4x1_0_1_2
      (transpose S2x8192x4 [0, 2, 1] (Host.reduceAdd (F := Ideal) w (constant (F := Ideal) S_ .f32 0x00000000#32) reducesTo_S2x4x8192x8192_S2x4x8192_d3 h_S_) transposes_S2x4x8192_S2x8192x4_0_2_1)))

/-- The second head's factor. -/
def factorOf (L : FVec Ideal S4x64 .f32) : FVec Ideal S_ .f32 :=
  addf (F := Ideal) (subf (F := Ideal)
    (Host.exp (F := Ideal) (Host.reduceAdd (F := Ideal) (mulf (F := Ideal) (shapeCast _ (extractStridedSlice S1x64 ![0, 0] L slices_S4x64_S1x64_0_0) shapeCasts_S1x64_S64) (shapeCast _ (extractStridedSlice S1x64 ![1, 0] L slices_S4x64_S1x64_1_0) shapeCasts_S1x64_S64))
      (constant (F := Ideal) S_ .f32 0x00000000#32) reducesTo_S64_S_d0 h_S_))
    (Host.exp (F := Ideal) (Host.reduceAdd (F := Ideal) (mulf (F := Ideal) (shapeCast _ (extractStridedSlice S1x64 ![2, 0] L slices_S4x64_S1x64_2_0) shapeCasts_S1x64_S64) (shapeCast _ (extractStridedSlice S1x64 ![3, 0] L slices_S4x64_S1x64_3_0) shapeCasts_S1x64_S64))
      (constant (F := Ideal) S_ .f32 0x00000000#32) reducesTo_S64_S_d0 h_S_)))
    (constant (F := Ideal) S_ .f32 0x3E4CCCCD#32)

/-- The first heads' attention less the factor times the second heads'. -/
def lessOf (f : FVec Ideal S_ .f32) (a c : FVec Ideal S2x8192x4x128 .f32) : FVec Ideal S2x8192x4x128 .f32 :=
  subf (F := Ideal) a (mulf (F := Ideal) (broadcastInDim S2x8192x4x128 ![] bcast_S_S2x8192x4x128 f) c)

/-- The last lines: the norm, the gains and the rounding. -/
def lastOf (x : FVec Ideal S2x8192x4x128 .f32) (G : FVec Ideal S128x1 .f32) : FVec Ideal S2x8192x512 .bf16 :=
  truncf (F := Ideal) .bf16 (shapeCast _ (mulf (F := Ideal) (mulf (F := Ideal) (mulf (F := Ideal) x (broadcastInDim S2x8192x4x128 ![0, 1, 2, 3] bcast_S2x8192x4x1_S2x8192x4x128_0_1_2_3
    (Host.rsqrt (F := Ideal) (addf (F := Ideal) (Host.divf (F := Ideal) (broadcastInDim S2x8192x4x1 ![0, 1, 2] bcast_S2x8192x4_S2x8192x4x1_0_1_2
      (Host.reduceAdd (F := Ideal) (mulf (F := Ideal) x x) (constant (F := Ideal) S_ .f32 0x00000000#32) reducesTo_S2x8192x4x128_S2x8192x4_d3 h_S_))
      (broadcastInDim S2x8192x4x1 ![] bcast_S_S2x8192x4x1 (constant (F := Ideal) S_ .f32 0x43000000#32))) (broadcastInDim S2x8192x4x1 ![] bcast_S_S2x8192x4x1 (constant (F := Ideal) S_ .f32 0x358637BD#32))))))
    (broadcastInDim S2x8192x4x128 ![0, 1, 2, 3] bcast_S1x1x1x128_S2x8192x4x128_0_1_2_3 (broadcastInDim S1x1x1x128 ![3] bcast_S128_S1x1x1x128_3 (shapeCast _ G shapeCasts_S128x1_S128))))
    (broadcastInDim S2x8192x4x128 ![] bcast_S_S2x8192x4x128 (constant (F := Ideal) S_ .f32 0x3F4CCCCD#32))) shapeCasts_S2x8192x4x128_S2x8192x512) bitsLt_bf16_f32

variable (A : FVec Ideal S2x8192x2304 .bf16) (L : FVec Ideal S4x64 .f32) (G : FVec Ideal S128x1 .f32)

def queriesOf : FVec Ideal S2x8192x512 .f32 := extractStridedSlice S2x8192x512 ![0, 0, 768] (extf (F := Ideal) .f32 A bitsLt_bf16_f32) slices_S2x8192x2304_S2x8192x512_0_0_768
def keysOf : FVec Ideal S2x8192x512 .f32 := extractStridedSlice S2x8192x512 ![0, 0, 1280] (extf (F := Ideal) .f32 A bitsLt_bf16_f32) slices_S2x8192x2304_S2x8192x512_0_0_1280
def valuesOf : FVec Ideal S2x8192x4x128 .f32 :=
  shapeCast _ (extractStridedSlice S2x8192x512 ![0, 0, 1792] (extf (F := Ideal) .f32 A bitsLt_bf16_f32) slices_S2x8192x2304_S2x8192x512_0_0_1792) shapeCasts_S2x8192x512_S2x8192x4x128

/-- The reference's term, put together of its pieces. -/
def whole : FVec Ideal S2x8192x512 .bf16 :=
  lastOf (lessOf (factorOf L) (meanOf (valuesOf A) (weightsOf (scoresOf (firsts (queriesOf A)) (firsts (keysOf A)))))
    (meanOf (valuesOf A) (weightsOf (scoresOf (seconds (queriesOf A)) (seconds (keysOf A)))))) G

theorem firsts_apply (x : FVec Ideal S2x8192x512 .f32) (b : Fin 2) (q : Fin 8192) (p : Fin 4) (d : Fin 64) :
    (firsts x (ix4 b q p d) : EReal) = x (ix3 b q ⟨p.val * 128 + d.val / 32 * 64 + 0 * 32 + d.val % 32, by omega⟩) := by
  unfold firsts halves
  pointwise

theorem seconds_apply (x : FVec Ideal S2x8192x512 .f32) (b : Fin 2) (q : Fin 8192) (p : Fin 4) (d : Fin 64) :
    (seconds x (ix4 b q p d) : EReal) = x (ix3 b q ⟨p.val * 128 + d.val / 32 * 64 + 1 * 32 + d.val % 32, by omega⟩) := by
  unfold seconds halves
  pointwise

theorem queriesOf_apply (b : Fin 2) (q : Fin 8192) (l : Fin 512) : (queriesOf A (ix3 b q l) : EReal) = A (ix3 b q ⟨768 + l.val, by omega⟩) := by
  unfold queriesOf
  pointwise

theorem keysOf_apply (b : Fin 2) (q : Fin 8192) (l : Fin 512) : (keysOf A (ix3 b q l) : EReal) = A (ix3 b q ⟨1280 + l.val, by omega⟩) := by
  unfold keysOf
  pointwise

theorem valuesOf_apply (b : Fin 2) (q : Fin 8192) (p : Fin 4) (r : Fin 128) : (valuesOf A (ix4 b q p r) : EReal) = A (ix3 b q ⟨1792 + (p.val * 128 + r.val), by omega⟩) := by
  unfold valuesOf
  pointwise

theorem scoresOf_apply (q k : FVec Ideal S2x8192x4x64 .f32) (b : Fin 2) (p : Fin 4) (i j : Fin 8192) :
    (scoresOf q k (ix4 b p i j) : EReal) = ∑ d : Fin 64, q (ix4 b i p d) * k (ix4 b j p d) := by
  unfold scoresOf
  pointwise

theorem weightsOf_apply (s : FVec Ideal S2x4x8192x8192 .f32) (b : Fin 2) (p : Fin 4) (i j : Fin 8192) :
    (weightsOf s (ix4 b p i j) : EReal)
      = Ideal.pow (Ideal.ofBits FTy.f32 1073741824#32) (s (ix4 b p i j) - (Finset.univ : Finset (Fin 8192)).fold max (Ideal.ofBits FTy.f32 4286578688#32) fun k => s (ix4 b p i k)) := by
  unfold weightsOf
  pointwise

theorem meanOf_apply (v : FVec Ideal S2x8192x4x128 .f32) (w : FVec Ideal S2x4x8192x8192 .f32) (b : Fin 2) (q : Fin 8192) (p : Fin 4) (r : Fin 128) :
    (meanOf v w (ix4 b q p r) : EReal) = Ideal.div (∑ k : Fin 8192, v (ix4 b k p r) * w (ix4 b p q k)) (∑ k : Fin 8192, w (ix4 b p q k)) := by
  unfold meanOf
  pointwise

theorem factorOf_apply (y : S_.Idx) : (factorOf L y : EReal) = factor L := by
  unfold factorOf factor
  pointwise

theorem lessOf_apply (f : FVec Ideal S_ .f32) (z : EReal) (hf : ∀ y, f y = z) (a c : FVec Ideal S2x8192x4x128 .f32) (b : Fin 2) (q : Fin 8192) (p : Fin 4) (r : Fin 128) :
    (lessOf f a c (ix4 b q p r) : EReal) = a (ix4 b q p r) - z * c (ix4 b q p r) := by
  unfold lessOf
  pointwise
  rw [hf]

theorem lastOf_apply (x : FVec Ideal S2x8192x4x128 .f32) (b : Fin 2) (q : Fin 8192) (o : Fin 512) :
    (lastOf x G (ix3 b q o) : EReal) = scaled G (fun i => x (ix4 b q ⟨o.val / 128, by omega⟩ i)) ⟨o.val % 128, by omega⟩ := by
  unfold lastOf scaled
  pointwise

/-- One head's attention, of scores and values that are the specification's. -/
theorem mean_attends (X : S2x8192x2304.Idx → EReal) (v : FVec Ideal S2x8192x4x128 .f32) (s : FVec Ideal S2x4x8192x8192 .f32) (b : Fin 2) (p : Fin 4) (e : Fin 2) (q : Fin 8192) (r : Fin 128)
    (hs : ∀ k : Fin 8192, (s (ix4 b p q k) : EReal) = pairScores X b p e q k.val) (hv : ∀ k : Fin 8192, (v (ix4 b k p r) : EReal) = pairValues X b p r k.val) :
    (meanOf v (weightsOf s) (ix4 b q p r) : EReal) = pairAttend X b p e q r := by
  rw [meanOf_apply]
  simp only [weightsOf_apply]
  rw [Cert.ReferenceIdeal.Value.fold_top (pairScores X b p e q) (fun k => s (ix4 b p q k)) hs]
  unfold pairAttend total
  rw [Finset.sum_range, Finset.sum_range]
  have h : ∀ k : Fin 8192, Ideal.pow (Ideal.ofBits FTy.f32 1073741824#32) (s (ix4 b p q k) - top (pairScores X b p e q) 8192)
      = weight (pairScores X b p e q k.val) (top (pairScores X b p e q) 8192) :=
    fun k => Cert.ReferenceIdeal.Value.ref_weight _ _ _ _ (hs k) rfl
  simp only [h, hv, one_mul]

/-- The first heads' scores. -/
theorem firsts_score (b : Fin 2) (p : Fin 4) (q k : Fin 8192) :
    (scoresOf (firsts (queriesOf A)) (firsts (keysOf A)) (ix4 b p q k) : EReal) = pairScores A b p 0 q k.val := by
  rw [scoresOf_apply]
  unfold pairScores pairScore
  refine Finset.sum_congr rfl fun d _ => ?_
  rw [firsts_apply, firsts_apply, queriesOf_apply, keysOf_apply, mul_comm]
  exact congrArg₂ (fun x y : EReal => x * y) (Cert.Sweep.read3 A rfl (Nat.mod_eq_of_lt k.isLt).symm rfl) (Cert.Sweep.read3 A rfl rfl rfl)

/-- The second heads' scores. -/
theorem seconds_score (b : Fin 2) (p : Fin 4) (q k : Fin 8192) :
    (scoresOf (seconds (queriesOf A)) (seconds (keysOf A)) (ix4 b p q k) : EReal) = pairScores A b p 1 q k.val := by
  rw [scoresOf_apply]
  unfold pairScores pairScore
  refine Finset.sum_congr rfl fun d _ => ?_
  rw [seconds_apply, seconds_apply, queriesOf_apply, keysOf_apply, mul_comm]
  exact congrArg₂ (fun x y : EReal => x * y) (Cert.Sweep.read3 A rfl (Nat.mod_eq_of_lt k.isLt).symm rfl) (Cert.Sweep.read3 A rfl rfl rfl)

/-- The values. -/
theorem values_pair (b : Fin 2) (p : Fin 4) (r : Fin 128) (k : Fin 8192) : (valuesOf A (ix4 b k p r) : EReal) = pairValues A b p r k.val := by
  rw [valuesOf_apply]
  exact Cert.Sweep.read3 A rfl (Nat.mod_eq_of_lt k.isLt).symm rfl

/-- The reference's term at an index. -/
theorem whole_apply (b : Fin 2) (q : Fin 8192) (o : Fin 512) : (whole A L G (ix3 b q o) : EReal) = differ A L G b q o := by
  unfold whole differ
  rw [lastOf_apply]
  refine congrArg (fun f => scaled G f _) (funext fun i => ?_)
  rw [lessOf_apply _ _ (factorOf_apply L)]
  unfold lessened
  rw [mean_attends A _ _ b _ 0 q i (firsts_score A b _ q) (values_pair A b _ i), mean_attends A _ _ b _ 1 q i (seconds_score A b _ q) (values_pair A b _ i)]

/-- The reference's result is its term, put together of its pieces. -/
theorem result_whole (m : (ℓ : Loc nD τ sig) → Buf (Elt Ideal) ℓ) (c : Dev nD) :
    res_main_v87 (F := Ideal) m c = whole (m ((c.tc : Thread nD τ).loc main_arg0)) (m ((c.tc : Thread nD τ).loc main_arg1)) (m ((c.tc : Thread nD τ).loc main_arg2)) := rfl

/-- The reference's result at an index. -/
theorem result_apply (m : (ℓ : Loc nD τ sig) → Buf (Elt Ideal) ℓ) (c : Dev nD) (b : Fin 2) (q : Fin 8192) (o : Fin 512) :
    (res_main_v87 (F := Ideal) m c : (⟨3, ![2, 8192, 512]⟩ : Shape).Idx → EReal) (ix3 b q o)
      = differ (m ((c.tc : Thread nD τ).loc main_arg0)) (m ((c.tc : Thread nD τ).loc main_arg1)) (m ((c.tc : Thread nD τ).loc main_arg2)) b q o :=
  (congrFun (result_whole m c) _).trans (whole_apply _ _ _ b q o)

end Cert.DiffReferenceIdeal.Value

end
-- ==== Proof.IdealLaunch.lean ====
/-
  The launch of the kernel at the reading of its floats as extended reals: what each grid point leaves, and the run of the whole program.
-/
module

public import proofs.«01_k».proof.Proof.Run
public import proofs.«01_k».proof.Proof.Gen.KernelIdeal.Frame
public import Idealize.ShloMosaic.Lib.Pipeline.TableIdle
public import Idealize.ShloMosaic.Lib.Pipeline.Quiescent

@[expose] public section

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Sweep (held fold startMax startAcc qAll vAll outAll)
open Cert.KernelIdeal.Run (After Scratch valuesAt body_rule)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the batch that point `n` lies in. -/
def firstOf (n : ℕ) : Fin cfg0.N := ⟨8 * (n / 8) % 16, (Nat.mod_lt _ (by decide)).trans_eq Gen.N_0.symm⟩

/-- The queries a point runs on. -/
def queriesAt (c : Dev nD) (t : Fin cfg0.N) : Vec F S1x1024x512 .bf16 := Gen.X0_0 m c t

/-- The keys a point runs on. -/
def keysAt (c : Dev nD) (t : Fin cfg0.N) : Vec F S1x8192x128 .bf16 := Gen.iblk m c 1 t

/-- The value block of a point. -/
def valueBlockAt (c : Dev nD) (t : Fin cfg0.N) : Vec F S1x8192x128 .bf16 := Gen.iblk m c 2 t

/-- The transposed values of the batch that point `n` lies in. -/
def batchValues (c : Dev nD) (n : ℕ) : Vec F S16x144x512 .bf16 := vAll (F := F) (valueBlockAt m c (firstOf n))

/-- The output block a point leaves. -/
def leftAt (c : Dev nD) (t : Fin cfg0.N) : Vec F S1x1024x512 .bf16 :=
  outAll (F := F) (fold (keysAt m c t) (qAll (F := F) (queriesAt m c t)) (batchValues m c t.val) (startMax (F := F)) (startAcc (F := F)) 128).2

/-- What the kernel carries from point to point: inside a batch, the batch's transposed values. -/
def Carried (c : Dev nD) (n : ℕ) : sProp 𝕄 :=
  iprop((∃ V, ⌜n % 8 ≠ 0 → V = batchValues m c n⌝ ∗ held c (Memref.whole cc0_scratch0) V)
    ∗ Scratch c (Memref.whole cc0_scratch1) (Memref.whole cc0_scratch2) (Memref.whole cc0_scratch3) (Memref.whole cc0_scratch4) (Memref.whole cc0_scratch5)
    ∗ ∃ r, prngReg c r)

/-- What each window holds after each point, and what is carried between points. -/
def dats (_ : Fin 1) (c : Dev nD) : Dat τ (Elt F) Unit ℕ (UR sig nD τ) ℕ cfg0 c where
  A w := Gen.V m c (Pipeline.arrRef spec0 w)
  after w t := match w with
    | 0 => Gen.X0_0 m c t
    | 1 => Gen.iblk m c 1 t
    | 2 => Gen.iblk m c 2 t
    | 3 => leftAt m c t
  Φ t := Carried m c t.val
  q w := Pipeline.shareOf spec0 w
  owed _ := 0

theorem before0 (c : Dev nD) (t : Fin cfg0.N) (d) : (dats m 0 c).before 0 t d = queriesAt m c t :=
  Gen.before0_0_of m (dats m 0 c) rfl (fun _ => rfl) t d
theorem before1 (c : Dev nD) (t : Fin cfg0.N) (d) : (dats m 0 c).before 1 t d = keysAt m c t :=
  Gen.before0_1_of m (dats m 0 c) rfl (fun _ => rfl) t d
theorem before2 (c : Dev nD) (t : Fin cfg0.N) (d) : (dats m 0 c).before 2 t d = valueBlockAt m c t :=
  Gen.before0_2_of m (dats m 0 c) rfl (fun _ => rfl) t d

/-- The values are filled at the first point of each batch. -/
theorem fills : ∀ t : Fin grid0.N, (k0_cond1 (grid0.coords t) = 1#1 ↔ t.val % 8 = 0) := by decide +kernel

/-- After a point, the scratch holds the transposed values of the point's batch. -/
theorem values_after (c : Dev nD) (t : Fin cfg0.N) (V : Vec F S16x144x512 .bf16) (hV : t.val % 8 ≠ 0 → V = batchValues m c t.val) :
    valuesAt (grid0.coords t) (valueBlockAt m c t) V = batchValues m c t.val := by
  unfold valuesAt
  by_cases h : t.val % 8 = 0
  · rw [if_pos ((fills t).mpr h)]
    have : firstOf t.val = t := Fin.ext (by
      show 8 * (t.val / 8) % 16 = t.val
      have := t.isLt.trans_eq Gen.N_0
      omega)
    unfold batchValues
    rw [this]
  · rw [if_neg (fun h' => h ((fills t).mp h')), hV h]

/-- Carried from one point to the next. -/
theorem carried_next (c : Dev nD) (n : ℕ) : iprop(held c (Memref.whole cc0_scratch0) (batchValues m c n)
    ∗ Scratch c (Memref.whole cc0_scratch1) (Memref.whole cc0_scratch2) (Memref.whole cc0_scratch3) (Memref.whole cc0_scratch4) (Memref.whole cc0_scratch5)
    ∗ ∃ r, prngReg c r) ⊢ (Carried m c (n + 1) : sProp 𝕄) := by
  unfold Carried
  iintro ⟨HV, HS, HR⟩
  isplitl [HV]
  · iexists (batchValues m c n)
    isplitr
    · ipureintro
      intro h
      unfold batchValues firstOf
      have : (n + 1) / 8 = n / 8 := by omega
      simp only [this]
    · iexact HV
  isplitl [HS]; · iexact HS
  iexact HR

/-- The body's obligation at each point, in the body's own words. -/
theorem body_at (c : Dev nD) (t : Fin cfg0.N) (O : sProp 𝕄) :
    iprop(Carried m c t.val ∗ O ∗ held c (Gen.st0_0 t) (queriesAt m c t) ∗ held c (Gen.st0_1 t) (keysAt m c t) ∗ held c (Gen.st0_2 t) (valueBlockAt m c t) ∗ (∃ T, held c (Gen.st0_3 t) T))
      ⊢ wp frame (wpE (defs₀ (F := F)) Variants.none (c : Thread nD τ) none) Set.univ (Gen.bodyAt0 (F := F) t) fun _ =>
        iprop(Carried m c (t.val + 1) ∗ O ∗ held c (Gen.st0_0 t) (queriesAt m c t) ∗ held c (Gen.st0_1 t) (keysAt m c t) ∗ held c (Gen.st0_2 t) (valueBlockAt m c t) ∗ held c (Gen.st0_3 t) (leftAt m c t)) := by
  have hc : (Carried m c t.val : sProp 𝕄) = iprop((∃ V, ⌜t.val % 8 ≠ 0 → V = batchValues m c t.val⌝ ∗ held c (Memref.whole cc0_scratch0) V)
    ∗ Scratch c (Memref.whole cc0_scratch1) (Memref.whole cc0_scratch2) (Memref.whole cc0_scratch3) (Memref.whole cc0_scratch4) (Memref.whole cc0_scratch5)
    ∗ ∃ r, prngReg c r) := rfl
  rw [hc]
  iintro ⟨⟨⟨%V, %hV, HV⟩, HS, HR⟩, HO, H0, H1, H2, H3⟩
  iapply (body_rule (defs₀ (F := F)) Variants.none c none Set.univ (grid0.coords t) _ _ _ _ _ _ _ _ _ _ _ _ _ _ _ _ _ _ _ _ (keysAt m c t) V (queriesAt m c t) (valueBlockAt m c t) _)
  isplitl [H0]; · iexact H0
  isplitl [H1]; · iexact H1
  isplitl [H2]; · iexact H2
  isplitl [H3]; · iexact H3
  isplitl [HV]; · iexact HV
  isplitl [HS]; · iexact HS
  rw [values_after m c t V hV]
  unfold After
  iintro H2 ⟨H0, H1, H3, HV, HS⟩
  isplitl [HV HS HR]
  · iapply (carried_next m c t.val)
    isplitl [HV]; · iexact HV
    isplitl [HS]; · unfold Scratch; iexact HS
    iexact HR
  isplitl [HO]; · iexact HO
  isplitl [H0]; · iexact H0
  isplitl [H1]; · iexact H1
  isplitl [H2]; · iexact H2
  unfold leftAt
  iexact H3

/-- The body table's entry at a point's arguments is the body at that point. -/
theorem row (t : Fin cfg0.N) : defs₀ (F := F) .tc cfg0.body (cfg0.bodyArgs t (cfg0.slots t)) = Gen.bodyAt0 t := by
  unfold defs₀
  rw [Defs.onTc_tc]

theorem carried_before (c : Dev nD) (t : Fin cfg0.N) : (dats m 0 c).Φ t.castSucc = Carried m c t.val :=
  congrArg (Carried m c) (Fin.val_castSucc t)
theorem carried_after (c : Dev nD) (t : Fin cfg0.N) : (dats m 0 c).Φ t.succ = Carried m c (t.val + 1) :=
  congrArg (Carried m c) (Fin.val_succ t)
theorem queries_refill (c : Dev nD) (t : Fin cfg0.N) (d) :
    (cfg0.win 0).fill (cfg0.grid.coords t) d ((cfg0.win 0).cut (cfg0.grid.coords t) ((dats m 0 c).after 0 t)) = queriesAt m c t := by
  show (cfg0.win 0).fill (cfg0.grid.coords t) d ((cfg0.win 0).cut (cfg0.grid.coords t) (Gen.X0_0 m c t)) = Gen.X0_0 m c t
  unfold Gen.X0_0
  rw [Pipeline.Window.cut_fill, Gen.fill0_0 t d Gen.dflt0_0]

/-- The body meets its obligation at every point. -/
theorem body_sound (c : Dev nD) : BodyObligationLoose (dats m 0 c) (defs₀ (F := F)) Variants.none () Set.univ := by
  intro t
  refine triple_restated (body_at m c t ((dats m 0 c).owesAt () t.castSucc)) (by rw [← row t]) ?_ ?_
  · rw [Gen.bigSep_W0, carried_before]
    iintro ⟨HC, HO, ⟨%d0, H0⟩, ⟨%d1, H1⟩, ⟨%d2, H2⟩, ⟨%d3, H3⟩⟩
    rw [before0, before1, before2]
    isplitl [HC]; · iexact HC
    isplitl [HO]; · iexact HO
    isplitl [H0]; · iapply (rep_of_owns (c : Thread nD τ) (Gen.st0_0 t) fullShare (queriesAt m c t)) $$ H0
    isplitl [H1]; · iapply (rep_of_owns (c : Thread nD τ) (Gen.st0_1 t) fullShare (keysAt m c t)) $$ H1
    isplitl [H2]; · iapply (rep_of_owns (c : Thread nD τ) (Gen.st0_2 t) fullShare (valueBlockAt m c t)) $$ H2
    iexists ((dats m 0 c).before 3 t d3)
    iapply (rep_of_owns (c : Thread nD τ) (Gen.st0_3 t) fullShare ((dats m 0 c).before 3 t d3)) $$ H3
  · intro _
    rw [Gen.bigSep_W0, carried_after]
    iintro ⟨HC, HO, H0, H1, H2, H3⟩
    isplitl [HC]; · iexact HC
    isplitl [HO]; · iexact HO
    isplitl [H0]; · iexists (queriesAt m c t); rw [queries_refill]; iapply (owns_of_rep (c : Thread nD τ) (Gen.st0_0 t) fullShare (queriesAt m c t)) $$ H0
    isplitl [H1]; · iapply (owns_of_rep (c : Thread nD τ) (Gen.st0_1 t) fullShare (keysAt m c t)) $$ H1
    isplitl [H2]; · iapply (owns_of_rep (c : Thread nD τ) (Gen.st0_2 t) fullShare (valueBlockAt m c t)) $$ H2
    iapply (owns_of_rep (c : Thread nD τ) (Gen.st0_3 t) fullShare (leftAt m c t)) $$ H3

/-- A buffer whole at given contents, as the body holds it. -/
theorem held_whole (c : Dev nD) (b : Ref sig .tc) (f : Buf (Elt F) ((c : Thread nD τ).loc b)) :
    (held c (Memref.whole b) f : sProp 𝕄) = (((c : Thread nD τ).loc b) ↦{fullShare} f) :=
  (owns_eq_rep (c : Thread nD τ) (Memref.whole b) fullShare f).symm.trans (owns_whole (c : Thread nD τ) b fullShare f)

/-- What the kernel starts from, as the body holds it. -/
theorem start_eq (c : Dev nD) : (Pipeline.ΦA spec0 c : sProp 𝕄)
    = iprop(((∃ V, held c (Memref.whole cc0_scratch0) V) ∗ (∃ T, held c (Memref.whole cc0_scratch1) T) ∗ (∃ T, held c (Memref.whole cc0_scratch2) T) ∗ (∃ T, held c (Memref.whole cc0_scratch3) T)
        ∗ (∃ T, held c (Memref.whole cc0_scratch4) T) ∗ (∃ T, held c (Memref.whole cc0_scratch5) T)) ∗ ∃ r, prngReg c r) := by
  unfold Pipeline.ΦA
  rw [Gen.scopedRest0_eq]
  simp only [← held_whole]

theorem start_carried (c : Dev nD) : (Pipeline.ΦA spec0 c : sProp 𝕄) ⊢ (dats m 0 c).Φ 0 := by
  rw [start_eq, show (dats m 0 c).Φ 0 = Carried m c 0 from rfl]
  unfold Carried Scratch
  iintro ⟨⟨⟨%V, HV⟩, HS⟩, HR⟩
  isplitl [HV]
  · iexists V
    isplitr
    · ipureintro
      intro h
      exact absurd rfl h
    · iexact HV
  isplitl [HS]; · iexact HS
  iexact HR

theorem carried_end (c : Dev nD) : (dats m 0 c).Φ (Fin.last cfg0.N) ⊢ (Pipeline.ΦA spec0 c : sProp 𝕄) := by
  rw [start_eq, show (dats m 0 c).Φ (Fin.last cfg0.N) = Carried m c (Fin.last cfg0.N).val from rfl]
  unfold Carried Scratch
  iintro ⟨⟨%V, -, HV⟩, HS, HR⟩
  isplitl [HV HS]
  · isplitl [HV]
    · iexists V
      iexact HV
    iexact HS
  iexact HR

/-- The run of the whole program: the arrays end at the data's contents, and every semaphore at zero. -/
theorem run : θ_run defs (onTc (τ := τ) (main (F := F))) (s₀ m ρ) (fun r => Pipeline.FramePost cfgs (dats m) 0 (Gen.V m) r ∧ r.2.sem = fun _ => 0) :=
  Pipeline.θ_run_frame_track_shared cfgs (dats m) (0 : Fin 1) Gen.launch₀0 defs₀ Variants.none m ρ main (body_sound m)
    (fun _ _ _ => rfl) (fun _ _ => rfl) (Gen.V m) (Gen.hmain m Variants.none) (fun _ _ => rfl) (start_carried m) (carried_end m) _ (fun _ h => h)

/-- The program ends with its argument unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_with_sems (Gen.frame_of m ρ (dats m) (fun _ _ => rfl)) (run m ρ)

end Cert.KernelIdeal.Launch

end
-- ==== Proof.KernelValue.lean ====
/-
  What the kernel leaves in its result: the attention of the specification, at every index.
-/
module

public import proofs.«01_k».proof.Proof.IdealLaunch
public import proofs.«01_k».proof.Proof.BlockValue
public import Idealize.ShloMosaic.Lib.Pipeline.ValueKit.Geometry

@[expose] public section

noncomputable section

namespace Cert.KernelIdeal.Launch

open Idealize.ShloMosaic Idealize.ShloMosaic.TcCoe Idealize.ShloMosaic.Tactic
open Cert.Sweep (block_attends)
open Cert.Spec (attend)

set_option maxRecDepth 16384

variable (m : (ℓ : Loc nD τ sig) → Buf (Elt Ideal) ℓ)

/-- The projected queries, keys and values, as the kernel's argument holds them. -/
def packed (c : Dev nD) : Cert.Spec.S2x8192x2304.Idx → EReal := m ((c.tc : Thread nD τ).loc main_arg0)

theorem points (t : Fin cfg0.N) : t.val < 16 := t.isLt.trans_eq Gen.N_0

theorem index0 : ∀ t : Fin cfg0.N, win0_0.index t = ![t.val / 8, t.val % 8, 0] := (by decide +kernel : ∀ t : Fin grid0.N, _)
theorem index1 : ∀ t : Fin cfg0.N, win0_1.index t = ![t.val / 8, 0, 4] := (by decide +kernel : ∀ t : Fin grid0.N, _)
theorem index2 : ∀ t : Fin cfg0.N, win0_2.index t = ![t.val / 8, 0, 5] := (by decide +kernel : ∀ t : Fin grid0.N, _)
theorem index3 : ∀ t : Fin cfg0.N, win0_3.index t = ![t.val / 8, t.val % 8, 0] := (by decide +kernel : ∀ t : Fin grid0.N, _)

/-- The keys of a point, at an index. -/
theorem keys_apply (c : Dev nD) (t : Fin cfg0.N) (b : Fin 2) (hb : b.val = t.val / 8) (k : Fin 8192) (l : Fin 128) :
    (keysAt m c t (ix3 0 k l) : EReal) = packed m c (ix3 b k ⟨512 + l.val, by omega⟩) := by
  unfold keysAt packed
  blk_simp [Gen.iblk]
  refine congrArg (m ((c.tc : Thread nD τ).loc main_arg0)) ?_
  have e := index1 t
  blk_ext [e, hb]

/-- The value block of a point, at an index. -/
theorem values_apply (c : Dev nD) (t : Fin cfg0.N) (b : Fin 2) (hb : b.val = t.val / 8) (k : Fin 8192) (l : Fin 128) :
    (valueBlockAt m c t (ix3 0 k l) : EReal) = packed m c (ix3 b k ⟨640 + l.val, by omega⟩) := by
  unfold valueBlockAt packed
  blk_simp [Gen.iblk]
  refine congrArg (m ((c.tc : Thread nD τ).loc main_arg0)) ?_
  have e := index2 t
  blk_ext [e, hb]

/-- The queries of a point, at an index. -/
theorem queries_apply (c : Dev nD) (t : Fin cfg0.N) (b : Fin 2) (hb : b.val = t.val / 8) (base : ℕ) (hbase : base = t.val % 8 * 1024)
    (hin : base + 1024 ≤ 8192) (r : Fin 1024) (l : Fin 512) :
    (queriesAt m c t (ix3 0 r l) : EReal) = packed m c (ix3 b ⟨base + r.val, by omega⟩ ⟨l.val, by omega⟩) := by
  unfold queriesAt packed Gen.X0_0 Pipeline.Window.fill
  rw [dif_pos (Gen.moved0_0 t _)]
  blk_simp [Gen.iblk]
  refine congrArg (m ((c.tc : Thread nD τ).loc main_arg0)) ?_
  have e := index0 t
  subst hbase
  blk_ext [e, hb]

/-- What a point leaves, at an index. -/
theorem left_apply (c : Dev nD) (t : Fin cfg0.N) (r : Fin 1024) (o : Fin 512) (b : Fin 2) (q : Fin 8192)
    (hb : b.val = t.val / 8) (hq : q.val = t.val % 8 * 1024 + r.val) :
    (leftAt m c t (ix3 0 r o) : EReal) = attend (packed m c) b q o := by
  have ht := points t
  unfold leftAt batchValues
  have h := block_attends (packed m c) b (keysAt m c t) (valueBlockAt m c (firstOf t.val)) (queriesAt m c t) (t.val % 8 * 1024) (by omega)
    (keys_apply m c t b hb)
    (values_apply m c (firstOf t.val) b (by show b.val = 8 * (t.val / 8) % 16 / 8; omega))
    (queries_apply m c t b hb _ rfl (by omega)) r o
  rw [show q = ⟨t.val % 8 * 1024 + r.val, by omega⟩ from Fin.ext hq]
  exact h

/-- The result array after the run. -/
theorem final (c : Dev nD) : (dats m 0 c).arrAt 3 cfg0.N = fun i => attend (packed m c) (i 0) (i 1) (i 2) := by
  refine (dats m 0 c).arrAt_eq_of_covers 3 _ (by decide +kernel) fun t hf y => ?_
  blk_simp
  have e := index3 t
  have hy : (y : S1x1024x512.Idx) = ix3 (n0 := 1) (n1 := 1024) (n2 := 512) 0 (y 1) (y 2) := by
    funext a
    match a with
    | 0 => exact Subsingleton.elim (α := Fin 1) _ _
    | 1 => rfl
    | 2 => rfl
  have h2 : (win0_3.blk t).view.emb y 2 = (y 2 : Fin 512) := by
    apply Fin.ext
    blk_simp [e]
  refine (congrArg (leftAt m c t) hy).trans ((left_apply m c t (y 1) (y 2) ((win0_3.blk t).view.emb y 0) ((win0_3.blk t).view.emb y 1) ?_ ?_).trans ?_)
  · idx_bounds y
    blk_simp [e]
  · blk_simp [e]
  · exact congrArg _ h2.symm

end Cert.KernelIdeal.Launch

end
-- ==== Proof.Dense.lean ====
/-
  The dense parts of the layer, for one token: the normalisation of a row, a product with a matrix, the gated unit.
  A product of a normalised row may take the row's factor out of its sum.
-/
module

public import proofs.«01_k».proof.Proof.TileValues

@[expose] public section

noncomputable section

namespace Cert.Dense

open Idealize.ShloMosaic

/-- The factor that normalises a row of 1024: one over the root of its mean square, the mean a little raised. -/
def factor (x : Fin 1024 → EReal) : EReal :=
  Ideal.rsqrt (Ideal.div (∑ k, x k * x k) (Ideal.ofBits FTy.f32 1149239296#32) + Ideal.ofBits FTy.f32 897988541#32)

/-- A row normalised, with a gain per lane. -/
def normed (x g : Fin 1024 → EReal) (k : Fin 1024) : EReal := x k * factor x * g k

/-- A row against one column of a matrix. -/
def dot {n : ℕ} (x w : Fin n → EReal) : EReal := ∑ k, x k * w k

/-- A square is not negative. -/
theorem square_nonneg (x : EReal) : 0 ≤ x * x := by
  induction x with
  | bot => simp
  | top => simp
  | coe r => rw [← EReal.coe_mul]; exact_mod_cast mul_self_nonneg r

theorem pattern_1024 : Ideal.ofBits FTy.f32 1149239296#32 = ((1024 : ℝ) : EReal) := by
  simp [Ideal.ofBits, Ideal.ieee]
  rw [← EReal.coe_mul]
  norm_num

theorem pattern_small : ∃ r : ℝ, 0 < r ∧ Ideal.ofBits FTy.f32 897988541#32 = (r : EReal) := by
  simp [Ideal.ofBits, Ideal.ieee]
  rw [← EReal.coe_mul]
  exact ⟨_, by norm_num, rfl⟩

/-- One over the root of something above zero is neither negative nor infinite. -/
theorem rsqrt_between (x : EReal) (h : 0 < x) : 0 ≤ Ideal.rsqrt x ∧ Ideal.rsqrt x ≠ ⊤ := by
  induction x with
  | bot => exact absurd h (by simp)
  | top => exact ⟨le_refl _, EReal.zero_ne_top⟩
  | coe r =>
    have hr : 0 < r := by exact_mod_cast h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [e]
    exact ⟨by exact_mod_cast (inv_nonneg.2 (Real.sqrt_nonneg r)), EReal.coe_ne_top _⟩

/-- The factor of a row is neither negative nor infinite. -/
theorem factor_between (x : Fin 1024 → EReal) : 0 ≤ factor x ∧ factor x ≠ ⊤ := by
  unfold factor
  apply rsqrt_between
  obtain ⟨r, hr, e⟩ := pattern_small
  rw [pattern_1024, e]
  have hs : 0 ≤ ∑ k, x k * x k := Finset.sum_nonneg fun k _ => square_nonneg (x k)
  have hd : 0 ≤ Ideal.div (∑ k, x k * x k) ((1024 : ℝ) : EReal) := by
    unfold Ideal.div
    rw [if_neg (by norm_num), ← EReal.coe_inv]
    exact mul_nonneg hs (by norm_num)
  calc (0 : EReal) < (r : EReal) := by exact_mod_cast hr
    _ ≤ _ := le_add_of_nonneg_left hd

/-- A factor that is neither negative nor infinite goes through a sum. -/
theorem factor_sum {ι : Type} (a : EReal) (h : 0 ≤ a ∧ a ≠ ⊤) (s : Finset ι) (f : ι → EReal) : a * ∑ k ∈ s, f k = ∑ k ∈ s, a * f k := by
  classical
  induction s using Finset.induction_on with
  | empty => simp
  | insert k s hk ih => rw [Finset.sum_insert hk, Finset.sum_insert hk, EReal.left_distrib_of_nonneg_of_ne_top h.1 h.2, ih]

/-- The factor of a row may multiply the product in place of the row. -/
theorem factor_dot (x g w : Fin 1024 → EReal) : factor x * ∑ k, x k * g k * w k = dot (normed x g) w := by
  unfold dot normed
  rw [factor_sum _ (factor_between x)]
  refine Finset.sum_congr rfl fun k _ => ?_
  rw [← mul_assoc, ← mul_assoc, mul_comm (factor x)]

/-- The gated unit of a normalised row, at one lane of the result: `G` and `U` give the columns of the two first matrices, `D` a column of the last. -/
def gated {n : ℕ} (z g : Fin 1024 → EReal) (G U : Fin n → Fin 1024 → EReal) (D : Fin n → EReal) : EReal :=
  ∑ f, dot (normed z g) (G f) * Ideal.logistic (dot (normed z g) (G f)) * dot (normed z g) (U f) * D f

/-- The gates and the two branches' products, merged, at one lane. -/
def merged (x n : Fin 1024 → EReal) (Ga Gb : Fin 1024 → EReal) (a b : Fin 512 → EReal) (A B : Fin 512 → EReal) : EReal :=
  Ideal.logistic (dot (normed x n) Ga) * dot a A + Ideal.logistic (dot (normed x n) Gb) * dot b B

/-- What the mixing of the branches and the second feed-forward part start from, for `B` sequences of `S` tokens. -/
structure MixArgs (B S : ℕ) where
  x : (⟨3, ![B, S, 1024]⟩ : Shape).Idx → EReal
  a : (⟨3, ![B, S, 512]⟩ : Shape).Idx → EReal
  b : (⟨3, ![B, S, 512]⟩ : Shape).Idx → EReal
  mixGain : (⟨2, ![1, 1024]⟩ : Shape).Idx → EReal
  gate : (⟨2, ![1024, 2048]⟩ : Shape).Idx → EReal
  outA : (⟨2, ![512, 1024]⟩ : Shape).Idx → EReal
  outB : (⟨2, ![512, 1024]⟩ : Shape).Idx → EReal
  out : (⟨2, ![1024, 1024]⟩ : Shape).Idx → EReal
  ffnGain : (⟨2, ![1, 1024]⟩ : Shape).Idx → EReal
  ffnGate : (⟨2, ![1024, 2816]⟩ : Shape).Idx → EReal
  ffnUp : (⟨2, ![1024, 2816]⟩ : Shape).Idx → EReal
  ffnDown : (⟨2, ![2816, 1024]⟩ : Shape).Idx → EReal

/-- The merged branches of a token, at a lane. -/
def MixArgs.mix {B S : ℕ} (A : MixArgs B S) (s : Fin B) (q : Fin S) (j : Fin 1024) : EReal :=
  merged (fun k => A.x (ix3 s q k)) (fun k => A.mixGain (ix2 0 k)) (fun k => A.gate (ix2 k ⟨j.val, by omega⟩)) (fun k => A.gate (ix2 k ⟨1024 + j.val, by omega⟩))
    (fun k => A.a (ix3 s q k)) (fun k => A.b (ix3 s q k)) (fun k => A.outA (ix2 k j)) (fun k => A.outB (ix2 k j))

/-- A token after the mixing, at a lane. -/
def MixArgs.mixed {B S : ℕ} (A : MixArgs B S) (s : Fin B) (q : Fin S) (o : Fin 1024) : EReal :=
  A.x (ix3 s q o) + ∑ j, A.mix s q j * A.out (ix2 j o)

/-- A token at the layer's end, at a lane. -/
def MixArgs.result {B S : ℕ} (A : MixArgs B S) (s : Fin B) (q : Fin S) (o : Fin 1024) : EReal :=
  A.mixed s q o + Ideal.ofBits FTy.f32 1056964608#32
    * gated (A.mixed s q) (fun k => A.ffnGain (ix2 0 k)) (fun f k => A.ffnGate (ix2 k f)) (fun f k => A.ffnUp (ix2 k f)) (fun f => A.ffnDown (ix2 f o))

end Cert.Dense

end
-- ==== Proof.MixValue.lean ====
/-
  What the mixing kernel leaves in its result, at every index.
-/
module

public import proofs.«01_k».proof.Proof.Gen.MixIdeal.Value
public import proofs.«01_k».proof.Proof.Dense
public import Idealize.ShloMosaic.Lib.Pipeline.ValueKit

@[expose] public section

noncomputable section

namespace Cert.MixIdeal.Value

open Cert.MixIdeal Cert.MixIdeal.Gen Idealize.ShloMosaic Idealize.ShloMosaic.TcCoe Cert.Dense

set_option maxRecDepth 16384

/-- The merged branches of a block, at an index. -/
theorem merged_apply (x : Vec Ideal S1x512x1024 .f32) (g : Vec Ideal S1x1024 .f32) (G : Vec Ideal S1024x2048 .bf16) (a : Vec Ideal S1x512x512 .bf16)
    (A : Vec Ideal S512x1024 .bf16) (b : Vec Ideal S1x512x512 .bf16) (B : Vec Ideal S512x1024 .bf16) (r : Fin 512) (j : Fin 1024) :
    (k0_pay3 (F := Ideal) x g G a A b B (ix2 r j) : EReal)
      = merged (fun k => x (ix3 0 r k)) (fun k => g (ix2 0 k)) (fun k => G (ix2 k ⟨j.val, by omega⟩)) (fun k => G (ix2 k ⟨1024 + j.val, by omega⟩))
          (fun k => a (ix3 0 r k)) (fun k => b (ix3 0 r k)) (fun k => A (ix2 k j)) (fun k => B (ix2 k j)) := by
  unfold merged
  rw [← factor_dot, ← factor_dot]
  pointwise [k0_pay3, k0_pay2]
  rfl

/-- The feed-forward part of a block, at an index. -/
theorem ffn_apply (x : Vec Ideal S1x512x1024 .f32) (u : FVec Ideal S512x1024 .bf16) (W : Vec Ideal S1024x1024 .bf16) (g : Vec Ideal S1x1024 .f32)
    (G U : Vec Ideal S1024x2816 .bf16) (D : Vec Ideal S2816x1024 .bf16) (z : Fin 1024 → EReal) (r : Fin 512)
    (hz : ∀ k, z k = x (ix3 0 r k) + ∑ j : Fin 1024, (u (ix2 r j) : EReal) * W (ix2 j k)) (o : Fin 1024) :
    (k0_pay1 (F := Ideal) (k0_pay2 x) u W g G U D (ix3 0 r o) : EReal)
      = z o + Ideal.ofBits FTy.f32 1056964608#32
          * gated z (fun k => g (ix2 0 k)) (fun f k => G (ix2 k f)) (fun f k => U (ix2 k f)) (fun f => D (ix2 f o)) := by
  obtain rfl : z = fun k => x (ix3 0 r k) + ∑ j : Fin 1024, (u (ix2 r j) : EReal) * W (ix2 j k) := funext hz
  unfold gated
  simp only [← factor_dot]
  pointwise [k0_pay1, k0_pay2]
  rfl

variable (m : (ℓ : Loc nD τ sig) → Buf (Elt Ideal) ℓ)

/-- The kernel's arguments. -/
def args (c : Dev nD) : MixArgs 2 8192 where
  x := m ((c.tc : Thread nD τ).loc main_arg0)
  a := m ((c.tc : Thread nD τ).loc main_arg1)
  b := m ((c.tc : Thread nD τ).loc main_arg2)
  mixGain := m ((c.tc : Thread nD τ).loc main_arg3)
  gate := m ((c.tc : Thread nD τ).loc main_arg4)
  outA := m ((c.tc : Thread nD τ).loc main_arg5)
  outB := m ((c.tc : Thread nD τ).loc main_arg6)
  out := m ((c.tc : Thread nD τ).loc main_arg7)
  ffnGain := m ((c.tc : Thread nD τ).loc main_arg8)
  ffnGate := m ((c.tc : Thread nD τ).loc main_arg9)
  ffnUp := m ((c.tc : Thread nD τ).loc main_arg10)
  ffnDown := m ((c.tc : Thread nD τ).loc main_arg11)

theorem points (t : Fin cfg0.N) : t.val < 32 := t.isLt.trans_eq Gen.N_0

theorem index0 : ∀ t : Fin cfg0.N, win0_0.index t = ![t.val / 16, t.val % 16, 0] := (by decide +kernel : ∀ t : Fin grid0.N, _)
theorem index1 : ∀ t : Fin cfg0.N, win0_1.index t = ![t.val / 16, t.val % 16, 0] := (by decide +kernel : ∀ t : Fin grid0.N, _)
theorem index2 : ∀ t : Fin cfg0.N, win0_2.index t = ![t.val / 16, t.val % 16, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![t.val / 16, t.val % 16, 0] := (by decide +kernel : ∀ t : Fin grid0.N, _)

/-- A token's lanes in a block are the argument's. -/
theorem x_apply (c : Dev nD) (t : Fin cfg0.N) (s : Fin 2) (q : Fin 8192) (r : Fin 512) (hs : s.val = t.val / 16) (hq : q.val = t.val % 16 * 512 + r.val) (k : Fin 1024) :
    (iblk m c 0 t (ix3 0 r k) : EReal) = (args m c).x (ix3 s q k) := by
  blk_simp [iblk]
  refine congrArg (m ((c.tc : Thread nD τ).loc main_arg0)) ?_
  have e := index0 t
  blk_ext [e, hs, hq]

theorem a_apply (c : Dev nD) (t : Fin cfg0.N) (s : Fin 2) (q : Fin 8192) (r : Fin 512) (hs : s.val = t.val / 16) (hq : q.val = t.val % 16 * 512 + r.val) (k : Fin 512) :
    (iblk m c 1 t (ix3 0 r k) : EReal) = (args m c).a (ix3 s q k) := by
  blk_simp [iblk]
  refine congrArg (m ((c.tc : Thread nD τ).loc main_arg1)) ?_
  have e := index1 t
  blk_ext [e, hs, hq]

theorem b_apply (c : Dev nD) (t : Fin cfg0.N) (s : Fin 2) (q : Fin 8192) (r : Fin 512) (hs : s.val = t.val / 16) (hq : q.val = t.val % 16 * 512 + r.val) (k : Fin 512) :
    (iblk m c 2 t (ix3 0 r k) : EReal) = (args m c).b (ix3 s q k) := by
  blk_simp [iblk]
  refine congrArg (m ((c.tc : Thread nD τ).loc main_arg2)) ?_
  have e := index2 t
  blk_ext [e, hs, hq]

theorem mixGain_block (c : Dev nD) (t : Fin cfg0.N) : iblk m c 3 t = (args m c).mixGain := by
  funext j
  blk_simp [iblk]
  refine congrArg (m ((c.tc : Thread nD τ).loc main_arg3)) ?_
  have e := index3 t
  blk_ext [e]

theorem gate_block (c : Dev nD) (t : Fin cfg0.N) : iblk m c 4 t = (args m c).gate := by
  funext j
  blk_simp [iblk]
  refine congrArg (m ((c.tc : Thread nD τ).loc main_arg4)) ?_
  have e := index4 t
  blk_ext [e]

theorem outA_block (c : Dev nD) (t : Fin cfg0.N) : iblk m c 5 t = (args m c).outA := by
  funext j
  blk_simp [iblk]
  refine congrArg (m ((c.tc : Thread nD τ).loc main_arg5)) ?_
  have e := index5 t
  blk_ext [e]

theorem outB_block (c : Dev nD) (t : Fin cfg0.N) : iblk m c 6 t = (args m c).outB := by
  funext j
  blk_simp [iblk]
  refine congrArg (m ((c.tc : Thread nD τ).loc main_arg6)) ?_
  have e := index6 t
  blk_ext [e]

theorem out_block (c : Dev nD) (t : Fin cfg0.N) : iblk m c 7 t = (args m c).out := by
  funext j
  blk_simp [iblk]
  refine congrArg (m ((c.tc : Thread nD τ).loc main_arg7)) ?_
  have e := index7 t
  blk_ext [e]

theorem ffnGain_block (c : Dev nD) (t : Fin cfg0.N) : iblk m c 8 t = (args m c).ffnGain := by
  funext j
  blk_simp [iblk]
  refine congrArg (m ((c.tc : Thread nD τ).loc main_arg8)) ?_
  have e := index8 t
  blk_ext [e]

theorem ffnGate_block (c : Dev nD) (t : Fin cfg0.N) : iblk m c 9 t = (args m c).ffnGate := by
  funext j
  blk_simp [iblk]
  refine congrArg (m ((c.tc : Thread nD τ).loc main_arg9)) ?_
  have e := index9 t
  blk_ext [e]

theorem ffnUp_block (c : Dev nD) (t : Fin cfg0.N) : iblk m c 10 t = (args m c).ffnUp := by
  funext j
  blk_simp [iblk]
  refine congrArg (m ((c.tc : Thread nD τ).loc main_arg10)) ?_
  have e := index10 t
  blk_ext [e]

theorem ffnDown_block (c : Dev nD) (t : Fin cfg0.N) : iblk m c 11 t = (args m c).ffnDown := by
  funext j
  blk_simp [iblk]
  refine congrArg (m ((c.tc : Thread nD τ).loc main_arg11)) ?_
  have e := index11 t
  blk_ext [e]

/-- What a point leaves, at an index. -/
theorem left_apply (c : Dev nD) (t : Fin cfg0.N) (s : Fin 2) (q : Fin 8192) (r : Fin 512) (hs : s.val = t.val / 16) (hq : q.val = t.val % 16 * 512 + r.val) (o : Fin 1024) :
    ((dats m 0 c).after 12 t (ix3 0 r o) : EReal) = (args m c).result s q o := by
  rw [after0_12]
  frame_out
  refine (ffn_apply (iblk m c 0 t) _ _ _ _ _ _ ((args m c).mixed s q) r (fun k => ?_) o).trans ?_
  · unfold MixArgs.mixed MixArgs.mix
    refine congrArg₂ (· + ·) (x_apply m c t s q r hs hq k).symm (Finset.sum_congr rfl fun j _ => ?_)
    rw [merged_apply]
    simp only [x_apply m c t s q r hs hq, a_apply m c t s q r hs hq, b_apply m c t s q r hs hq]
    rw [mixGain_block, gate_block, outA_block, outB_block, out_block]
  · rw [ffnGain_block, ffnGate_block, ffnUp_block, ffnDown_block]
    rfl

/-- The result array after the run. -/
theorem final (c : Dev nD) : (dats m 0 c).arrAt 12 cfg0.N = fun i => (args m c).result (i 0) (i 1) (i 2) := by
  refine (dats m 0 c).arrAt_eq_of_covers 12 _ (by decide +kernel) fun t hf y => ?_
  blk_simp
  have e := index12 t
  have hy : (y : S1x512x1024.Idx) = ix3 (n0 := 1) (n1 := 512) (n2 := 1024) 0 (y 1) (y 2) := by
    funext a
    match a with
    | 0 => exact Subsingleton.elim (α := Fin 1) _ _
    | 1 => rfl
    | 2 => rfl
  have h2 : (win0_12.blk t).view.emb y 2 = (y 2 : Fin 1024) := by
    apply Fin.ext
    blk_simp [e]
  refine (congrArg ((dats m 0 c).after 12 t) hy).trans ((left_apply m c t ((win0_12.blk t).view.emb y 0) ((win0_12.blk t).view.emb y 1) (y 1) ?_ ?_ (y 2)).trans ?_)
  · idx_bounds y
    blk_simp [e]
  · blk_simp [e]
  · exact congrArg _ h2.symm

end Cert.MixIdeal.Value

end
-- ==== Proof.MixReferenceValue.lean ====
/-
  What the reference of the mixing computes at an index.
-/
module

public import proofs.«01_k».proof.Proof.Gen.MixReferenceIdeal.Run
public import proofs.«01_k».proof.Proof.Dense
public import Idealize.ShloMosaic.Lib.Tactic.CleanTypes

@[expose] public section

noncomputable section

namespace Cert.MixReferenceIdeal.Value

open Cert.MixReferenceIdeal Cert.MixReferenceIdeal.Gen Idealize.ShloMosaic Idealize.ShloMosaic.TcCoe Cert.Dense

set_option maxRecDepth 16384

/-- The reference's arguments. -/
def args (m : (ℓ : Loc nD τ sig) → Buf (Elt Ideal) ℓ) (c : Dev nD) : MixArgs 2 8192 where
  x := m ((c.tc : Thread nD τ).loc main_arg0)
  a := m ((c.tc : Thread nD τ).loc main_arg1)
  b := m ((c.tc : Thread nD τ).loc main_arg2)
  mixGain := m ((c.tc : Thread nD τ).loc main_arg3)
  gate := m ((c.tc : Thread nD τ).loc main_arg4)
  outA := m ((c.tc : Thread nD τ).loc main_arg5)
  outB := m ((c.tc : Thread nD τ).loc main_arg6)
  out := m ((c.tc : Thread nD τ).loc main_arg7)
  ffnGain := m ((c.tc : Thread nD τ).loc main_arg8)
  ffnGate := m ((c.tc : Thread nD τ).loc main_arg9)
  ffnUp := m ((c.tc : Thread nD τ).loc main_arg10)
  ffnDown := m ((c.tc : Thread nD τ).loc main_arg11)

/-- The reference's result at an index. -/
theorem result_apply (m : (ℓ : Loc nD τ sig) → Buf (Elt Ideal) ℓ) (c : Dev nD) (b : Fin 2) (q : Fin 8192) (o : Fin 1024) :
    (res_main_v60 (F := Ideal) m c : (⟨3, ![2, 8192, 1024]⟩ : Shape).Idx → EReal) (ix3 b q o) = (args m c).result b q o := by
  unfold res_main_v60
  clean_types
  pointwise
  rfl

end Cert.MixReferenceIdeal.Value

end
-- ==== Proof.MixSampleValue.lean ====
/-
  What the mixing kernel leaves in its result for the second batch, 8 sequences of 4096 tokens.
  A block is computed as for the first batch; what differs is where the blocks lie.
-/
module

public import proofs.«01_k».proof.Proof.Gen.MixSampleIdeal.Value
public import proofs.«01_k».proof.Proof.MixValue
public import Idealize.ShloMosaic.Lib.Pipeline.ValueKit

@[expose] public section

noncomputable section

namespace Cert.MixSampleIdeal.Value

open Cert.MixSampleIdeal Cert.MixSampleIdeal.Gen Idealize.ShloMosaic Idealize.ShloMosaic.TcCoe Cert.Dense

set_option maxRecDepth 16384

/-- A block's merged branches are computed as for the first batch. -/
theorem merge_same : @k0_pay3 = @Cert.MixIdeal.Gen.k0_pay3 := rfl

/-- A block's feed-forward part is computed as for the first batch. -/
theorem ffn_same : @k0_pay1 = @Cert.MixIdeal.Gen.k0_pay1 := rfl

/-- A block's tokens are read as for the first batch. -/
theorem read_same : @k0_pay2 = @Cert.MixIdeal.Gen.k0_pay2 := rfl

variable (m : (ℓ : Loc nD τ sig) → Buf (Elt Ideal) ℓ)

/-- The kernel's arguments. -/
def args (c : Dev nD) : MixArgs 8 4096 where
  x := m ((c.tc : Thread nD τ).loc main_arg0)
  a := m ((c.tc : Thread nD τ).loc main_arg1)
  b := m ((c.tc : Thread nD τ).loc main_arg2)
  mixGain := m ((c.tc : Thread nD τ).loc main_arg3)
  gate := m ((c.tc : Thread nD τ).loc main_arg4)
  outA := m ((c.tc : Thread nD τ).loc main_arg5)
  outB := m ((c.tc : Thread nD τ).loc main_arg6)
  out := m ((c.tc : Thread nD τ).loc main_arg7)
  ffnGain := m ((c.tc : Thread nD τ).loc main_arg8)
  ffnGate := m ((c.tc : Thread nD τ).loc main_arg9)
  ffnUp := m ((c.tc : Thread nD τ).loc main_arg10)
  ffnDown := m ((c.tc : Thread nD τ).loc main_arg11)

theorem points (t : Fin cfg0.N) : t.val < 64 := t.isLt.trans_eq Gen.N_0

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![t.val / 8, t.val % 8, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![t.val / 8, t.val % 8, 0] := (by decide +kernel : ∀ t : Fin grid0.N, _)

/-- A token's lanes in a block are the argument's. -/
theorem x_apply (c : Dev nD) (t : Fin cfg0.N) (s : Fin 8) (q : Fin 4096) (r : Fin 512) (hs : s.val = t.val / 8) (hq : q.val = t.val % 8 * 512 + r.val) (k : Fin 1024) :
    (iblk m c 0 t (ix3 0 r k) : EReal) = (args m c).x (ix3 s q k) := by
  blk_simp [iblk]
  refine congrArg (m ((c.tc : Thread nD τ).loc main_arg0)) ?_
  have e := index0 t
  blk_ext [e, hs, hq]

theorem a_apply (c : Dev nD) (t : Fin cfg0.N) (s : Fin 8) (q : Fin 4096) (r : Fin 512) (hs : s.val = t.val / 8) (hq : q.val = t.val % 8 * 512 + r.val) (k : Fin 512) :
    (iblk m c 1 t (ix3 0 r k) : EReal) = (args m c).a (ix3 s q k) := by
  blk_simp [iblk]
  refine congrArg (m ((c.tc : Thread nD τ).loc main_arg1)) ?_
  have e := index1 t
  blk_ext [e, hs, hq]

theorem b_apply (c : Dev nD) (t : Fin cfg0.N) (s : Fin 8) (q : Fin 4096) (r : Fin 512) (hs : s.val = t.val / 8) (hq : q.val = t.val % 8 * 512 + r.val) (k : Fin 512) :
    (iblk m c 2 t (ix3 0 r k) : EReal) = (args m c).b (ix3 s q k) := by
  blk_simp [iblk]
  refine congrArg (m ((c.tc : Thread nD τ).loc main_arg2)) ?_
  have e := index2 t
  blk_ext [e, hs, hq]

theorem mixGain_block (c : Dev nD) (t : Fin cfg0.N) : iblk m c 3 t = (args m c).mixGain := by
  funext j
  blk_simp [iblk]
  refine congrArg (m ((c.tc : Thread nD τ).loc main_arg3)) ?_
  have e := index3 t
  blk_ext [e]

theorem gate_block (c : Dev nD) (t : Fin cfg0.N) : iblk m c 4 t = (args m c).gate := by
  funext j
  blk_simp [iblk]
  refine congrArg (m ((c.tc : Thread nD τ).loc main_arg4)) ?_
  have e := index4 t
  blk_ext [e]

theorem outA_block (c : Dev nD) (t : Fin cfg0.N) : iblk m c 5 t = (args m c).outA := by
  funext j
  blk_simp [iblk]
  refine congrArg (m ((c.tc : Thread nD τ).loc main_arg5)) ?_
  have e := index5 t
  blk_ext [e]

theorem outB_block (c : Dev nD) (t : Fin cfg0.N) : iblk m c 6 t = (args m c).outB := by
  funext j
  blk_simp [iblk]
  refine congrArg (m ((c.tc : Thread nD τ).loc main_arg6)) ?_
  have e := index6 t
  blk_ext [e]

theorem out_block (c : Dev nD) (t : Fin cfg0.N) : iblk m c 7 t = (args m c).out := by
  funext j
  blk_simp [iblk]
  refine congrArg (m ((c.tc : Thread nD τ).loc main_arg7)) ?_
  have e := index7 t
  blk_ext [e]

theorem ffnGain_block (c : Dev nD) (t : Fin cfg0.N) : iblk m c 8 t = (args m c).ffnGain := by
  funext j
  blk_simp [iblk]
  refine congrArg (m ((c.tc : Thread nD τ).loc main_arg8)) ?_
  have e := index8 t
  blk_ext [e]

theorem ffnGate_block (c : Dev nD) (t : Fin cfg0.N) : iblk m c 9 t = (args m c).ffnGate := by
  funext j
  blk_simp [iblk]
  refine congrArg (m ((c.tc : Thread nD τ).loc main_arg9)) ?_
  have e := index9 t
  blk_ext [e]

theorem ffnUp_block (c : Dev nD) (t : Fin cfg0.N) : iblk m c 10 t = (args m c).ffnUp := by
  funext j
  blk_simp [iblk]
  refine congrArg (m ((c.tc : Thread nD τ).loc main_arg10)) ?_
  have e := index10 t
  blk_ext [e]

theorem ffnDown_block (c : Dev nD) (t : Fin cfg0.N) : iblk m c 11 t = (args m c).ffnDown := by
  funext j
  blk_simp [iblk]
  refine congrArg (m ((c.tc : Thread nD τ).loc main_arg11)) ?_
  have e := index11 t
  blk_ext [e]

/-- What a point leaves, at an index. -/
theorem left_apply (c : Dev nD) (t : Fin cfg0.N) (s : Fin 8) (q : Fin 4096) (r : Fin 512) (hs : s.val = t.val / 8) (hq : q.val = t.val % 8 * 512 + r.val) (o : Fin 1024) :
    ((dats m 0 c).after 12 t (ix3 0 r o) : EReal) = (args m c).result s q o := by
  rw [after0_12]
  frame_out
  rw [ffn_same, read_same]
  refine (Cert.MixIdeal.Value.ffn_apply (iblk m c 0 t) _ _ _ _ _ _ ((args m c).mixed s q) r (fun k => ?_) o).trans ?_
  · unfold MixArgs.mixed MixArgs.mix
    refine congrArg₂ (· + ·) (x_apply m c t s q r hs hq k).symm (Finset.sum_congr rfl fun j _ => ?_)
    rw [merge_same, Cert.MixIdeal.Value.merged_apply]
    simp only [x_apply m c t s q r hs hq, a_apply m c t s q r hs hq, b_apply m c t s q r hs hq]
    rw [mixGain_block, gate_block, outA_block, outB_block, out_block]
  · rw [ffnGain_block, ffnGate_block, ffnUp_block, ffnDown_block]
    rfl

/-- The result array after the run. -/
theorem final (c : Dev nD) : (dats m 0 c).arrAt 12 cfg0.N = fun i => (args m c).result (i 0) (i 1) (i 2) := by
  refine (dats m 0 c).arrAt_eq_of_covers 12 _ (by decide +kernel) fun t hf y => ?_
  blk_simp
  have e := index12 t
  have hy : (y : S1x512x1024.Idx) = ix3 (n0 := 1) (n1 := 512) (n2 := 1024) 0 (y 1) (y 2) := by
    funext a
    match a with
    | 0 => exact Subsingleton.elim (α := Fin 1) _ _
    | 1 => rfl
    | 2 => rfl
  have h2 : (win0_12.blk t).view.emb y 2 = (y 2 : Fin 1024) := by
    apply Fin.ext
    blk_simp [e]
  refine (congrArg ((dats m 0 c).after 12 t) hy).trans ((left_apply m c t ((win0_12.blk t).view.emb y 0) ((win0_12.blk t).view.emb y 1) (y 1) ?_ ?_ (y 2)).trans ?_)
  · idx_bounds y
    blk_simp [e]
  · blk_simp [e]
  · exact congrArg _ h2.symm

end Cert.MixSampleIdeal.Value

end
-- ==== Proof.MixSampleReferenceValue.lean ====
/-
  What the reference of the mixing computes at an index, for the second batch.
-/
module

public import proofs.«01_k».proof.Proof.Gen.MixSampleReferenceIdeal.Run
public import proofs.«01_k».proof.Proof.Dense
public import Idealize.ShloMosaic.Lib.Tactic.CleanTypes

@[expose] public section

noncomputable section

namespace Cert.MixSampleReferenceIdeal.Value

open Cert.MixSampleReferenceIdeal Cert.MixSampleReferenceIdeal.Gen Idealize.ShloMosaic Idealize.ShloMosaic.TcCoe Cert.Dense

set_option maxRecDepth 16384

/-- The reference's arguments. -/
def args (m : (ℓ : Loc nD τ sig) → Buf (Elt Ideal) ℓ) (c : Dev nD) : MixArgs 8 4096 where
  x := m ((c.tc : Thread nD τ).loc main_arg0)
  a := m ((c.tc : Thread nD τ).loc main_arg1)
  b := m ((c.tc : Thread nD τ).loc main_arg2)
  mixGain := m ((c.tc : Thread nD τ).loc main_arg3)
  gate := m ((c.tc : Thread nD τ).loc main_arg4)
  outA := m ((c.tc : Thread nD τ).loc main_arg5)
  outB := m ((c.tc : Thread nD τ).loc main_arg6)
  out := m ((c.tc : Thread nD τ).loc main_arg7)
  ffnGain := m ((c.tc : Thread nD τ).loc main_arg8)
  ffnGate := m ((c.tc : Thread nD τ).loc main_arg9)
  ffnUp := m ((c.tc : Thread nD τ).loc main_arg10)
  ffnDown := m ((c.tc : Thread nD τ).loc main_arg11)

/-- The reference's result at an index. -/
theorem result_apply (m : (ℓ : Loc nD τ sig) → Buf (Elt Ideal) ℓ) (c : Dev nD) (b : Fin 8) (q : Fin 4096) (o : Fin 1024) :
    (res_main_v60 (F := Ideal) m c : (⟨3, ![8, 4096, 1024]⟩ : Shape).Idx → EReal) (ix3 b q o) = (args m c).result b q o := by
  unfold res_main_v60
  clean_types
  pointwise
  rfl

end Cert.MixSampleReferenceIdeal.Value

end
-- ==== Proof.Heads.lean ====
/-
  The projected row of one token: its heads normalised and turned. Two neighbouring heads share 128 lanes, their halves of 32
  lanes alternating. The kernel sums a head's squares as a product with a matrix of zeros and ones.
-/
module

public import proofs.«01_k».proof.Proof.Dense

@[expose] public section

noncomputable section

namespace Cert.Dense

open Idealize.ShloMosaic

/-- The sum of the squares of the head that lane `l` belongs to. -/
def headSquares (P : Fin 2304 → EReal) (l : Fin 2304) : EReal :=
  ∑ i : Fin 64, P ⟨l.val / 128 * 128 + i.val / 32 * 64 + l.val / 32 % 2 * 32 + i.val % 32, by omega⟩
    * P ⟨l.val / 128 * 128 + i.val / 32 * 64 + l.val / 32 % 2 * 32 + i.val % 32, by omega⟩

/-- The lanes of a head may be given in another way. -/
theorem headSquares_of (P : Fin 2304 → EReal) (l : Fin 2304) (f : Fin 64 → Fin 2304)
    (hf : ∀ i, (f i).val = l.val / 128 * 128 + i.val / 32 * 64 + l.val / 32 % 2 * 32 + i.val % 32) : ∑ i, P (f i) * P (f i) = headSquares P l :=
  Finset.sum_congr rfl fun i _ => congrArg₂ (· * ·) (congrArg P (Fin.ext (hf i))) (congrArg P (Fin.ext (hf i)))

/-- A lane normalised by its head, with a gain. -/
def headNormed (P g : Fin 2304 → EReal) (l : Fin 2304) : EReal :=
  P l * Ideal.rsqrt (Ideal.div (headSquares P l) (Ideal.ofBits FTy.f32 1115684864#32) + Ideal.ofBits FTy.f32 897988541#32) * g l

/-- The lane of the head's other half. -/
def partner (l : Fin 2304) : Fin 2304 := ⟨l.val / 128 * 128 + (l.val % 128 + 64) % 128, by omega⟩

/-- A lane of a normalised head, turned: `C` and `S` are the cosines and the signed sines of two heads' lanes. -/
def turned (P g : Fin 2304 → EReal) (C S : Fin 128 → EReal) (l : Fin 2304) : EReal :=
  headNormed P g l * C ⟨l.val % 128, by omega⟩ + headNormed P g (partner l) * S ⟨l.val % 128, by omega⟩

/-- The projected row's lanes as the attention takes them: two stretches of turned heads, the rest plain. `T` holds the four tables. -/
def placed (P g : Fin 2304 → EReal) (T : Fin 512 → EReal) (l : Fin 2304) : EReal :=
  if l.val < 640 then turned P g (fun k => T ⟨k.val, by omega⟩) (fun k => T ⟨128 + k.val, by omega⟩) l
  else if l.val < 768 then P l
  else if l.val < 1792 then turned P g (fun k => T ⟨256 + k.val, by omega⟩) (fun k => T ⟨384 + k.val, by omega⟩) l
  else P l

theorem placed_first (P g : Fin 2304 → EReal) (T : Fin 512 → EReal) (l : Fin 2304) (h : l.val < 640) :
    placed P g T l = turned P g (fun k => T ⟨k.val, by omega⟩) (fun k => T ⟨128 + k.val, by omega⟩) l := if_pos h

theorem placed_between (P g : Fin 2304 → EReal) (T : Fin 512 → EReal) (l : Fin 2304) (h : ¬ l.val < 640) (h' : l.val < 768) :
    placed P g T l = P l := (if_neg h).trans (if_pos h')

theorem placed_second (P g : Fin 2304 → EReal) (T : Fin 512 → EReal) (l : Fin 2304) (h : ¬ l.val < 768) (h' : l.val < 1792) :
    placed P g T l = turned P g (fun k => T ⟨256 + k.val, by omega⟩) (fun k => T ⟨384 + k.val, by omega⟩) l :=
  (if_neg (by omega)).trans ((if_neg h).trans (if_pos h'))

theorem placed_last (P g : Fin 2304 → EReal) (T : Fin 512 → EReal) (l : Fin 2304) (h : ¬ l.val < 1792) :
    placed P g T l = P l := (if_neg (by omega)).trans ((if_neg (by omega)).trans (if_neg h))

/-- Whether two of 256 lanes belong to one head. -/
def same (k j : Fin 256) : Prop := k.val / 128 = j.val / 128 ∧ k.val / 32 % 2 = j.val / 32 % 2

instance (k j : Fin 256) : Decidable (same k j) := inferInstanceAs (Decidable (_ ∧ _))

/-- A product with zeros and ones sums over one head. -/
theorem sum_same (f : Fin 256 → EReal) (j : Fin 256) :
    ∑ k, f k * (if same k j then 1 else 0)
      = ∑ i : Fin 64, f ⟨j.val / 128 * 128 + i.val / 32 * 64 + j.val / 32 % 2 * 32 + i.val % 32, by omega⟩ := by
  simp only [mul_ite, mul_one, mul_zero]
  rw [← Finset.sum_filter]
  refine Finset.sum_nbij' (fun k => (⟨k.val % 128 / 64 * 32 + k.val % 32, by omega⟩ : Fin 64))
    (fun i => (⟨j.val / 128 * 128 + i.val / 32 * 64 + j.val / 32 % 2 * 32 + i.val % 32, by omega⟩ : Fin 256)) ?_ ?_ ?_ ?_ ?_
  · intro k _
    exact Finset.mem_univ _
  · intro i _
    rw [Finset.mem_filter]
    refine ⟨Finset.mem_univ _, ?_, ?_⟩
    · show (j.val / 128 * 128 + i.val / 32 * 64 + j.val / 32 % 2 * 32 + i.val % 32) / 128 = j.val / 128
      omega
    · show (j.val / 128 * 128 + i.val / 32 * 64 + j.val / 32 % 2 * 32 + i.val % 32) / 32 % 2 = j.val / 32 % 2
      omega
  · intro k hk
    obtain ⟨h1, h2⟩ := (Finset.mem_filter.1 hk).2
    apply Fin.ext
    show j.val / 128 * 128 + (k.val % 128 / 64 * 32 + k.val % 32) / 32 * 64 + j.val / 32 % 2 * 32 + (k.val % 128 / 64 * 32 + k.val % 32) % 32 = k.val
    omega
  · intro i _
    apply Fin.ext
    show (j.val / 128 * 128 + i.val / 32 * 64 + j.val / 32 % 2 * 32 + i.val % 32) % 128 / 64 * 32 + (j.val / 128 * 128 + i.val / 32 * 64 + j.val / 32 % 2 * 32 + i.val % 32) % 32 = i.val
    omega
  · intro k hk
    obtain ⟨h1, h2⟩ := (Finset.mem_filter.1 hk).2
    refine congrArg f (Fin.ext ?_)
    show k.val = j.val / 128 * 128 + (k.val % 128 / 64 * 32 + k.val % 32) / 32 * 64 + j.val / 32 % 2 * 32 + (k.val % 128 / 64 * 32 + k.val % 32) % 32
    omega

theorem pattern_64 : Ideal.ofBits FTy.f32 1115684864#32 = ((64 : ℝ) : EReal) := by
  simp [Ideal.ofBits, Ideal.ieee]
  rw [← EReal.coe_mul]
  norm_num

theorem pattern_64th : Ideal.ofBits FTy.f32 1015021568#32 = ((64 : ℝ)⁻¹ : EReal) := by
  rw [← EReal.coe_inv]
  simp [Ideal.ofBits, Ideal.ieee]
  rw [← EReal.coe_mul]
  norm_num

/-- A 64th of a sum is the sum over 64. -/
theorem times_64th (x : EReal) : x * Ideal.ofBits FTy.f32 1015021568#32 = Ideal.div x (Ideal.ofBits FTy.f32 1115684864#32) := by
  rw [pattern_64, pattern_64th]
  unfold Ideal.div
  rw [if_neg (by norm_num)]

/-- A lane of a stretch of 256 lanes, normalised as the kernel does it. -/
def stretch (P : Fin 256 → EReal) (Z : Fin 256 → Fin 256 → EReal) (g : Fin 256 → EReal) (j : Fin 256) : EReal :=
  P j * Ideal.rsqrt ((∑ k, P k * P k * Z k j) * Ideal.ofBits FTy.f32 1015021568#32 + Ideal.ofBits FTy.f32 897988541#32) * g j

/-- The kernel's normalisation of a stretch, at a lane: `a` counts the stretches before it. -/
theorem stretch_eq (P g : Fin 2304 → EReal) (a : Fin 9) (Z : Fin 256 → Fin 256 → EReal) (hZ : ∀ k j, Z k j = if same k j then 1 else 0) (j : Fin 256)
    (l : Fin 2304) (hl : l.val = a.val * 256 + j.val) :
    stretch (fun k => P ⟨a.val * 256 + k.val, by omega⟩) Z (fun k => g ⟨a.val * 256 + k.val, by omega⟩) j = headNormed P g l := by
  obtain ⟨v, hv⟩ := l
  obtain rfl : v = a.val * 256 + j.val := hl
  unfold stretch headNormed headSquares
  simp only [hZ]
  rw [sum_same (fun k => P ⟨a.val * 256 + k.val, by omega⟩ * P ⟨a.val * 256 + k.val, by omega⟩), times_64th]
  congr 5
  refine Finset.sum_congr rfl fun i _ => ?_
  have e : ∀ (h : _) (h' : _), (⟨a.val * 256 + (j.val / 128 * 128 + i.val / 32 * 64 + j.val / 32 % 2 * 32 + i.val % 32), h⟩ : Fin 2304)
      = ⟨(a.val * 256 + j.val) / 128 * 128 + i.val / 32 * 64 + (a.val * 256 + j.val) / 32 % 2 * 32 + i.val % 32, h'⟩ := fun _ _ => by
    apply Fin.ext
    show a.val * 256 + (j.val / 128 * 128 + i.val / 32 * 64 + j.val / 32 % 2 * 32 + i.val % 32)
      = (a.val * 256 + j.val) / 128 * 128 + i.val / 32 * 64 + (a.val * 256 + j.val) / 32 % 2 * 32 + i.val % 32
    omega
  exact congrArg₂ (· * ·) (congrArg P (e _ _)) (congrArg P (e _ _))

/-- What the first feed-forward part and the projection start from. -/
structure ProjArgs (B N : ℕ) where
  x : (⟨3, ![B, N, 1024]⟩ : Shape).Idx → EReal
  ffnGain : (⟨2, ![1, 1024]⟩ : Shape).Idx → EReal
  ffnGate : (⟨2, ![1024, 2816]⟩ : Shape).Idx → EReal
  ffnUp : (⟨2, ![1024, 2816]⟩ : Shape).Idx → EReal
  ffnDown : (⟨2, ![2816, 1024]⟩ : Shape).Idx → EReal
  mixGain : (⟨2, ![1, 1024]⟩ : Shape).Idx → EReal
  into : (⟨2, ![1024, 2304]⟩ : Shape).Idx → EReal
  headGain : (⟨2, ![1, 2304]⟩ : Shape).Idx → EReal
  turns : (⟨2, ![N, 512]⟩ : Shape).Idx → EReal

/-- A token after the first feed-forward part, at a lane. -/
def ProjArgs.fed {B N : ℕ} (A : ProjArgs B N) (s : Fin B) (q : Fin N) (o : Fin 1024) : EReal :=
  A.x (ix3 s q o) + Ideal.ofBits FTy.f32 1056964608#32
    * gated (fun k => A.x (ix3 s q k)) (fun k => A.ffnGain (ix2 0 k)) (fun f k => A.ffnGate (ix2 k f)) (fun f k => A.ffnUp (ix2 k f)) (fun f => A.ffnDown (ix2 f o))

/-- A token's projected row, at a lane. -/
def ProjArgs.row {B N : ℕ} (A : ProjArgs B N) (s : Fin B) (q : Fin N) (l : Fin 2304) : EReal :=
  dot (normed (A.fed s q) (fun k => A.mixGain (ix2 0 k))) (fun k => A.into (ix2 k l))

/-- What the attention takes of a token, at a lane. -/
def ProjArgs.heads {B N : ℕ} (A : ProjArgs B N) (s : Fin B) (q : Fin N) (l : Fin 2304) : EReal :=
  placed (A.row s q) (fun k => A.headGain (ix2 0 k)) (fun k => A.turns (ix2 q k)) l

end Cert.Dense

end
-- ==== Proof.ProjSegment.lean ====
/-
  The matrix of zeros and ones the projection's kernel is given: one where two lanes belong to one head.
-/
module

public import proofs.«01_k».proof.ProjIdeal
public import proofs.«01_k».proof.Proof.Heads

@[expose] public section

noncomputable section

namespace Cert.ProjIdeal.Value

open Cert.ProjIdeal Idealize.ShloMosaic Cert.Dense

set_option maxRecDepth 16384

/-- A row of 128 patterns: `b` tells which alternating 32 lanes are ones, two for none. -/
def pattern (b i : Nat) : BitVec 16 := if i % 128 / 32 % 2 = b then 0x3F80#16 else 0#16

/-- Which pattern the `n`-th 128 entries hold. -/
def kind (n : Nat) : Nat := if n / 256 = n % 2 then n / 64 % 2 else 2

theorem ones_first (i : Nat) : lit0t0_0 i = pattern 0 i := by
  unfold lit0t0_0 pattern
  have h : i % 128 < 128 := Nat.mod_lt _ (by omega)
  generalize i % 128 = a at h
  interval_cases a <;> rfl

theorem zeros (i : Nat) : lit0t0_1 i = pattern 2 i := by
  unfold lit0t0_1 pattern
  have h : i % 128 < 128 := Nat.mod_lt _ (by omega)
  generalize i % 128 = a at h
  interval_cases a <;> rfl

theorem ones_second (i : Nat) : lit0t0_64 i = pattern 1 i := by
  unfold lit0t0_64 pattern
  have h : i % 128 < 128 := Nat.mod_lt _ (by omega)
  generalize i % 128 = a at h
  interval_cases a <;> rfl

/-- One of the three tables. -/
def table (b i : Nat) : BitVec 16 := match b with
  | 0 => lit0t0_0 i
  | 1 => lit0t0_64 i
  | _ => lit0t0_1 i

theorem part_0 (i : Nat) : lit0t1_0 i = table (kind (i / 128 % 128)) i := by
  unfold lit0t1_0
  have h : i / 128 % 128 < 128 := Nat.mod_lt _ (by omega)
  generalize i / 128 % 128 = a at h
  interval_cases a <;> rfl

theorem part_1 (i : Nat) : lit0t1_1 i = table (kind (128 + i / 128 % 128)) i := by
  unfold lit0t1_1
  have h : i / 128 % 128 < 128 := Nat.mod_lt _ (by omega)
  generalize i / 128 % 128 = a at h
  interval_cases a <;> rfl

theorem part_2 (i : Nat) : lit0t1_2 i = table (kind (256 + i / 128 % 128)) i := by
  unfold lit0t1_2
  have h : i / 128 % 128 < 128 := Nat.mod_lt _ (by omega)
  generalize i / 128 % 128 = a at h
  interval_cases a <;> rfl

theorem part_3 (i : Nat) : lit0t1_3 i = table (kind (384 + i / 128 % 128)) i := by
  unfold lit0t1_3
  have h : i / 128 % 128 < 128 := Nat.mod_lt _ (by omega)
  generalize i / 128 % 128 = a at h
  interval_cases a <;> rfl

theorem table_eq (b i : Nat) (h : b < 3) : table b i = pattern b i := by
  interval_cases b
  · exact ones_first i
  · exact ones_second i
  · exact zeros i

theorem kind_lt (n : Nat) : kind n < 3 := by
  unfold kind
  split <;> omega

theorem whole (i : Nat) (h : i < 65536) : lit0t i = pattern (kind (i / 128)) i := by
  rw [← table_eq _ _ (kind_lt _)]
  unfold lit0t
  have e : i / 128 = i / 16384 * 128 + i / 128 % 128 := by omega
  have h' : i / 16384 < 4 := by omega
  rw [e]
  generalize i / 16384 = a at h'
  interval_cases a
  · exact (part_0 i).trans (congrArg (fun n => table (kind n) i) (by omega))
  · exact (part_1 i).trans (congrArg (fun n => table (kind n) i) (by omega))
  · exact (part_2 i).trans (congrArg (fun n => table (kind n) i) (by omega))
  · exact (part_3 i).trans (congrArg (fun n => table (kind n) i) (by omega))

/-- The matrix's patterns. -/
theorem segment_bits (k j : Fin 256) (i : Fin 65536) (hi : i.val = k.val * 256 + j.val) : lit0 i = if same k j then 0x3F80#16 else 0#16 := by
  obtain ⟨v, hv⟩ := i
  obtain rfl : v = k.val * 256 + j.val := hi
  refine (whole _ hv).trans ?_
  have e1 : (k.val * 256 + j.val) % 128 / 32 % 2 = j.val / 32 % 2 := by omega
  have e2 : (k.val * 256 + j.val) / 128 / 256 = k.val / 128 := by omega
  have e3 : (k.val * 256 + j.val) / 128 % 2 = j.val / 128 := by omega
  have e4 : (k.val * 256 + j.val) / 128 / 64 % 2 = k.val / 32 % 2 := by omega
  unfold pattern kind
  rw [e1, e2, e3, e4]
  refine if_congr ?_ rfl rfl
  unfold same
  by_cases h : k.val / 128 = j.val / 128
  · rw [if_pos h]
    exact ⟨fun h' => ⟨h, h'.symm⟩, fun h' => h'.2.symm⟩
  · rw [if_neg h]
    exact ⟨fun h' => by omega, fun h' => absurd h'.1 h⟩

end Cert.ProjIdeal.Value

end
-- ==== Proof.ProjValue.lean ====
/-
  What the kernel of the first feed-forward part and the projection leaves in its results, at every index.
-/
module

public import proofs.«01_k».proof.Proof.Gen.ProjIdeal.Value
public import proofs.«01_k».proof.Proof.Heads
public import proofs.«01_k».proof.Proof.ProjSegment
public import Idealize.ShloMosaic.Lib.Pipeline.ValueKit

@[expose] public section

noncomputable section

namespace Cert.ProjIdeal.Value

open Cert.ProjIdeal Cert.ProjIdeal.Gen Idealize.ShloMosaic Idealize.ShloMosaic.TcCoe Cert.Dense

set_option maxRecDepth 16384

/-- The feed-forward part of a block, at an index. -/
theorem fed_block (x : Vec Ideal S1x512x1024 .f32) (g : Vec Ideal S1x1024 .f32) (G U : Vec Ideal S1024x2816 .bf16) (D : Vec Ideal S2816x1024 .bf16)
    (r : Fin 512) (o : Fin 1024) :
    (k0_pay4 (F := Ideal) x g G U D (ix2 r o) : EReal)
      = x (ix3 0 r o) + Ideal.ofBits FTy.f32 1056964608#32
          * gated (fun k => x (ix3 0 r k)) (fun k => g (ix2 0 k)) (fun f k => G (ix2 k f)) (fun f k => U (ix2 k f)) (fun f => D (ix2 f o)) := by
  unfold gated
  simp only [← factor_dot]
  pointwise [k0_pay4]
  rfl

/-- The projection of a block, at an index. -/
theorem row_block (z : FVec Ideal S512x1024 .f32) (g : Vec Ideal S1x1024 .f32) (W : Vec Ideal S1024x2304 .bf16) (r : Fin 512) (l : Fin 2304) :
    (k0_pay6 (F := Ideal) z g W (ix2 r l) : EReal) = dot (normed (fun k => z (ix2 r k)) (fun k => g (ix2 0 k))) (fun k => W (ix2 k l)) := by
  rw [← factor_dot]
  pointwise [k0_pay6]
  rfl

/-- A stretch of 256 lanes normalised as the kernel does it. -/
def normedBlock (v : FVec Ideal S512x256 .f32) (Z : Vec Ideal S256x256 .bf16) (g : Vec Ideal S1x256 .f32) : FVec Ideal S512x256 .f32 :=
  mulf (mulf v (rsqrt (addf (mulf (matmul (φ₂ := .bf16) dot_S512x256_S256x256_S512x256_1_0_0_1_n_n none (truncf .bf16 (mulf v v) bitsLt_bf16_f32) Z
    (constant S512x256 .f32 0x00000000#32)) (broadcast S512x256 (Scalar.ofBits .f32 0x3C800000#32))) (broadcast S512x256 (Scalar.ofBits .f32 0x358637BD#32)))))
    (broadcastTo S512x256 g broadcasts_S1x256_S512x256)

/-- 128 lanes turned as the kernel does it. -/
def turnedBlock (w : FVec Ideal S512x128 .f32) (C S : Vec Ideal S512x128 .f32) : FVec Ideal S1x512x128 .bf16 :=
  shapeCast S1x512x128 (truncf .bf16 (addf (mulf w C) (mulf (dynamicRotate 1 64#32 none w rotates_S512x128_d1) S)) bitsLt_bf16_f32) shapeCasts_S512x128_S1x512x128

theorem normedBlock_apply (v : FVec Ideal S512x256 .f32) (Z : Vec Ideal S256x256 .bf16) (g : Vec Ideal S1x256 .f32) (r : Fin 512) (j : Fin 256) :
    (normedBlock v Z g (ix2 r j) : EReal) = stretch (fun k => v (ix2 r k)) (fun k j => Z (ix2 k j)) (fun k => g (ix2 0 k)) j := by
  unfold stretch
  pointwise [normedBlock]

theorem turnedBlock_apply (w : FVec Ideal S512x128 .f32) (C S : Vec Ideal S512x128 .f32) (r : Fin 512) (x : Fin 128) :
    (turnedBlock w C S (ix3 0 r x) : EReal) = w (ix2 r x) * C (ix2 r x) + w (ix2 r ⟨(x.val + 64) % 128, by omega⟩) * S (ix2 r x) := by
  pointwise [turnedBlock]
  rfl

/-- A stored piece of a row: `a` counts the stretches of 256 lanes before it, `b` the lanes before it in its own. -/
theorem piece (P : FVec Ideal S512x2304 .f32) (Z : Vec Ideal S256x256 .bf16) (g : Vec Ideal S1x256 .f32) (C S : Vec Ideal S512x128 .f32)
    (a : Fin 9) (b : Nat) (ha : S512x2304.Slices ![0, a.val * 256] S512x256) (hb : S512x256.Slices ![0, b] S512x128) (hb' : b = 0 ∨ b = 128)
    (r : Fin 512) (x : Fin 128) (l : Fin 2304) (hl : l.val = a.val * 256 + b + x.val) (G : Fin 2304 → EReal)
    (hg : ∀ k : Fin 256, g (ix2 0 k) = G ⟨a.val * 256 + k.val, by omega⟩) (hZ : ∀ k j : Fin 256, (Z (ix2 k j) : EReal) = if same k j then 1 else 0) :
    (turnedBlock (extractStridedSlice S512x128 ![0, b] (normedBlock (extractStridedSlice S512x256 ![0, a.val * 256] P ha) Z g) hb) C S (ix3 0 r x) : EReal)
      = turned (fun k => P (ix2 r k)) G (fun k => C (ix2 r k)) (fun k => S (ix2 r k)) l := by
  have s : ∀ (y : Fin 128) (l' : Fin 2304), l'.val = a.val * 256 + b + y.val →
      (extractStridedSlice S512x128 ![0, b] (normedBlock (extractStridedSlice S512x256 ![0, a.val * 256] P ha) Z g) hb (ix2 r y) : EReal)
        = headNormed (fun k => P (ix2 r k)) G l' := by
    intro y l' hl'
    have e1 : extractStridedSlice S512x128 ![0, b] (normedBlock (extractStridedSlice S512x256 ![0, a.val * 256] P ha) Z g) hb (ix2 r y)
        = normedBlock (extractStridedSlice S512x256 ![0, a.val * 256] P ha) Z g (ix2 r ⟨b + y.val, by omega⟩) := by
      refine congrArg (normedBlock _ Z g) ?_
      blk_ext [] <;> rfl
    have e2 : ∀ k : Fin 256, extractStridedSlice S512x256 ![0, a.val * 256] P ha (ix2 r k) = P (ix2 r ⟨a.val * 256 + k.val, by omega⟩) := by
      intro k
      refine congrArg P ?_
      blk_ext [] <;> rfl
    rw [e1, normedBlock_apply]
    simp only [e2, hg]
    exact stretch_eq (fun k => P (ix2 r k)) G a _ hZ _ l' (by rw [hl', Nat.add_assoc])
  rw [turnedBlock_apply, s x l hl, s ⟨(x.val + 64) % 128, by omega⟩ (partner l) (by
    show l.val / 128 * 128 + (l.val % 128 + 64) % 128 = a.val * 256 + b + (x.val + 64) % 128
    omega)]
  unfold turned
  have e : (⟨l.val % 128, by omega⟩ : Fin 128) = x := Fin.ext (by show l.val % 128 = x.val; omega)
  rw [e]

variable (m : (ℓ : Loc nD τ sig) → Buf (Elt Ideal) ℓ)

/-- The kernel's arguments. -/
def args (c : Dev nD) : ProjArgs 2 8192 where
  x := m ((c.tc : Thread nD τ).loc main_arg0)
  ffnGain := m ((c.tc : Thread nD τ).loc main_arg1)
  ffnGate := m ((c.tc : Thread nD τ).loc main_arg2)
  ffnUp := m ((c.tc : Thread nD τ).loc main_arg3)
  ffnDown := m ((c.tc : Thread nD τ).loc main_arg4)
  mixGain := m ((c.tc : Thread nD τ).loc main_arg5)
  into := m ((c.tc : Thread nD τ).loc main_arg6)
  headGain := m ((c.tc : Thread nD τ).loc main_arg7)
  turns := m ((c.tc : Thread nD τ).loc main_arg8)

theorem points (t : Fin cfg0.N) : t.val < 32 := t.isLt.trans_eq Gen.N_0

theorem index0 : ∀ t : Fin cfg0.N, win0_0.index t = ![t.val / 16, t.val % 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val % 16, 0] := (by decide +kernel : ∀ t : Fin grid0.N, _)
theorem index10 : ∀ t : Fin cfg0.N, win0_10.index t = ![t.val / 16, t.val % 16, 0] := (by decide +kernel : ∀ t : Fin grid0.N, _)
theorem index11 : ∀ t : Fin cfg0.N, win0_11.index t = ![t.val / 16, t.val % 16, 0] := (by decide +kernel : ∀ t : Fin grid0.N, _)

/-- A token's lanes in a block are the argument's. -/
theorem x_apply (c : Dev nD) (t : Fin cfg0.N) (s : Fin 2) (q : Fin 8192) (r : Fin 512) (hs : s.val = t.val / 16) (hq : q.val = t.val % 16 * 512 + r.val) (k : Fin 1024) :
    (iblk m c 0 t (ix3 0 r k) : EReal) = (args m c).x (ix3 s q k) := by
  refine Eq.trans ?_ (congrFun (V_main_arg0 m c) (ix3 s q k))
  refine congrArg (V m c main_arg0) ?_
  have e := index0 t
  blk_ext [e, hs, hq]

theorem turns_apply (c : Dev nD) (t : Fin cfg0.N) (q : Fin 8192) (r : Fin 512) (hq : q.val = t.val % 16 * 512 + r.val) (k : Fin 512) :
    (iblk m c 9 t (ix2 r k) : EReal) = (args m c).turns (ix2 q k) := by
  refine Eq.trans ?_ (congrFun (V_main_arg8 m c) (ix2 q k))
  refine congrArg (V m c main_arg8) ?_
  have e := index9 t
  blk_ext [e, hq]

theorem ffnGain_block (c : Dev nD) (t : Fin cfg0.N) : iblk m c 1 t = (args m c).ffnGain := by
  funext j
  refine Eq.trans ?_ (congrFun (V_main_arg1 m c) j)
  refine congrArg (V m c main_arg1) ?_
  have e := index1 t
  blk_ext [e]

theorem ffnGate_block (c : Dev nD) (t : Fin cfg0.N) : iblk m c 2 t = (args m c).ffnGate := by
  funext j
  refine Eq.trans ?_ (congrFun (V_main_arg2 m c) j)
  refine congrArg (V m c main_arg2) ?_
  have e := index2 t
  blk_ext [e]

theorem ffnUp_block (c : Dev nD) (t : Fin cfg0.N) : iblk m c 3 t = (args m c).ffnUp := by
  funext j
  refine Eq.trans ?_ (congrFun (V_main_arg3 m c) j)
  refine congrArg (V m c main_arg3) ?_
  have e := index3 t
  blk_ext [e]

theorem ffnDown_block (c : Dev nD) (t : Fin cfg0.N) : iblk m c 4 t = (args m c).ffnDown := by
  funext j
  refine Eq.trans ?_ (congrFun (V_main_arg4 m c) j)
  refine congrArg (V m c main_arg4) ?_
  have e := index4 t
  blk_ext [e]

theorem mixGain_block (c : Dev nD) (t : Fin cfg0.N) : iblk m c 5 t = (args m c).mixGain := by
  funext j
  refine Eq.trans ?_ (congrFun (V_main_arg5 m c) j)
  refine congrArg (V m c main_arg5) ?_
  have e := index5 t
  blk_ext [e]

theorem into_block (c : Dev nD) (t : Fin cfg0.N) : iblk m c 6 t = (args m c).into := by
  funext j
  refine Eq.trans ?_ (congrFun (V_main_arg6 m c) j)
  refine congrArg (V m c main_arg6) ?_
  have e := index6 t
  blk_ext [e]

theorem headGain_block (c : Dev nD) (t : Fin cfg0.N) : iblk m c 8 t = (args m c).headGain := by
  funext j
  refine Eq.trans ?_ (congrFun (V_main_arg7 m c) j)
  refine congrArg (V m c main_arg7) ?_
  have e := index8 t
  blk_ext [e]

theorem one_pattern : (FloatOps.ofBits (F := Ideal) .bf16 0x3F80#16 : EReal) = 1 := by
  show Ideal.ofBits FTy.bf16 0x3F80#16 = 1
  simp [Ideal.ofBits, Ideal.ieee]
  rw [← EReal.coe_mul]
  norm_num

theorem zero_pattern : (FloatOps.ofBits (F := Ideal) .bf16 0#16 : EReal) = 0 := by
  show Ideal.ofBits FTy.bf16 0#16 = 0
  simp [Ideal.ofBits, Ideal.ieee]

/-- The host's matrix is one where two lanes belong to one head. -/
theorem segment_block (c : Dev nD) (t : Fin cfg0.N) (k j : Fin 256) : (iblk m c 7 t (ix2 k j) : EReal) = (if same k j then 1 else 0 : EReal) := by
  have e1 : iblk m c 7 t (ix2 k j) = V m c main_cst (ix2 k j) := by
    refine congrArg (V m c main_cst) ?_
    have e := index7 t
    blk_ext [e]
  have e2 := StableHlo.nullary_result (τ := τ) (Val := Elt Ideal) main_cst
    ((fun i => FloatOps.ofBits (F := Ideal) .bf16 (lit0 (S256x256.rowMajor i))) : (⟨S256x256, .bf16⟩ : BufTy).Contents (Elt Ideal)) (by decide) (fun b => m (c, b))
  refine e1.trans ((congrFun e2 (ix2 k j)).trans ?_)
  refine (congrArg (FloatOps.ofBits (F := Ideal) .bf16) (segment_bits k j _ (Shape.rowMajor_val_two _))).trans ?_
  split
  · exact one_pattern
  · exact zero_pattern

/-- The feed-forward part of a point's block is the specification's. -/
theorem fed_apply (c : Dev nD) (t : Fin cfg0.N) (s : Fin 2) (q : Fin 8192) (r : Fin 512) (hs : s.val = t.val / 16) (hq : q.val = t.val % 16 * 512 + r.val) (o : Fin 1024) :
    (k0_pay4 (F := Ideal) (iblk m c 0 t) (iblk m c 1 t) (iblk m c 2 t) (iblk m c 3 t) (iblk m c 4 t) (ix2 r o) : EReal) = (args m c).fed s q o := by
  rw [fed_block]
  simp only [x_apply m c t s q r hs hq]
  rw [ffnGain_block, ffnGate_block, ffnUp_block, ffnDown_block]
  rfl

/-- A point's projected rows. -/
def rows (c : Dev nD) (t : Fin cfg0.N) : FVec Ideal S512x2304 .f32 :=
  k0_pay6 (k0_pay4 (iblk m c 0 t) (iblk m c 1 t) (iblk m c 2 t) (iblk m c 3 t) (iblk m c 4 t)) (iblk m c 5 t) (iblk m c 6 t)

theorem rows_apply (c : Dev nD) (t : Fin cfg0.N) (s : Fin 2) (q : Fin 8192) (r : Fin 512) (hs : s.val = t.val / 16) (hq : q.val = t.val % 16 * 512 + r.val) (l : Fin 2304) :
    (rows m c t (ix2 r l) : EReal) = (args m c).row s q l := by
  unfold rows
  rw [row_block]
  simp only [fed_apply m c t s q r hs hq]
  rw [mixGain_block, into_block]
  rfl

/-- A table's lanes in a point's block. -/
theorem table_apply (c : Dev nD) (t : Fin cfg0.N) (q : Fin 8192) (r : Fin 512) (hq : q.val = t.val % 16 * 512 + r.val) (b : Nat)
    (h : ∀ a, (![0, b] : Fin 2 → Nat) a + S512x128.size a ≤ S512x512.size a) (k : Fin 128) (k' : Fin 512) (hk : k'.val = b + k.val) :
    (View.ld (iblk m c 9 t) (Rect.unit (s := S512x512) ![0, b] ![512, 128] h) (ix2 r k) : EReal) = (args m c).turns (ix2 q k') := by
  refine (View.ld_unit_apply_of (S := S512x512) (iblk m c 9 t) ![0, b] ![512, 128] h (ix2 r k) (ix2 r k') ?_).trans (turns_apply m c t q r hq k')
  intro a
  match a with
  | 0 => exact (Nat.zero_add _).symm
  | 1 => exact hk

/-- A stretch of the gain. -/
theorem gain_apply (c : Dev nD) (t : Fin cfg0.N) (b : Nat)
    (h : ∀ a, (![0, b] : Fin 2 → Nat) a + S1x256.size a ≤ S1x2304.size a) (k : Fin 256) (k' : Fin 2304) (hk : k'.val = b + k.val) :
    (View.ld (iblk m c 8 t) (Rect.unit (s := S1x2304) ![0, b] ![1, 256] h) (ix2 0 k) : EReal) = (args m c).headGain (ix2 0 k') := by
  refine (View.ld_unit_apply_of (S := S1x2304) (iblk m c 8 t) ![0, b] ![1, 256] h (ix2 0 k) (ix2 0 k') ?_).trans (congrFun (headGain_block m c t) (ix2 0 k'))
  intro a
  match a with
  | 0 => rfl
  | 1 => exact hk

/-- What a point stores for 128 lanes of turned heads, with the tables from lane `d` on. -/
def stored (c : Dev nD) (t : Fin cfg0.N) (a : Fin 9) (b d d' : Nat) (ha : S512x2304.Slices ![0, a.val * 256] S512x256) (hb : S512x256.Slices ![0, b] S512x128)
    (hg : ∀ i, (![0, a.val * 256] : Fin 2 → Nat) i + S1x256.size i ≤ S1x2304.size i)
    (hC : ∀ i, (![0, d] : Fin 2 → Nat) i + S512x128.size i ≤ S512x512.size i)
    (hS : ∀ i, (![0, d'] : Fin 2 → Nat) i + S512x128.size i ≤ S512x512.size i) : FVec Ideal S1x512x128 .bf16 :=
  turnedBlock (extractStridedSlice S512x128 ![0, b] (normedBlock (extractStridedSlice S512x256 ![0, a.val * 256] (rows m c t) ha) (iblk m c 7 t)
    (View.ld (iblk m c 8 t) (Rect.unit (s := S1x2304) ![0, a.val * 256] ![1, 256] hg))) hb)
    (View.ld (iblk m c 9 t) (Rect.unit (s := S512x512) ![0, d] ![512, 128] hC)) (View.ld (iblk m c 9 t) (Rect.unit (s := S512x512) ![0, d'] ![512, 128] hS))

theorem stored_apply (c : Dev nD) (t : Fin cfg0.N) (s : Fin 2) (q : Fin 8192) (r : Fin 512) (hs : s.val = t.val / 16) (hq : q.val = t.val % 16 * 512 + r.val)
    (a : Fin 9) (b d d' : Nat) (ha hb hg hC hS) (hb' : b = 0 ∨ b = 128) (hd : d + 128 ≤ 512) (hd' : d' + 128 ≤ 512)
    (x : Fin 128) (l : Fin 2304) (hl : l.val = a.val * 256 + b + x.val) :
    (stored m c t a b d d' ha hb hg hC hS (ix3 0 r x) : EReal)
      = turned ((args m c).row s q) (fun k => (args m c).headGain (ix2 0 k)) (fun k => (args m c).turns (ix2 q ⟨d + k.val, by omega⟩))
          (fun k => (args m c).turns (ix2 q ⟨d' + k.val, by omega⟩)) l := by
  unfold stored
  rw [piece (rows m c t) _ _ _ _ a b ha hb hb' r x l hl (fun k => (args m c).headGain (ix2 0 k)) (fun k => gain_apply m c t _ hg k _ rfl) (segment_block m c t)]
  simp only [rows_apply m c t s q r hs hq]
  refine congrArg₂ (fun C S => turned ((args m c).row s q) (fun k => (args m c).headGain (ix2 0 k)) C S l) ?_ ?_
  · exact funext fun k => table_apply m c t q r hq d hC k _ rfl
  · exact funext fun k => table_apply m c t q r hq d' hS k _ rfl

theorem stored_first (c : Dev nD) (t : Fin cfg0.N) (s : Fin 2) (q : Fin 8192) (r : Fin 512) (hs : s.val = t.val / 16) (hq : q.val = t.val % 16 * 512 + r.val)
    (a : Fin 9) (b : Nat) (ha hb hg hC hS) (hb' : b = 0 ∨ b = 128)
    (x : Fin 128) (l : Fin 2304) (hl : l.val = a.val * 256 + b + x.val) (h : l.val < 640) :
    (stored m c t a b 0 128 ha hb hg hC hS (ix3 0 r x) : EReal) = (args m c).heads s q l := by
  refine (stored_apply m c t s q r hs hq a b 0 128 ha hb hg hC hS hb' (by omega) (by omega) x l hl).trans ?_
  refine Eq.trans ?_ (placed_first _ _ _ l h).symm
  simp only [Nat.zero_add]

theorem stored_second (c : Dev nD) (t : Fin cfg0.N) (s : Fin 2) (q : Fin 8192) (r : Fin 512) (hs : s.val = t.val / 16) (hq : q.val = t.val % 16 * 512 + r.val)
    (a : Fin 9) (b : Nat) (ha hb hg hC hS) (hb' : b = 0 ∨ b = 128)
    (x : Fin 128) (l : Fin 2304) (hl : l.val = a.val * 256 + b + x.val) (h : ¬ l.val < 768) (h' : l.val < 1792) :
    (stored m c t a b 256 384 ha hb hg hC hS (ix3 0 r x) : EReal) = (args m c).heads s q l := by
  refine (stored_apply m c t s q r hs hq a b 256 384 ha hb hg hC hS hb' (by omega) (by omega) x l hl).trans ?_
  refine Eq.trans ?_ (placed_second _ _ _ l h h').symm
  rfl

set_option maxHeartbeats 1000000 in
/-- What a point leaves for the attention, at an index. -/
theorem left_heads (c : Dev nD) (t : Fin cfg0.N) (s : Fin 2) (q : Fin 8192) (r : Fin 512) (hs : s.val = t.val / 16) (hq : q.val = t.val % 16 * 512 + r.val) (l : Fin 2304) :
    ((dats m 0 c).after 11 t (ix3 0 r l) : EReal) = (args m c).heads s q l := by
  rw [after0_11]
  unfold outsAt0
  dsimp only
  frame_out
  have hl : (ix3 (n0 := 1) (n1 := 512) (n2 := 2304) 0 r l 2).val = l.val := rfl
  canon_tiles x h using (View.cover_of_tiledBy _ ![1, 512, 128] (by sl_kernel_rfl) _)
  case piece0 =>
    have e : x = ix3 (n0 := 1) (n1 := 512) (n2 := 512) 0 r (x 2) := by
      funext a
      match a with
      | 0 => exact Subsingleton.elim (α := Fin 1) _ _
      | 1 => exact Fin.ext h1.symm
      | 2 => rfl
    rw [hl] at h2
    refine (congrArg (k0_pay3 (rows m c t)) e).trans ?_
    refine Eq.trans ?_ (placed_last _ _ _ l (by omega)).symm
    refine Eq.trans ?_ (rows_apply m c t s q r hs hq l)
    pointwise [k0_pay3]
    exact congrArg (fun k => (rows m c t (ix2 r k) : EReal)) (Fin.ext h2.symm)
  all_goals
    have e : x = ix3 (n0 := 1) (n1 := 512) (n2 := 128) 0 r (x 2) := by
      funext a
      match a with
      | 0 => exact Subsingleton.elim (α := Fin 1) _ _
      | 1 => exact Fin.ext h1.symm
      | 2 => rfl
    rw [e]
    rw [hl] at h2
  case piece1 =>
    exact stored_second m c t s q r hs hq 6 128 slices_S512x2304_o0_1536_S512x256 slices_S512x256_o0_128_S512x128 inb_S1x2304_S1x256_0_1536
      inb_S512x512_S512x128_0_256 inb_S512x512_S512x128_0_384 (.inr rfl) (x 2) l h2 (by omega) (by omega)
  case piece2 =>
    exact stored_second m c t s q r hs hq 6 0 slices_S512x2304_o0_1536_S512x256 slices_S512x256_o0_0_S512x128 inb_S1x2304_S1x256_0_1536
      inb_S512x512_S512x128_0_256 inb_S512x512_S512x128_0_384 (.inl rfl) (x 2) l h2 (by omega) (by omega)
  case piece3 =>
    exact stored_second m c t s q r hs hq 5 128 slices_S512x2304_o0_1280_S512x256 slices_S512x256_o0_128_S512x128 inb_S1x2304_S1x256_0_1280
      inb_S512x512_S512x128_0_256 inb_S512x512_S512x128_0_384 (.inr rfl) (x 2) l h2 (by omega) (by omega)
  case piece4 =>
    exact stored_second m c t s q r hs hq 5 0 slices_S512x2304_o0_1280_S512x256 slices_S512x256_o0_0_S512x128 inb_S1x2304_S1x256_0_1280
      inb_S512x512_S512x128_0_256 inb_S512x512_S512x128_0_384 (.inl rfl) (x 2) l h2 (by omega) (by omega)
  case piece5 =>
    exact stored_second m c t s q r hs hq 4 128 slices_S512x2304_o0_1024_S512x256 slices_S512x256_o0_128_S512x128 inb_S1x2304_S1x256_0_1024
      inb_S512x512_S512x128_0_256 inb_S512x512_S512x128_0_384 (.inr rfl) (x 2) l h2 (by omega) (by omega)
  case piece6 =>
    exact stored_second m c t s q r hs hq 4 0 slices_S512x2304_o0_1024_S512x256 slices_S512x256_o0_0_S512x128 inb_S1x2304_S1x256_0_1024
      inb_S512x512_S512x128_0_256 inb_S512x512_S512x128_0_384 (.inl rfl) (x 2) l h2 (by omega) (by omega)
  case piece7 =>
    exact stored_second m c t s q r hs hq 3 128 slices_S512x2304_o0_768_S512x256 slices_S512x256_o0_128_S512x128 inb_S1x2304_S1x256_0_768
      inb_S512x512_S512x128_0_256 inb_S512x512_S512x128_0_384 (.inr rfl) (x 2) l h2 (by omega) (by omega)
  case piece8 =>
    exact stored_second m c t s q r hs hq 3 0 slices_S512x2304_o0_768_S512x256 slices_S512x256_o0_0_S512x128 inb_S1x2304_S1x256_0_768
      inb_S512x512_S512x128_0_256 inb_S512x512_S512x128_0_384 (.inl rfl) (x 2) l h2 (by omega) (by omega)
  case piece9 =>
    refine Eq.trans ?_ ((rows_apply m c t s q r hs hq l).trans (placed_between _ _ _ l (by omega) (by omega)).symm)
    pointwise [k0_pay19]
    exact congrArg (fun k => (rows m c t (ix2 r k) : EReal)) (Fin.ext h2.symm)
  case piece10 =>
    exact stored_first m c t s q r hs hq 2 0 slices_S512x2304_o0_512_S512x256 slices_S512x256_o0_0_S512x128 inb_S1x2304_S1x256_0_512
      inb_S512x512_S512x128_0_0 inb_S512x512_S512x128_0_128 (.inl rfl) (x 2) l h2 (by omega)
  case piece11 =>
    exact stored_first m c t s q r hs hq 1 128 slices_S512x2304_o0_256_S512x256 slices_S512x256_o0_128_S512x128 inb_S1x2304_S1x256_0_256
      inb_S512x512_S512x128_0_0 inb_S512x512_S512x128_0_128 (.inr rfl) (x 2) l h2 (by omega)
  case piece12 =>
    exact stored_first m c t s q r hs hq 1 0 slices_S512x2304_o0_256_S512x256 slices_S512x256_o0_0_S512x128 inb_S1x2304_S1x256_0_256
      inb_S512x512_S512x128_0_0 inb_S512x512_S512x128_0_128 (.inl rfl) (x 2) l h2 (by omega)
  case piece13 =>
    exact stored_first m c t s q r hs hq 0 128 slices_S512x2304_o0_0_S512x256 slices_S512x256_o0_128_S512x128 inb_S1x2304_S1x256_0_0
      inb_S512x512_S512x128_0_0 inb_S512x512_S512x128_0_128 (.inr rfl) (x 2) l h2 (by omega)
  case piece14 =>
    exact stored_first m c t s q r hs hq 0 0 slices_S512x2304_o0_0_S512x256 slices_S512x256_o0_0_S512x128 inb_S1x2304_S1x256_0_0
      inb_S512x512_S512x128_0_0 inb_S512x512_S512x128_0_128 (.inl rfl) (x 2) l (h2.trans (Nat.zero_add _).symm) (by omega)

/-- What a point leaves of the feed-forward part, at an index. -/
theorem left_fed (c : Dev nD) (t : Fin cfg0.N) (s : Fin 2) (q : Fin 8192) (r : Fin 512) (hs : s.val = t.val / 16) (hq : q.val = t.val % 16 * 512 + r.val) (o : Fin 1024) :
    ((dats m 0 c).after 10 t (ix3 0 r o) : EReal) = (args m c).fed s q o := by
  rw [after0_10]
  unfold outsAt0
  dsimp only
  frame_out
  refine Eq.trans ?_ (fed_apply m c t s q r hs hq o)
  pointwise [k0_pay5]

/-- The array of the feed-forward part after the run. -/
theorem final_fed (c : Dev nD) : (dats m 0 c).arrAt 10 cfg0.N = fun i => (args m c).fed (i 0) (i 1) (i 2) := by
  refine (dats m 0 c).arrAt_eq_of_covers 10 _ (by decide +kernel) fun t hf y => ?_
  blk_simp
  have e := index10 t
  have hy : (y : S1x512x1024.Idx) = ix3 (n0 := 1) (n1 := 512) (n2 := 1024) 0 (y 1) (y 2) := by
    funext a
    match a with
    | 0 => exact Subsingleton.elim (α := Fin 1) _ _
    | 1 => rfl
    | 2 => rfl
  have h2 : (win0_10.blk t).view.emb y 2 = (y 2 : Fin 1024) := by
    apply Fin.ext
    blk_simp [e]
  refine (congrArg ((dats m 0 c).after 10 t) hy).trans ((left_fed m c t ((win0_10.blk t).view.emb y 0) ((win0_10.blk t).view.emb y 1) (y 1) ?_ ?_ (y 2)).trans ?_)
  · idx_bounds y
    blk_simp [e]
  · blk_simp [e]
  · exact congrArg _ h2.symm

/-- The array for the attention after the run. -/
theorem final_heads (c : Dev nD) : (dats m 0 c).arrAt 11 cfg0.N = fun i => (args m c).heads (i 0) (i 1) (i 2) := by
  refine (dats m 0 c).arrAt_eq_of_covers 11 _ (by decide +kernel) fun t hf y => ?_
  blk_simp
  have e := index11 t
  have hy : (y : S1x512x2304.Idx) = ix3 (n0 := 1) (n1 := 512) (n2 := 2304) 0 (y 1) (y 2) := by
    funext a
    match a with
    | 0 => exact Subsingleton.elim (α := Fin 1) _ _
    | 1 => rfl
    | 2 => rfl
  have h2 : (win0_11.blk t).view.emb y 2 = (y 2 : Fin 2304) := by
    apply Fin.ext
    blk_simp [e]
  refine (congrArg ((dats m 0 c).after 11 t) hy).trans ((left_heads m c t ((win0_11.blk t).view.emb y 0) ((win0_11.blk t).view.emb y 1) (y 1) ?_ ?_ (y 2)).trans ?_)
  · idx_bounds y
    blk_simp [e]
  · blk_simp [e]
  · exact congrArg _ h2.symm

end Cert.ProjIdeal.Value

end
-- ==== Proof.ProjReferenceValue.lean ====
/-
  What the reference of the first feed-forward part and the projection computes at an index.
-/
module

public import proofs.«01_k».proof.Proof.Gen.ProjReferenceIdeal.Run
public import proofs.«01_k».proof.Proof.Heads
public import Idealize.ShloMosaic.Lib.Tactic.CleanTypes

@[expose] public section

noncomputable section

namespace Cert.ProjReferenceIdeal.Value

open Cert.ProjReferenceIdeal Cert.ProjReferenceIdeal.Gen Idealize.ShloMosaic Idealize.ShloMosaic.TcCoe Cert.Dense

set_option maxRecDepth 16384

/-- The reference's arguments. -/
def args (V0 : Valuation τ sig (Elt Ideal)) : ProjArgs 2 8192 where
  x := V0 (Proc.devRef .tc main_arg0)
  ffnGain := V0 (Proc.devRef .tc main_arg1)
  ffnGate := V0 (Proc.devRef .tc main_arg2)
  ffnUp := V0 (Proc.devRef .tc main_arg3)
  ffnDown := V0 (Proc.devRef .tc main_arg4)
  mixGain := V0 (Proc.devRef .tc main_arg5)
  into := V0 (Proc.devRef .tc main_arg6)
  headGain := V0 (Proc.devRef .tc main_arg7)
  turns := V0 (Proc.devRef .tc main_arg8)

/-- The first result at an index. -/
theorem fed_apply (V0 : Valuation τ sig (Elt Ideal)) (b : Fin 2) (q : Fin 8192) (o : Fin 1024) :
    (res_main_v25 (F := Ideal) V0 : (⟨3, ![2, 8192, 1024]⟩ : Shape).Idx → EReal) (ix3 b q o) = (args V0).fed b q o := by
  unfold res_main_v25 res_main_v18 res_main_v17
  clean_types
  pointwise
  rfl

/-- The projected row at an index. -/
theorem row_apply (V0 : Valuation τ sig (Elt Ideal)) (b : Fin 2) (q : Fin 8192) (l : Fin 2304) :
    (res_main_v40 (F := Ideal) V0 : (⟨3, ![2, 8192, 2304]⟩ : Shape).Idx → EReal) (ix3 b q l) = (args V0).row b q l := by
  have h := fun k => fed_apply V0 b q k
  unfold res_main_v40
  revert h
  generalize res_main_v25 V0 = X
  clean_types
  intro h
  pointwise
  simp only [h]
  rfl

/-- The first stretch of heads, normalised, at an index. -/
theorem first_apply (V0 : Valuation τ sig (Elt Ideal)) (b : Fin 2) (q : Fin 8192) (p : Fin 5) (h : Fin 2) (i : Fin 64) :
    (res_main_v71 (F := Ideal) V0 : (⟨5, ![2, 8192, 5, 2, 64]⟩ : Shape).Idx → EReal) (ix5 b q p h i)
      = headNormed ((args V0).row b q) (fun k => (args V0).headGain (ix2 0 k)) ⟨p.val * 128 + i.val / 32 * 64 + h.val * 32 + i.val % 32, by omega⟩ := by
  have hr := fun k => row_apply V0 b q k
  unfold res_main_v71 res_main_v44
  revert hr
  generalize res_main_v40 V0 = X
  clean_types
  intro hr
  pointwise
  simp only [hr]
  unfold headNormed
  rw [← headSquares_of _ _ (fun x : Fin 64 => (⟨p.val * 128 + x.val / 32 * 64 + h.val * 32 + x.val % 32, by omega⟩ : Fin 2304))]
  · rfl
  · intro x
    show p.val * 128 + x.val / 32 * 64 + h.val * 32 + x.val % 32 = (p.val * 128 + i.val / 32 * 64 + h.val * 32 + i.val % 32) / 128 * 128 + x.val / 32 * 64
      + (p.val * 128 + i.val / 32 * 64 + h.val * 32 + i.val % 32) / 32 % 2 * 32 + x.val % 32
    omega

/-- The second stretch of heads, normalised, at an index. -/
theorem second_apply (V0 : Valuation τ sig (Elt Ideal)) (b : Fin 2) (q : Fin 8192) (p : Fin 8) (h : Fin 2) (i : Fin 64) :
    (res_main_v117 (F := Ideal) V0 : (⟨5, ![2, 8192, 8, 2, 64]⟩ : Shape).Idx → EReal) (ix5 b q p h i)
      = headNormed ((args V0).row b q) (fun k => (args V0).headGain (ix2 0 k)) ⟨768 + (p.val * 128 + i.val / 32 * 64 + h.val * 32 + i.val % 32), by omega⟩ := by
  have hr := fun k => row_apply V0 b q k
  unfold res_main_v117 res_main_v90
  revert hr
  generalize res_main_v40 V0 = X
  clean_types
  intro hr
  pointwise
  simp only [hr]
  unfold headNormed
  rw [← headSquares_of _ _ (fun x : Fin 64 => (⟨768 + (p.val * 128 + x.val / 32 * 64 + h.val * 32 + x.val % 32), by omega⟩ : Fin 2304))]
  · rfl
  · intro x
    show 768 + (p.val * 128 + x.val / 32 * 64 + h.val * 32 + x.val % 32) = (768 + (p.val * 128 + i.val / 32 * 64 + h.val * 32 + i.val % 32)) / 128 * 128 + x.val / 32 * 64
      + (768 + (p.val * 128 + i.val / 32 * 64 + h.val * 32 + i.val % 32)) / 32 % 2 * 32 + x.val % 32
    omega

/-- The second result at an index. -/
theorem heads_apply (V0 : Valuation τ sig (Elt Ideal)) (b : Fin 2) (q : Fin 8192) (l : Fin 2304) :
    (res_main_v135 (F := Ideal) V0 : (⟨3, ![2, 8192, 2304]⟩ : Shape).Idx → EReal) (ix3 b q l) = (args V0).heads b q l := by
  have hr := fun k => row_apply V0 b q k
  have h1 := fun p h i => first_apply V0 b q p h i
  have h2 := fun p h i => second_apply V0 b q p h i
  unfold res_main_v135
  revert hr h1 h2
  generalize res_main_v40 V0 = X
  generalize res_main_v71 V0 = Y
  generalize res_main_v117 V0 = Z
  clean_types
  intro hr h1 h2
  have hl := l.isLt
  pointwise
  by_cases c1 : l.val < 640
  · rewrite [dif_pos c1]
    refine Eq.trans ?_ (placed_first _ _ _ l c1).symm
    unfold turned
    refine congrArg₂ (· + ·) (congrArg₂ (· * ·) ?_ ?_) (congrArg₂ (· * ·) ?_ ?_)
    · rewrite [h1]
      refine congrArg _ (Fin.ext ?_)
      dsimp only
      omega
    · refine congrArg (fun k => V0 (Proc.tc.devRef main_arg8) (ix2 q k)) (Fin.ext ?_)
      dsimp only
      omega
    · split
      all_goals
        rewrite [h1]
        refine congrArg _ (Fin.ext ?_)
        dsimp only [partner]
        omega
    · refine congrArg (fun k => V0 (Proc.tc.devRef main_arg8) (ix2 q k)) (Fin.ext ?_)
      dsimp only
      omega
  rewrite [dif_neg c1]
  by_cases c2 : l.val < 768
  · have d2 : l.val - 640 < 128 := by omega
    rewrite [dif_pos d2, hr]
    refine Eq.trans ?_ (placed_between _ _ _ l c1 c2).symm
    refine congrArg _ (Fin.ext ?_)
    dsimp only
    omega
  have d2 : ¬ l.val - 640 < 128 := by omega
  rewrite [dif_neg d2]
  by_cases c3 : l.val < 1792
  · have d3 : l.val - 640 - 128 < 1024 := by omega
    rewrite [dif_pos d3]
    refine Eq.trans ?_ (placed_second _ _ _ l c2 c3).symm
    unfold turned
    refine congrArg₂ (· + ·) (congrArg₂ (· * ·) ?_ ?_) (congrArg₂ (· * ·) ?_ ?_)
    · rewrite [h2]
      refine congrArg _ (Fin.ext ?_)
      dsimp only
      omega
    · refine congrArg (fun k => V0 (Proc.tc.devRef main_arg8) (ix2 q k)) (Fin.ext ?_)
      dsimp only
      omega
    · split
      all_goals
        rewrite [h2]
        refine congrArg _ (Fin.ext ?_)
        dsimp only [partner]
        omega
    · refine congrArg (fun k => V0 (Proc.tc.devRef main_arg8) (ix2 q k)) (Fin.ext ?_)
      dsimp only
      omega
  have d3 : ¬ l.val - 640 - 128 < 1024 := by omega
  rewrite [dif_neg d3, hr]
  refine Eq.trans ?_ (placed_last _ _ _ l c3).symm
  refine congrArg _ (Fin.ext ?_)
  dsimp only
  omega

end Cert.ProjReferenceIdeal.Value

end
-- ==== Proof.ProjSampleSegment.lean ====
/-
  The matrix of zeros and ones the projection's kernel is given: one where two lanes belong to one head.
-/
module

public import proofs.«01_k».proof.ProjSampleIdeal
public import proofs.«01_k».proof.Proof.Heads

@[expose] public section

noncomputable section

namespace Cert.ProjSampleIdeal.Value

open Cert.ProjSampleIdeal Idealize.ShloMosaic Cert.Dense

set_option maxRecDepth 16384

/-- A row of 128 patterns: `b` tells which alternating 32 lanes are ones, two for none. -/
def pattern (b i : Nat) : BitVec 16 := if i % 128 / 32 % 2 = b then 0x3F80#16 else 0#16

/-- Which pattern the `n`-th 128 entries hold. -/
def kind (n : Nat) : Nat := if n / 256 = n % 2 then n / 64 % 2 else 2

theorem ones_first (i : Nat) : lit0t0_0 i = pattern 0 i := by
  unfold lit0t0_0 pattern
  have h : i % 128 < 128 := Nat.mod_lt _ (by omega)
  generalize i % 128 = a at h
  interval_cases a <;> rfl

theorem zeros (i : Nat) : lit0t0_1 i = pattern 2 i := by
  unfold lit0t0_1 pattern
  have h : i % 128 < 128 := Nat.mod_lt _ (by omega)
  generalize i % 128 = a at h
  interval_cases a <;> rfl

theorem ones_second (i : Nat) : lit0t0_64 i = pattern 1 i := by
  unfold lit0t0_64 pattern
  have h : i % 128 < 128 := Nat.mod_lt _ (by omega)
  generalize i % 128 = a at h
  interval_cases a <;> rfl

/-- One of the three tables. -/
def table (b i : Nat) : BitVec 16 := match b with
  | 0 => lit0t0_0 i
  | 1 => lit0t0_64 i
  | _ => lit0t0_1 i

theorem part_0 (i : Nat) : lit0t1_0 i = table (kind (i / 128 % 128)) i := by
  unfold lit0t1_0
  have h : i / 128 % 128 < 128 := Nat.mod_lt _ (by omega)
  generalize i / 128 % 128 = a at h
  interval_cases a <;> rfl

theorem part_1 (i : Nat) : lit0t1_1 i = table (kind (128 + i / 128 % 128)) i := by
  unfold lit0t1_1
  have h : i / 128 % 128 < 128 := Nat.mod_lt _ (by omega)
  generalize i / 128 % 128 = a at h
  interval_cases a <;> rfl

theorem part_2 (i : Nat) : lit0t1_2 i = table (kind (256 + i / 128 % 128)) i := by
  unfold lit0t1_2
  have h : i / 128 % 128 < 128 := Nat.mod_lt _ (by omega)
  generalize i / 128 % 128 = a at h
  interval_cases a <;> rfl

theorem part_3 (i : Nat) : lit0t1_3 i = table (kind (384 + i / 128 % 128)) i := by
  unfold lit0t1_3
  have h : i / 128 % 128 < 128 := Nat.mod_lt _ (by omega)
  generalize i / 128 % 128 = a at h
  interval_cases a <;> rfl

theorem table_eq (b i : Nat) (h : b < 3) : table b i = pattern b i := by
  interval_cases b
  · exact ones_first i
  · exact ones_second i
  · exact zeros i

theorem kind_lt (n : Nat) : kind n < 3 := by
  unfold kind
  split <;> omega

theorem whole (i : Nat) (h : i < 65536) : lit0t i = pattern (kind (i / 128)) i := by
  rw [← table_eq _ _ (kind_lt _)]
  unfold lit0t
  have e : i / 128 = i / 16384 * 128 + i / 128 % 128 := by omega
  have h' : i / 16384 < 4 := by omega
  rw [e]
  generalize i / 16384 = a at h'
  interval_cases a
  · exact (part_0 i).trans (congrArg (fun n => table (kind n) i) (by omega))
  · exact (part_1 i).trans (congrArg (fun n => table (kind n) i) (by omega))
  · exact (part_2 i).trans (congrArg (fun n => table (kind n) i) (by omega))
  · exact (part_3 i).trans (congrArg (fun n => table (kind n) i) (by omega))

/-- The matrix's patterns. -/
theorem segment_bits (k j : Fin 256) (i : Fin 65536) (hi : i.val = k.val * 256 + j.val) : lit0 i = if same k j then 0x3F80#16 else 0#16 := by
  obtain ⟨v, hv⟩ := i
  obtain rfl : v = k.val * 256 + j.val := hi
  refine (whole _ hv).trans ?_
  have e1 : (k.val * 256 + j.val) % 128 / 32 % 2 = j.val / 32 % 2 := by omega
  have e2 : (k.val * 256 + j.val) / 128 / 256 = k.val / 128 := by omega
  have e3 : (k.val * 256 + j.val) / 128 % 2 = j.val / 128 := by omega
  have e4 : (k.val * 256 + j.val) / 128 / 64 % 2 = k.val / 32 % 2 := by omega
  unfold pattern kind
  rw [e1, e2, e3, e4]
  refine if_congr ?_ rfl rfl
  unfold same
  by_cases h : k.val / 128 = j.val / 128
  · rw [if_pos h]
    exact ⟨fun h' => ⟨h, h'.symm⟩, fun h' => h'.2.symm⟩
  · rw [if_neg h]
    exact ⟨fun h' => by omega, fun h' => absurd h'.1 h⟩

end Cert.ProjSampleIdeal.Value

end
-- ==== Proof.ProjSampleValue.lean ====
/-
  What the kernel of the first feed-forward part and the projection leaves in its results for the second batch,
  8 sequences of 4096 tokens, at every index.
-/
module

public import proofs.«01_k».proof.Proof.Gen.ProjSampleIdeal.Value
public import proofs.«01_k».proof.Proof.Heads
public import proofs.«01_k».proof.Proof.ProjSampleSegment
public import Idealize.ShloMosaic.Lib.Pipeline.ValueKit

@[expose] public section

noncomputable section

namespace Cert.ProjSampleIdeal.Value

open Cert.ProjSampleIdeal Cert.ProjSampleIdeal.Gen Idealize.ShloMosaic Idealize.ShloMosaic.TcCoe Cert.Dense

set_option maxRecDepth 16384

/-- The feed-forward part of a block, at an index. -/
theorem fed_block (x : Vec Ideal S1x512x1024 .f32) (g : Vec Ideal S1x1024 .f32) (G U : Vec Ideal S1024x2816 .bf16) (D : Vec Ideal S2816x1024 .bf16)
    (r : Fin 512) (o : Fin 1024) :
    (k0_pay4 (F := Ideal) x g G U D (ix2 r o) : EReal)
      = x (ix3 0 r o) + Ideal.ofBits FTy.f32 1056964608#32
          * gated (fun k => x (ix3 0 r k)) (fun k => g (ix2 0 k)) (fun f k => G (ix2 k f)) (fun f k => U (ix2 k f)) (fun f => D (ix2 f o)) := by
  unfold gated
  simp only [← factor_dot]
  pointwise [k0_pay4]
  rfl

/-- The projection of a block, at an index. -/
theorem row_block (z : FVec Ideal S512x1024 .f32) (g : Vec Ideal S1x1024 .f32) (W : Vec Ideal S1024x2304 .bf16) (r : Fin 512) (l : Fin 2304) :
    (k0_pay6 (F := Ideal) z g W (ix2 r l) : EReal) = dot (normed (fun k => z (ix2 r k)) (fun k => g (ix2 0 k))) (fun k => W (ix2 k l)) := by
  rw [← factor_dot]
  pointwise [k0_pay6]
  rfl

/-- A stretch of 256 lanes normalised as the kernel does it. -/
def normedBlock (v : FVec Ideal S512x256 .f32) (Z : Vec Ideal S256x256 .bf16) (g : Vec Ideal S1x256 .f32) : FVec Ideal S512x256 .f32 :=
  mulf (mulf v (rsqrt (addf (mulf (matmul (φ₂ := .bf16) dot_S512x256_S256x256_S512x256_1_0_0_1_n_n none (truncf .bf16 (mulf v v) bitsLt_bf16_f32) Z
    (constant S512x256 .f32 0x00000000#32)) (broadcast S512x256 (Scalar.ofBits .f32 0x3C800000#32))) (broadcast S512x256 (Scalar.ofBits .f32 0x358637BD#32)))))
    (broadcastTo S512x256 g broadcasts_S1x256_S512x256)

/-- 128 lanes turned as the kernel does it. -/
def turnedBlock (w : FVec Ideal S512x128 .f32) (C S : Vec Ideal S512x128 .f32) : FVec Ideal S1x512x128 .bf16 :=
  shapeCast S1x512x128 (truncf .bf16 (addf (mulf w C) (mulf (dynamicRotate 1 64#32 none w rotates_S512x128_d1) S)) bitsLt_bf16_f32) shapeCasts_S512x128_S1x512x128

theorem normedBlock_apply (v : FVec Ideal S512x256 .f32) (Z : Vec Ideal S256x256 .bf16) (g : Vec Ideal S1x256 .f32) (r : Fin 512) (j : Fin 256) :
    (normedBlock v Z g (ix2 r j) : EReal) = stretch (fun k => v (ix2 r k)) (fun k j => Z (ix2 k j)) (fun k => g (ix2 0 k)) j := by
  unfold stretch
  pointwise [normedBlock]

theorem turnedBlock_apply (w : FVec Ideal S512x128 .f32) (C S : Vec Ideal S512x128 .f32) (r : Fin 512) (x : Fin 128) :
    (turnedBlock w C S (ix3 0 r x) : EReal) = w (ix2 r x) * C (ix2 r x) + w (ix2 r ⟨(x.val + 64) % 128, by omega⟩) * S (ix2 r x) := by
  pointwise [turnedBlock]
  rfl

/-- A stored piece of a row: `a` counts the stretches of 256 lanes before it, `b` the lanes before it in its own. -/
theorem piece (P : FVec Ideal S512x2304 .f32) (Z : Vec Ideal S256x256 .bf16) (g : Vec Ideal S1x256 .f32) (C S : Vec Ideal S512x128 .f32)
    (a : Fin 9) (b : Nat) (ha : S512x2304.Slices ![0, a.val * 256] S512x256) (hb : S512x256.Slices ![0, b] S512x128) (hb' : b = 0 ∨ b = 128)
    (r : Fin 512) (x : Fin 128) (l : Fin 2304) (hl : l.val = a.val * 256 + b + x.val) (G : Fin 2304 → EReal)
    (hg : ∀ k : Fin 256, g (ix2 0 k) = G ⟨a.val * 256 + k.val, by omega⟩) (hZ : ∀ k j : Fin 256, (Z (ix2 k j) : EReal) = if same k j then 1 else 0) :
    (turnedBlock (extractStridedSlice S512x128 ![0, b] (normedBlock (extractStridedSlice S512x256 ![0, a.val * 256] P ha) Z g) hb) C S (ix3 0 r x) : EReal)
      = turned (fun k => P (ix2 r k)) G (fun k => C (ix2 r k)) (fun k => S (ix2 r k)) l := by
  have s : ∀ (y : Fin 128) (l' : Fin 2304), l'.val = a.val * 256 + b + y.val →
      (extractStridedSlice S512x128 ![0, b] (normedBlock (extractStridedSlice S512x256 ![0, a.val * 256] P ha) Z g) hb (ix2 r y) : EReal)
        = headNormed (fun k => P (ix2 r k)) G l' := by
    intro y l' hl'
    have e1 : extractStridedSlice S512x128 ![0, b] (normedBlock (extractStridedSlice S512x256 ![0, a.val * 256] P ha) Z g) hb (ix2 r y)
        = normedBlock (extractStridedSlice S512x256 ![0, a.val * 256] P ha) Z g (ix2 r ⟨b + y.val, by omega⟩) := by
      refine congrArg (normedBlock _ Z g) ?_
      blk_ext [] <;> rfl
    have e2 : ∀ k : Fin 256, extractStridedSlice S512x256 ![0, a.val * 256] P ha (ix2 r k) = P (ix2 r ⟨a.val * 256 + k.val, by omega⟩) := by
      intro k
      refine congrArg P ?_
      blk_ext [] <;> rfl
    rw [e1, normedBlock_apply]
    simp only [e2, hg]
    exact stretch_eq (fun k => P (ix2 r k)) G a _ hZ _ l' (by rw [hl', Nat.add_assoc])
  rw [turnedBlock_apply, s x l hl, s ⟨(x.val + 64) % 128, by omega⟩ (partner l) (by
    show l.val / 128 * 128 + (l.val % 128 + 64) % 128 = a.val * 256 + b + (x.val + 64) % 128
    omega)]
  unfold turned
  have e : (⟨l.val % 128, by omega⟩ : Fin 128) = x := Fin.ext (by show l.val % 128 = x.val; omega)
  rw [e]

variable (m : (ℓ : Loc nD τ sig) → Buf (Elt Ideal) ℓ)

/-- The kernel's arguments. -/
def args (c : Dev nD) : ProjArgs 8 4096 where
  x := m ((c.tc : Thread nD τ).loc main_arg0)
  ffnGain := m ((c.tc : Thread nD τ).loc main_arg1)
  ffnGate := m ((c.tc : Thread nD τ).loc main_arg2)
  ffnUp := m ((c.tc : Thread nD τ).loc main_arg3)
  ffnDown := m ((c.tc : Thread nD τ).loc main_arg4)
  mixGain := m ((c.tc : Thread nD τ).loc main_arg5)
  into := m ((c.tc : Thread nD τ).loc main_arg6)
  headGain := m ((c.tc : Thread nD τ).loc main_arg7)
  turns := m ((c.tc : Thread nD τ).loc main_arg8)

theorem points (t : Fin cfg0.N) : t.val < 64 := t.isLt.trans_eq Gen.N_0

theorem index0 : ∀ t : Fin cfg0.N, win0_0.index t = ![t.val / 8, t.val % 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val % 8, 0] := (by decide +kernel : ∀ t : Fin grid0.N, _)
theorem index10 : ∀ t : Fin cfg0.N, win0_10.index t = ![t.val / 8, t.val % 8, 0] := (by decide +kernel : ∀ t : Fin grid0.N, _)
theorem index11 : ∀ t : Fin cfg0.N, win0_11.index t = ![t.val / 8, t.val % 8, 0] := (by decide +kernel : ∀ t : Fin grid0.N, _)

/-- A token's lanes in a block are the argument's. -/
theorem x_apply (c : Dev nD) (t : Fin cfg0.N) (s : Fin 8) (q : Fin 4096) (r : Fin 512) (hs : s.val = t.val / 8) (hq : q.val = t.val % 8 * 512 + r.val) (k : Fin 1024) :
    (iblk m c 0 t (ix3 0 r k) : EReal) = (args m c).x (ix3 s q k) := by
  refine Eq.trans ?_ (congrFun (V_main_arg0 m c) (ix3 s q k))
  refine congrArg (V m c main_arg0) ?_
  have e := index0 t
  blk_ext [e, hs, hq]

theorem turns_apply (c : Dev nD) (t : Fin cfg0.N) (q : Fin 4096) (r : Fin 512) (hq : q.val = t.val % 8 * 512 + r.val) (k : Fin 512) :
    (iblk m c 9 t (ix2 r k) : EReal) = (args m c).turns (ix2 q k) := by
  refine Eq.trans ?_ (congrFun (V_main_arg8 m c) (ix2 q k))
  refine congrArg (V m c main_arg8) ?_
  have e := index9 t
  blk_ext [e, hq]

theorem ffnGain_block (c : Dev nD) (t : Fin cfg0.N) : iblk m c 1 t = (args m c).ffnGain := by
  funext j
  refine Eq.trans ?_ (congrFun (V_main_arg1 m c) j)
  refine congrArg (V m c main_arg1) ?_
  have e := index1 t
  blk_ext [e]

theorem ffnGate_block (c : Dev nD) (t : Fin cfg0.N) : iblk m c 2 t = (args m c).ffnGate := by
  funext j
  refine Eq.trans ?_ (congrFun (V_main_arg2 m c) j)
  refine congrArg (V m c main_arg2) ?_
  have e := index2 t
  blk_ext [e]

theorem ffnUp_block (c : Dev nD) (t : Fin cfg0.N) : iblk m c 3 t = (args m c).ffnUp := by
  funext j
  refine Eq.trans ?_ (congrFun (V_main_arg3 m c) j)
  refine congrArg (V m c main_arg3) ?_
  have e := index3 t
  blk_ext [e]

theorem ffnDown_block (c : Dev nD) (t : Fin cfg0.N) : iblk m c 4 t = (args m c).ffnDown := by
  funext j
  refine Eq.trans ?_ (congrFun (V_main_arg4 m c) j)
  refine congrArg (V m c main_arg4) ?_
  have e := index4 t
  blk_ext [e]

theorem mixGain_block (c : Dev nD) (t : Fin cfg0.N) : iblk m c 5 t = (args m c).mixGain := by
  funext j
  refine Eq.trans ?_ (congrFun (V_main_arg5 m c) j)
  refine congrArg (V m c main_arg5) ?_
  have e := index5 t
  blk_ext [e]

theorem into_block (c : Dev nD) (t : Fin cfg0.N) : iblk m c 6 t = (args m c).into := by
  funext j
  refine Eq.trans ?_ (congrFun (V_main_arg6 m c) j)
  refine congrArg (V m c main_arg6) ?_
  have e := index6 t
  blk_ext [e]

theorem headGain_block (c : Dev nD) (t : Fin cfg0.N) : iblk m c 8 t = (args m c).headGain := by
  funext j
  refine Eq.trans ?_ (congrFun (V_main_arg7 m c) j)
  refine congrArg (V m c main_arg7) ?_
  have e := index8 t
  blk_ext [e]

theorem one_pattern : (FloatOps.ofBits (F := Ideal) .bf16 0x3F80#16 : EReal) = 1 := by
  show Ideal.ofBits FTy.bf16 0x3F80#16 = 1
  simp [Ideal.ofBits, Ideal.ieee]
  rw [← EReal.coe_mul]
  norm_num

theorem zero_pattern : (FloatOps.ofBits (F := Ideal) .bf16 0#16 : EReal) = 0 := by
  show Ideal.ofBits FTy.bf16 0#16 = 0
  simp [Ideal.ofBits, Ideal.ieee]

/-- The host's matrix is one where two lanes belong to one head. -/
theorem segment_block (c : Dev nD) (t : Fin cfg0.N) (k j : Fin 256) : (iblk m c 7 t (ix2 k j) : EReal) = (if same k j then 1 else 0 : EReal) := by
  have e1 : iblk m c 7 t (ix2 k j) = V m c main_cst (ix2 k j) := by
    refine congrArg (V m c main_cst) ?_
    have e := index7 t
    blk_ext [e]
  have e2 := StableHlo.nullary_result (τ := τ) (Val := Elt Ideal) main_cst
    ((fun i => FloatOps.ofBits (F := Ideal) .bf16 (lit0 (S256x256.rowMajor i))) : (⟨S256x256, .bf16⟩ : BufTy).Contents (Elt Ideal)) (by decide) (fun b => m (c, b))
  refine e1.trans ((congrFun e2 (ix2 k j)).trans ?_)
  refine (congrArg (FloatOps.ofBits (F := Ideal) .bf16) (segment_bits k j _ (Shape.rowMajor_val_two _))).trans ?_
  split
  · exact one_pattern
  · exact zero_pattern

/-- The feed-forward part of a point's block is the specification's. -/
theorem fed_apply (c : Dev nD) (t : Fin cfg0.N) (s : Fin 8) (q : Fin 4096) (r : Fin 512) (hs : s.val = t.val / 8) (hq : q.val = t.val % 8 * 512 + r.val) (o : Fin 1024) :
    (k0_pay4 (F := Ideal) (iblk m c 0 t) (iblk m c 1 t) (iblk m c 2 t) (iblk m c 3 t) (iblk m c 4 t) (ix2 r o) : EReal) = (args m c).fed s q o := by
  rw [fed_block]
  simp only [x_apply m c t s q r hs hq]
  rw [ffnGain_block, ffnGate_block, ffnUp_block, ffnDown_block]
  rfl

/-- A point's projected rows. -/
def rows (c : Dev nD) (t : Fin cfg0.N) : FVec Ideal S512x2304 .f32 :=
  k0_pay6 (k0_pay4 (iblk m c 0 t) (iblk m c 1 t) (iblk m c 2 t) (iblk m c 3 t) (iblk m c 4 t)) (iblk m c 5 t) (iblk m c 6 t)

theorem rows_apply (c : Dev nD) (t : Fin cfg0.N) (s : Fin 8) (q : Fin 4096) (r : Fin 512) (hs : s.val = t.val / 8) (hq : q.val = t.val % 8 * 512 + r.val) (l : Fin 2304) :
    (rows m c t (ix2 r l) : EReal) = (args m c).row s q l := by
  unfold rows
  rw [row_block]
  simp only [fed_apply m c t s q r hs hq]
  rw [mixGain_block, into_block]
  rfl

/-- A table's lanes in a point's block. -/
theorem table_apply (c : Dev nD) (t : Fin cfg0.N) (q : Fin 4096) (r : Fin 512) (hq : q.val = t.val % 8 * 512 + r.val) (b : Nat)
    (h : ∀ a, (![0, b] : Fin 2 → Nat) a + S512x128.size a ≤ S512x512.size a) (k : Fin 128) (k' : Fin 512) (hk : k'.val = b + k.val) :
    (View.ld (iblk m c 9 t) (Rect.unit (s := S512x512) ![0, b] ![512, 128] h) (ix2 r k) : EReal) = (args m c).turns (ix2 q k') := by
  refine (View.ld_unit_apply_of (S := S512x512) (iblk m c 9 t) ![0, b] ![512, 128] h (ix2 r k) (ix2 r k') ?_).trans (turns_apply m c t q r hq k')
  intro a
  match a with
  | 0 => exact (Nat.zero_add _).symm
  | 1 => exact hk

/-- A stretch of the gain. -/
theorem gain_apply (c : Dev nD) (t : Fin cfg0.N) (b : Nat)
    (h : ∀ a, (![0, b] : Fin 2 → Nat) a + S1x256.size a ≤ S1x2304.size a) (k : Fin 256) (k' : Fin 2304) (hk : k'.val = b + k.val) :
    (View.ld (iblk m c 8 t) (Rect.unit (s := S1x2304) ![0, b] ![1, 256] h) (ix2 0 k) : EReal) = (args m c).headGain (ix2 0 k') := by
  refine (View.ld_unit_apply_of (S := S1x2304) (iblk m c 8 t) ![0, b] ![1, 256] h (ix2 0 k) (ix2 0 k') ?_).trans (congrFun (headGain_block m c t) (ix2 0 k'))
  intro a
  match a with
  | 0 => rfl
  | 1 => exact hk

/-- What a point stores for 128 lanes of turned heads, with the tables from lane `d` on. -/
def stored (c : Dev nD) (t : Fin cfg0.N) (a : Fin 9) (b d d' : Nat) (ha : S512x2304.Slices ![0, a.val * 256] S512x256) (hb : S512x256.Slices ![0, b] S512x128)
    (hg : ∀ i, (![0, a.val * 256] : Fin 2 → Nat) i + S1x256.size i ≤ S1x2304.size i)
    (hC : ∀ i, (![0, d] : Fin 2 → Nat) i + S512x128.size i ≤ S512x512.size i)
    (hS : ∀ i, (![0, d'] : Fin 2 → Nat) i + S512x128.size i ≤ S512x512.size i) : FVec Ideal S1x512x128 .bf16 :=
  turnedBlock (extractStridedSlice S512x128 ![0, b] (normedBlock (extractStridedSlice S512x256 ![0, a.val * 256] (rows m c t) ha) (iblk m c 7 t)
    (View.ld (iblk m c 8 t) (Rect.unit (s := S1x2304) ![0, a.val * 256] ![1, 256] hg))) hb)
    (View.ld (iblk m c 9 t) (Rect.unit (s := S512x512) ![0, d] ![512, 128] hC)) (View.ld (iblk m c 9 t) (Rect.unit (s := S512x512) ![0, d'] ![512, 128] hS))

theorem stored_apply (c : Dev nD) (t : Fin cfg0.N) (s : Fin 8) (q : Fin 4096) (r : Fin 512) (hs : s.val = t.val / 8) (hq : q.val = t.val % 8 * 512 + r.val)
    (a : Fin 9) (b d d' : Nat) (ha hb hg hC hS) (hb' : b = 0 ∨ b = 128) (hd : d + 128 ≤ 512) (hd' : d' + 128 ≤ 512)
    (x : Fin 128) (l : Fin 2304) (hl : l.val = a.val * 256 + b + x.val) :
    (stored m c t a b d d' ha hb hg hC hS (ix3 0 r x) : EReal)
      = turned ((args m c).row s q) (fun k => (args m c).headGain (ix2 0 k)) (fun k => (args m c).turns (ix2 q ⟨d + k.val, by omega⟩))
          (fun k => (args m c).turns (ix2 q ⟨d' + k.val, by omega⟩)) l := by
  unfold stored
  rw [piece (rows m c t) _ _ _ _ a b ha hb hb' r x l hl (fun k => (args m c).headGain (ix2 0 k)) (fun k => gain_apply m c t _ hg k _ rfl) (segment_block m c t)]
  simp only [rows_apply m c t s q r hs hq]
  refine congrArg₂ (fun C S => turned ((args m c).row s q) (fun k => (args m c).headGain (ix2 0 k)) C S l) ?_ ?_
  · exact funext fun k => table_apply m c t q r hq d hC k _ rfl
  · exact funext fun k => table_apply m c t q r hq d' hS k _ rfl

theorem stored_first (c : Dev nD) (t : Fin cfg0.N) (s : Fin 8) (q : Fin 4096) (r : Fin 512) (hs : s.val = t.val / 8) (hq : q.val = t.val % 8 * 512 + r.val)
    (a : Fin 9) (b : Nat) (ha hb hg hC hS) (hb' : b = 0 ∨ b = 128)
    (x : Fin 128) (l : Fin 2304) (hl : l.val = a.val * 256 + b + x.val) (h : l.val < 640) :
    (stored m c t a b 0 128 ha hb hg hC hS (ix3 0 r x) : EReal) = (args m c).heads s q l := by
  refine (stored_apply m c t s q r hs hq a b 0 128 ha hb hg hC hS hb' (by omega) (by omega) x l hl).trans ?_
  refine Eq.trans ?_ (placed_first _ _ _ l h).symm
  simp only [Nat.zero_add]

theorem stored_second (c : Dev nD) (t : Fin cfg0.N) (s : Fin 8) (q : Fin 4096) (r : Fin 512) (hs : s.val = t.val / 8) (hq : q.val = t.val % 8 * 512 + r.val)
    (a : Fin 9) (b : Nat) (ha hb hg hC hS) (hb' : b = 0 ∨ b = 128)
    (x : Fin 128) (l : Fin 2304) (hl : l.val = a.val * 256 + b + x.val) (h : ¬ l.val < 768) (h' : l.val < 1792) :
    (stored m c t a b 256 384 ha hb hg hC hS (ix3 0 r x) : EReal) = (args m c).heads s q l := by
  refine (stored_apply m c t s q r hs hq a b 256 384 ha hb hg hC hS hb' (by omega) (by omega) x l hl).trans ?_
  refine Eq.trans ?_ (placed_second _ _ _ l h h').symm
  rfl

set_option maxHeartbeats 1000000 in
/-- What a point leaves for the attention, at an index. -/
theorem left_heads (c : Dev nD) (t : Fin cfg0.N) (s : Fin 8) (q : Fin 4096) (r : Fin 512) (hs : s.val = t.val / 8) (hq : q.val = t.val % 8 * 512 + r.val) (l : Fin 2304) :
    ((dats m 0 c).after 11 t (ix3 0 r l) : EReal) = (args m c).heads s q l := by
  rw [after0_11]
  unfold outsAt0
  dsimp only
  frame_out
  have hl : (ix3 (n0 := 1) (n1 := 512) (n2 := 2304) 0 r l 2).val = l.val := rfl
  canon_tiles x h using (View.cover_of_tiledBy _ ![1, 512, 128] (by sl_kernel_rfl) _)
  case piece0 =>
    have e : x = ix3 (n0 := 1) (n1 := 512) (n2 := 512) 0 r (x 2) := by
      funext a
      match a with
      | 0 => exact Subsingleton.elim (α := Fin 1) _ _
      | 1 => exact Fin.ext h1.symm
      | 2 => rfl
    rw [hl] at h2
    refine (congrArg (k0_pay3 (rows m c t)) e).trans ?_
    refine Eq.trans ?_ (placed_last _ _ _ l (by omega)).symm
    refine Eq.trans ?_ (rows_apply m c t s q r hs hq l)
    pointwise [k0_pay3]
    exact congrArg (fun k => (rows m c t (ix2 r k) : EReal)) (Fin.ext h2.symm)
  all_goals
    have e : x = ix3 (n0 := 1) (n1 := 512) (n2 := 128) 0 r (x 2) := by
      funext a
      match a with
      | 0 => exact Subsingleton.elim (α := Fin 1) _ _
      | 1 => exact Fin.ext h1.symm
      | 2 => rfl
    rw [e]
    rw [hl] at h2
  case piece1 =>
    exact stored_second m c t s q r hs hq 6 128 slices_S512x2304_o0_1536_S512x256 slices_S512x256_o0_128_S512x128 inb_S1x2304_S1x256_0_1536
      inb_S512x512_S512x128_0_256 inb_S512x512_S512x128_0_384 (.inr rfl) (x 2) l h2 (by omega) (by omega)
  case piece2 =>
    exact stored_second m c t s q r hs hq 6 0 slices_S512x2304_o0_1536_S512x256 slices_S512x256_o0_0_S512x128 inb_S1x2304_S1x256_0_1536
      inb_S512x512_S512x128_0_256 inb_S512x512_S512x128_0_384 (.inl rfl) (x 2) l h2 (by omega) (by omega)
  case piece3 =>
    exact stored_second m c t s q r hs hq 5 128 slices_S512x2304_o0_1280_S512x256 slices_S512x256_o0_128_S512x128 inb_S1x2304_S1x256_0_1280
      inb_S512x512_S512x128_0_256 inb_S512x512_S512x128_0_384 (.inr rfl) (x 2) l h2 (by omega) (by omega)
  case piece4 =>
    exact stored_second m c t s q r hs hq 5 0 slices_S512x2304_o0_1280_S512x256 slices_S512x256_o0_0_S512x128 inb_S1x2304_S1x256_0_1280
      inb_S512x512_S512x128_0_256 inb_S512x512_S512x128_0_384 (.inl rfl) (x 2) l h2 (by omega) (by omega)
  case piece5 =>
    exact stored_second m c t s q r hs hq 4 128 slices_S512x2304_o0_1024_S512x256 slices_S512x256_o0_128_S512x128 inb_S1x2304_S1x256_0_1024
      inb_S512x512_S512x128_0_256 inb_S512x512_S512x128_0_384 (.inr rfl) (x 2) l h2 (by omega) (by omega)
  case piece6 =>
    exact stored_second m c t s q r hs hq 4 0 slices_S512x2304_o0_1024_S512x256 slices_S512x256_o0_0_S512x128 inb_S1x2304_S1x256_0_1024
      inb_S512x512_S512x128_0_256 inb_S512x512_S512x128_0_384 (.inl rfl) (x 2) l h2 (by omega) (by omega)
  case piece7 =>
    exact stored_second m c t s q r hs hq 3 128 slices_S512x2304_o0_768_S512x256 slices_S512x256_o0_128_S512x128 inb_S1x2304_S1x256_0_768
      inb_S512x512_S512x128_0_256 inb_S512x512_S512x128_0_384 (.inr rfl) (x 2) l h2 (by omega) (by omega)
  case piece8 =>
    exact stored_second m c t s q r hs hq 3 0 slices_S512x2304_o0_768_S512x256 slices_S512x256_o0_0_S512x128 inb_S1x2304_S1x256_0_768
      inb_S512x512_S512x128_0_256 inb_S512x512_S512x128_0_384 (.inl rfl) (x 2) l h2 (by omega) (by omega)
  case piece9 =>
    refine Eq.trans ?_ ((rows_apply m c t s q r hs hq l).trans (placed_between _ _ _ l (by omega) (by omega)).symm)
    pointwise [k0_pay19]
    exact congrArg (fun k => (rows m c t (ix2 r k) : EReal)) (Fin.ext h2.symm)
  case piece10 =>
    exact stored_first m c t s q r hs hq 2 0 slices_S512x2304_o0_512_S512x256 slices_S512x256_o0_0_S512x128 inb_S1x2304_S1x256_0_512
      inb_S512x512_S512x128_0_0 inb_S512x512_S512x128_0_128 (.inl rfl) (x 2) l h2 (by omega)
  case piece11 =>
    exact stored_first m c t s q r hs hq 1 128 slices_S512x2304_o0_256_S512x256 slices_S512x256_o0_128_S512x128 inb_S1x2304_S1x256_0_256
      inb_S512x512_S512x128_0_0 inb_S512x512_S512x128_0_128 (.inr rfl) (x 2) l h2 (by omega)
  case piece12 =>
    exact stored_first m c t s q r hs hq 1 0 slices_S512x2304_o0_256_S512x256 slices_S512x256_o0_0_S512x128 inb_S1x2304_S1x256_0_256
      inb_S512x512_S512x128_0_0 inb_S512x512_S512x128_0_128 (.inl rfl) (x 2) l h2 (by omega)
  case piece13 =>
    exact stored_first m c t s q r hs hq 0 128 slices_S512x2304_o0_0_S512x256 slices_S512x256_o0_128_S512x128 inb_S1x2304_S1x256_0_0
      inb_S512x512_S512x128_0_0 inb_S512x512_S512x128_0_128 (.inr rfl) (x 2) l h2 (by omega)
  case piece14 =>
    exact stored_first m c t s q r hs hq 0 0 slices_S512x2304_o0_0_S512x256 slices_S512x256_o0_0_S512x128 inb_S1x2304_S1x256_0_0
      inb_S512x512_S512x128_0_0 inb_S512x512_S512x128_0_128 (.inl rfl) (x 2) l (h2.trans (Nat.zero_add _).symm) (by omega)

/-- What a point leaves of the feed-forward part, at an index. -/
theorem left_fed (c : Dev nD) (t : Fin cfg0.N) (s : Fin 8) (q : Fin 4096) (r : Fin 512) (hs : s.val = t.val / 8) (hq : q.val = t.val % 8 * 512 + r.val) (o : Fin 1024) :
    ((dats m 0 c).after 10 t (ix3 0 r o) : EReal) = (args m c).fed s q o := by
  rw [after0_10]
  unfold outsAt0
  dsimp only
  frame_out
  refine Eq.trans ?_ (fed_apply m c t s q r hs hq o)
  pointwise [k0_pay5]

/-- The array of the feed-forward part after the run. -/
theorem final_fed (c : Dev nD) : (dats m 0 c).arrAt 10 cfg0.N = fun i => (args m c).fed (i 0) (i 1) (i 2) := by
  refine (dats m 0 c).arrAt_eq_of_covers 10 _ (by decide +kernel) fun t hf y => ?_
  blk_simp
  have e := index10 t
  have hy : (y : S1x512x1024.Idx) = ix3 (n0 := 1) (n1 := 512) (n2 := 1024) 0 (y 1) (y 2) := by
    funext a
    match a with
    | 0 => exact Subsingleton.elim (α := Fin 1) _ _
    | 1 => rfl
    | 2 => rfl
  have h2 : (win0_10.blk t).view.emb y 2 = (y 2 : Fin 1024) := by
    apply Fin.ext
    blk_simp [e]
  refine (congrArg ((dats m 0 c).after 10 t) hy).trans ((left_fed m c t ((win0_10.blk t).view.emb y 0) ((win0_10.blk t).view.emb y 1) (y 1) ?_ ?_ (y 2)).trans ?_)
  · idx_bounds y
    blk_simp [e]
  · blk_simp [e]
  · exact congrArg _ h2.symm

/-- The array for the attention after the run. -/
theorem final_heads (c : Dev nD) : (dats m 0 c).arrAt 11 cfg0.N = fun i => (args m c).heads (i 0) (i 1) (i 2) := by
  refine (dats m 0 c).arrAt_eq_of_covers 11 _ (by decide +kernel) fun t hf y => ?_
  blk_simp
  have e := index11 t
  have hy : (y : S1x512x2304.Idx) = ix3 (n0 := 1) (n1 := 512) (n2 := 2304) 0 (y 1) (y 2) := by
    funext a
    match a with
    | 0 => exact Subsingleton.elim (α := Fin 1) _ _
    | 1 => rfl
    | 2 => rfl
  have h2 : (win0_11.blk t).view.emb y 2 = (y 2 : Fin 2304) := by
    apply Fin.ext
    blk_simp [e]
  refine (congrArg ((dats m 0 c).after 11 t) hy).trans ((left_heads m c t ((win0_11.blk t).view.emb y 0) ((win0_11.blk t).view.emb y 1) (y 1) ?_ ?_ (y 2)).trans ?_)
  · idx_bounds y
    blk_simp [e]
  · blk_simp [e]
  · exact congrArg _ h2.symm

end Cert.ProjSampleIdeal.Value

end
-- ==== Proof.ProjSampleReferenceValue.lean ====
/-
  What the reference of the first feed-forward part and the projection computes at an index, for the
  second batch.
-/
module

public import proofs.«01_k».proof.Proof.Gen.ProjSampleReferenceIdeal.Run
public import proofs.«01_k».proof.Proof.Heads
public import Idealize.ShloMosaic.Lib.Tactic.CleanTypes

@[expose] public section

noncomputable section

namespace Cert.ProjSampleReferenceIdeal.Value

open Cert.ProjSampleReferenceIdeal Cert.ProjSampleReferenceIdeal.Gen Idealize.ShloMosaic Idealize.ShloMosaic.TcCoe Cert.Dense

set_option maxRecDepth 16384

/-- The reference's arguments. -/
def args (V0 : Valuation τ sig (Elt Ideal)) : ProjArgs 8 4096 where
  x := V0 (Proc.devRef .tc main_arg0)
  ffnGain := V0 (Proc.devRef .tc main_arg1)
  ffnGate := V0 (Proc.devRef .tc main_arg2)
  ffnUp := V0 (Proc.devRef .tc main_arg3)
  ffnDown := V0 (Proc.devRef .tc main_arg4)
  mixGain := V0 (Proc.devRef .tc main_arg5)
  into := V0 (Proc.devRef .tc main_arg6)
  headGain := V0 (Proc.devRef .tc main_arg7)
  turns := V0 (Proc.devRef .tc main_arg8)

/-- The first result at an index. -/
theorem fed_apply (V0 : Valuation τ sig (Elt Ideal)) (b : Fin 8) (q : Fin 4096) (o : Fin 1024) :
    (res_main_v25 (F := Ideal) V0 : (⟨3, ![8, 4096, 1024]⟩ : Shape).Idx → EReal) (ix3 b q o) = (args V0).fed b q o := by
  unfold res_main_v25 res_main_v18 res_main_v17
  clean_types
  pointwise
  rfl

/-- The projected row at an index. -/
theorem row_apply (V0 : Valuation τ sig (Elt Ideal)) (b : Fin 8) (q : Fin 4096) (l : Fin 2304) :
    (res_main_v40 (F := Ideal) V0 : (⟨3, ![8, 4096, 2304]⟩ : Shape).Idx → EReal) (ix3 b q l) = (args V0).row b q l := by
  have h := fun k => fed_apply V0 b q k
  unfold res_main_v40
  revert h
  generalize res_main_v25 V0 = X
  clean_types
  intro h
  pointwise
  simp only [h]
  rfl

/-- The first stretch of heads, normalised, at an index. -/
theorem first_apply (V0 : Valuation τ sig (Elt Ideal)) (b : Fin 8) (q : Fin 4096) (p : Fin 5) (h : Fin 2) (i : Fin 64) :
    (res_main_v71 (F := Ideal) V0 : (⟨5, ![8, 4096, 5, 2, 64]⟩ : Shape).Idx → EReal) (ix5 b q p h i)
      = headNormed ((args V0).row b q) (fun k => (args V0).headGain (ix2 0 k)) ⟨p.val * 128 + i.val / 32 * 64 + h.val * 32 + i.val % 32, by omega⟩ := by
  have hr := fun k => row_apply V0 b q k
  unfold res_main_v71 res_main_v44
  revert hr
  generalize res_main_v40 V0 = X
  clean_types
  intro hr
  pointwise
  simp only [hr]
  unfold headNormed
  rw [← headSquares_of _ _ (fun x : Fin 64 => (⟨p.val * 128 + x.val / 32 * 64 + h.val * 32 + x.val % 32, by omega⟩ : Fin 2304))]
  · rfl
  · intro x
    show p.val * 128 + x.val / 32 * 64 + h.val * 32 + x.val % 32 = (p.val * 128 + i.val / 32 * 64 + h.val * 32 + i.val % 32) / 128 * 128 + x.val / 32 * 64
      + (p.val * 128 + i.val / 32 * 64 + h.val * 32 + i.val % 32) / 32 % 2 * 32 + x.val % 32
    omega

/-- The second stretch of heads, normalised, at an index. -/
theorem second_apply (V0 : Valuation τ sig (Elt Ideal)) (b : Fin 8) (q : Fin 4096) (p : Fin 8) (h : Fin 2) (i : Fin 64) :
    (res_main_v117 (F := Ideal) V0 : (⟨5, ![8, 4096, 8, 2, 64]⟩ : Shape).Idx → EReal) (ix5 b q p h i)
      = headNormed ((args V0).row b q) (fun k => (args V0).headGain (ix2 0 k)) ⟨768 + (p.val * 128 + i.val / 32 * 64 + h.val * 32 + i.val % 32), by omega⟩ := by
  have hr := fun k => row_apply V0 b q k
  unfold res_main_v117 res_main_v90
  revert hr
  generalize res_main_v40 V0 = X
  clean_types
  intro hr
  pointwise
  simp only [hr]
  unfold headNormed
  rw [← headSquares_of _ _ (fun x : Fin 64 => (⟨768 + (p.val * 128 + x.val / 32 * 64 + h.val * 32 + x.val % 32), by omega⟩ : Fin 2304))]
  · rfl
  · intro x
    show 768 + (p.val * 128 + x.val / 32 * 64 + h.val * 32 + x.val % 32) = (768 + (p.val * 128 + i.val / 32 * 64 + h.val * 32 + i.val % 32)) / 128 * 128 + x.val / 32 * 64
      + (768 + (p.val * 128 + i.val / 32 * 64 + h.val * 32 + i.val % 32)) / 32 % 2 * 32 + x.val % 32
    omega

/-- The second result at an index. -/
theorem heads_apply (V0 : Valuation τ sig (Elt Ideal)) (b : Fin 8) (q : Fin 4096) (l : Fin 2304) :
    (res_main_v135 (F := Ideal) V0 : (⟨3, ![8, 4096, 2304]⟩ : Shape).Idx → EReal) (ix3 b q l) = (args V0).heads b q l := by
  have hr := fun k => row_apply V0 b q k
  have h1 := fun p h i => first_apply V0 b q p h i
  have h2 := fun p h i => second_apply V0 b q p h i
  unfold res_main_v135
  revert hr h1 h2
  generalize res_main_v40 V0 = X
  generalize res_main_v71 V0 = Y
  generalize res_main_v117 V0 = Z
  clean_types
  intro hr h1 h2
  have hl := l.isLt
  pointwise
  by_cases c1 : l.val < 640
  · rewrite [dif_pos c1]
    refine Eq.trans ?_ (placed_first _ _ _ l c1).symm
    unfold turned
    refine congrArg₂ (· + ·) (congrArg₂ (· * ·) ?_ ?_) (congrArg₂ (· * ·) ?_ ?_)
    · rewrite [h1]
      refine congrArg _ (Fin.ext ?_)
      dsimp only
      omega
    · refine congrArg (fun k => V0 (Proc.tc.devRef main_arg8) (ix2 q k)) (Fin.ext ?_)
      dsimp only
      omega
    · split
      all_goals
        rewrite [h1]
        refine congrArg _ (Fin.ext ?_)
        dsimp only [partner]
        omega
    · refine congrArg (fun k => V0 (Proc.tc.devRef main_arg8) (ix2 q k)) (Fin.ext ?_)
      dsimp only
      omega
  rewrite [dif_neg c1]
  by_cases c2 : l.val < 768
  · have d2 : l.val - 640 < 128 := by omega
    rewrite [dif_pos d2, hr]
    refine Eq.trans ?_ (placed_between _ _ _ l c1 c2).symm
    refine congrArg _ (Fin.ext ?_)
    dsimp only
    omega
  have d2 : ¬ l.val - 640 < 128 := by omega
  rewrite [dif_neg d2]
  by_cases c3 : l.val < 1792
  · have d3 : l.val - 640 - 128 < 1024 := by omega
    rewrite [dif_pos d3]
    refine Eq.trans ?_ (placed_second _ _ _ l c2 c3).symm
    unfold turned
    refine congrArg₂ (· + ·) (congrArg₂ (· * ·) ?_ ?_) (congrArg₂ (· * ·) ?_ ?_)
    · rewrite [h2]
      refine congrArg _ (Fin.ext ?_)
      dsimp only
      omega
    · refine congrArg (fun k => V0 (Proc.tc.devRef main_arg8) (ix2 q k)) (Fin.ext ?_)
      dsimp only
      omega
    · split
      all_goals
        rewrite [h2]
        refine congrArg _ (Fin.ext ?_)
        dsimp only [partner]
        omega
    · refine congrArg (fun k => V0 (Proc.tc.devRef main_arg8) (ix2 q k)) (Fin.ext ?_)
      dsimp only
      omega
  have d3 : ¬ l.val - 640 - 128 < 1024 := by omega
  rewrite [dif_neg d3, hr]
  refine Eq.trans ?_ (placed_last _ _ _ l c3).symm
  refine congrArg _ (Fin.ext ?_)
  dsimp only
  omega

end Cert.ProjSampleReferenceIdeal.Value

end
-- ==== Proof.lean ====
/-
  The claims: both readings of the kernel and the reference run and keep their argument, and the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.Gen.MixIdeal.Value
public import proofs.«01_k».proof.Proof.Gen.Mix.Frame
public import proofs.«01_k».proof.Proof.Gen.MixReferenceIdeal.Run
public import proofs.«01_k».proof.Proof.Gen.ProjIdeal.Value
public import proofs.«01_k».proof.Proof.Gen.Proj.Frame
public import proofs.«01_k».proof.Proof.Gen.ProjReferenceIdeal.Run
public import proofs.«01_k».proof.Proof.Gen.ProjSampleIdeal.Value
public import proofs.«01_k».proof.Proof.Gen.ProjSample.Frame
public import proofs.«01_k».proof.Proof.Gen.ProjSampleReferenceIdeal.Run
public import proofs.«01_k».proof.Proof.Gen.MixSampleIdeal.Value
public import proofs.«01_k».proof.Proof.Gen.MixSample.Frame
public import proofs.«01_k».proof.Proof.Gen.MixSampleReferenceIdeal.Run
public import proofs.«01_k».proof.Proof.Gen.Diff
public import proofs.«01_k».proof.Proof.Gen.DiffIdeal
public import proofs.«01_k».proof.Proof.Gen.Diff.Frame
public import proofs.«01_k».proof.Proof.Gen.DiffIdeal.Frame
public import proofs.«01_k».proof.Proof.Gen.DiffIdeal.Skeleton
public import proofs.«01_k».proof.Proof.Gen.DiffReferenceIdeal.Run
public import proofs.«01_k».proof.Proof.DiffKernelLaunch
public import proofs.«01_k».proof.Proof.DiffIdealValue
public import proofs.«01_k».proof.Proof.DiffReferenceValue
public import proofs.«01_k».proof.Proof.IdealLaunch
public import proofs.«01_k».proof.Proof.KernelValue
public import proofs.«01_k».proof.Proof.ReferenceValue
public import proofs.«01_k».proof.Proof.MixValue
public import proofs.«01_k».proof.Proof.MixReferenceValue
public import proofs.«01_k».proof.Proof.MixSampleValue
public import proofs.«01_k».proof.Proof.MixSampleReferenceValue
public import proofs.«01_k».proof.Proof.ProjValue
public import proofs.«01_k».proof.Proof.ProjReferenceValue
public import proofs.«01_k».proof.Proof.ProjSampleValue
public import proofs.«01_k».proof.Proof.ProjSampleReferenceValue

@[expose] public section

noncomputable section

namespace Cert.Proof

open Idealize.ShloMosaic Idealize.SL.Sem Cert.Kernel

/-- The reference runs on the host alone: it ends with its argument unchanged, and it has no semaphore at all. -/
theorem quiet_reference [Cert.ReferenceIdeal.Facts] : Cert.quiescent_ReferenceIdeal := fun m ρ _ =>
  (θ_run _ _ _).mono (fun r h => (⟨fun c => (h c).2, sem_eq_zero_of_no_sems (by decide) r.2⟩ : (_ ∧ _)))
    (Cert.ReferenceIdeal.Value.run m ρ)

/-- The reference's result is the attention of its argument. -/
theorem reference_result (m : (ℓ : Loc Cert.ReferenceIdeal.nD Cert.ReferenceIdeal.τ Cert.ReferenceIdeal.sig) → Buf (Elt Ideal) ℓ)
    (c : Dev Cert.ReferenceIdeal.nD) (X : Cert.Spec.S2x8192x2304.Idx → EReal)
    (hX : m ((c.tc : Thread Cert.ReferenceIdeal.nD Cert.ReferenceIdeal.τ).loc Cert.ReferenceIdeal.main_arg0) = X) :
    (Cert.ReferenceIdeal.Value.res_main_v31 (F := Ideal) m c : (⟨3, ![2, 8192, 512]⟩ : Shape).Idx → EReal)
      = fun i => Cert.Spec.attend X (i 0) (i 1) (i 2) := by
  subst hX
  funext i
  have hi : i = ix3 (n0 := 2) (n1 := 8192) (n2 := 512) (i 0) (i 1) (i 2) := by
    funext a
    match a with
    | 0 => rfl
    | 1 => rfl
    | 2 => rfl
  exact (congrArg _ hi).trans (Cert.ReferenceIdeal.Value.result_apply m c (i 0) (i 1) (i 2))

/-- From the same argument, the kernel and the reference end with the same result. -/
theorem same_result : Cert.algebraic_KernelIdeal_ReferenceIdeal := fun m g m' g' _ hin =>
  ⟨fun c => (fun i => Cert.Spec.attend (Cert.KernelIdeal.Launch.packed m c) (i 0) (i 1) (i 2)),
    (θ_run _ _ _).mono (fun r h c => ⟨(h.1.out_eq c 3).trans (Cert.KernelIdeal.Launch.final m c), h.1.in_eq c 0 rfl⟩)
      (Cert.KernelIdeal.Launch.run m g),
    (θ_run _ _ _).mono (fun r h c => ⟨(h c).1.trans (reference_result m' c _ (hin c)), (h c).2⟩)
      (Cert.ReferenceIdeal.Value.run m' g')⟩

/-- The mixing's reference runs on the host alone as well. -/
theorem quiet_mix_reference [Cert.MixReferenceIdeal.Facts] : Cert.quiescent_MixReferenceIdeal := fun m ρ _ =>
  (θ_run _ _ _).mono (fun r h => (⟨fun c => (h c).2, sem_eq_zero_of_no_sems (by decide) r.2⟩ : (_ ∧ _)))
    (Cert.MixReferenceIdeal.Value.run m ρ)

/-- The mixing's reference ends with the specification's result. -/
theorem mix_reference_result (m : (ℓ : Loc Cert.MixReferenceIdeal.nD Cert.MixReferenceIdeal.τ Cert.MixReferenceIdeal.sig) → Buf (Elt Ideal) ℓ)
    (c : Dev Cert.MixReferenceIdeal.nD) (A : Cert.Dense.MixArgs 2 8192) (hA : Cert.MixReferenceIdeal.Value.args m c = A) :
    (Cert.MixReferenceIdeal.Value.res_main_v60 (F := Ideal) m c : (⟨3, ![2, 8192, 1024]⟩ : Shape).Idx → EReal)
      = fun i => A.result (i 0) (i 1) (i 2) := by
  subst hA
  funext i
  have hi : i = ix3 (n0 := 2) (n1 := 8192) (n2 := 1024) (i 0) (i 1) (i 2) := by
    funext a
    match a with
    | 0 => rfl
    | 1 => rfl
    | 2 => rfl
  exact (congrArg _ hi).trans (Cert.MixReferenceIdeal.Value.result_apply m c (i 0) (i 1) (i 2))

/-- From the same arguments, the mixing kernel and its reference end with the same result. -/
theorem same_mix : Cert.algebraic_MixIdeal_MixReferenceIdeal := fun m g m' g' _ hin =>
  ⟨fun c => (fun i => (Cert.MixIdeal.Value.args m c).result (i 0) (i 1) (i 2)),
    (θ_run _ _ _).mono (fun r h c => ⟨(h c).1.trans (Cert.MixIdeal.Value.final m c), (h c).2⟩) (Cert.MixIdeal.Value.run_blocks m g),
    (θ_run _ _ _).mono (fun r h c => ⟨(h c).1.trans (mix_reference_result m' c _ ((Cert.Dense.MixArgs.mk.injEq ..).mpr (hin c))), (h c).2⟩)
      (Cert.MixReferenceIdeal.Value.run m' g')⟩

/-- The projection's reference runs on the host alone as well. -/
theorem quiet_proj_reference [Cert.ProjReferenceIdeal.Facts] : Cert.quiescent_ProjReferenceIdeal := fun m ρ _ =>
  (θ_run _ _ _).mono (fun r h => (⟨fun c => (h c).2.2, sem_eq_zero_of_no_sems (by decide) r.2⟩ : (_ ∧ _)))
    (Cert.ProjReferenceIdeal.Value.run m ρ)

/-- The projection's reference ends with the specification's feed-forward part. -/
theorem proj_reference_fed (V : Valuation Cert.ProjReferenceIdeal.τ Cert.ProjReferenceIdeal.sig (Elt Ideal)) (A : Cert.Dense.ProjArgs 2 8192)
    (hA : Cert.ProjReferenceIdeal.Value.args V = A) :
    (Cert.ProjReferenceIdeal.Value.res_main_v25 (F := Ideal) V : (⟨3, ![2, 8192, 1024]⟩ : Shape).Idx → EReal) = fun i => A.fed (i 0) (i 1) (i 2) := by
  subst hA
  funext i
  have hi : i = ix3 (n0 := 2) (n1 := 8192) (n2 := 1024) (i 0) (i 1) (i 2) := by
    funext a
    match a with
    | 0 => rfl
    | 1 => rfl
    | 2 => rfl
  exact (congrArg _ hi).trans (Cert.ProjReferenceIdeal.Value.fed_apply V (i 0) (i 1) (i 2))

/-- The projection's reference ends with the specification's heads. -/
theorem proj_reference_heads (V : Valuation Cert.ProjReferenceIdeal.τ Cert.ProjReferenceIdeal.sig (Elt Ideal)) (A : Cert.Dense.ProjArgs 2 8192)
    (hA : Cert.ProjReferenceIdeal.Value.args V = A) :
    (Cert.ProjReferenceIdeal.Value.res_main_v135 (F := Ideal) V : (⟨3, ![2, 8192, 2304]⟩ : Shape).Idx → EReal) = fun i => A.heads (i 0) (i 1) (i 2) := by
  subst hA
  funext i
  have hi : i = ix3 (n0 := 2) (n1 := 8192) (n2 := 2304) (i 0) (i 1) (i 2) := by
    funext a
    match a with
    | 0 => rfl
    | 1 => rfl
    | 2 => rfl
  exact (congrArg _ hi).trans (Cert.ProjReferenceIdeal.Value.heads_apply V (i 0) (i 1) (i 2))

/-- From the same arguments, the projection's kernel and its reference end with the same two results. -/
theorem same_proj : Cert.algebraic_ProjIdeal_ProjReferenceIdeal := fun m g m' g' _ hin =>
  ⟨fun c => (fun i => (Cert.ProjIdeal.Value.args m c).fed (i 0) (i 1) (i 2)), fun c => (fun i => (Cert.ProjIdeal.Value.args m c).heads (i 0) (i 1) (i 2)),
    (θ_run _ _ _).mono (fun r h c => ⟨(h c).1.trans (Cert.ProjIdeal.Value.final_fed m c), (h c).2.1.trans (Cert.ProjIdeal.Value.final_heads m c), (h c).2.2⟩)
      (Cert.ProjIdeal.Value.run_blocks m g),
    (θ_run _ _ _).mono (fun r h c => ⟨(h c).1.trans (proj_reference_fed _ _ ((Cert.Dense.ProjArgs.mk.injEq ..).mpr (hin c))),
      (h c).2.1.trans (proj_reference_heads _ _ ((Cert.Dense.ProjArgs.mk.injEq ..).mpr (hin c))), (h c).2.2⟩)
      (Cert.ProjReferenceIdeal.Value.run m' g')⟩

/-- The same for the second batch's mixing. -/
theorem quiet_mix_sample_reference [Cert.MixSampleReferenceIdeal.Facts] : Cert.quiescent_MixSampleReferenceIdeal := fun m ρ _ =>
  (θ_run _ _ _).mono (fun r h => (⟨fun c => (h c).2, sem_eq_zero_of_no_sems (by decide) r.2⟩ : (_ ∧ _)))
    (Cert.MixSampleReferenceIdeal.Value.run m ρ)

/-- The mixing's reference ends with the specification's result, for the second batch. -/
theorem mix_sample_reference_result (m : (ℓ : Loc Cert.MixSampleReferenceIdeal.nD Cert.MixSampleReferenceIdeal.τ Cert.MixSampleReferenceIdeal.sig) → Buf (Elt Ideal) ℓ)
    (c : Dev Cert.MixSampleReferenceIdeal.nD) (A : Cert.Dense.MixArgs 8 4096) (hA : Cert.MixSampleReferenceIdeal.Value.args m c = A) :
    (Cert.MixSampleReferenceIdeal.Value.res_main_v60 (F := Ideal) m c : (⟨3, ![8, 4096, 1024]⟩ : Shape).Idx → EReal)
      = fun i => A.result (i 0) (i 1) (i 2) := by
  subst hA
  funext i
  have hi : i = ix3 (n0 := 8) (n1 := 4096) (n2 := 1024) (i 0) (i 1) (i 2) := by
    funext a
    match a with
    | 0 => rfl
    | 1 => rfl
    | 2 => rfl
  exact (congrArg _ hi).trans (Cert.MixSampleReferenceIdeal.Value.result_apply m c (i 0) (i 1) (i 2))

/-- From the same arguments, the mixing kernel and its reference end with the same result for the second batch. -/
theorem same_mix_sample : Cert.algebraic_MixSampleIdeal_MixSampleReferenceIdeal := fun m g m' g' _ hin =>
  ⟨fun c => (fun i => (Cert.MixSampleIdeal.Value.args m c).result (i 0) (i 1) (i 2)),
    (θ_run _ _ _).mono (fun r h c => ⟨(h c).1.trans (Cert.MixSampleIdeal.Value.final m c), (h c).2⟩) (Cert.MixSampleIdeal.Value.run_blocks m g),
    (θ_run _ _ _).mono (fun r h c => ⟨(h c).1.trans (mix_sample_reference_result m' c _ ((Cert.Dense.MixArgs.mk.injEq ..).mpr (hin c))), (h c).2⟩)
      (Cert.MixSampleReferenceIdeal.Value.run m' g')⟩

/-- The differential attention's reference runs on the host alone as well. -/
theorem quiet_diff_reference [Cert.DiffReferenceIdeal.Facts] : Cert.quiescent_DiffReferenceIdeal := fun m ρ _ =>
  (θ_run _ _ _).mono (fun r h => (⟨fun c => (h c).2, sem_eq_zero_of_no_sems (by decide) r.2⟩ : (_ ∧ _)))
    (Cert.DiffReferenceIdeal.Value.run m ρ)

/-- The differential attention's reference ends with the specification's result. -/
theorem diff_reference_result (m : (ℓ : Loc Cert.DiffReferenceIdeal.nD Cert.DiffReferenceIdeal.τ Cert.DiffReferenceIdeal.sig) → Buf (Elt Ideal) ℓ)
    (c : Dev Cert.DiffReferenceIdeal.nD) (X : Cert.Spec.S2x8192x2304.Idx → EReal) (L : (⟨2, ![4, 64]⟩ : Shape).Idx → EReal) (G : (⟨2, ![128, 1]⟩ : Shape).Idx → EReal)
    (hX : m ((c.tc : Thread Cert.DiffReferenceIdeal.nD Cert.DiffReferenceIdeal.τ).loc Cert.DiffReferenceIdeal.main_arg0) = X)
    (hL : m ((c.tc : Thread Cert.DiffReferenceIdeal.nD Cert.DiffReferenceIdeal.τ).loc Cert.DiffReferenceIdeal.main_arg1) = L)
    (hG : m ((c.tc : Thread Cert.DiffReferenceIdeal.nD Cert.DiffReferenceIdeal.τ).loc Cert.DiffReferenceIdeal.main_arg2) = G) :
    (Cert.DiffReferenceIdeal.Value.res_main_v87 (F := Ideal) m c : (⟨3, ![2, 8192, 512]⟩ : Shape).Idx → EReal)
      = fun i => Cert.Spec.differ X L G (i 0) (i 1) (i 2) := by
  subst hX hL hG
  funext i
  have hi : i = ix3 (n0 := 2) (n1 := 8192) (n2 := 512) (i 0) (i 1) (i 2) := by
    funext a
    match a with
    | 0 => rfl
    | 1 => rfl
    | 2 => rfl
  exact (congrArg _ hi).trans (Cert.DiffReferenceIdeal.Value.result_apply m c (i 0) (i 1) (i 2))

/-- From the same arguments, the differential attention's kernel and its reference end with the same result. -/
theorem same_diff : Cert.algebraic_DiffIdeal_DiffReferenceIdeal := fun m g m' g' _ hin =>
  ⟨fun c => (fun i => Cert.Spec.differ (Cert.DiffIdeal.Launch.packed m c) (Cert.DiffIdeal.Launch.fourRows m c) (Cert.DiffIdeal.Launch.gains m c) (i 0) (i 1) (i 2)),
    (θ_run _ _ _).mono (fun r h c => ⟨(h.1.out_eq c 5).trans (Cert.DiffIdeal.Launch.final m c), h.1.in_eq c 2 rfl, h.1.in_eq c 3 rfl, h.1.in_eq c 4 rfl⟩)
      (Cert.DiffIdeal.Launch.run m g),
    (θ_run _ _ _).mono (fun r h c => ⟨(h c).1.trans (diff_reference_result m' c _ _ _ (hin c).1 (hin c).2.1 (hin c).2.2), (h c).2⟩)
      (Cert.DiffReferenceIdeal.Value.run m' g')⟩

/-- The projection's reference runs on the host alone as well for the second batch. -/
theorem quiet_proj_sample_reference [Cert.ProjSampleReferenceIdeal.Facts] : Cert.quiescent_ProjSampleReferenceIdeal := fun m ρ _ =>
  (θ_run _ _ _).mono (fun r h => (⟨fun c => (h c).2.2, sem_eq_zero_of_no_sems (by decide) r.2⟩ : (_ ∧ _)))
    (Cert.ProjSampleReferenceIdeal.Value.run m ρ)

/-- The projection's reference ends with the specification's feed-forward part, for the second batch. -/
theorem proj_sample_reference_fed (V : Valuation Cert.ProjSampleReferenceIdeal.τ Cert.ProjSampleReferenceIdeal.sig (Elt Ideal)) (A : Cert.Dense.ProjArgs 8 4096)
    (hA : Cert.ProjSampleReferenceIdeal.Value.args V = A) :
    (Cert.ProjSampleReferenceIdeal.Value.res_main_v25 (F := Ideal) V : (⟨3, ![8, 4096, 1024]⟩ : Shape).Idx → EReal) = fun i => A.fed (i 0) (i 1) (i 2) := by
  subst hA
  funext i
  have hi : i = ix3 (n0 := 8) (n1 := 4096) (n2 := 1024) (i 0) (i 1) (i 2) := by
    funext a
    match a with
    | 0 => rfl
    | 1 => rfl
    | 2 => rfl
  exact (congrArg _ hi).trans (Cert.ProjSampleReferenceIdeal.Value.fed_apply V (i 0) (i 1) (i 2))

/-- The projection's reference ends with the specification's heads, for the second batch. -/
theorem proj_sample_reference_heads (V : Valuation Cert.ProjSampleReferenceIdeal.τ Cert.ProjSampleReferenceIdeal.sig (Elt Ideal)) (A : Cert.Dense.ProjArgs 8 4096)
    (hA : Cert.ProjSampleReferenceIdeal.Value.args V = A) :
    (Cert.ProjSampleReferenceIdeal.Value.res_main_v135 (F := Ideal) V : (⟨3, ![8, 4096, 2304]⟩ : Shape).Idx → EReal) = fun i => A.heads (i 0) (i 1) (i 2) := by
  subst hA
  funext i
  have hi : i = ix3 (n0 := 8) (n1 := 4096) (n2 := 2304) (i 0) (i 1) (i 2) := by
    funext a
    match a with
    | 0 => rfl
    | 1 => rfl
    | 2 => rfl
  exact (congrArg _ hi).trans (Cert.ProjSampleReferenceIdeal.Value.heads_apply V (i 0) (i 1) (i 2))

/-- From the same arguments, the projection's kernel and its reference end with the same two results for the second batch. -/
theorem same_proj_sample : Cert.algebraic_ProjSampleIdeal_ProjSampleReferenceIdeal := fun m g m' g' _ hin =>
  ⟨fun c => (fun i => (Cert.ProjSampleIdeal.Value.args m c).fed (i 0) (i 1) (i 2)), fun c => (fun i => (Cert.ProjSampleIdeal.Value.args m c).heads (i 0) (i 1) (i 2)),
    (θ_run _ _ _).mono (fun r h c => ⟨(h c).1.trans (Cert.ProjSampleIdeal.Value.final_fed m c), (h c).2.1.trans (Cert.ProjSampleIdeal.Value.final_heads m c), (h c).2.2⟩)
      (Cert.ProjSampleIdeal.Value.run_blocks m g),
    (θ_run _ _ _).mono (fun r h c => ⟨(h c).1.trans (proj_sample_reference_fed _ _ ((Cert.Dense.ProjArgs.mk.injEq ..).mpr (hin c))),
      (h c).2.1.trans (proj_sample_reference_heads _ _ ((Cert.Dense.ProjArgs.mk.injEq ..).mpr (hin c))), (h c).2.2⟩)
      (Cert.ProjSampleReferenceIdeal.Value.run m' g')⟩

/-- The kernels' two readings and the references. -/
theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts,
  Cert.Proj.Gen.facts, Cert.ProjIdeal.Gen.facts, Cert.ProjReferenceIdeal.Gen.facts,
  Cert.MixSample.Gen.facts, Cert.MixSampleIdeal.Gen.facts, Cert.MixSampleReferenceIdeal.Gen.facts,
  Cert.Diff.Gen.facts, Cert.DiffIdeal.Gen.facts, Cert.DiffReferenceIdeal.Gen.facts,
  Cert.ProjSample.Gen.facts, Cert.ProjSampleIdeal.Gen.facts, Cert.ProjSampleReferenceIdeal.Gen.facts,
  fun m ρ _ => Cert.Kernel.Launch.frame m ρ, fun m ρ _ => Cert.KernelIdeal.Launch.frame m ρ, quiet_reference,
  fun m ρ _ => Cert.Mix.Gen.frame m ρ, fun m ρ _ => Cert.MixIdeal.Gen.frame m ρ, quiet_mix_reference,
  fun m ρ _ => Cert.Proj.Gen.frame m ρ, fun m ρ _ => Cert.ProjIdeal.Gen.frame m ρ, quiet_proj_reference,
  fun m ρ _ => Cert.MixSample.Gen.frame m ρ, fun m ρ _ => Cert.MixSampleIdeal.Gen.frame m ρ, quiet_mix_sample_reference,
  fun m ρ _ => Cert.Diff.Launch.frame m ρ, fun m ρ _ => Cert.DiffIdeal.Launch.frame m ρ, quiet_diff_reference,
  fun m ρ _ => Cert.ProjSample.Gen.frame m ρ, fun m ρ _ => Cert.ProjSampleIdeal.Gen.frame m ρ, quiet_proj_sample_reference,
  trivial, same_result, trivial, same_mix, trivial, same_proj, trivial, same_mix_sample, trivial, same_diff, trivial, same_proj_sample⟩

end Cert.Proof

end
